-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_WeightGrad (m : (ℓ : Loc Cert.WeightGrad.nD Cert.WeightGrad.τ Cert.WeightGrad.sig) → Buf (Elt Bits) ℓ) : Prop :=
  True

def Pre_WeightGradIdeal (m : (ℓ : Loc Cert.WeightGradIdeal.nD Cert.WeightGradIdeal.τ Cert.WeightGradIdeal.sig) → Buf (Elt Ideal) ℓ) : Prop :=
  True

def Pre_WeightGradReferenceIdeal (m : (ℓ : Loc Cert.WeightGradReferenceIdeal.nD Cert.WeightGradReferenceIdeal.τ Cert.WeightGradReferenceIdeal.sig) → Buf (Elt Ideal) ℓ) : Prop :=
  True

def Pre_FfnBackward (m : (ℓ : Loc Cert.FfnBackward.nD Cert.FfnBackward.τ Cert.FfnBackward.sig) → Buf (Elt Bits) ℓ) : Prop :=
  True

def Pre_FfnBackwardIdeal (m : (ℓ : Loc Cert.FfnBackwardIdeal.nD Cert.FfnBackwardIdeal.τ Cert.FfnBackwardIdeal.sig) → Buf (Elt Ideal) ℓ) : Prop :=
  True

def Pre_FfnBackwardIdeal_ffn_finite [hPre_ffn_finite : Cert.Pre_ffn_finite.Facts] (m : (ℓ : Loc Cert.FfnBackwardIdeal.nD Cert.FfnBackwardIdeal.τ Cert.FfnBackwardIdeal.sig) → Buf (Elt Ideal) ℓ) : Prop :=
  ∀ c : Dev Cert.FfnBackwardIdeal.nD,
    (Cert.Pre_ffn_finite.fn (F := Ideal) (m ((c.tc : Thread Cert.FfnBackwardIdeal.nD Cert.FfnBackwardIdeal.τ).loc Cert.FfnBackwardIdeal.main_arg0)) (m ((c.tc : Thread Cert.FfnBackwardIdeal.nD Cert.FfnBackwardIdeal.τ).loc Cert.FfnBackwardIdeal.main_arg1)) (m ((c.tc : Thread Cert.FfnBackwardIdeal.nD Cert.FfnBackwardIdeal.τ).loc Cert.FfnBackwardIdeal.main_arg2)) (m ((c.tc : Thread Cert.FfnBackwardIdeal.nD Cert.FfnBackwardIdeal.τ).loc Cert.FfnBackwardIdeal.main_arg3)) (m ((c.tc : Thread Cert.FfnBackwardIdeal.nD Cert.FfnBackwardIdeal.τ).loc Cert.FfnBackwardIdeal.main_arg4)) (m ((c.tc : Thread Cert.FfnBackwardIdeal.nD Cert.FfnBackwardIdeal.τ).loc Cert.FfnBackwardIdeal.main_arg5)) (m ((c.tc : Thread Cert.FfnBackwardIdeal.nD Cert.FfnBackwardIdeal.τ).loc Cert.FfnBackwardIdeal.main_arg6)) (m ((c.tc : Thread Cert.FfnBackwardIdeal.nD Cert.FfnBackwardIdeal.τ).loc Cert.FfnBackwardIdeal.main_arg7)) (m ((c.tc : Thread Cert.FfnBackwardIdeal.nD Cert.FfnBackwardIdeal.τ).loc Cert.FfnBackwardIdeal.main_arg8)) (m ((c.tc : Thread Cert.FfnBackwardIdeal.nD Cert.FfnBackwardIdeal.τ).loc Cert.FfnBackwardIdeal.main_arg9))) = (fun _ => 1#1)

def Pre_FfnBackwardReferenceIdeal (m : (ℓ : Loc Cert.FfnBackwardReferenceIdeal.nD Cert.FfnBackwardReferenceIdeal.τ Cert.FfnBackwardReferenceIdeal.sig) → Buf (Elt Ideal) ℓ) : Prop :=
  True

def Pre_FfnBackwardReferenceIdeal_ffn_finite [hPre_ffn_finite : Cert.Pre_ffn_finite.Facts] (m : (ℓ : Loc Cert.FfnBackwardReferenceIdeal.nD Cert.FfnBackwardReferenceIdeal.τ Cert.FfnBackwardReferenceIdeal.sig) → Buf (Elt Ideal) ℓ) : Prop :=
  ∀ c : Dev Cert.FfnBackwardReferenceIdeal.nD,
    (Cert.Pre_ffn_finite.fn (F := Ideal) (m ((c.tc : Thread Cert.FfnBackwardReferenceIdeal.nD Cert.FfnBackwardReferenceIdeal.τ).loc Cert.FfnBackwardReferenceIdeal.main_arg0)) (m ((c.tc : Thread Cert.FfnBackwardReferenceIdeal.nD Cert.FfnBackwardReferenceIdeal.τ).loc Cert.FfnBackwardReferenceIdeal.main_arg1)) (m ((c.tc : Thread Cert.FfnBackwardReferenceIdeal.nD Cert.FfnBackwardReferenceIdeal.τ).loc Cert.FfnBackwardReferenceIdeal.main_arg2)) (m ((c.tc : Thread Cert.FfnBackwardReferenceIdeal.nD Cert.FfnBackwardReferenceIdeal.τ).loc Cert.FfnBackwardReferenceIdeal.main_arg3)) (m ((c.tc : Thread Cert.FfnBackwardReferenceIdeal.nD Cert.FfnBackwardReferenceIdeal.τ).loc Cert.FfnBackwardReferenceIdeal.main_arg4)) (m ((c.tc : Thread Cert.FfnBackwardReferenceIdeal.nD Cert.FfnBackwardReferenceIdeal.τ).loc Cert.FfnBackwardReferenceIdeal.main_arg5)) (m ((c.tc : Thread Cert.FfnBackwardReferenceIdeal.nD Cert.FfnBackwardReferenceIdeal.τ).loc Cert.FfnBackwardReferenceIdeal.main_arg6)) (m ((c.tc : Thread Cert.FfnBackwardReferenceIdeal.nD Cert.FfnBackwardReferenceIdeal.τ).loc Cert.FfnBackwardReferenceIdeal.main_arg7)) (m ((c.tc : Thread Cert.FfnBackwardReferenceIdeal.nD Cert.FfnBackwardReferenceIdeal.τ).loc Cert.FfnBackwardReferenceIdeal.main_arg8)) (m ((c.tc : Thread Cert.FfnBackwardReferenceIdeal.nD Cert.FfnBackwardReferenceIdeal.τ).loc Cert.FfnBackwardReferenceIdeal.main_arg9))) = (fun _ => 1#1)

def Pre_FfnForward (m : (ℓ : Loc Cert.FfnForward.nD Cert.FfnForward.τ Cert.FfnForward.sig) → Buf (Elt Bits) ℓ) : Prop :=
  True

def Pre_FfnForwardIdeal (m : (ℓ : Loc Cert.FfnForwardIdeal.nD Cert.FfnForwardIdeal.τ Cert.FfnForwardIdeal.sig) → Buf (Elt Ideal) ℓ) : Prop :=
  True

def Pre_FfnForwardReferenceIdeal (m : (ℓ : Loc Cert.FfnForwardReferenceIdeal.nD Cert.FfnForwardReferenceIdeal.τ Cert.FfnForwardReferenceIdeal.sig) → Buf (Elt Ideal) ℓ) : Prop :=
  True

def Pre_OutGrad (m : (ℓ : Loc Cert.OutGrad.nD Cert.OutGrad.τ Cert.OutGrad.sig) → Buf (Elt Bits) ℓ) : Prop :=
  True

def Pre_OutGradIdeal (m : (ℓ : Loc Cert.OutGradIdeal.nD Cert.OutGradIdeal.τ Cert.OutGradIdeal.sig) → Buf (Elt Ideal) ℓ) : Prop :=
  True

def Pre_OutGradReferenceIdeal (m : (ℓ : Loc Cert.OutGradReferenceIdeal.nD Cert.OutGradReferenceIdeal.τ Cert.OutGradReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_WeightGrad [hWeightGrad : Cert.WeightGrad.Facts] : Prop :=
  ∀ (m : (ℓ : Loc Cert.WeightGrad.nD Cert.WeightGrad.τ Cert.WeightGrad.sig) → Buf (Elt Bits) ℓ) (g : Dev Cert.WeightGrad.nD → PrngReg), Pre_WeightGrad m →
    θ_run (Cert.WeightGrad.defs (F := Bits)) (onTc (τ := Cert.WeightGrad.τ) (Cert.WeightGrad.main (F := Bits))) ⟨m, fun _ => 0, g⟩ (fun r => (∀ c : Dev Cert.WeightGrad.nD,
      r.2.mem ((c.tc : Thread Cert.WeightGrad.nD Cert.WeightGrad.τ).loc Cert.WeightGrad.main_arg0) = m ((c.tc : Thread Cert.WeightGrad.nD Cert.WeightGrad.τ).loc Cert.WeightGrad.main_arg0)
      ∧ r.2.mem ((c.tc : Thread Cert.WeightGrad.nD Cert.WeightGrad.τ).loc Cert.WeightGrad.main_arg1) = m ((c.tc : Thread Cert.WeightGrad.nD Cert.WeightGrad.τ).loc Cert.WeightGrad.main_arg1))
      ∧ r.2.sem = fun _ => 0)

def quiescent_WeightGradIdeal [hWeightGradIdeal : Cert.WeightGradIdeal.Facts] : Prop :=
  ∀ (m : (ℓ : Loc Cert.WeightGradIdeal.nD Cert.WeightGradIdeal.τ Cert.WeightGradIdeal.sig) → Buf (Elt Ideal) ℓ) (g : Dev Cert.WeightGradIdeal.nD → PrngReg), Pre_WeightGradIdeal m →
    θ_run (Cert.WeightGradIdeal.defs (F := Ideal)) (onTc (τ := Cert.WeightGradIdeal.τ) (Cert.WeightGradIdeal.main (F := Ideal))) ⟨m, fun _ => 0, g⟩ (fun r => (∀ c : Dev Cert.WeightGradIdeal.nD,
      r.2.mem ((c.tc : Thread Cert.WeightGradIdeal.nD Cert.WeightGradIdeal.τ).loc Cert.WeightGradIdeal.main_arg0) = m ((c.tc : Thread Cert.WeightGradIdeal.nD Cert.WeightGradIdeal.τ).loc Cert.WeightGradIdeal.main_arg0)
      ∧ r.2.mem ((c.tc : Thread Cert.WeightGradIdeal.nD Cert.WeightGradIdeal.τ).loc Cert.WeightGradIdeal.main_arg1) = m ((c.tc : Thread Cert.WeightGradIdeal.nD Cert.WeightGradIdeal.τ).loc Cert.WeightGradIdeal.main_arg1))
      ∧ r.2.sem = fun _ => 0)

def quiescent_WeightGradReferenceIdeal [hWeightGradReferenceIdeal : Cert.WeightGradReferenceIdeal.Facts] : Prop :=
  ∀ (m : (ℓ : Loc Cert.WeightGradReferenceIdeal.nD Cert.WeightGradReferenceIdeal.τ Cert.WeightGradReferenceIdeal.sig) → Buf (Elt Ideal) ℓ) (g : Dev Cert.WeightGradReferenceIdeal.nD → PrngReg), Pre_WeightGradReferenceIdeal m →
    θ_run (Cert.WeightGradReferenceIdeal.defs (F := Ideal)) (onTc (τ := Cert.WeightGradReferenceIdeal.τ) (Cert.WeightGradReferenceIdeal.main (F := Ideal))) ⟨m, fun _ => 0, g⟩ (fun r => (∀ c : Dev Cert.WeightGradReferenceIdeal.nD,
      r.2.mem ((c.tc : Thread Cert.WeightGradReferenceIdeal.nD Cert.WeightGradReferenceIdeal.τ).loc Cert.WeightGradReferenceIdeal.main_arg0) = m ((c.tc : Thread Cert.WeightGradReferenceIdeal.nD Cert.WeightGradReferenceIdeal.τ).loc Cert.WeightGradReferenceIdeal.main_arg0)
      ∧ r.2.mem ((c.tc : Thread Cert.WeightGradReferenceIdeal.nD Cert.WeightGradReferenceIdeal.τ).loc Cert.WeightGradReferenceIdeal.main_arg1) = m ((c.tc : Thread Cert.WeightGradReferenceIdeal.nD Cert.WeightGradReferenceIdeal.τ).loc Cert.WeightGradReferenceIdeal.main_arg1))
      ∧ r.2.sem = fun _ => 0)

def quiescent_FfnBackward [hFfnBackward : Cert.FfnBackward.Facts] : Prop :=
  ∀ (m : (ℓ : Loc Cert.FfnBackward.nD Cert.FfnBackward.τ Cert.FfnBackward.sig) → Buf (Elt Bits) ℓ) (g : Dev Cert.FfnBackward.nD → PrngReg), Pre_FfnBackward m →
    θ_run (Cert.FfnBackward.defs (F := Bits)) (onTc (τ := Cert.FfnBackward.τ) (Cert.FfnBackward.main (F := Bits))) ⟨m, fun _ => 0, g⟩ (fun r => (∀ c : Dev Cert.FfnBackward.nD,
      r.2.mem ((c.tc : Thread Cert.FfnBackward.nD Cert.FfnBackward.τ).loc Cert.FfnBackward.main_arg0) = m ((c.tc : Thread Cert.FfnBackward.nD Cert.FfnBackward.τ).loc Cert.FfnBackward.main_arg0)
      ∧ r.2.mem ((c.tc : Thread Cert.FfnBackward.nD Cert.FfnBackward.τ).loc Cert.FfnBackward.main_arg1) = m ((c.tc : Thread Cert.FfnBackward.nD Cert.FfnBackward.τ).loc Cert.FfnBackward.main_arg1)
      ∧ r.2.mem ((c.tc : Thread Cert.FfnBackward.nD Cert.FfnBackward.τ).loc Cert.FfnBackward.main_arg2) = m ((c.tc : Thread Cert.FfnBackward.nD Cert.FfnBackward.τ).loc Cert.FfnBackward.main_arg2)
      ∧ r.2.mem ((c.tc : Thread Cert.FfnBackward.nD Cert.FfnBackward.τ).loc Cert.FfnBackward.main_arg3) = m ((c.tc : Thread Cert.FfnBackward.nD Cert.FfnBackward.τ).loc Cert.FfnBackward.main_arg3)
      ∧ r.2.mem ((c.tc : Thread Cert.FfnBackward.nD Cert.FfnBackward.τ).loc Cert.FfnBackward.main_arg4) = m ((c.tc : Thread Cert.FfnBackward.nD Cert.FfnBackward.τ).loc Cert.FfnBackward.main_arg4)
      ∧ r.2.mem ((c.tc : Thread Cert.FfnBackward.nD Cert.FfnBackward.τ).loc Cert.FfnBackward.main_arg5) = m ((c.tc : Thread Cert.FfnBackward.nD Cert.FfnBackward.τ).loc Cert.FfnBackward.main_arg5)
      ∧ r.2.mem ((c.tc : Thread Cert.FfnBackward.nD Cert.FfnBackward.τ).loc Cert.FfnBackward.main_arg6) = m ((c.tc : Thread Cert.FfnBackward.nD Cert.FfnBackward.τ).loc Cert.FfnBackward.main_arg6)
      ∧ r.2.mem ((c.tc : Thread Cert.FfnBackward.nD Cert.FfnBackward.τ).loc Cert.FfnBackward.main_arg7) = m ((c.tc : Thread Cert.FfnBackward.nD Cert.FfnBackward.τ).loc Cert.FfnBackward.main_arg7)
      ∧ r.2.mem ((c.tc : Thread Cert.FfnBackward.nD Cert.FfnBackward.τ).loc Cert.FfnBackward.main_arg8) = m ((c.tc : Thread Cert.FfnBackward.nD Cert.FfnBackward.τ).loc Cert.FfnBackward.main_arg8)
      ∧ r.2.mem ((c.tc : Thread Cert.FfnBackward.nD Cert.FfnBackward.τ).loc Cert.FfnBackward.main_arg9) = m ((c.tc : Thread Cert.FfnBackward.nD Cert.FfnBackward.τ).loc Cert.FfnBackward.main_arg9))
      ∧ r.2.sem = fun _ => 0)

def quiescent_FfnBackwardIdeal [hFfnBackwardIdeal : Cert.FfnBackwardIdeal.Facts] : Prop :=
  ∀ (m : (ℓ : Loc Cert.FfnBackwardIdeal.nD Cert.FfnBackwardIdeal.τ Cert.FfnBackwardIdeal.sig) → Buf (Elt Ideal) ℓ) (g : Dev Cert.FfnBackwardIdeal.nD → PrngReg), Pre_FfnBackwardIdeal m →
    θ_run (Cert.FfnBackwardIdeal.defs (F := Ideal)) (onTc (τ := Cert.FfnBackwardIdeal.τ) (Cert.FfnBackwardIdeal.main (F := Ideal))) ⟨m, fun _ => 0, g⟩ (fun r => (∀ c : Dev Cert.FfnBackwardIdeal.nD,
      r.2.mem ((c.tc : Thread Cert.FfnBackwardIdeal.nD Cert.FfnBackwardIdeal.τ).loc Cert.FfnBackwardIdeal.main_arg0) = m ((c.tc : Thread Cert.FfnBackwardIdeal.nD Cert.FfnBackwardIdeal.τ).loc Cert.FfnBackwardIdeal.main_arg0)
      ∧ r.2.mem ((c.tc : Thread Cert.FfnBackwardIdeal.nD Cert.FfnBackwardIdeal.τ).loc Cert.FfnBackwardIdeal.main_arg1) = m ((c.tc : Thread Cert.FfnBackwardIdeal.nD Cert.FfnBackwardIdeal.τ).loc Cert.FfnBackwardIdeal.main_arg1)
      ∧ r.2.mem ((c.tc : Thread Cert.FfnBackwardIdeal.nD Cert.FfnBackwardIdeal.τ).loc Cert.FfnBackwardIdeal.main_arg2) = m ((c.tc : Thread Cert.FfnBackwardIdeal.nD Cert.FfnBackwardIdeal.τ).loc Cert.FfnBackwardIdeal.main_arg2)
      ∧ r.2.mem ((c.tc : Thread Cert.FfnBackwardIdeal.nD Cert.FfnBackwardIdeal.τ).loc Cert.FfnBackwardIdeal.main_arg3) = m ((c.tc : Thread Cert.FfnBackwardIdeal.nD Cert.FfnBackwardIdeal.τ).loc Cert.FfnBackwardIdeal.main_arg3)
      ∧ r.2.mem ((c.tc : Thread Cert.FfnBackwardIdeal.nD Cert.FfnBackwardIdeal.τ).loc Cert.FfnBackwardIdeal.main_arg4) = m ((c.tc : Thread Cert.FfnBackwardIdeal.nD Cert.FfnBackwardIdeal.τ).loc Cert.FfnBackwardIdeal.main_arg4)
      ∧ r.2.mem ((c.tc : Thread Cert.FfnBackwardIdeal.nD Cert.FfnBackwardIdeal.τ).loc Cert.FfnBackwardIdeal.main_arg5) = m ((c.tc : Thread Cert.FfnBackwardIdeal.nD Cert.FfnBackwardIdeal.τ).loc Cert.FfnBackwardIdeal.main_arg5)
      ∧ r.2.mem ((c.tc : Thread Cert.FfnBackwardIdeal.nD Cert.FfnBackwardIdeal.τ).loc Cert.FfnBackwardIdeal.main_arg6) = m ((c.tc : Thread Cert.FfnBackwardIdeal.nD Cert.FfnBackwardIdeal.τ).loc Cert.FfnBackwardIdeal.main_arg6)
      ∧ r.2.mem ((c.tc : Thread Cert.FfnBackwardIdeal.nD Cert.FfnBackwardIdeal.τ).loc Cert.FfnBackwardIdeal.main_arg7) = m ((c.tc : Thread Cert.FfnBackwardIdeal.nD Cert.FfnBackwardIdeal.τ).loc Cert.FfnBackwardIdeal.main_arg7)
      ∧ r.2.mem ((c.tc : Thread Cert.FfnBackwardIdeal.nD Cert.FfnBackwardIdeal.τ).loc Cert.FfnBackwardIdeal.main_arg8) = m ((c.tc : Thread Cert.FfnBackwardIdeal.nD Cert.FfnBackwardIdeal.τ).loc Cert.FfnBackwardIdeal.main_arg8)
      ∧ r.2.mem ((c.tc : Thread Cert.FfnBackwardIdeal.nD Cert.FfnBackwardIdeal.τ).loc Cert.FfnBackwardIdeal.main_arg9) = m ((c.tc : Thread Cert.FfnBackwardIdeal.nD Cert.FfnBackwardIdeal.τ).loc Cert.FfnBackwardIdeal.main_arg9))
      ∧ r.2.sem = fun _ => 0)

def quiescent_FfnBackwardIdeal_pre_ffn_finite [hFfnBackwardIdeal : Cert.FfnBackwardIdeal.Facts] [hPre_ffn_finite : Cert.Pre_ffn_finite.Facts] : Prop :=
  ∀ (m : (ℓ : Loc Cert.FfnBackwardIdeal.nD Cert.FfnBackwardIdeal.τ Cert.FfnBackwardIdeal.sig) → Buf (Elt Ideal) ℓ) (g : Dev Cert.FfnBackwardIdeal.nD → PrngReg), Pre_FfnBackwardIdeal_ffn_finite m →
    θ_run (Cert.FfnBackwardIdeal.defs (F := Ideal)) (onTc (τ := Cert.FfnBackwardIdeal.τ) (Cert.FfnBackwardIdeal.main (F := Ideal))) ⟨m, fun _ => 0, g⟩ (fun r => (∀ c : Dev Cert.FfnBackwardIdeal.nD,
      r.2.mem ((c.tc : Thread Cert.FfnBackwardIdeal.nD Cert.FfnBackwardIdeal.τ).loc Cert.FfnBackwardIdeal.main_arg0) = m ((c.tc : Thread Cert.FfnBackwardIdeal.nD Cert.FfnBackwardIdeal.τ).loc Cert.FfnBackwardIdeal.main_arg0)
      ∧ r.2.mem ((c.tc : Thread Cert.FfnBackwardIdeal.nD Cert.FfnBackwardIdeal.τ).loc Cert.FfnBackwardIdeal.main_arg1) = m ((c.tc : Thread Cert.FfnBackwardIdeal.nD Cert.FfnBackwardIdeal.τ).loc Cert.FfnBackwardIdeal.main_arg1)
      ∧ r.2.mem ((c.tc : Thread Cert.FfnBackwardIdeal.nD Cert.FfnBackwardIdeal.τ).loc Cert.FfnBackwardIdeal.main_arg2) = m ((c.tc : Thread Cert.FfnBackwardIdeal.nD Cert.FfnBackwardIdeal.τ).loc Cert.FfnBackwardIdeal.main_arg2)
      ∧ r.2.mem ((c.tc : Thread Cert.FfnBackwardIdeal.nD Cert.FfnBackwardIdeal.τ).loc Cert.FfnBackwardIdeal.main_arg3) = m ((c.tc : Thread Cert.FfnBackwardIdeal.nD Cert.FfnBackwardIdeal.τ).loc Cert.FfnBackwardIdeal.main_arg3)
      ∧ r.2.mem ((c.tc : Thread Cert.FfnBackwardIdeal.nD Cert.FfnBackwardIdeal.τ).loc Cert.FfnBackwardIdeal.main_arg4) = m ((c.tc : Thread Cert.FfnBackwardIdeal.nD Cert.FfnBackwardIdeal.τ).loc Cert.FfnBackwardIdeal.main_arg4)
      ∧ r.2.mem ((c.tc : Thread Cert.FfnBackwardIdeal.nD Cert.FfnBackwardIdeal.τ).loc Cert.FfnBackwardIdeal.main_arg5) = m ((c.tc : Thread Cert.FfnBackwardIdeal.nD Cert.FfnBackwardIdeal.τ).loc Cert.FfnBackwardIdeal.main_arg5)
      ∧ r.2.mem ((c.tc : Thread Cert.FfnBackwardIdeal.nD Cert.FfnBackwardIdeal.τ).loc Cert.FfnBackwardIdeal.main_arg6) = m ((c.tc : Thread Cert.FfnBackwardIdeal.nD Cert.FfnBackwardIdeal.τ).loc Cert.FfnBackwardIdeal.main_arg6)
      ∧ r.2.mem ((c.tc : Thread Cert.FfnBackwardIdeal.nD Cert.FfnBackwardIdeal.τ).loc Cert.FfnBackwardIdeal.main_arg7) = m ((c.tc : Thread Cert.FfnBackwardIdeal.nD Cert.FfnBackwardIdeal.τ).loc Cert.FfnBackwardIdeal.main_arg7)
      ∧ r.2.mem ((c.tc : Thread Cert.FfnBackwardIdeal.nD Cert.FfnBackwardIdeal.τ).loc Cert.FfnBackwardIdeal.main_arg8) = m ((c.tc : Thread Cert.FfnBackwardIdeal.nD Cert.FfnBackwardIdeal.τ).loc Cert.FfnBackwardIdeal.main_arg8)
      ∧ r.2.mem ((c.tc : Thread Cert.FfnBackwardIdeal.nD Cert.FfnBackwardIdeal.τ).loc Cert.FfnBackwardIdeal.main_arg9) = m ((c.tc : Thread Cert.FfnBackwardIdeal.nD Cert.FfnBackwardIdeal.τ).loc Cert.FfnBackwardIdeal.main_arg9))
      ∧ r.2.sem = fun _ => 0)

def quiescent_FfnBackwardReferenceIdeal [hFfnBackwardReferenceIdeal : Cert.FfnBackwardReferenceIdeal.Facts] : Prop :=
  ∀ (m : (ℓ : Loc Cert.FfnBackwardReferenceIdeal.nD Cert.FfnBackwardReferenceIdeal.τ Cert.FfnBackwardReferenceIdeal.sig) → Buf (Elt Ideal) ℓ) (g : Dev Cert.FfnBackwardReferenceIdeal.nD → PrngReg), Pre_FfnBackwardReferenceIdeal m →
    θ_run (Cert.FfnBackwardReferenceIdeal.defs (F := Ideal)) (onTc (τ := Cert.FfnBackwardReferenceIdeal.τ) (Cert.FfnBackwardReferenceIdeal.main (F := Ideal))) ⟨m, fun _ => 0, g⟩ (fun r => (∀ c : Dev Cert.FfnBackwardReferenceIdeal.nD,
      r.2.mem ((c.tc : Thread Cert.FfnBackwardReferenceIdeal.nD Cert.FfnBackwardReferenceIdeal.τ).loc Cert.FfnBackwardReferenceIdeal.main_arg0) = m ((c.tc : Thread Cert.FfnBackwardReferenceIdeal.nD Cert.FfnBackwardReferenceIdeal.τ).loc Cert.FfnBackwardReferenceIdeal.main_arg0)
      ∧ r.2.mem ((c.tc : Thread Cert.FfnBackwardReferenceIdeal.nD Cert.FfnBackwardReferenceIdeal.τ).loc Cert.FfnBackwardReferenceIdeal.main_arg1) = m ((c.tc : Thread Cert.FfnBackwardReferenceIdeal.nD Cert.FfnBackwardReferenceIdeal.τ).loc Cert.FfnBackwardReferenceIdeal.main_arg1)
      ∧ r.2.mem ((c.tc : Thread Cert.FfnBackwardReferenceIdeal.nD Cert.FfnBackwardReferenceIdeal.τ).loc Cert.FfnBackwardReferenceIdeal.main_arg2) = m ((c.tc : Thread Cert.FfnBackwardReferenceIdeal.nD Cert.FfnBackwardReferenceIdeal.τ).loc Cert.FfnBackwardReferenceIdeal.main_arg2)
      ∧ r.2.mem ((c.tc : Thread Cert.FfnBackwardReferenceIdeal.nD Cert.FfnBackwardReferenceIdeal.τ).loc Cert.FfnBackwardReferenceIdeal.main_arg3) = m ((c.tc : Thread Cert.FfnBackwardReferenceIdeal.nD Cert.FfnBackwardReferenceIdeal.τ).loc Cert.FfnBackwardReferenceIdeal.main_arg3)
      ∧ r.2.mem ((c.tc : Thread Cert.FfnBackwardReferenceIdeal.nD Cert.FfnBackwardReferenceIdeal.τ).loc Cert.FfnBackwardReferenceIdeal.main_arg4) = m ((c.tc : Thread Cert.FfnBackwardReferenceIdeal.nD Cert.FfnBackwardReferenceIdeal.τ).loc Cert.FfnBackwardReferenceIdeal.main_arg4)
      ∧ r.2.mem ((c.tc : Thread Cert.FfnBackwardReferenceIdeal.nD Cert.FfnBackwardReferenceIdeal.τ).loc Cert.FfnBackwardReferenceIdeal.main_arg5) = m ((c.tc : Thread Cert.FfnBackwardReferenceIdeal.nD Cert.FfnBackwardReferenceIdeal.τ).loc Cert.FfnBackwardReferenceIdeal.main_arg5)
      ∧ r.2.mem ((c.tc : Thread Cert.FfnBackwardReferenceIdeal.nD Cert.FfnBackwardReferenceIdeal.τ).loc Cert.FfnBackwardReferenceIdeal.main_arg6) = m ((c.tc : Thread Cert.FfnBackwardReferenceIdeal.nD Cert.FfnBackwardReferenceIdeal.τ).loc Cert.FfnBackwardReferenceIdeal.main_arg6)
      ∧ r.2.mem ((c.tc : Thread Cert.FfnBackwardReferenceIdeal.nD Cert.FfnBackwardReferenceIdeal.τ).loc Cert.FfnBackwardReferenceIdeal.main_arg7) = m ((c.tc : Thread Cert.FfnBackwardReferenceIdeal.nD Cert.FfnBackwardReferenceIdeal.τ).loc Cert.FfnBackwardReferenceIdeal.main_arg7)
      ∧ r.2.mem ((c.tc : Thread Cert.FfnBackwardReferenceIdeal.nD Cert.FfnBackwardReferenceIdeal.τ).loc Cert.FfnBackwardReferenceIdeal.main_arg8) = m ((c.tc : Thread Cert.FfnBackwardReferenceIdeal.nD Cert.FfnBackwardReferenceIdeal.τ).loc Cert.FfnBackwardReferenceIdeal.main_arg8)
      ∧ r.2.mem ((c.tc : Thread Cert.FfnBackwardReferenceIdeal.nD Cert.FfnBackwardReferenceIdeal.τ).loc Cert.FfnBackwardReferenceIdeal.main_arg9) = m ((c.tc : Thread Cert.FfnBackwardReferenceIdeal.nD Cert.FfnBackwardReferenceIdeal.τ).loc Cert.FfnBackwardReferenceIdeal.main_arg9))
      ∧ r.2.sem = fun _ => 0)

def quiescent_FfnBackwardReferenceIdeal_pre_ffn_finite [hFfnBackwardReferenceIdeal : Cert.FfnBackwardReferenceIdeal.Facts] [hPre_ffn_finite : Cert.Pre_ffn_finite.Facts] : Prop :=
  ∀ (m : (ℓ : Loc Cert.FfnBackwardReferenceIdeal.nD Cert.FfnBackwardReferenceIdeal.τ Cert.FfnBackwardReferenceIdeal.sig) → Buf (Elt Ideal) ℓ) (g : Dev Cert.FfnBackwardReferenceIdeal.nD → PrngReg), Pre_FfnBackwardReferenceIdeal_ffn_finite m →
    θ_run (Cert.FfnBackwardReferenceIdeal.defs (F := Ideal)) (onTc (τ := Cert.FfnBackwardReferenceIdeal.τ) (Cert.FfnBackwardReferenceIdeal.main (F := Ideal))) ⟨m, fun _ => 0, g⟩ (fun r => (∀ c : Dev Cert.FfnBackwardReferenceIdeal.nD,
      r.2.mem ((c.tc : Thread Cert.FfnBackwardReferenceIdeal.nD Cert.FfnBackwardReferenceIdeal.τ).loc Cert.FfnBackwardReferenceIdeal.main_arg0) = m ((c.tc : Thread Cert.FfnBackwardReferenceIdeal.nD Cert.FfnBackwardReferenceIdeal.τ).loc Cert.FfnBackwardReferenceIdeal.main_arg0)
      ∧ r.2.mem ((c.tc : Thread Cert.FfnBackwardReferenceIdeal.nD Cert.FfnBackwardReferenceIdeal.τ).loc Cert.FfnBackwardReferenceIdeal.main_arg1) = m ((c.tc : Thread Cert.FfnBackwardReferenceIdeal.nD Cert.FfnBackwardReferenceIdeal.τ).loc Cert.FfnBackwardReferenceIdeal.main_arg1)
      ∧ r.2.mem ((c.tc : Thread Cert.FfnBackwardReferenceIdeal.nD Cert.FfnBackwardReferenceIdeal.τ).loc Cert.FfnBackwardReferenceIdeal.main_arg2) = m ((c.tc : Thread Cert.FfnBackwardReferenceIdeal.nD Cert.FfnBackwardReferenceIdeal.τ).loc Cert.FfnBackwardReferenceIdeal.main_arg2)
      ∧ r.2.mem ((c.tc : Thread Cert.FfnBackwardReferenceIdeal.nD Cert.FfnBackwardReferenceIdeal.τ).loc Cert.FfnBackwardReferenceIdeal.main_arg3) = m ((c.tc : Thread Cert.FfnBackwardReferenceIdeal.nD Cert.FfnBackwardReferenceIdeal.τ).loc Cert.FfnBackwardReferenceIdeal.main_arg3)
      ∧ r.2.mem ((c.tc : Thread Cert.FfnBackwardReferenceIdeal.nD Cert.FfnBackwardReferenceIdeal.τ).loc Cert.FfnBackwardReferenceIdeal.main_arg4) = m ((c.tc : Thread Cert.FfnBackwardReferenceIdeal.nD Cert.FfnBackwardReferenceIdeal.τ).loc Cert.FfnBackwardReferenceIdeal.main_arg4)
      ∧ r.2.mem ((c.tc : Thread Cert.FfnBackwardReferenceIdeal.nD Cert.FfnBackwardReferenceIdeal.τ).loc Cert.FfnBackwardReferenceIdeal.main_arg5) = m ((c.tc : Thread Cert.FfnBackwardReferenceIdeal.nD Cert.FfnBackwardReferenceIdeal.τ).loc Cert.FfnBackwardReferenceIdeal.main_arg5)
      ∧ r.2.mem ((c.tc : Thread Cert.FfnBackwardReferenceIdeal.nD Cert.FfnBackwardReferenceIdeal.τ).loc Cert.FfnBackwardReferenceIdeal.main_arg6) = m ((c.tc : Thread Cert.FfnBackwardReferenceIdeal.nD Cert.FfnBackwardReferenceIdeal.τ).loc Cert.FfnBackwardReferenceIdeal.main_arg6)
      ∧ r.2.mem ((c.tc : Thread Cert.FfnBackwardReferenceIdeal.nD Cert.FfnBackwardReferenceIdeal.τ).loc Cert.FfnBackwardReferenceIdeal.main_arg7) = m ((c.tc : Thread Cert.FfnBackwardReferenceIdeal.nD Cert.FfnBackwardReferenceIdeal.τ).loc Cert.FfnBackwardReferenceIdeal.main_arg7)
      ∧ r.2.mem ((c.tc : Thread Cert.FfnBackwardReferenceIdeal.nD Cert.FfnBackwardReferenceIdeal.τ).loc Cert.FfnBackwardReferenceIdeal.main_arg8) = m ((c.tc : Thread Cert.FfnBackwardReferenceIdeal.nD Cert.FfnBackwardReferenceIdeal.τ).loc Cert.FfnBackwardReferenceIdeal.main_arg8)
      ∧ r.2.mem ((c.tc : Thread Cert.FfnBackwardReferenceIdeal.nD Cert.FfnBackwardReferenceIdeal.τ).loc Cert.FfnBackwardReferenceIdeal.main_arg9) = m ((c.tc : Thread Cert.FfnBackwardReferenceIdeal.nD Cert.FfnBackwardReferenceIdeal.τ).loc Cert.FfnBackwardReferenceIdeal.main_arg9))
      ∧ r.2.sem = fun _ => 0)

def quiescent_FfnForward [hFfnForward : Cert.FfnForward.Facts] : Prop :=
  ∀ (m : (ℓ : Loc Cert.FfnForward.nD Cert.FfnForward.τ Cert.FfnForward.sig) → Buf (Elt Bits) ℓ) (g : Dev Cert.FfnForward.nD → PrngReg), Pre_FfnForward m →
    θ_run (Cert.FfnForward.defs (F := Bits)) (onTc (τ := Cert.FfnForward.τ) (Cert.FfnForward.main (F := Bits))) ⟨m, fun _ => 0, g⟩ (fun r => (∀ c : Dev Cert.FfnForward.nD,
      r.2.mem ((c.tc : Thread Cert.FfnForward.nD Cert.FfnForward.τ).loc Cert.FfnForward.main_arg0) = m ((c.tc : Thread Cert.FfnForward.nD Cert.FfnForward.τ).loc Cert.FfnForward.main_arg0)
      ∧ r.2.mem ((c.tc : Thread Cert.FfnForward.nD Cert.FfnForward.τ).loc Cert.FfnForward.main_arg1) = m ((c.tc : Thread Cert.FfnForward.nD Cert.FfnForward.τ).loc Cert.FfnForward.main_arg1)
      ∧ r.2.mem ((c.tc : Thread Cert.FfnForward.nD Cert.FfnForward.τ).loc Cert.FfnForward.main_arg2) = m ((c.tc : Thread Cert.FfnForward.nD Cert.FfnForward.τ).loc Cert.FfnForward.main_arg2)
      ∧ r.2.mem ((c.tc : Thread Cert.FfnForward.nD Cert.FfnForward.τ).loc Cert.FfnForward.main_arg3) = m ((c.tc : Thread Cert.FfnForward.nD Cert.FfnForward.τ).loc Cert.FfnForward.main_arg3)
      ∧ r.2.mem ((c.tc : Thread Cert.FfnForward.nD Cert.FfnForward.τ).loc Cert.FfnForward.main_arg4) = m ((c.tc : Thread Cert.FfnForward.nD Cert.FfnForward.τ).loc Cert.FfnForward.main_arg4)
      ∧ r.2.mem ((c.tc : Thread Cert.FfnForward.nD Cert.FfnForward.τ).loc Cert.FfnForward.main_arg5) = m ((c.tc : Thread Cert.FfnForward.nD Cert.FfnForward.τ).loc Cert.FfnForward.main_arg5)
      ∧ r.2.mem ((c.tc : Thread Cert.FfnForward.nD Cert.FfnForward.τ).loc Cert.FfnForward.main_arg6) = m ((c.tc : Thread Cert.FfnForward.nD Cert.FfnForward.τ).loc Cert.FfnForward.main_arg6)
      ∧ r.2.mem ((c.tc : Thread Cert.FfnForward.nD Cert.FfnForward.τ).loc Cert.FfnForward.main_arg7) = m ((c.tc : Thread Cert.FfnForward.nD Cert.FfnForward.τ).loc Cert.FfnForward.main_arg7))
      ∧ r.2.sem = fun _ => 0)

def quiescent_FfnForwardIdeal [hFfnForwardIdeal : Cert.FfnForwardIdeal.Facts] : Prop :=
  ∀ (m : (ℓ : Loc Cert.FfnForwardIdeal.nD Cert.FfnForwardIdeal.τ Cert.FfnForwardIdeal.sig) → Buf (Elt Ideal) ℓ) (g : Dev Cert.FfnForwardIdeal.nD → PrngReg), Pre_FfnForwardIdeal m →
    θ_run (Cert.FfnForwardIdeal.defs (F := Ideal)) (onTc (τ := Cert.FfnForwardIdeal.τ) (Cert.FfnForwardIdeal.main (F := Ideal))) ⟨m, fun _ => 0, g⟩ (fun r => (∀ c : Dev Cert.FfnForwardIdeal.nD,
      r.2.mem ((c.tc : Thread Cert.FfnForwardIdeal.nD Cert.FfnForwardIdeal.τ).loc Cert.FfnForwardIdeal.main_arg0) = m ((c.tc : Thread Cert.FfnForwardIdeal.nD Cert.FfnForwardIdeal.τ).loc Cert.FfnForwardIdeal.main_arg0)
      ∧ r.2.mem ((c.tc : Thread Cert.FfnForwardIdeal.nD Cert.FfnForwardIdeal.τ).loc Cert.FfnForwardIdeal.main_arg1) = m ((c.tc : Thread Cert.FfnForwardIdeal.nD Cert.FfnForwardIdeal.τ).loc Cert.FfnForwardIdeal.main_arg1)
      ∧ r.2.mem ((c.tc : Thread Cert.FfnForwardIdeal.nD Cert.FfnForwardIdeal.τ).loc Cert.FfnForwardIdeal.main_arg2) = m ((c.tc : Thread Cert.FfnForwardIdeal.nD Cert.FfnForwardIdeal.τ).loc Cert.FfnForwardIdeal.main_arg2)
      ∧ r.2.mem ((c.tc : Thread Cert.FfnForwardIdeal.nD Cert.FfnForwardIdeal.τ).loc Cert.FfnForwardIdeal.main_arg3) = m ((c.tc : Thread Cert.FfnForwardIdeal.nD Cert.FfnForwardIdeal.τ).loc Cert.FfnForwardIdeal.main_arg3)
      ∧ r.2.mem ((c.tc : Thread Cert.FfnForwardIdeal.nD Cert.FfnForwardIdeal.τ).loc Cert.FfnForwardIdeal.main_arg4) = m ((c.tc : Thread Cert.FfnForwardIdeal.nD Cert.FfnForwardIdeal.τ).loc Cert.FfnForwardIdeal.main_arg4)
      ∧ r.2.mem ((c.tc : Thread Cert.FfnForwardIdeal.nD Cert.FfnForwardIdeal.τ).loc Cert.FfnForwardIdeal.main_arg5) = m ((c.tc : Thread Cert.FfnForwardIdeal.nD Cert.FfnForwardIdeal.τ).loc Cert.FfnForwardIdeal.main_arg5)
      ∧ r.2.mem ((c.tc : Thread Cert.FfnForwardIdeal.nD Cert.FfnForwardIdeal.τ).loc Cert.FfnForwardIdeal.main_arg6) = m ((c.tc : Thread Cert.FfnForwardIdeal.nD Cert.FfnForwardIdeal.τ).loc Cert.FfnForwardIdeal.main_arg6)
      ∧ r.2.mem ((c.tc : Thread Cert.FfnForwardIdeal.nD Cert.FfnForwardIdeal.τ).loc Cert.FfnForwardIdeal.main_arg7) = m ((c.tc : Thread Cert.FfnForwardIdeal.nD Cert.FfnForwardIdeal.τ).loc Cert.FfnForwardIdeal.main_arg7))
      ∧ r.2.sem = fun _ => 0)

def quiescent_FfnForwardReferenceIdeal [hFfnForwardReferenceIdeal : Cert.FfnForwardReferenceIdeal.Facts] : Prop :=
  ∀ (m : (ℓ : Loc Cert.FfnForwardReferenceIdeal.nD Cert.FfnForwardReferenceIdeal.τ Cert.FfnForwardReferenceIdeal.sig) → Buf (Elt Ideal) ℓ) (g : Dev Cert.FfnForwardReferenceIdeal.nD → PrngReg), Pre_FfnForwardReferenceIdeal m →
    θ_run (Cert.FfnForwardReferenceIdeal.defs (F := Ideal)) (onTc (τ := Cert.FfnForwardReferenceIdeal.τ) (Cert.FfnForwardReferenceIdeal.main (F := Ideal))) ⟨m, fun _ => 0, g⟩ (fun r => (∀ c : Dev Cert.FfnForwardReferenceIdeal.nD,
      r.2.mem ((c.tc : Thread Cert.FfnForwardReferenceIdeal.nD Cert.FfnForwardReferenceIdeal.τ).loc Cert.FfnForwardReferenceIdeal.main_arg0) = m ((c.tc : Thread Cert.FfnForwardReferenceIdeal.nD Cert.FfnForwardReferenceIdeal.τ).loc Cert.FfnForwardReferenceIdeal.main_arg0)
      ∧ r.2.mem ((c.tc : Thread Cert.FfnForwardReferenceIdeal.nD Cert.FfnForwardReferenceIdeal.τ).loc Cert.FfnForwardReferenceIdeal.main_arg1) = m ((c.tc : Thread Cert.FfnForwardReferenceIdeal.nD Cert.FfnForwardReferenceIdeal.τ).loc Cert.FfnForwardReferenceIdeal.main_arg1)
      ∧ r.2.mem ((c.tc : Thread Cert.FfnForwardReferenceIdeal.nD Cert.FfnForwardReferenceIdeal.τ).loc Cert.FfnForwardReferenceIdeal.main_arg2) = m ((c.tc : Thread Cert.FfnForwardReferenceIdeal.nD Cert.FfnForwardReferenceIdeal.τ).loc Cert.FfnForwardReferenceIdeal.main_arg2)
      ∧ r.2.mem ((c.tc : Thread Cert.FfnForwardReferenceIdeal.nD Cert.FfnForwardReferenceIdeal.τ).loc Cert.FfnForwardReferenceIdeal.main_arg3) = m ((c.tc : Thread Cert.FfnForwardReferenceIdeal.nD Cert.FfnForwardReferenceIdeal.τ).loc Cert.FfnForwardReferenceIdeal.main_arg3)
      ∧ r.2.mem ((c.tc : Thread Cert.FfnForwardReferenceIdeal.nD Cert.FfnForwardReferenceIdeal.τ).loc Cert.FfnForwardReferenceIdeal.main_arg4) = m ((c.tc : Thread Cert.FfnForwardReferenceIdeal.nD Cert.FfnForwardReferenceIdeal.τ).loc Cert.FfnForwardReferenceIdeal.main_arg4)
      ∧ r.2.mem ((c.tc : Thread Cert.FfnForwardReferenceIdeal.nD Cert.FfnForwardReferenceIdeal.τ).loc Cert.FfnForwardReferenceIdeal.main_arg5) = m ((c.tc : Thread Cert.FfnForwardReferenceIdeal.nD Cert.FfnForwardReferenceIdeal.τ).loc Cert.FfnForwardReferenceIdeal.main_arg5)
      ∧ r.2.mem ((c.tc : Thread Cert.FfnForwardReferenceIdeal.nD Cert.FfnForwardReferenceIdeal.τ).loc Cert.FfnForwardReferenceIdeal.main_arg6) = m ((c.tc : Thread Cert.FfnForwardReferenceIdeal.nD Cert.FfnForwardReferenceIdeal.τ).loc Cert.FfnForwardReferenceIdeal.main_arg6)
      ∧ r.2.mem ((c.tc : Thread Cert.FfnForwardReferenceIdeal.nD Cert.FfnForwardReferenceIdeal.τ).loc Cert.FfnForwardReferenceIdeal.main_arg7) = m ((c.tc : Thread Cert.FfnForwardReferenceIdeal.nD Cert.FfnForwardReferenceIdeal.τ).loc Cert.FfnForwardReferenceIdeal.main_arg7))
      ∧ r.2.sem = fun _ => 0)

def quiescent_OutGrad [hOutGrad : Cert.OutGrad.Facts] : Prop :=
  ∀ (m : (ℓ : Loc Cert.OutGrad.nD Cert.OutGrad.τ Cert.OutGrad.sig) → Buf (Elt Bits) ℓ) (g : Dev Cert.OutGrad.nD → PrngReg), Pre_OutGrad m →
    θ_run (Cert.OutGrad.defs (F := Bits)) (onTc (τ := Cert.OutGrad.τ) (Cert.OutGrad.main (F := Bits))) ⟨m, fun _ => 0, g⟩ (fun r => (∀ c : Dev Cert.OutGrad.nD,
      r.2.mem ((c.tc : Thread Cert.OutGrad.nD Cert.OutGrad.τ).loc Cert.OutGrad.main_arg0) = m ((c.tc : Thread Cert.OutGrad.nD Cert.OutGrad.τ).loc Cert.OutGrad.main_arg0)
      ∧ r.2.mem ((c.tc : Thread Cert.OutGrad.nD Cert.OutGrad.τ).loc Cert.OutGrad.main_arg1) = m ((c.tc : Thread Cert.OutGrad.nD Cert.OutGrad.τ).loc Cert.OutGrad.main_arg1))
      ∧ r.2.sem = fun _ => 0)

def quiescent_OutGradIdeal [hOutGradIdeal : Cert.OutGradIdeal.Facts] : Prop :=
  ∀ (m : (ℓ : Loc Cert.OutGradIdeal.nD Cert.OutGradIdeal.τ Cert.OutGradIdeal.sig) → Buf (Elt Ideal) ℓ) (g : Dev Cert.OutGradIdeal.nD → PrngReg), Pre_OutGradIdeal m →
    θ_run (Cert.OutGradIdeal.defs (F := Ideal)) (onTc (τ := Cert.OutGradIdeal.τ) (Cert.OutGradIdeal.main (F := Ideal))) ⟨m, fun _ => 0, g⟩ (fun r => (∀ c : Dev Cert.OutGradIdeal.nD,
      r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
      ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1))
      ∧ r.2.sem = fun _ => 0)

def quiescent_OutGradReferenceIdeal [hOutGradReferenceIdeal : Cert.OutGradReferenceIdeal.Facts] : Prop :=
  ∀ (m : (ℓ : Loc Cert.OutGradReferenceIdeal.nD Cert.OutGradReferenceIdeal.τ Cert.OutGradReferenceIdeal.sig) → Buf (Elt Ideal) ℓ) (g : Dev Cert.OutGradReferenceIdeal.nD → PrngReg), Pre_OutGradReferenceIdeal m →
    θ_run (Cert.OutGradReferenceIdeal.defs (F := Ideal)) (onTc (τ := Cert.OutGradReferenceIdeal.τ) (Cert.OutGradReferenceIdeal.main (F := Ideal))) ⟨m, fun _ => 0, g⟩ (fun r => (∀ c : Dev Cert.OutGradReferenceIdeal.nD,
      r.2.mem ((c.tc : Thread Cert.OutGradReferenceIdeal.nD Cert.OutGradReferenceIdeal.τ).loc Cert.OutGradReferenceIdeal.main_arg0) = m ((c.tc : Thread Cert.OutGradReferenceIdeal.nD Cert.OutGradReferenceIdeal.τ).loc Cert.OutGradReferenceIdeal.main_arg0)
      ∧ r.2.mem ((c.tc : Thread Cert.OutGradReferenceIdeal.nD Cert.OutGradReferenceIdeal.τ).loc Cert.OutGradReferenceIdeal.main_arg1) = m ((c.tc : Thread Cert.OutGradReferenceIdeal.nD Cert.OutGradReferenceIdeal.τ).loc Cert.OutGradReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v39_1)) (v1 : (c : Dev Cert.KernelIdeal.nD) → Buf (Elt Ideal) ((c.tc : Thread Cert.KernelIdeal.nD Cert.KernelIdeal.τ).loc Cert.KernelIdeal.main_v39_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39_1) = v0 c
          ∧ r.2.mem ((c.tc : Thread Cert.KernelIdeal.nD Cert.KernelIdeal.τ).loc Cert.KernelIdeal.main_v39_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_WeightGrad_WeightGradIdeal : Prop :=
  True

def algebraic_WeightGradIdeal_WeightGradReferenceIdeal [hWeightGradIdeal : Cert.WeightGradIdeal.Facts] [hWeightGradReferenceIdeal : Cert.WeightGradReferenceIdeal.Facts] : Prop :=
  ∀ (m : (ℓ : Loc Cert.WeightGradIdeal.nD Cert.WeightGradIdeal.τ Cert.WeightGradIdeal.sig) → Buf (Elt Ideal) ℓ) (g : Dev Cert.WeightGradIdeal.nD → PrngReg)
    (m' : (ℓ : Loc Cert.WeightGradReferenceIdeal.nD Cert.WeightGradReferenceIdeal.τ Cert.WeightGradReferenceIdeal.sig) → Buf (Elt Ideal) ℓ) (g' : Dev Cert.WeightGradReferenceIdeal.nD → PrngReg), Pre_WeightGradIdeal m →
    (∀ c : Dev Cert.WeightGradIdeal.nD,
      m' ((c.tc : Thread Cert.WeightGradReferenceIdeal.nD Cert.WeightGradReferenceIdeal.τ).loc Cert.WeightGradReferenceIdeal.main_arg0) = m ((c.tc : Thread Cert.WeightGradIdeal.nD Cert.WeightGradIdeal.τ).loc Cert.WeightGradIdeal.main_arg0)
      ∧ m' ((c.tc : Thread Cert.WeightGradReferenceIdeal.nD Cert.WeightGradReferenceIdeal.τ).loc Cert.WeightGradReferenceIdeal.main_arg1) = m ((c.tc : Thread Cert.WeightGradIdeal.nD Cert.WeightGradIdeal.τ).loc Cert.WeightGradIdeal.main_arg1)) →
    ∃ (v0 : (c : Dev Cert.WeightGradIdeal.nD) → Buf (Elt Ideal) ((c.tc : Thread Cert.WeightGradIdeal.nD Cert.WeightGradIdeal.τ).loc Cert.WeightGradIdeal.main_v2)),
      θ_run (Cert.WeightGradIdeal.defs (F := Ideal)) (onTc (τ := Cert.WeightGradIdeal.τ) (Cert.WeightGradIdeal.main (F := Ideal))) ⟨m, fun _ => 0, g⟩ (fun r => ∀ c : Dev Cert.WeightGradIdeal.nD,
          r.2.mem ((c.tc : Thread Cert.WeightGradIdeal.nD Cert.WeightGradIdeal.τ).loc Cert.WeightGradIdeal.main_v2) = v0 c
          ∧ r.2.mem ((c.tc : Thread Cert.WeightGradIdeal.nD Cert.WeightGradIdeal.τ).loc Cert.WeightGradIdeal.main_arg0) = m ((c.tc : Thread Cert.WeightGradIdeal.nD Cert.WeightGradIdeal.τ).loc Cert.WeightGradIdeal.main_arg0)
          ∧ r.2.mem ((c.tc : Thread Cert.WeightGradIdeal.nD Cert.WeightGradIdeal.τ).loc Cert.WeightGradIdeal.main_arg1) = m ((c.tc : Thread Cert.WeightGradIdeal.nD Cert.WeightGradIdeal.τ).loc Cert.WeightGradIdeal.main_arg1))
      ∧ θ_run (Cert.WeightGradReferenceIdeal.defs (F := Ideal)) (onTc (τ := Cert.WeightGradReferenceIdeal.τ) (Cert.WeightGradReferenceIdeal.main (F := Ideal))) ⟨m', fun _ => 0, g'⟩ (fun r => ∀ c : Dev Cert.WeightGradReferenceIdeal.nD,
          r.2.mem ((c.tc : Thread Cert.WeightGradReferenceIdeal.nD Cert.WeightGradReferenceIdeal.τ).loc Cert.WeightGradReferenceIdeal.main_v3) = v0 c
          ∧ r.2.mem ((c.tc : Thread Cert.WeightGradReferenceIdeal.nD Cert.WeightGradReferenceIdeal.τ).loc Cert.WeightGradReferenceIdeal.main_arg0) = m' ((c.tc : Thread Cert.WeightGradReferenceIdeal.nD Cert.WeightGradReferenceIdeal.τ).loc Cert.WeightGradReferenceIdeal.main_arg0)
          ∧ r.2.mem ((c.tc : Thread Cert.WeightGradReferenceIdeal.nD Cert.WeightGradReferenceIdeal.τ).loc Cert.WeightGradReferenceIdeal.main_arg1) = m' ((c.tc : Thread Cert.WeightGradReferenceIdeal.nD Cert.WeightGradReferenceIdeal.τ).loc Cert.WeightGradReferenceIdeal.main_arg1))

def preserves_FfnBackward_FfnBackwardIdeal : Prop :=
  True

def algebraic_FfnBackwardIdeal_FfnBackwardReferenceIdeal_pre_ffn_finite [hFfnBackwardIdeal : Cert.FfnBackwardIdeal.Facts] [hFfnBackwardReferenceIdeal : Cert.FfnBackwardReferenceIdeal.Facts] [hPre_ffn_finite : Cert.Pre_ffn_finite.Facts] : Prop :=
  ∀ (m : (ℓ : Loc Cert.FfnBackwardIdeal.nD Cert.FfnBackwardIdeal.τ Cert.FfnBackwardIdeal.sig) → Buf (Elt Ideal) ℓ) (g : Dev Cert.FfnBackwardIdeal.nD → PrngReg)
    (m' : (ℓ : Loc Cert.FfnBackwardReferenceIdeal.nD Cert.FfnBackwardReferenceIdeal.τ Cert.FfnBackwardReferenceIdeal.sig) → Buf (Elt Ideal) ℓ) (g' : Dev Cert.FfnBackwardReferenceIdeal.nD → PrngReg), Pre_FfnBackwardIdeal_ffn_finite m →
    (∀ c : Dev Cert.FfnBackwardIdeal.nD,
      m' ((c.tc : Thread Cert.FfnBackwardReferenceIdeal.nD Cert.FfnBackwardReferenceIdeal.τ).loc Cert.FfnBackwardReferenceIdeal.main_arg0) = m ((c.tc : Thread Cert.FfnBackwardIdeal.nD Cert.FfnBackwardIdeal.τ).loc Cert.FfnBackwardIdeal.main_arg0)
      ∧ m' ((c.tc : Thread Cert.FfnBackwardReferenceIdeal.nD Cert.FfnBackwardReferenceIdeal.τ).loc Cert.FfnBackwardReferenceIdeal.main_arg1) = m ((c.tc : Thread Cert.FfnBackwardIdeal.nD Cert.FfnBackwardIdeal.τ).loc Cert.FfnBackwardIdeal.main_arg1)
      ∧ m' ((c.tc : Thread Cert.FfnBackwardReferenceIdeal.nD Cert.FfnBackwardReferenceIdeal.τ).loc Cert.FfnBackwardReferenceIdeal.main_arg2) = m ((c.tc : Thread Cert.FfnBackwardIdeal.nD Cert.FfnBackwardIdeal.τ).loc Cert.FfnBackwardIdeal.main_arg2)
      ∧ m' ((c.tc : Thread Cert.FfnBackwardReferenceIdeal.nD Cert.FfnBackwardReferenceIdeal.τ).loc Cert.FfnBackwardReferenceIdeal.main_arg3) = m ((c.tc : Thread Cert.FfnBackwardIdeal.nD Cert.FfnBackwardIdeal.τ).loc Cert.FfnBackwardIdeal.main_arg3)
      ∧ m' ((c.tc : Thread Cert.FfnBackwardReferenceIdeal.nD Cert.FfnBackwardReferenceIdeal.τ).loc Cert.FfnBackwardReferenceIdeal.main_arg4) = m ((c.tc : Thread Cert.FfnBackwardIdeal.nD Cert.FfnBackwardIdeal.τ).loc Cert.FfnBackwardIdeal.main_arg4)
      ∧ m' ((c.tc : Thread Cert.FfnBackwardReferenceIdeal.nD Cert.FfnBackwardReferenceIdeal.τ).loc Cert.FfnBackwardReferenceIdeal.main_arg5) = m ((c.tc : Thread Cert.FfnBackwardIdeal.nD Cert.FfnBackwardIdeal.τ).loc Cert.FfnBackwardIdeal.main_arg5)
      ∧ m' ((c.tc : Thread Cert.FfnBackwardReferenceIdeal.nD Cert.FfnBackwardReferenceIdeal.τ).loc Cert.FfnBackwardReferenceIdeal.main_arg6) = m ((c.tc : Thread Cert.FfnBackwardIdeal.nD Cert.FfnBackwardIdeal.τ).loc Cert.FfnBackwardIdeal.main_arg6)
      ∧ m' ((c.tc : Thread Cert.FfnBackwardReferenceIdeal.nD Cert.FfnBackwardReferenceIdeal.τ).loc Cert.FfnBackwardReferenceIdeal.main_arg7) = m ((c.tc : Thread Cert.FfnBackwardIdeal.nD Cert.FfnBackwardIdeal.τ).loc Cert.FfnBackwardIdeal.main_arg7)
      ∧ m' ((c.tc : Thread Cert.FfnBackwardReferenceIdeal.nD Cert.FfnBackwardReferenceIdeal.τ).loc Cert.FfnBackwardReferenceIdeal.main_arg8) = m ((c.tc : Thread Cert.FfnBackwardIdeal.nD Cert.FfnBackwardIdeal.τ).loc Cert.FfnBackwardIdeal.main_arg8)
      ∧ m' ((c.tc : Thread Cert.FfnBackwardReferenceIdeal.nD Cert.FfnBackwardReferenceIdeal.τ).loc Cert.FfnBackwardReferenceIdeal.main_arg9) = m ((c.tc : Thread Cert.FfnBackwardIdeal.nD Cert.FfnBackwardIdeal.τ).loc Cert.FfnBackwardIdeal.main_arg9)) →
    ∃ (v0 : (c : Dev Cert.FfnBackwardIdeal.nD) → Buf (Elt Ideal) ((c.tc : Thread Cert.FfnBackwardIdeal.nD Cert.FfnBackwardIdeal.τ).loc Cert.FfnBackwardIdeal.main_v6_0)) (v1 : (c : Dev Cert.FfnBackwardIdeal.nD) → Buf (Elt Ideal) ((c.tc : Thread Cert.FfnBackwardIdeal.nD Cert.FfnBackwardIdeal.τ).loc Cert.FfnBackwardIdeal.main_v6_1)) (v2 : (c : Dev Cert.FfnBackwardIdeal.nD) → Buf (Elt Ideal) ((c.tc : Thread Cert.FfnBackwardIdeal.nD Cert.FfnBackwardIdeal.τ).loc Cert.FfnBackwardIdeal.main_v6_2)) (v3 : (c : Dev Cert.FfnBackwardIdeal.nD) → Buf (Elt Ideal) ((c.tc : Thread Cert.FfnBackwardIdeal.nD Cert.FfnBackwardIdeal.τ).loc Cert.FfnBackwardIdeal.main_v6_3)),
      θ_run (Cert.FfnBackwardIdeal.defs (F := Ideal)) (onTc (τ := Cert.FfnBackwardIdeal.τ) (Cert.FfnBackwardIdeal.main (F := Ideal))) ⟨m, fun _ => 0, g⟩ (fun r => ∀ c : Dev Cert.FfnBackwardIdeal.nD,
          r.2.mem ((c.tc : Thread Cert.FfnBackwardIdeal.nD Cert.FfnBackwardIdeal.τ).loc Cert.FfnBackwardIdeal.main_v6_0) = v0 c
          ∧ r.2.mem ((c.tc : Thread Cert.FfnBackwardIdeal.nD Cert.FfnBackwardIdeal.τ).loc Cert.FfnBackwardIdeal.main_v6_1) = v1 c
          ∧ r.2.mem ((c.tc : Thread Cert.FfnBackwardIdeal.nD Cert.FfnBackwardIdeal.τ).loc Cert.FfnBackwardIdeal.main_v6_2) = v2 c
          ∧ r.2.mem ((c.tc : Thread Cert.FfnBackwardIdeal.nD Cert.FfnBackwardIdeal.τ).loc Cert.FfnBackwardIdeal.main_v6_3) = v3 c
          ∧ r.2.mem ((c.tc : Thread Cert.FfnBackwardIdeal.nD Cert.FfnBackwardIdeal.τ).loc Cert.FfnBackwardIdeal.main_arg0) = m ((c.tc : Thread Cert.FfnBackwardIdeal.nD Cert.FfnBackwardIdeal.τ).loc Cert.FfnBackwardIdeal.main_arg0)
          ∧ r.2.mem ((c.tc : Thread Cert.FfnBackwardIdeal.nD Cert.FfnBackwardIdeal.τ).loc Cert.FfnBackwardIdeal.main_arg1) = m ((c.tc : Thread Cert.FfnBackwardIdeal.nD Cert.FfnBackwardIdeal.τ).loc Cert.FfnBackwardIdeal.main_arg1)
          ∧ r.2.mem ((c.tc : Thread Cert.FfnBackwardIdeal.nD Cert.FfnBackwardIdeal.τ).loc Cert.FfnBackwardIdeal.main_arg2) = m ((c.tc : Thread Cert.FfnBackwardIdeal.nD Cert.FfnBackwardIdeal.τ).loc Cert.FfnBackwardIdeal.main_arg2)
          ∧ r.2.mem ((c.tc : Thread Cert.FfnBackwardIdeal.nD Cert.FfnBackwardIdeal.τ).loc Cert.FfnBackwardIdeal.main_arg3) = m ((c.tc : Thread Cert.FfnBackwardIdeal.nD Cert.FfnBackwardIdeal.τ).loc Cert.FfnBackwardIdeal.main_arg3)
          ∧ r.2.mem ((c.tc : Thread Cert.FfnBackwardIdeal.nD Cert.FfnBackwardIdeal.τ).loc Cert.FfnBackwardIdeal.main_arg4) = m ((c.tc : Thread Cert.FfnBackwardIdeal.nD Cert.FfnBackwardIdeal.τ).loc Cert.FfnBackwardIdeal.main_arg4)
          ∧ r.2.mem ((c.tc : Thread Cert.FfnBackwardIdeal.nD Cert.FfnBackwardIdeal.τ).loc Cert.FfnBackwardIdeal.main_arg5) = m ((c.tc : Thread Cert.FfnBackwardIdeal.nD Cert.FfnBackwardIdeal.τ).loc Cert.FfnBackwardIdeal.main_arg5)
          ∧ r.2.mem ((c.tc : Thread Cert.FfnBackwardIdeal.nD Cert.FfnBackwardIdeal.τ).loc Cert.FfnBackwardIdeal.main_arg6) = m ((c.tc : Thread Cert.FfnBackwardIdeal.nD Cert.FfnBackwardIdeal.τ).loc Cert.FfnBackwardIdeal.main_arg6)
          ∧ r.2.mem ((c.tc : Thread Cert.FfnBackwardIdeal.nD Cert.FfnBackwardIdeal.τ).loc Cert.FfnBackwardIdeal.main_arg7) = m ((c.tc : Thread Cert.FfnBackwardIdeal.nD Cert.FfnBackwardIdeal.τ).loc Cert.FfnBackwardIdeal.main_arg7)
          ∧ r.2.mem ((c.tc : Thread Cert.FfnBackwardIdeal.nD Cert.FfnBackwardIdeal.τ).loc Cert.FfnBackwardIdeal.main_arg8) = m ((c.tc : Thread Cert.FfnBackwardIdeal.nD Cert.FfnBackwardIdeal.τ).loc Cert.FfnBackwardIdeal.main_arg8)
          ∧ r.2.mem ((c.tc : Thread Cert.FfnBackwardIdeal.nD Cert.FfnBackwardIdeal.τ).loc Cert.FfnBackwardIdeal.main_arg9) = m ((c.tc : Thread Cert.FfnBackwardIdeal.nD Cert.FfnBackwardIdeal.τ).loc Cert.FfnBackwardIdeal.main_arg9))
      ∧ θ_run (Cert.FfnBackwardReferenceIdeal.defs (F := Ideal)) (onTc (τ := Cert.FfnBackwardReferenceIdeal.τ) (Cert.FfnBackwardReferenceIdeal.main (F := Ideal))) ⟨m', fun _ => 0, g'⟩ (fun r => ∀ c : Dev Cert.FfnBackwardReferenceIdeal.nD,
          r.2.mem ((c.tc : Thread Cert.FfnBackwardReferenceIdeal.nD Cert.FfnBackwardReferenceIdeal.τ).loc Cert.FfnBackwardReferenceIdeal.main_v67) = v0 c
          ∧ r.2.mem ((c.tc : Thread Cert.FfnBackwardReferenceIdeal.nD Cert.FfnBackwardReferenceIdeal.τ).loc Cert.FfnBackwardReferenceIdeal.main_v68) = v1 c
          ∧ r.2.mem ((c.tc : Thread Cert.FfnBackwardReferenceIdeal.nD Cert.FfnBackwardReferenceIdeal.τ).loc Cert.FfnBackwardReferenceIdeal.main_v69) = v2 c
          ∧ r.2.mem ((c.tc : Thread Cert.FfnBackwardReferenceIdeal.nD Cert.FfnBackwardReferenceIdeal.τ).loc Cert.FfnBackwardReferenceIdeal.main_v71) = v3 c
          ∧ r.2.mem ((c.tc : Thread Cert.FfnBackwardReferenceIdeal.nD Cert.FfnBackwardReferenceIdeal.τ).loc Cert.FfnBackwardReferenceIdeal.main_arg0) = m' ((c.tc : Thread Cert.FfnBackwardReferenceIdeal.nD Cert.FfnBackwardReferenceIdeal.τ).loc Cert.FfnBackwardReferenceIdeal.main_arg0)
          ∧ r.2.mem ((c.tc : Thread Cert.FfnBackwardReferenceIdeal.nD Cert.FfnBackwardReferenceIdeal.τ).loc Cert.FfnBackwardReferenceIdeal.main_arg1) = m' ((c.tc : Thread Cert.FfnBackwardReferenceIdeal.nD Cert.FfnBackwardReferenceIdeal.τ).loc Cert.FfnBackwardReferenceIdeal.main_arg1)
          ∧ r.2.mem ((c.tc : Thread Cert.FfnBackwardReferenceIdeal.nD Cert.FfnBackwardReferenceIdeal.τ).loc Cert.FfnBackwardReferenceIdeal.main_arg2) = m' ((c.tc : Thread Cert.FfnBackwardReferenceIdeal.nD Cert.FfnBackwardReferenceIdeal.τ).loc Cert.FfnBackwardReferenceIdeal.main_arg2)
          ∧ r.2.mem ((c.tc : Thread Cert.FfnBackwardReferenceIdeal.nD Cert.FfnBackwardReferenceIdeal.τ).loc Cert.FfnBackwardReferenceIdeal.main_arg3) = m' ((c.tc : Thread Cert.FfnBackwardReferenceIdeal.nD Cert.FfnBackwardReferenceIdeal.τ).loc Cert.FfnBackwardReferenceIdeal.main_arg3)
          ∧ r.2.mem ((c.tc : Thread Cert.FfnBackwardReferenceIdeal.nD Cert.FfnBackwardReferenceIdeal.τ).loc Cert.FfnBackwardReferenceIdeal.main_arg4) = m' ((c.tc : Thread Cert.FfnBackwardReferenceIdeal.nD Cert.FfnBackwardReferenceIdeal.τ).loc Cert.FfnBackwardReferenceIdeal.main_arg4)
          ∧ r.2.mem ((c.tc : Thread Cert.FfnBackwardReferenceIdeal.nD Cert.FfnBackwardReferenceIdeal.τ).loc Cert.FfnBackwardReferenceIdeal.main_arg5) = m' ((c.tc : Thread Cert.FfnBackwardReferenceIdeal.nD Cert.FfnBackwardReferenceIdeal.τ).loc Cert.FfnBackwardReferenceIdeal.main_arg5)
          ∧ r.2.mem ((c.tc : Thread Cert.FfnBackwardReferenceIdeal.nD Cert.FfnBackwardReferenceIdeal.τ).loc Cert.FfnBackwardReferenceIdeal.main_arg6) = m' ((c.tc : Thread Cert.FfnBackwardReferenceIdeal.nD Cert.FfnBackwardReferenceIdeal.τ).loc Cert.FfnBackwardReferenceIdeal.main_arg6)
          ∧ r.2.mem ((c.tc : Thread Cert.FfnBackwardReferenceIdeal.nD Cert.FfnBackwardReferenceIdeal.τ).loc Cert.FfnBackwardReferenceIdeal.main_arg7) = m' ((c.tc : Thread Cert.FfnBackwardReferenceIdeal.nD Cert.FfnBackwardReferenceIdeal.τ).loc Cert.FfnBackwardReferenceIdeal.main_arg7)
          ∧ r.2.mem ((c.tc : Thread Cert.FfnBackwardReferenceIdeal.nD Cert.FfnBackwardReferenceIdeal.τ).loc Cert.FfnBackwardReferenceIdeal.main_arg8) = m' ((c.tc : Thread Cert.FfnBackwardReferenceIdeal.nD Cert.FfnBackwardReferenceIdeal.τ).loc Cert.FfnBackwardReferenceIdeal.main_arg8)
          ∧ r.2.mem ((c.tc : Thread Cert.FfnBackwardReferenceIdeal.nD Cert.FfnBackwardReferenceIdeal.τ).loc Cert.FfnBackwardReferenceIdeal.main_arg9) = m' ((c.tc : Thread Cert.FfnBackwardReferenceIdeal.nD Cert.FfnBackwardReferenceIdeal.τ).loc Cert.FfnBackwardReferenceIdeal.main_arg9))

def preserves_FfnForward_FfnForwardIdeal : Prop :=
  True

def algebraic_FfnForwardIdeal_FfnForwardReferenceIdeal [hFfnForwardIdeal : Cert.FfnForwardIdeal.Facts] [hFfnForwardReferenceIdeal : Cert.FfnForwardReferenceIdeal.Facts] : Prop :=
  ∀ (m : (ℓ : Loc Cert.FfnForwardIdeal.nD Cert.FfnForwardIdeal.τ Cert.FfnForwardIdeal.sig) → Buf (Elt Ideal) ℓ) (g : Dev Cert.FfnForwardIdeal.nD → PrngReg)
    (m' : (ℓ : Loc Cert.FfnForwardReferenceIdeal.nD Cert.FfnForwardReferenceIdeal.τ Cert.FfnForwardReferenceIdeal.sig) → Buf (Elt Ideal) ℓ) (g' : Dev Cert.FfnForwardReferenceIdeal.nD → PrngReg), Pre_FfnForwardIdeal m →
    (∀ c : Dev Cert.FfnForwardIdeal.nD,
      m' ((c.tc : Thread Cert.FfnForwardReferenceIdeal.nD Cert.FfnForwardReferenceIdeal.τ).loc Cert.FfnForwardReferenceIdeal.main_arg0) = m ((c.tc : Thread Cert.FfnForwardIdeal.nD Cert.FfnForwardIdeal.τ).loc Cert.FfnForwardIdeal.main_arg0)
      ∧ m' ((c.tc : Thread Cert.FfnForwardReferenceIdeal.nD Cert.FfnForwardReferenceIdeal.τ).loc Cert.FfnForwardReferenceIdeal.main_arg1) = m ((c.tc : Thread Cert.FfnForwardIdeal.nD Cert.FfnForwardIdeal.τ).loc Cert.FfnForwardIdeal.main_arg1)
      ∧ m' ((c.tc : Thread Cert.FfnForwardReferenceIdeal.nD Cert.FfnForwardReferenceIdeal.τ).loc Cert.FfnForwardReferenceIdeal.main_arg2) = m ((c.tc : Thread Cert.FfnForwardIdeal.nD Cert.FfnForwardIdeal.τ).loc Cert.FfnForwardIdeal.main_arg2)
      ∧ m' ((c.tc : Thread Cert.FfnForwardReferenceIdeal.nD Cert.FfnForwardReferenceIdeal.τ).loc Cert.FfnForwardReferenceIdeal.main_arg3) = m ((c.tc : Thread Cert.FfnForwardIdeal.nD Cert.FfnForwardIdeal.τ).loc Cert.FfnForwardIdeal.main_arg3)
      ∧ m' ((c.tc : Thread Cert.FfnForwardReferenceIdeal.nD Cert.FfnForwardReferenceIdeal.τ).loc Cert.FfnForwardReferenceIdeal.main_arg4) = m ((c.tc : Thread Cert.FfnForwardIdeal.nD Cert.FfnForwardIdeal.τ).loc Cert.FfnForwardIdeal.main_arg4)
      ∧ m' ((c.tc : Thread Cert.FfnForwardReferenceIdeal.nD Cert.FfnForwardReferenceIdeal.τ).loc Cert.FfnForwardReferenceIdeal.main_arg5) = m ((c.tc : Thread Cert.FfnForwardIdeal.nD Cert.FfnForwardIdeal.τ).loc Cert.FfnForwardIdeal.main_arg5)
      ∧ m' ((c.tc : Thread Cert.FfnForwardReferenceIdeal.nD Cert.FfnForwardReferenceIdeal.τ).loc Cert.FfnForwardReferenceIdeal.main_arg6) = m ((c.tc : Thread Cert.FfnForwardIdeal.nD Cert.FfnForwardIdeal.τ).loc Cert.FfnForwardIdeal.main_arg6)
      ∧ m' ((c.tc : Thread Cert.FfnForwardReferenceIdeal.nD Cert.FfnForwardReferenceIdeal.τ).loc Cert.FfnForwardReferenceIdeal.main_arg7) = m ((c.tc : Thread Cert.FfnForwardIdeal.nD Cert.FfnForwardIdeal.τ).loc Cert.FfnForwardIdeal.main_arg7)) →
    ∃ (v0 : (c : Dev Cert.FfnForwardIdeal.nD) → Buf (Elt Ideal) ((c.tc : Thread Cert.FfnForwardIdeal.nD Cert.FfnForwardIdeal.τ).loc Cert.FfnForwardIdeal.main_v3_0)) (v1 : (c : Dev Cert.FfnForwardIdeal.nD) → Buf (Elt Ideal) ((c.tc : Thread Cert.FfnForwardIdeal.nD Cert.FfnForwardIdeal.τ).loc Cert.FfnForwardIdeal.main_v3_1)) (v2 : (c : Dev Cert.FfnForwardIdeal.nD) → Buf (Elt Ideal) ((c.tc : Thread Cert.FfnForwardIdeal.nD Cert.FfnForwardIdeal.τ).loc Cert.FfnForwardIdeal.main_v3_2)) (v3 : (c : Dev Cert.FfnForwardIdeal.nD) → Buf (Elt Ideal) ((c.tc : Thread Cert.FfnForwardIdeal.nD Cert.FfnForwardIdeal.τ).loc Cert.FfnForwardIdeal.main_v3_3)) (v4 : (c : Dev Cert.FfnForwardIdeal.nD) → Buf (Elt Ideal) ((c.tc : Thread Cert.FfnForwardIdeal.nD Cert.FfnForwardIdeal.τ).loc Cert.FfnForwardIdeal.main_v3_4)) (v5 : (c : Dev Cert.FfnForwardIdeal.nD) → Buf (Elt Ideal) ((c.tc : Thread Cert.FfnForwardIdeal.nD Cert.FfnForwardIdeal.τ).loc Cert.FfnForwardIdeal.main_v3_5)) (v6 : (c : Dev Cert.FfnForwardIdeal.nD) → Buf (Elt Ideal) ((c.tc : Thread Cert.FfnForwardIdeal.nD Cert.FfnForwardIdeal.τ).loc Cert.FfnForwardIdeal.main_v3_6)),
      θ_run (Cert.FfnForwardIdeal.defs (F := Ideal)) (onTc (τ := Cert.FfnForwardIdeal.τ) (Cert.FfnForwardIdeal.main (F := Ideal))) ⟨m, fun _ => 0, g⟩ (fun r => ∀ c : Dev Cert.FfnForwardIdeal.nD,
          r.2.mem ((c.tc : Thread Cert.FfnForwardIdeal.nD Cert.FfnForwardIdeal.τ).loc Cert.FfnForwardIdeal.main_v3_0) = v0 c
          ∧ r.2.mem ((c.tc : Thread Cert.FfnForwardIdeal.nD Cert.FfnForwardIdeal.τ).loc Cert.FfnForwardIdeal.main_v3_1) = v1 c
          ∧ r.2.mem ((c.tc : Thread Cert.FfnForwardIdeal.nD Cert.FfnForwardIdeal.τ).loc Cert.FfnForwardIdeal.main_v3_2) = v2 c
          ∧ r.2.mem ((c.tc : Thread Cert.FfnForwardIdeal.nD Cert.FfnForwardIdeal.τ).loc Cert.FfnForwardIdeal.main_v3_3) = v3 c
          ∧ r.2.mem ((c.tc : Thread Cert.FfnForwardIdeal.nD Cert.FfnForwardIdeal.τ).loc Cert.FfnForwardIdeal.main_v3_4) = v4 c
          ∧ r.2.mem ((c.tc : Thread Cert.FfnForwardIdeal.nD Cert.FfnForwardIdeal.τ).loc Cert.FfnForwardIdeal.main_v3_5) = v5 c
          ∧ r.2.mem ((c.tc : Thread Cert.FfnForwardIdeal.nD Cert.FfnForwardIdeal.τ).loc Cert.FfnForwardIdeal.main_v3_6) = v6 c
          ∧ r.2.mem ((c.tc : Thread Cert.FfnForwardIdeal.nD Cert.FfnForwardIdeal.τ).loc Cert.FfnForwardIdeal.main_arg0) = m ((c.tc : Thread Cert.FfnForwardIdeal.nD Cert.FfnForwardIdeal.τ).loc Cert.FfnForwardIdeal.main_arg0)
          ∧ r.2.mem ((c.tc : Thread Cert.FfnForwardIdeal.nD Cert.FfnForwardIdeal.τ).loc Cert.FfnForwardIdeal.main_arg1) = m ((c.tc : Thread Cert.FfnForwardIdeal.nD Cert.FfnForwardIdeal.τ).loc Cert.FfnForwardIdeal.main_arg1)
          ∧ r.2.mem ((c.tc : Thread Cert.FfnForwardIdeal.nD Cert.FfnForwardIdeal.τ).loc Cert.FfnForwardIdeal.main_arg2) = m ((c.tc : Thread Cert.FfnForwardIdeal.nD Cert.FfnForwardIdeal.τ).loc Cert.FfnForwardIdeal.main_arg2)
          ∧ r.2.mem ((c.tc : Thread Cert.FfnForwardIdeal.nD Cert.FfnForwardIdeal.τ).loc Cert.FfnForwardIdeal.main_arg3) = m ((c.tc : Thread Cert.FfnForwardIdeal.nD Cert.FfnForwardIdeal.τ).loc Cert.FfnForwardIdeal.main_arg3)
          ∧ r.2.mem ((c.tc : Thread Cert.FfnForwardIdeal.nD Cert.FfnForwardIdeal.τ).loc Cert.FfnForwardIdeal.main_arg4) = m ((c.tc : Thread Cert.FfnForwardIdeal.nD Cert.FfnForwardIdeal.τ).loc Cert.FfnForwardIdeal.main_arg4)
          ∧ r.2.mem ((c.tc : Thread Cert.FfnForwardIdeal.nD Cert.FfnForwardIdeal.τ).loc Cert.FfnForwardIdeal.main_arg5) = m ((c.tc : Thread Cert.FfnForwardIdeal.nD Cert.FfnForwardIdeal.τ).loc Cert.FfnForwardIdeal.main_arg5)
          ∧ r.2.mem ((c.tc : Thread Cert.FfnForwardIdeal.nD Cert.FfnForwardIdeal.τ).loc Cert.FfnForwardIdeal.main_arg6) = m ((c.tc : Thread Cert.FfnForwardIdeal.nD Cert.FfnForwardIdeal.τ).loc Cert.FfnForwardIdeal.main_arg6)
          ∧ r.2.mem ((c.tc : Thread Cert.FfnForwardIdeal.nD Cert.FfnForwardIdeal.τ).loc Cert.FfnForwardIdeal.main_arg7) = m ((c.tc : Thread Cert.FfnForwardIdeal.nD Cert.FfnForwardIdeal.τ).loc Cert.FfnForwardIdeal.main_arg7))
      ∧ θ_run (Cert.FfnForwardReferenceIdeal.defs (F := Ideal)) (onTc (τ := Cert.FfnForwardReferenceIdeal.τ) (Cert.FfnForwardReferenceIdeal.main (F := Ideal))) ⟨m', fun _ => 0, g'⟩ (fun r => ∀ c : Dev Cert.FfnForwardReferenceIdeal.nD,
          r.2.mem ((c.tc : Thread Cert.FfnForwardReferenceIdeal.nD Cert.FfnForwardReferenceIdeal.τ).loc Cert.FfnForwardReferenceIdeal.main_v85) = v0 c
          ∧ r.2.mem ((c.tc : Thread Cert.FfnForwardReferenceIdeal.nD Cert.FfnForwardReferenceIdeal.τ).loc Cert.FfnForwardReferenceIdeal.main_v86) = v1 c
          ∧ r.2.mem ((c.tc : Thread Cert.FfnForwardReferenceIdeal.nD Cert.FfnForwardReferenceIdeal.τ).loc Cert.FfnForwardReferenceIdeal.main_v87) = v2 c
          ∧ r.2.mem ((c.tc : Thread Cert.FfnForwardReferenceIdeal.nD Cert.FfnForwardReferenceIdeal.τ).loc Cert.FfnForwardReferenceIdeal.main_v88) = v3 c
          ∧ r.2.mem ((c.tc : Thread Cert.FfnForwardReferenceIdeal.nD Cert.FfnForwardReferenceIdeal.τ).loc Cert.FfnForwardReferenceIdeal.main_v89) = v4 c
          ∧ r.2.mem ((c.tc : Thread Cert.FfnForwardReferenceIdeal.nD Cert.FfnForwardReferenceIdeal.τ).loc Cert.FfnForwardReferenceIdeal.main_v79) = v5 c
          ∧ r.2.mem ((c.tc : Thread Cert.FfnForwardReferenceIdeal.nD Cert.FfnForwardReferenceIdeal.τ).loc Cert.FfnForwardReferenceIdeal.main_v92) = v6 c
          ∧ r.2.mem ((c.tc : Thread Cert.FfnForwardReferenceIdeal.nD Cert.FfnForwardReferenceIdeal.τ).loc Cert.FfnForwardReferenceIdeal.main_arg0) = m' ((c.tc : Thread Cert.FfnForwardReferenceIdeal.nD Cert.FfnForwardReferenceIdeal.τ).loc Cert.FfnForwardReferenceIdeal.main_arg0)
          ∧ r.2.mem ((c.tc : Thread Cert.FfnForwardReferenceIdeal.nD Cert.FfnForwardReferenceIdeal.τ).loc Cert.FfnForwardReferenceIdeal.main_arg1) = m' ((c.tc : Thread Cert.FfnForwardReferenceIdeal.nD Cert.FfnForwardReferenceIdeal.τ).loc Cert.FfnForwardReferenceIdeal.main_arg1)
          ∧ r.2.mem ((c.tc : Thread Cert.FfnForwardReferenceIdeal.nD Cert.FfnForwardReferenceIdeal.τ).loc Cert.FfnForwardReferenceIdeal.main_arg2) = m' ((c.tc : Thread Cert.FfnForwardReferenceIdeal.nD Cert.FfnForwardReferenceIdeal.τ).loc Cert.FfnForwardReferenceIdeal.main_arg2)
          ∧ r.2.mem ((c.tc : Thread Cert.FfnForwardReferenceIdeal.nD Cert.FfnForwardReferenceIdeal.τ).loc Cert.FfnForwardReferenceIdeal.main_arg3) = m' ((c.tc : Thread Cert.FfnForwardReferenceIdeal.nD Cert.FfnForwardReferenceIdeal.τ).loc Cert.FfnForwardReferenceIdeal.main_arg3)
          ∧ r.2.mem ((c.tc : Thread Cert.FfnForwardReferenceIdeal.nD Cert.FfnForwardReferenceIdeal.τ).loc Cert.FfnForwardReferenceIdeal.main_arg4) = m' ((c.tc : Thread Cert.FfnForwardReferenceIdeal.nD Cert.FfnForwardReferenceIdeal.τ).loc Cert.FfnForwardReferenceIdeal.main_arg4)
          ∧ r.2.mem ((c.tc : Thread Cert.FfnForwardReferenceIdeal.nD Cert.FfnForwardReferenceIdeal.τ).loc Cert.FfnForwardReferenceIdeal.main_arg5) = m' ((c.tc : Thread Cert.FfnForwardReferenceIdeal.nD Cert.FfnForwardReferenceIdeal.τ).loc Cert.FfnForwardReferenceIdeal.main_arg5)
          ∧ r.2.mem ((c.tc : Thread Cert.FfnForwardReferenceIdeal.nD Cert.FfnForwardReferenceIdeal.τ).loc Cert.FfnForwardReferenceIdeal.main_arg6) = m' ((c.tc : Thread Cert.FfnForwardReferenceIdeal.nD Cert.FfnForwardReferenceIdeal.τ).loc Cert.FfnForwardReferenceIdeal.main_arg6)
          ∧ r.2.mem ((c.tc : Thread Cert.FfnForwardReferenceIdeal.nD Cert.FfnForwardReferenceIdeal.τ).loc Cert.FfnForwardReferenceIdeal.main_arg7) = m' ((c.tc : Thread Cert.FfnForwardReferenceIdeal.nD Cert.FfnForwardReferenceIdeal.τ).loc Cert.FfnForwardReferenceIdeal.main_arg7))

def preserves_OutGrad_OutGradIdeal : Prop :=
  True

def algebraic_OutGradIdeal_OutGradReferenceIdeal [hOutGradIdeal : Cert.OutGradIdeal.Facts] [hOutGradReferenceIdeal : Cert.OutGradReferenceIdeal.Facts] : Prop :=
  ∀ (m : (ℓ : Loc Cert.OutGradIdeal.nD Cert.OutGradIdeal.τ Cert.OutGradIdeal.sig) → Buf (Elt Ideal) ℓ) (g : Dev Cert.OutGradIdeal.nD → PrngReg)
    (m' : (ℓ : Loc Cert.OutGradReferenceIdeal.nD Cert.OutGradReferenceIdeal.τ Cert.OutGradReferenceIdeal.sig) → Buf (Elt Ideal) ℓ) (g' : Dev Cert.OutGradReferenceIdeal.nD → PrngReg), Pre_OutGradIdeal m →
    (∀ c : Dev Cert.OutGradIdeal.nD,
      m' ((c.tc : Thread Cert.OutGradReferenceIdeal.nD Cert.OutGradReferenceIdeal.τ).loc Cert.OutGradReferenceIdeal.main_arg0) = m ((c.tc : Thread Cert.OutGradIdeal.nD Cert.OutGradIdeal.τ).loc Cert.OutGradIdeal.main_arg0)
      ∧ m' ((c.tc : Thread Cert.OutGradReferenceIdeal.nD Cert.OutGradReferenceIdeal.τ).loc Cert.OutGradReferenceIdeal.main_arg1) = m ((c.tc : Thread Cert.OutGradIdeal.nD Cert.OutGradIdeal.τ).loc Cert.OutGradIdeal.main_arg1)) →
    ∃ (v0 : (c : Dev Cert.OutGradIdeal.nD) → Buf (Elt Ideal) ((c.tc : Thread Cert.OutGradIdeal.nD Cert.OutGradIdeal.τ).loc Cert.OutGradIdeal.main_v2)),
      θ_run (Cert.OutGradIdeal.defs (F := Ideal)) (onTc (τ := Cert.OutGradIdeal.τ) (Cert.OutGradIdeal.main (F := Ideal))) ⟨m, fun _ => 0, g⟩ (fun r => ∀ c : Dev Cert.OutGradIdeal.nD,
          r.2.mem ((c.tc : Thread Cert.OutGradIdeal.nD Cert.OutGradIdeal.τ).loc Cert.OutGradIdeal.main_v2) = v0 c
          ∧ r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
          ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1))
      ∧ θ_run (Cert.OutGradReferenceIdeal.defs (F := Ideal)) (onTc (τ := Cert.OutGradReferenceIdeal.τ) (Cert.OutGradReferenceIdeal.main (F := Ideal))) ⟨m', fun _ => 0, g'⟩ (fun r => ∀ c : Dev Cert.OutGradReferenceIdeal.nD,
          r.2.mem ((c.tc : Thread Cert.OutGradReferenceIdeal.nD Cert.OutGradReferenceIdeal.τ).loc Cert.OutGradReferenceIdeal.main_v4) = v0 c
          ∧ r.2.mem ((c.tc : Thread Cert.OutGradReferenceIdeal.nD Cert.OutGradReferenceIdeal.τ).loc Cert.OutGradReferenceIdeal.main_arg0) = m' ((c.tc : Thread Cert.OutGradReferenceIdeal.nD Cert.OutGradReferenceIdeal.τ).loc Cert.OutGradReferenceIdeal.main_arg0)
          ∧ r.2.mem ((c.tc : Thread Cert.OutGradReferenceIdeal.nD Cert.OutGradReferenceIdeal.τ).loc Cert.OutGradReferenceIdeal.main_arg1) = m' ((c.tc : Thread Cert.OutGradReferenceIdeal.nD Cert.OutGradReferenceIdeal.τ).loc Cert.OutGradReferenceIdeal.main_arg1))

def Claim : Prop :=
  ∃ (hKernel : Cert.Kernel.Facts) (hKernelIdeal : Cert.KernelIdeal.Facts) (hReferenceIdeal : Cert.ReferenceIdeal.Facts) (hWeightGrad : Cert.WeightGrad.Facts) (hWeightGradIdeal : Cert.WeightGradIdeal.Facts) (hWeightGradReferenceIdeal : Cert.WeightGradReferenceIdeal.Facts) (hFfnBackward : Cert.FfnBackward.Facts) (hFfnBackwardIdeal : Cert.FfnBackwardIdeal.Facts) (hFfnBackwardReferenceIdeal : Cert.FfnBackwardReferenceIdeal.Facts) (hFfnForward : Cert.FfnForward.Facts) (hFfnForwardIdeal : Cert.FfnForwardIdeal.Facts) (hFfnForwardReferenceIdeal : Cert.FfnForwardReferenceIdeal.Facts) (hOutGrad : Cert.OutGrad.Facts) (hOutGradIdeal : Cert.OutGradIdeal.Facts) (hOutGradReferenceIdeal : Cert.OutGradReferenceIdeal.Facts) (hPre_finite : Cert.Pre_finite.Facts) (hPre_ffn_finite : Cert.Pre_ffn_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_WeightGrad (hWeightGrad := hWeightGrad)
    ∧ quiescent_WeightGradIdeal (hWeightGradIdeal := hWeightGradIdeal)
    ∧ quiescent_WeightGradReferenceIdeal (hWeightGradReferenceIdeal := hWeightGradReferenceIdeal)
    ∧ quiescent_FfnBackward (hFfnBackward := hFfnBackward)
    ∧ quiescent_FfnBackwardIdeal (hFfnBackwardIdeal := hFfnBackwardIdeal)
    ∧ quiescent_FfnBackwardIdeal_pre_ffn_finite (hFfnBackwardIdeal := hFfnBackwardIdeal) (hPre_ffn_finite := hPre_ffn_finite)
    ∧ quiescent_FfnBackwardReferenceIdeal (hFfnBackwardReferenceIdeal := hFfnBackwardReferenceIdeal)
    ∧ quiescent_FfnBackwardReferenceIdeal_pre_ffn_finite (hFfnBackwardReferenceIdeal := hFfnBackwardReferenceIdeal) (hPre_ffn_finite := hPre_ffn_finite)
    ∧ quiescent_FfnForward (hFfnForward := hFfnForward)
    ∧ quiescent_FfnForwardIdeal (hFfnForwardIdeal := hFfnForwardIdeal)
    ∧ quiescent_FfnForwardReferenceIdeal (hFfnForwardReferenceIdeal := hFfnForwardReferenceIdeal)
    ∧ quiescent_OutGrad (hOutGrad := hOutGrad)
    ∧ quiescent_OutGradIdeal (hOutGradIdeal := hOutGradIdeal)
    ∧ quiescent_OutGradReferenceIdeal (hOutGradReferenceIdeal := hOutGradReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_WeightGrad_WeightGradIdeal
    ∧ algebraic_WeightGradIdeal_WeightGradReferenceIdeal (hWeightGradIdeal := hWeightGradIdeal) (hWeightGradReferenceIdeal := hWeightGradReferenceIdeal)
    ∧ preserves_FfnBackward_FfnBackwardIdeal
    ∧ algebraic_FfnBackwardIdeal_FfnBackwardReferenceIdeal_pre_ffn_finite (hFfnBackwardIdeal := hFfnBackwardIdeal) (hFfnBackwardReferenceIdeal := hFfnBackwardReferenceIdeal) (hPre_ffn_finite := hPre_ffn_finite)
    ∧ preserves_FfnForward_FfnForwardIdeal
    ∧ algebraic_FfnForwardIdeal_FfnForwardReferenceIdeal (hFfnForwardIdeal := hFfnForwardIdeal) (hFfnForwardReferenceIdeal := hFfnForwardReferenceIdeal)
    ∧ preserves_OutGrad_OutGradIdeal
    ∧ algebraic_OutGradIdeal_OutGradReferenceIdeal (hOutGradIdeal := hOutGradIdeal) (hOutGradReferenceIdeal := hOutGradReferenceIdeal)
-- ==== Pre_ffn_finite.lean ====
abbrev S4096x1024 : Shape := ⟨2, ![4096, 1024]⟩
abbrev S4x4096x704 : Shape := ⟨3, ![4, 4096, 704]⟩
abbrev S6x1024 : Shape := ⟨2, ![6, 1024]⟩
abbrev S1x1024 : Shape := ⟨2, ![1, 1024]⟩
abbrev S4x704x1024 : Shape := ⟨3, ![4, 704, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4x4096x704 : S_.BroadcastsInDim S4x4096x704 (![] : Fin 0 → Fin S4x4096x704.rank)
  reducesTo_S4x4096x704_S_d0_1_2 : S4x4096x704.ReducesTo [0, 1, 2] S_
  bcast_S_S6x1024 : S_.BroadcastsInDim S6x1024 (![] : Fin 0 → Fin S6x1024.rank)
  reducesTo_S6x1024_S_d0_1 : S6x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S4x704x1024 : S_.BroadcastsInDim S4x704x1024 (![] : Fin 0 → Fin S4x704x1024.rank)
  reducesTo_S4x704x1024_S_d0_1_2 : S4x704x1024.ReducesTo [0, 1, 2] S_

variable [Facts]

def fn_part2 {F : FTy → Type} [FloatOps F] (main_arg7 : FVec F S4x704x1024 .f32) (main_arg8 : FVec F S4x704x1024 .f32) (main_arg9 : FVec F S4x704x1024 .f32) (main_v33 : IVec S_ 1) : IVec S_ 1 :=
  let main_v34 : FVec F S4x704x1024 .f32 := Host.absf main_arg7
  let main_cst_12 : FVec F S_ .f32 := constant S_ .f32 0x7F800000#32
  let main_v35 : FVec F S4x704x1024 .f32 := broadcastInDim S4x704x1024 ![] bcast_S_S4x704x1024 main_cst_12
  let main_v36 : IVec S4x704x1024 1 := cmpf .olt main_v34 main_v35
  let main_c_13 : IVec S_ 1 := constantI S_ 1 1#1
  let main_v37 : IVec S_ 1 := (fun x v => Host.reduce IntOp.andi x v reducesTo_S4x704x1024_S_d0_1_2 h_S_) main_v36 main_c_13
  let main_v38 : IVec S_ 1 := andi main_v33 main_v37
  let main_v39 : FVec F S4x704x1024 .f32 := Host.absf main_arg8
  let main_cst_14 : FVec F S_ .f32 := constant S_ .f32 0x7F800000#32
  let main_v40 : FVec F S4x704x1024 .f32 := broadcastInDim S4x704x1024 ![] bcast_S_S4x704x1024 main_cst_14
  let main_v41 : IVec S4x704x1024 1 := cmpf .olt main_v39 main_v40
  let main_c_15 : IVec S_ 1 := constantI S_ 1 1#1
  let main_v42 : IVec S_ 1 := (fun x v => Host.reduce IntOp.andi x v reducesTo_S4x704x1024_S_d0_1_2 h_S_) main_v41 main_c_15
  let main_v43 : IVec S_ 1 := andi main_v38 main_v42
  let main_v44 : FVec F S4x704x1024 .f32 := Host.absf main_arg9
  let main_cst_16 : FVec F S_ .f32 := constant S_ .f32 0x7F800000#32
  let main_v45 : FVec F S4x704x1024 .f32 := broadcastInDim S4x704x1024 ![] bcast_S_S4x704x1024 main_cst_16
  let main_v46 : IVec S4x704x1024 1 := cmpf .olt main_v44 main_v45
  let main_c_17 : IVec S_ 1 := constantI S_ 1 1#1
  let main_v47 : IVec S_ 1 := (fun x v => Host.reduce IntOp.andi x v reducesTo_S4x704x1024_S_d0_1_2 h_S_) main_v46 main_c_17
  let main_v48 : IVec S_ 1 := andi main_v43 main_v47
  main_v48

def fn_part1 {F : FTy → Type} [FloatOps F] (main_arg4 : FVec F S4x4096x704 .f32) (main_arg5 : FVec F S6x1024 .f32) (main_arg6 : FVec F S1x1024 .f32) (main_arg7 : FVec F S4x704x1024 .f32) (main_arg8 : FVec F S4x704x1024 .f32) (main_arg9 : FVec F S4x704x1024 .f32) (main_v13 : IVec S_ 1) (main_v16 : IVec S4x4096x704 1) : IVec S_ 1 :=
  let main_c_5 : IVec S_ 1 := constantI S_ 1 1#1
  let main_v17 : IVec S_ 1 := (fun x v => Host.reduce IntOp.andi x v reducesTo_S4x4096x704_S_d0_1_2 h_S_) main_v16 main_c_5
  let main_v18 : IVec S_ 1 := andi main_v13 main_v17
  let main_v19 : FVec F S4x4096x704 .f32 := Host.absf main_arg4
  let main_cst_6 : FVec F S_ .f32 := constant S_ .f32 0x7F800000#32
  let main_v20 : FVec F S4x4096x704 .f32 := broadcastInDim S4x4096x704 ![] bcast_S_S4x4096x704 main_cst_6
  let main_v21 : IVec S4x4096x704 1 := cmpf .olt main_v19 main_v20
  let main_c_7 : IVec S_ 1 := constantI S_ 1 1#1
  let main_v22 : IVec S_ 1 := (fun x v => Host.reduce IntOp.andi x v reducesTo_S4x4096x704_S_d0_1_2 h_S_) main_v21 main_c_7
  let main_v23 : IVec S_ 1 := andi main_v18 main_v22
  let main_v24 : FVec F S6x1024 .f32 := Host.absf main_arg5
  let main_cst_8 : FVec F S_ .f32 := constant S_ .f32 0x7F800000#32
  let main_v25 : FVec F S6x1024 .f32 := broadcastInDim S6x1024 ![] bcast_S_S6x1024 main_cst_8
  let main_v26 : IVec S6x1024 1 := cmpf .olt main_v24 main_v25
  let main_c_9 : IVec S_ 1 := constantI S_ 1 1#1
  let main_v27 : IVec S_ 1 := (fun x v => Host.reduce IntOp.andi x v reducesTo_S6x1024_S_d0_1 h_S_) main_v26 main_c_9
  let main_v28 : IVec S_ 1 := andi main_v23 main_v27
  let main_v29 : FVec F S1x1024 .f32 := Host.absf main_arg6
  let main_cst_10 : FVec F S_ .f32 := constant S_ .f32 0x7F800000#32
  let main_v30 : FVec F S1x1024 .f32 := broadcastInDim S1x1024 ![] bcast_S_S1x1024 main_cst_10
  let main_v31 : IVec S1x1024 1 := cmpf .olt main_v29 main_v30
  let main_c_11 : IVec S_ 1 := constantI S_ 1 1#1
  let main_v32 : IVec S_ 1 := (fun x v => Host.reduce IntOp.andi x v reducesTo_S1x1024_S_d0_1 h_S_) main_v31 main_c_11
  let main_v33 : IVec S_ 1 := andi main_v28 main_v32
  fn_part2 (F := F) main_arg7 main_arg8 main_arg9 main_v33

def fn {F : FTy → Type} [FloatOps F] (main_arg0 : FVec F S4096x1024 .f32) (main_arg1 : FVec F S4096x1024 .f32) (main_arg2 : FVec F S4096x1024 .f32) (main_arg3 : FVec F S4x4096x704 .f32) (main_arg4 : FVec F S4x4096x704 .f32) (main_arg5 : FVec F S6x1024 .f32) (main_arg6 : FVec F S1x1024 .f32) (main_arg7 : FVec F S4x704x1024 .f32) (main_arg8 : FVec F S4x704x1024 .f32) (main_arg9 : FVec F S4x704x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4x4096x704 .f32 := Host.absf main_arg3
  let main_cst_4 : FVec F S_ .f32 := constant S_ .f32 0x7F800000#32
  let main_v15 : FVec F S4x4096x704 .f32 := broadcastInDim S4x4096x704 ![] bcast_S_S4x4096x704 main_cst_4
  let main_v16 : IVec S4x4096x704 1 := cmpf .olt main_v14 main_v15
  fn_part1 (F := F) main_arg4 main_arg5 main_arg6 main_arg7 main_arg8 main_arg9 main_v13 main_v16
-- ==== Pre_finite.lean ====
abbrev S4x4096x256 : Shape := ⟨3, ![4, 4096, 256]⟩
abbrev S4096x256 : Shape := ⟨2, ![4096, 256]⟩
abbrev S4x4096x128 : Shape := ⟨3, ![4, 4096, 128]⟩
abbrev S_ : Shape := ⟨0, ![]⟩
abbrev S4096x128 : Shape := ⟨2, ![4096, 128]⟩
abbrev S1x4096x128 : Shape := ⟨3, ![1, 4096, 128]⟩

class Facts : Prop where
  slices_S4x4096x256_S4x4096x128_0_0_0 : S4x4096x256.Slices ![0, 0, 0] S4x4096x128
  bcast_S_S4x4096x128 : S_.BroadcastsInDim S4x4096x128 (![] : Fin 0 → Fin S4x4096x128.rank)
  slices_S4x4096x256_S4x4096x128_0_0_128 : S4x4096x256.Slices ![0, 0, 128] S4x4096x128
  slices_S4096x256_S4096x128_0_0 : S4096x256.Slices ![0, 0] S4096x128
  bcast_S_S4096x128 : S_.BroadcastsInDim S4096x128 (![] : Fin 0 → Fin S4096x128.rank)
  slices_S4096x256_S4096x128_0_128 : S4096x256.Slices ![0, 128] S4096x128
  bcast_S4096x128_S1x4096x128_1_2 : S4096x128.BroadcastsInDim S1x4096x128 (![1, 2] : Fin 2 → Fin S1x4096x128.rank)
  bcast_S1x4096x128_S4x4096x128_0_1_2 : S1x4096x128.BroadcastsInDim S4x4096x128 (![0, 1, 2] : Fin 3 → Fin S4x4096x128.rank)

variable [Facts]

def fn_part1 {F : FTy → Type} [FloatOps F] (main_arg2 : FVec F S4x4096x128 .f32) (main_v8 : IVec S4x4096x128 1) (main_v19 : IVec S4x4096x128 1) : IVec S4x4096x128 1 :=
  let main_v20 : IVec S4x4096x128 1 := andi main_v8 main_v19
  let main_v21 : FVec F S4x4096x128 .f32 := Host.absf main_arg2
  let main_cst_3 : FVec F S_ .f32 := constant S_ .f32 0x7F800000#32
  let main_v22 : FVec F S4x4096x128 .f32 := broadcastInDim S4x4096x128 ![] bcast_S_S4x4096x128 main_cst_3
  let main_v23 : IVec S4x4096x128 1 := cmpf .olt main_v21 main_v22
  let main_v24 : IVec S4x4096x128 1 := andi main_v20 main_v23
  main_v24

def fn {F : FTy → Type} [FloatOps F] (main_arg0 : FVec F S4x4096x256 .f32) (main_arg1 : FVec F S4096x256 .f32) (main_arg2 : FVec F S4x4096x128 .f32) : IVec S4x4096x128 1 :=
  let main_v0 : FVec F S4x4096x128 .f32 := (extractStridedSlice S4x4096x128 ![0, 0, 0] · slices_S4x4096x256_S4x4096x128_0_0_0) main_arg0
  let main_v1 : FVec F S4x4096x128 .f32 := Host.absf main_v0
  let main_cst : FVec F S_ .f32 := constant S_ .f32 0x7F800000#32
  let main_v2 : FVec F S4x4096x128 .f32 := broadcastInDim S4x4096x128 ![] bcast_S_S4x4096x128 main_cst
  let main_v3 : IVec S4x4096x128 1 := cmpf .olt main_v1 main_v2
  let main_v4 : FVec F S4x4096x128 .f32 := (extractStridedSlice S4x4096x128 ![0, 0, 128] · slices_S4x4096x256_S4x4096x128_0_0_128) main_arg0
  let main_v5 : FVec F S4x4096x128 .f32 := Host.absf main_v4
  let main_cst_0 : FVec F S_ .f32 := constant S_ .f32 0x7F800000#32
  let main_v6 : FVec F S4x4096x128 .f32 := broadcastInDim S4x4096x128 ![] bcast_S_S4x4096x128 main_cst_0
  let main_v7 : IVec S4x4096x128 1 := cmpf .olt main_v5 main_v6
  let main_v8 : IVec S4x4096x128 1 := andi main_v3 main_v7
  let main_v9 : FVec F S4096x128 .f32 := (extractStridedSlice S4096x128 ![0, 0] · slices_S4096x256_S4096x128_0_0) main_arg1
  let main_v10 : FVec F S4096x128 .f32 := Host.absf main_v9
  let main_cst_1 : FVec F S_ .f32 := constant S_ .f32 0x7F800000#32
  let main_v11 : FVec F S4096x128 .f32 := broadcastInDim S4096x128 ![] bcast_S_S4096x128 main_cst_1
  let main_v12 : IVec S4096x128 1 := cmpf .olt main_v10 main_v11
  let main_v13 : FVec F S4096x128 .f32 := (extractStridedSlice S4096x128 ![0, 128] · slices_S4096x256_S4096x128_0_128) main_arg1
  let main_v14 : FVec F S4096x128 .f32 := Host.absf main_v13
  let main_cst_2 : FVec F S_ .f32 := constant S_ .f32 0x7F800000#32
  let main_v15 : FVec F S4096x128 .f32 := broadcastInDim S4096x128 ![] bcast_S_S4096x128 main_cst_2
  let main_v16 : IVec S4096x128 1 := cmpf .olt main_v14 main_v15
  let main_v17 : IVec S4096x128 1 := andi main_v12 main_v16
  let main_v18 : IVec S1x4096x128 1 := broadcastInDim S1x4096x128 ![1, 2] bcast_S4096x128_S1x4096x128_1_2 main_v17
  let main_v19 : IVec S4x4096x128 1 := broadcastInDim S4x4096x128 ![0, 1, 2] bcast_S1x4096x128_S4x4096x128_0_1_2 main_v18
  fn_part1 (F := F) main_arg2 main_v8 main_v19
-- ==== Kernel.lean ====
abbrev S4x4096x256 : Shape := ⟨3, ![4, 4096, 256]⟩
abbrev S4096x256 : Shape := ⟨2, ![4096, 256]⟩
abbrev S4x4096x128 : Shape := ⟨3, ![4, 4096, 128]⟩
abbrev S4x4096x4096 : Shape := ⟨3, ![4, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S4x4096 : Shape := ⟨2, ![4, 4096]⟩
abbrev S4x4096x1 : Shape := ⟨3, ![4, 4096, 1]⟩
abbrev S4096x128 : Shape := ⟨2, ![4096, 128]⟩
abbrev S8x512x256 : Shape := ⟨3, ![8, 512, 256]⟩
abbrev S8x256x512 : Shape := ⟨3, ![8, 256, 512]⟩
abbrev S4x8x512 : Shape := ⟨3, ![4, 8, 512]⟩
abbrev S8x4x512 : Shape := ⟨3, ![8, 4, 512]⟩
abbrev S8x1x2048 : Shape := ⟨3, ![8, 1, 2048]⟩
abbrev S8x256x2048 : Shape := ⟨3, ![8, 256, 2048]⟩
abbrev S4x512x256 : Shape := ⟨3, ![4, 512, 256]⟩
abbrev S4x512x128 : Shape := ⟨3, ![4, 512, 128]⟩
abbrev S1x1x2048 : Shape := ⟨3, ![1, 1, 2048]⟩
abbrev S1x256x2048 : Shape := ⟨3, ![1, 256, 2048]⟩
abbrev S256x2048 : Shape := ⟨2, ![256, 2048]⟩
abbrev S512x256 : Shape := ⟨2, ![512, 256]⟩
abbrev S512x128 : Shape := ⟨2, ![512, 128]⟩
abbrev S2048x256 : Shape := ⟨2, ![2048, 256]⟩
abbrev S2048x128 : Shape := ⟨2, ![2048, 128]⟩
abbrev S1x2048 : Shape := ⟨2, ![1, 2048]⟩
abbrev S512x2048 : Shape := ⟨2, ![512, 2048]⟩
abbrev S1x256x512 : Shape := ⟨3, ![1, 256, 512]⟩
abbrev S256x512 : Shape := ⟨2, ![256, 512]⟩

abbrev nBuf : Space → Nat
  | .hbm => 69
  | .vmem => 15
  | .smem => 0
  | _ => 0

abbrev bufTy : (tb : Table) → Fin (tcTables nBuf tb) → BufTy
  | .hbm, ⟨0, _⟩ => ⟨S4x4096x256, .f32⟩
  | .hbm, ⟨1, _⟩ => ⟨S4096x256, .f32⟩
  | .hbm, ⟨2, _⟩ => ⟨S4x4096x128, .f32⟩
  | .hbm, ⟨3, _⟩ => ⟨S4x4096x4096, .f32⟩
  | .hbm, ⟨4, _⟩ => ⟨S_, .f32⟩
  | .hbm, ⟨5, _⟩ => ⟨S4x4096x4096, .f32⟩
  | .hbm, ⟨6, _⟩ => ⟨S4x4096x4096, .f32⟩
  | .hbm, ⟨7, _⟩ => ⟨S4096, .i32⟩
  | .hbm, ⟨8, _⟩ => ⟨S_, .i32⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S4096, .i32⟩
  | .hbm, ⟨13, _⟩ => ⟨S_, .i32⟩
  | .hbm, ⟨14, _⟩ => ⟨S4096, .i32⟩
  | .hbm, ⟨15, _⟩ => ⟨S4096, .i1⟩
  | .hbm, ⟨16, _⟩ => ⟨S4096, .i32⟩
  | .hbm, ⟨17, _⟩ => ⟨S4096, .i32⟩
  | .hbm, ⟨18, _⟩ => ⟨S_, .i32⟩
  | .hbm, ⟨19, _⟩ => ⟨S4096, .i32⟩
  | .hbm, ⟨20, _⟩ => ⟨S4096, .i1⟩
  | .hbm, ⟨21, _⟩ => ⟨S4096, .i1⟩
  | .hbm, ⟨22, _⟩ => ⟨S_, .i32⟩
  | .hbm, ⟨23, _⟩ => ⟨S4096, .i32⟩
  | .hbm, ⟨24, _⟩ => ⟨S4096, .i32⟩
  | .hbm, ⟨25, _⟩ => ⟨S4096, .i32⟩
  | .hbm, ⟨26, _⟩ => ⟨S1x4096, .i32⟩
  | .hbm, ⟨27, _⟩ => ⟨S4096x1, .i32⟩
  | .hbm, ⟨28, _⟩ => ⟨S4096x4096, .i32⟩
  | .hbm, ⟨29, _⟩ => ⟨S4096x4096, .i32⟩
  | .hbm, ⟨30, _⟩ => ⟨S4096x4096, .i1⟩
  | .hbm, ⟨31, _⟩ => ⟨S1x4096x4096, .i1⟩
  | .hbm, ⟨32, _⟩ => ⟨S_, .f32⟩
  | .hbm, ⟨33, _⟩ => ⟨S_, .f32⟩
  | .hbm, ⟨34, _⟩ => ⟨S4x4096x4096, .i1⟩
  | .hbm, ⟨35, _⟩ => ⟨S4x4096x4096, .f32⟩
  | .hbm, ⟨36, _⟩ => ⟨S4x4096x4096, .f32⟩
  | .hbm, ⟨37, _⟩ => ⟨S_, .f32⟩
  | .hbm, ⟨38, _⟩ => ⟨S4x4096, .f32⟩
  | .hbm, ⟨39, _⟩ => ⟨S4x4096x1, .f32⟩
  | .hbm, ⟨40, _⟩ => ⟨S4x4096x4096, .f32⟩
  | .hbm, ⟨41, _⟩ => ⟨S4x4096x4096, .f32⟩
  | .hbm, ⟨42, _⟩ => ⟨S4x4096x4096, .f32⟩
  | .hbm, ⟨43, _⟩ => ⟨S_, .f32⟩
  | .hbm, ⟨44, _⟩ => ⟨S4x4096, .f32⟩
  | .hbm, ⟨45, _⟩ => ⟨S4x4096x1, .f32⟩
  | .hbm, ⟨46, _⟩ => ⟨S4x4096x1, .f32⟩
  | .hbm, ⟨47, _⟩ => ⟨S4x4096x1, .f32⟩
  | .hbm, ⟨48, _⟩ => ⟨S4096x128, .f32⟩
  | .hbm, ⟨49, _⟩ => ⟨S4x4096x128, .f32⟩
  | .hbm, ⟨50, _⟩ => ⟨S4x4096x128, .f32⟩
  | .hbm, ⟨51, _⟩ => ⟨S4x4096x128, .f32⟩
  | .hbm, ⟨52, _⟩ => ⟨S4x4096x128, .f32⟩
  | .hbm, ⟨53, _⟩ => ⟨S_, .f32⟩
  | .hbm, ⟨54, _⟩ => ⟨S4x4096, .f32⟩
  | .hbm, ⟨55, _⟩ => ⟨S4096x256, .bf16⟩
  | .hbm, ⟨56, _⟩ => ⟨S8x512x256, .bf16⟩
  | .hbm, ⟨57, _⟩ => ⟨S8x256x512, .bf16⟩
  | .hbm, ⟨58, _⟩ => ⟨S4x4096x256, .bf16⟩
  | .hbm, ⟨59, _⟩ => ⟨S4096x256, .bf16⟩
  | .hbm, ⟨60, _⟩ => ⟨S4x4096x128, .bf16⟩
  | .hbm, ⟨61, _⟩ => ⟨S4x8x512, .f32⟩
  | .hbm, ⟨62, _⟩ => ⟨S8x4x512, .f32⟩
  | .hbm, ⟨63, _⟩ => ⟨S8x1x2048, .f32⟩
  | .hbm, ⟨64, _⟩ => ⟨S4x8x512, .f32⟩
  | .hbm, ⟨65, _⟩ => ⟨S8x4x512, .f32⟩
  | .hbm, ⟨66, _⟩ => ⟨S8x1x2048, .f32⟩
  | .hbm, ⟨67, _⟩ => ⟨S8x256x2048, .f32⟩
  | .hbm, ⟨68, _⟩ => ⟨S4096x256, .f32⟩
  | .local _ .vmem, ⟨0, _⟩ => ⟨S4x512x256, .bf16⟩
  | .local _ .vmem, ⟨1, _⟩ => ⟨S4x512x256, .bf16⟩
  | .local _ .vmem, ⟨2, _⟩ => ⟨S4x512x128, .bf16⟩
  | .local _ .vmem, ⟨3, _⟩ => ⟨S4x512x128, .bf16⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S4096x256, .bf16⟩
  | .local _ .vmem, ⟨9, _⟩ => ⟨S8x256x512, .bf16⟩
  | .local _ .vmem, ⟨10, _⟩ => ⟨S1x256x2048, .f32⟩
  | .local _ .vmem, ⟨11, _⟩ => ⟨S1x256x2048, .f32⟩
  | .local _ .vmem, ⟨12, _⟩ => ⟨S4096x256, .f32⟩
  | .local _ .vmem, ⟨13, _⟩ => ⟨S256x2048, .f32⟩
  | .local _ .vmem, ⟨14, _⟩ => ⟨S4096x128, .f32⟩
  | _, _ => ⟨S4x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst_0 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v11 : Ref sig .tc := ⟨.hbm, 36, rfl⟩
abbrev main_cst_1 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_cst_2 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_cst_3 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39_0 : Ref sig .tc := ⟨.hbm, 67, rfl⟩
abbrev main_v39_1 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_43 : BitVec 32 := 0#32
  let c8_i32 : BitVec 32 := 8#32
  let v82 : BitVec 32 := Scalar.addi c0_i32_43 c8_i32
  let c1_i32_44 : BitVec 32 := 1#32
  ⟨c0_i32_43, v82, c1_i32_44⟩
def k0_mult1 (k0_t1 : Fin k0_t1_loop.trips) : BitVec 32 :=
  let c0_i32_43 : BitVec 32 := 0#32
  let c1_i32_44 : BitVec 32 := 1#32
  let arg11 : BitVec 32 := Scf.iv c0_i32_43 c1_i32_44 k0_t1
  let c512_i32_47 : BitVec 32 := 512#32
  let v84 : BitVec 32 := Scalar.muli arg11 c512_i32_47
  v84
def k0_off1 (k0_t1 : Fin k0_t1_loop.trips) : Fin 2 → Nat :=
  let c0_i32_43 : BitVec 32 := 0#32
  let c1_i32_44 : BitVec 32 := 1#32
  let arg11 : BitVec 32 := Scf.iv c0_i32_43 c1_i32_44 k0_t1
  let c512_i32_47 : BitVec 32 := 512#32
  let v84 : BitVec 32 := Scalar.muli arg11 c512_i32_47
  let v85 : BitVec 32 := v84
  let v86 : Index := Scalar.indexCast v85
  let c0_48 : Index := 0#32
  ![v86.toNat, 0]
def k0_mult2 (k0_t1 : Fin k0_t1_loop.trips) : BitVec 32 :=
  let c0_i32_43 : BitVec 32 := 0#32
  let c1_i32_44 : BitVec 32 := 1#32
  let arg11 : BitVec 32 := Scf.iv c0_i32_43 c1_i32_44 k0_t1
  let c512_i32_50 : BitVec 32 := 512#32
  let v89 : BitVec 32 := Scalar.muli arg11 c512_i32_50
  v89
def k0_off2 (k0_t1 : Fin k0_t1_loop.trips) : Fin 2 → Nat :=
  let c0_i32_43 : BitVec 32 := 0#32
  let c1_i32_44 : BitVec 32 := 1#32
  let arg11 : BitVec 32 := Scf.iv c0_i32_43 c1_i32_44 k0_t1
  let c512_i32_50 : BitVec 32 := 512#32
  let v89 : BitVec 32 := Scalar.muli arg11 c512_i32_50
  let v90 : BitVec 32 := v89
  let v91 : Index := Scalar.indexCast v90
  let c0_51 : Index := 0#32
  ![v91.toNat, 0]
@[reducible] def k0_t2_loop (i : grid0.Coords) : Scf.Loop 32 :=
  let c0_i32_15 : BitVec 32 := 0#32
  let arg0 : BitVec 32 := BitVec.ofNat 32 (i 0).val
  let v17 : BitVec 32 := Scalar.subi arg0 c0_i32_15
  let c1_i32 : BitVec 32 := 1#32
  let v19 : BitVec 32 := Scalar.divsi v17 c1_i32
  let v20 : BitVec 32 := Scalar.muli v19 c1_i32
  let v21 : BitVec 32 := Scalar.addi c0_i32_15 v20
  let c1_i32_16 : BitVec 32 := 1#32
  ⟨c0_i32_15, v21, c1_i32_16⟩
def k0_mult3 (i : grid0.Coords) (k0_t2 : Fin (k0_t2_loop i).trips) : BitVec 32 :=
  let c0_i32_15 : BitVec 32 := 0#32
  let c1_i32_16 : BitVec 32 := 1#32
  let arg11 : BitVec 32 := Scf.iv c0_i32_15 c1_i32_16 k0_t2
  let c512_i32_43 : BitVec 32 := 512#32
  let v82 : BitVec 32 := Scalar.muli arg11 c512_i32_43
  v82
def k0_off3 (i : grid0.Coords) (k0_t2 : Fin (k0_t2_loop i).trips) : Fin 2 → Nat :=
  let c0_i32_15 : BitVec 32 := 0#32
  let c1_i32_16 : BitVec 32 := 1#32
  let arg11 : BitVec 32 := Scf.iv c0_i32_15 c1_i32_16 k0_t2
  let c512_i32_43 : BitVec 32 := 512#32
  let v82 : BitVec 32 := Scalar.muli arg11 c512_i32_43
  let v83 : BitVec 32 := v82
  let v84 : Index := Scalar.indexCast v83
  let c0_44 : Index := 0#32
  ![v84.toNat, 0]
def k0_off4 (i : grid0.Coords) (k0_t2 : Fin (k0_t2_loop i).trips) : Fin 2 → Nat :=
  let c0_i32_15 : BitVec 32 := 0#32
  let c1_i32_16 : BitVec 32 := 1#32
  let arg11 : BitVec 32 := Scf.iv c0_i32_15 c1_i32_16 k0_t2
  let c512_i32_43 : BitVec 32 := 512#32
  let v82 : BitVec 32 := Scalar.muli arg11 c512_i32_43
  let v83 : BitVec 32 := v82
  let v93 : Index := Scalar.indexCast v83
  let c0_47 : Index := 0#32
  ![v93.toNat, 0]
def k0_off5 (i : grid0.Coords) (k0_t2 : Fin (k0_t2_loop i).trips) : Fin 3 → Nat :=
  let c0_i32_15 : BitVec 32 := 0#32
  let c1_i32_16 : BitVec 32 := 1#32
  let arg11 : BitVec 32 := Scf.iv c0_i32_15 c1_i32_16 k0_t2
  let v116 : Index := Scalar.indexCast arg11
  let c0_56 : Index := 0#32
  let c0_57 : Index := 0#32
  ![v116.toNat, 0, 0]
@[reducible] def k0_t3_loop (i : grid0.Coords) : Scf.Loop 32 :=
  let c0_i32_15 : BitVec 32 := 0#32
  let arg0 : BitVec 32 := BitVec.ofNat 32 (i 0).val
  let v17 : BitVec 32 := Scalar.subi arg0 c0_i32_15
  let c1_i32 : BitVec 32 := 1#32
  let v19 : BitVec 32 := Scalar.divsi v17 c1_i32
  let v20 : BitVec 32 := Scalar.muli v19 c1_i32
  let v21 : BitVec 32 := Scalar.addi c0_i32_15 v20
  let v18 : BitVec 32 := Scalar.addi c0_i32_15 v17
  let c1_i32_17 : BitVec 32 := 1#32
  ⟨v21, v18, c1_i32_17⟩
def k0_mult4 (i : grid0.Coords) (k0_t3 : Fin (k0_t3_loop i).trips) : BitVec 32 :=
  let c0_i32_15 : BitVec 32 := 0#32
  let arg0 : BitVec 32 := BitVec.ofNat 32 (i 0).val
  let v17 : BitVec 32 := Scalar.subi arg0 c0_i32_15
  let c1_i32 : BitVec 32 := 1#32
  let v19 : BitVec 32 := Scalar.divsi v17 c1_i32
  let v20 : BitVec 32 := Scalar.muli v19 c1_i32
  let v21 : BitVec 32 := Scalar.addi c0_i32_15 v20
  let c1_i32_17 : BitVec 32 := 1#32
  let arg11 : BitVec 32 := Scf.iv v21 c1_i32_17 k0_t3
  let c512_i32_43 : BitVec 32 := 512#32
  let v82 : BitVec 32 := Scalar.muli arg11 c512_i32_43
  v82
def k0_off6 (i : grid0.Coords) (k0_t3 : Fin (k0_t3_loop i).trips) : Fin 2 → Nat :=
  let c0_i32_15 : BitVec 32 := 0#32
  let arg0 : BitVec 32 := BitVec.ofNat 32 (i 0).val
  let v17 : BitVec 32 := Scalar.subi arg0 c0_i32_15
  let c1_i32 : BitVec 32 := 1#32
  let v19 : BitVec 32 := Scalar.divsi v17 c1_i32
  let v20 : BitVec 32 := Scalar.muli v19 c1_i32
  let v21 : BitVec 32 := Scalar.addi c0_i32_15 v20
  let c1_i32_17 : BitVec 32 := 1#32
  let arg11 : BitVec 32 := Scf.iv v21 c1_i32_17 k0_t3
  let c512_i32_43 : BitVec 32 := 512#32
  let v82 : BitVec 32 := Scalar.muli arg11 c512_i32_43
  let v83 : BitVec 32 := v82
  let v84 : Index := Scalar.indexCast v83
  let c0_44 : Index := 0#32
  ![v84.toNat, 0]
def k0_off7 (i : grid0.Coords) (k0_t3 : Fin (k0_t3_loop i).trips) : Fin 2 → Nat :=
  let c0_i32_15 : BitVec 32 := 0#32
  let arg0 : BitVec 32 := BitVec.ofNat 32 (i 0).val
  let v17 : BitVec 32 := Scalar.subi arg0 c0_i32_15
  let c1_i32 : BitVec 32 := 1#32
  let v19 : BitVec 32 := Scalar.divsi v17 c1_i32
  let v20 : BitVec 32 := Scalar.muli v19 c1_i32
  let v21 : BitVec 32 := Scalar.addi c0_i32_15 v20
  let c1_i32_17 : BitVec 32 := 1#32
  let arg11 : BitVec 32 := Scf.iv v21 c1_i32_17 k0_t3
  let c512_i32_43 : BitVec 32 := 512#32
  let v82 : BitVec 32 := Scalar.muli arg11 c512_i32_43
  let v83 : BitVec 32 := v82
  let v93 : Index := Scalar.indexCast v83
  let c0_47 : Index := 0#32
  ![v93.toNat, 0]
def k0_off8 (i : grid0.Coords) (k0_t3 : Fin (k0_t3_loop i).trips) : Fin 3 → Nat :=
  let c0_i32_15 : BitVec 32 := 0#32
  let arg0 : BitVec 32 := BitVec.ofNat 32 (i 0).val
  let v17 : BitVec 32 := Scalar.subi arg0 c0_i32_15
  let c1_i32 : BitVec 32 := 1#32
  let v19 : BitVec 32 := Scalar.divsi v17 c1_i32
  let v20 : BitVec 32 := Scalar.muli v19 c1_i32
  let v21 : BitVec 32 := Scalar.addi c0_i32_15 v20
  let c1_i32_17 : BitVec 32 := 1#32
  let arg11 : BitVec 32 := Scf.iv v21 c1_i32_17 k0_t3
  let v116 : Index := Scalar.indexCast arg11
  let c0_56 : Index := 0#32
  let c0_57 : Index := 0#32
  ![v116.toNat, 0, 0]
def k0_mult5 (i : grid0.Coords) : BitVec 32 :=
  let arg0 : BitVec 32 := BitVec.ofNat 32 (i 0).val
  let c512_i32 : BitVec 32 := 512#32
  let v22 : BitVec 32 := Scalar.muli arg0 c512_i32
  v22
def k0_off9 (i : grid0.Coords) : Fin 2 → Nat :=
  let arg0 : BitVec 32 := BitVec.ofNat 32 (i 0).val
  let c512_i32 : BitVec 32 := 512#32
  let v22 : BitVec 32 := Scalar.muli arg0 c512_i32
  let v23 : BitVec 32 := v22
  let v24 : Index := Scalar.indexCast v23
  let c0_18 : Index := 0#32
  ![v24.toNat, 0]
def k0_off10 (i : grid0.Coords) : Fin 2 → Nat :=
  let arg0 : BitVec 32 := BitVec.ofNat 32 (i 0).val
  let c512_i32 : BitVec 32 := 512#32
  let v22 : BitVec 32 := Scalar.muli arg0 c512_i32
  let v23 : BitVec 32 := v22
  let v44 : Index := Scalar.indexCast v23
  let c0_23 : Index := 0#32
  ![v44.toNat, 0]
def k0_off11 (i : grid0.Coords) : Fin 3 → Nat :=
  let arg0 : BitVec 32 := BitVec.ofNat 32 (i 0).val
  let v67 : Index := Scalar.indexCast arg0
  let c0_32 : Index := 0#32
  let c0_33 : Index := 0#32
  ![v67.toNat, 0, 0]
def k0_cond2 (i : grid0.Coords) : BitVec 1 :=
  let arg0 : BitVec 32 := BitVec.ofNat 32 (i 0).val
  let c7_i32 : BitVec 32 := 7#32
  let v79 : BitVec 1 := Scalar.cmpi .eq arg0 c7_i32
  let v80 : BitVec 32 := Scalar.extui v79
  let c0_i32_42 : BitVec 32 := 0#32
  let v81 : BitVec 1 := Scalar.cmpi .ne v80 c0_i32_42
  v81

@[reducible] def k0_t4_loop : Scf.Loop 32 :=
  let c0_i32_43 : BitVec 32 := 0#32
  let c8_i32 : BitVec 32 := 8#32
  let v82 : BitVec 32 := Scalar.addi c0_i32_43 c8_i32
  let c1_i32_44 : BitVec 32 := 1#32
  ⟨c0_i32_43, v82, c1_i32_44⟩
def k0_mult6 (k0_t4 : Fin k0_t4_loop.trips) : BitVec 32 :=
  let c0_i32_43 : BitVec 32 := 0#32
  let c1_i32_44 : BitVec 32 := 1#32
  let arg11 : BitVec 32 := Scf.iv c0_i32_43 c1_i32_44 k0_t4
  let c512_i32_46 : BitVec 32 := 512#32
  let v83 : BitVec 32 := Scalar.muli arg11 c512_i32_46
  v83
def k0_off12 (k0_t4 : Fin k0_t4_loop.trips) : Fin 2 → Nat :=
  let c0_i32_43 : BitVec 32 := 0#32
  let c1_i32_44 : BitVec 32 := 1#32
  let arg11 : BitVec 32 := Scf.iv c0_i32_43 c1_i32_44 k0_t4
  let c512_i32_46 : BitVec 32 := 512#32
  let v83 : BitVec 32 := Scalar.muli arg11 c512_i32_46
  let v84 : BitVec 32 := v83
  let v85 : Index := Scalar.indexCast v84
  let c0_47 : Index := 0#32
  ![v85.toNat, 0]
def k0_off13 (k0_t4 : Fin k0_t4_loop.trips) : Fin 2 → Nat :=
  let c0_i32_43 : BitVec 32 := 0#32
  let c1_i32_44 : BitVec 32 := 1#32
  let arg11 : BitVec 32 := Scf.iv c0_i32_43 c1_i32_44 k0_t4
  let c512_i32_46 : BitVec 32 := 512#32
  let v83 : BitVec 32 := Scalar.muli arg11 c512_i32_46
  let v84 : BitVec 32 := v83
  let v91 : Index := Scalar.indexCast v84
  let c0_49 : Index := 0#32
  ![v91.toNat, 0]
def k0_off14 (k0_t4 : Fin k0_t4_loop.trips) : Fin 2 → Nat :=
  let c0_i32_43 : BitVec 32 := 0#32
  let c1_i32_44 : BitVec 32 := 1#32
  let arg11 : BitVec 32 := Scf.iv c0_i32_43 c1_i32_44 k0_t4
  let c512_i32_46 : BitVec 32 := 512#32
  let v83 : BitVec 32 := Scalar.muli arg11 c512_i32_46
  let v84 : BitVec 32 := v83
  let v94 : Index := Scalar.indexCast v84
  let c0_50 : Index := 0#32
  ![v94.toNat, 0]
def k0_off15 (k0_t4 : Fin k0_t4_loop.trips) : Fin 2 → Nat :=
  let c0_i32_43 : BitVec 32 := 0#32
  let c1_i32_44 : BitVec 32 := 1#32
  let arg11 : BitVec 32 := Scf.iv c0_i32_43 c1_i32_44 k0_t4
  let c512_i32_46 : BitVec 32 := 512#32
  let v83 : BitVec 32 := Scalar.muli arg11 c512_i32_46
  let v84 : BitVec 32 := v83
  let v97 : Index := Scalar.indexCast v84
  let c128 : Index := 128#32
  ![v97.toNat, 128]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4096x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4096x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S4x4096x256 : Shape := ⟨3, ![4, 4096, 256]⟩
abbrev S4096x256 : Shape := ⟨2, ![4096, 256]⟩
abbrev S4x4096x128 : Shape := ⟨3, ![4, 4096, 128]⟩
abbrev S_ : Shape := ⟨0, ![]⟩
abbrev S4x4096x4096 : Shape := ⟨3, ![4, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S4x4096 : Shape := ⟨2, ![4, 4096]⟩
abbrev S4x4096x1 : Shape := ⟨3, ![4, 4096, 1]⟩
abbrev S4096x128 : Shape := ⟨2, ![4096, 128]⟩
abbrev S128x4096 : Shape := ⟨2, ![128, 4096]⟩
abbrev S4x8x512x256 : Shape := ⟨4, ![4, 8, 512, 256]⟩
abbrev S8x256x4x512 : Shape := ⟨4, ![8, 256, 4, 512]⟩
abbrev S8x256x2048 : Shape := ⟨3, ![8, 256, 2048]⟩

abbrev nBuf : Space → Nat
  | .hbm => 107
  | .vmem => 0
  | .smem => 0
  | _ => 0

abbrev bufTy : (tb : Table) → Fin (tcTables nBuf tb) → BufTy
  | .hbm, ⟨0, _⟩ => ⟨S4x4096x256, .f32⟩
  | .hbm, ⟨1, _⟩ => ⟨S4096x256, .f32⟩
  | .hbm, ⟨2, _⟩ => ⟨S4x4096x128, .f32⟩
  | .hbm, ⟨3, _⟩ => ⟨S_, .f32⟩
  | .hbm, ⟨4, _⟩ => ⟨S4x4096x256, .f32⟩
  | .hbm, ⟨5, _⟩ => ⟨S4x4096x256, .f32⟩
  | .hbm, ⟨6, _⟩ => ⟨S4x4096x4096, .f32⟩
  | .hbm, ⟨7, _⟩ => ⟨S4096, .i32⟩
  | .hbm, ⟨8, _⟩ => ⟨S_, .i32⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S4096, .i32⟩
  | .hbm, ⟨13, _⟩ => ⟨S_, .i32⟩
  | .hbm, ⟨14, _⟩ => ⟨S4096, .i32⟩
  | .hbm, ⟨15, _⟩ => ⟨S4096, .i1⟩
  | .hbm, ⟨16, _⟩ => ⟨S4096, .i32⟩
  | .hbm, ⟨17, _⟩ => ⟨S4096, .i32⟩
  | .hbm, ⟨18, _⟩ => ⟨S_, .i32⟩
  | .hbm, ⟨19, _⟩ => ⟨S4096, .i32⟩
  | .hbm, ⟨20, _⟩ => ⟨S4096, .i1⟩
  | .hbm, ⟨21, _⟩ => ⟨S4096, .i1⟩
  | .hbm, ⟨22, _⟩ => ⟨S_, .i32⟩
  | .hbm, ⟨23, _⟩ => ⟨S4096, .i32⟩
  | .hbm, ⟨24, _⟩ => ⟨S4096, .i32⟩
  | .hbm, ⟨25, _⟩ => ⟨S4096, .i32⟩
  | .hbm, ⟨26, _⟩ => ⟨S1x4096, .i32⟩
  | .hbm, ⟨27, _⟩ => ⟨S4096x1, .i32⟩
  | .hbm, ⟨28, _⟩ => ⟨S4096x4096, .i32⟩
  | .hbm, ⟨29, _⟩ => ⟨S4096x4096, .i32⟩
  | .hbm, ⟨30, _⟩ => ⟨S4096x4096, .i1⟩
  | .hbm, ⟨31, _⟩ => ⟨S1x4096x4096, .i1⟩
  | .hbm, ⟨32, _⟩ => ⟨S_, .f32⟩
  | .hbm, ⟨33, _⟩ => ⟨S_, .f32⟩
  | .hbm, ⟨34, _⟩ => ⟨S4x4096x4096, .i1⟩
  | .hbm, ⟨35, _⟩ => ⟨S4x4096x4096, .f32⟩
  | .hbm, ⟨36, _⟩ => ⟨S4x4096x4096, .f32⟩
  | .hbm, ⟨37, _⟩ => ⟨S_, .f32⟩
  | .hbm, ⟨38, _⟩ => ⟨S4x4096x4096, .f32⟩
  | .hbm, ⟨39, _⟩ => ⟨S_, .f32⟩
  | .hbm, ⟨40, _⟩ => ⟨S4x4096, .f32⟩
  | .hbm, ⟨41, _⟩ => ⟨S4x4096x1, .f32⟩
  | .hbm, ⟨42, _⟩ => ⟨S4x4096x4096, .f32⟩
  | .hbm, ⟨43, _⟩ => ⟨S4x4096x4096, .i1⟩
  | .hbm, ⟨44, _⟩ => ⟨S4x4096x4096, .f32⟩
  | .hbm, ⟨45, _⟩ => ⟨S_, .f32⟩
  | .hbm, ⟨46, _⟩ => ⟨S4x4096, .f32⟩
  | .hbm, ⟨47, _⟩ => ⟨S_, .f32⟩
  | .hbm, ⟨48, _⟩ => ⟨S4x4096, .f32⟩
  | .hbm, ⟨49, _⟩ => ⟨S4x4096, .f32⟩
  | .hbm, ⟨50, _⟩ => ⟨S_, .f32⟩
  | .hbm, ⟨51, _⟩ => ⟨S4x4096, .f32⟩
  | .hbm, ⟨52, _⟩ => ⟨S4x4096, .i1⟩
  | .hbm, ⟨53, _⟩ => ⟨S_, .f32⟩
  | .hbm, ⟨54, _⟩ => ⟨S4x4096, .f32⟩
  | .hbm, ⟨55, _⟩ => ⟨S4x4096, .i1⟩
  | .hbm, ⟨56, _⟩ => ⟨S_, .f32⟩
  | .hbm, ⟨57, _⟩ => ⟨S4x4096, .f32⟩
  | .hbm, ⟨58, _⟩ => ⟨S_, .f32⟩
  | .hbm, ⟨59, _⟩ => ⟨S4x4096, .f32⟩
  | .hbm, ⟨60, _⟩ => ⟨S_, .f32⟩
  | .hbm, ⟨61, _⟩ => ⟨S4x4096, .f32⟩
  | .hbm, ⟨62, _⟩ => ⟨S4x4096, .f32⟩
  | .hbm, ⟨63, _⟩ => ⟨S4x4096, .f32⟩
  | .hbm, ⟨64, _⟩ => ⟨S4x4096x1, .f32⟩
  | .hbm, ⟨65, _⟩ => ⟨S4x4096x4096, .f32⟩
  | .hbm, ⟨66, _⟩ => ⟨S4x4096x4096, .f32⟩
  | .hbm, ⟨67, _⟩ => ⟨S4x4096x4096, .f32⟩
  | .hbm, ⟨68, _⟩ => ⟨S_, .f32⟩
  | .hbm, ⟨69, _⟩ => ⟨S4x4096, .f32⟩
  | .hbm, ⟨70, _⟩ => ⟨S4x4096x1, .f32⟩
  | .hbm, ⟨71, _⟩ => ⟨S4x4096x4096, .f32⟩
  | .hbm, ⟨72, _⟩ => ⟨S4x4096x4096, .f32⟩
  | .hbm, ⟨73, _⟩ => ⟨S4x4096x1, .f32⟩
  | .hbm, ⟨74, _⟩ => ⟨S_, .f32⟩
  | .hbm, ⟨75, _⟩ => ⟨S4x4096x1, .f32⟩
  | .hbm, ⟨76, _⟩ => ⟨S4x4096x1, .f32⟩
  | .hbm, ⟨77, _⟩ => ⟨S4096x128, .f32⟩
  | .hbm, ⟨78, _⟩ => ⟨S4x4096x128, .f32⟩
  | .hbm, ⟨79, _⟩ => ⟨S128x4096, .f32⟩
  | .hbm, ⟨80, _⟩ => ⟨S4096x128, .f32⟩
  | .hbm, ⟨81, _⟩ => ⟨S4x4096x4096, .f32⟩
  | .hbm, ⟨82, _⟩ => ⟨S_, .f32⟩
  | .hbm, ⟨83, _⟩ => ⟨S4096x256, .f32⟩
  | .hbm, ⟨84, _⟩ => ⟨S4x4096x4096, .f32⟩
  | .hbm, ⟨85, _⟩ => ⟨S4x4096x4096, .f32⟩
  | .hbm, ⟨86, _⟩ => ⟨S4x4096x4096, .f32⟩
  | .hbm, ⟨87, _⟩ => ⟨S_, .f32⟩
  | .hbm, ⟨88, _⟩ => ⟨S4x4096, .f32⟩
  | .hbm, ⟨89, _⟩ => ⟨S4x4096x1, .f32⟩
  | .hbm, ⟨90, _⟩ => ⟨S4x4096x1, .f32⟩
  | .hbm, ⟨91, _⟩ => ⟨S4x4096x4096, .f32⟩
  | .hbm, ⟨92, _⟩ => ⟨S4x4096x4096, .f32⟩
  | .hbm, ⟨93, _⟩ => ⟨S_, .f32⟩
  | .hbm, ⟨94, _⟩ => ⟨S4x4096, .f32⟩
  | .hbm, ⟨95, _⟩ => ⟨S4x4096x4096, .f32⟩
  | .hbm, ⟨96, _⟩ => ⟨S4x4096x4096, .f32⟩
  | .hbm, ⟨97, _⟩ => ⟨S4x4096x4096, .f32⟩
  | .hbm, ⟨98, _⟩ => ⟨S_, .f32⟩
  | .hbm, ⟨99, _⟩ => ⟨S4x4096x4096, .f32⟩
  | .hbm, ⟨100, _⟩ => ⟨S4x4096x4096, .f32⟩
  | .hbm, ⟨101, _⟩ => ⟨S4096x256, .f32⟩
  | .hbm, ⟨102, _⟩ => ⟨S4096x256, .f32⟩
  | .hbm, ⟨103, _⟩ => ⟨S4x4096x256, .f32⟩
  | .hbm, ⟨104, _⟩ => ⟨S4x8x512x256, .f32⟩
  | .hbm, ⟨105, _⟩ => ⟨S8x256x4x512, .f32⟩
  | .hbm, ⟨106, _⟩ => ⟨S8x256x2048, .f32⟩
  | _, _ => ⟨S4x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst_0 : Ref sig .tc := ⟨.hbm, 32, rfl⟩
abbrev main_call1_v0 : Ref sig .tc := ⟨.hbm, 33, rfl⟩
abbrev main_v11_1 : Ref sig .tc := ⟨.hbm, 34, rfl⟩
abbrev main_call1_v2 : Ref sig .tc := ⟨.hbm, 35, rfl⟩
abbrev main_v11_0 : Ref sig .tc := ⟨.hbm, 36, rfl⟩
abbrev main_call1_cst : Ref sig .tc := ⟨.hbm, 37, rfl⟩
abbrev main_v11_2 : Ref sig .tc := ⟨.hbm, 38, rfl⟩
abbrev main_cst_1 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_cst_2 : Ref sig .tc := ⟨.hbm, 45, rfl⟩
abbrev main_v17 : Ref sig .tc := ⟨.hbm, 46, rfl⟩
abbrev main_cst_3 : Ref sig .tc := ⟨.hbm, 47, rfl⟩
abbrev main_v18 : Ref sig .tc := ⟨.hbm, 48, rfl⟩
abbrev main_v19 : Ref sig .tc := ⟨.hbm, 49, rfl⟩
abbrev main_cst_4 : Ref sig .tc := ⟨.hbm, 50, rfl⟩
abbrev main_v20 : Ref sig .tc := ⟨.hbm, 51, rfl⟩
abbrev main_v21 : Ref sig .tc := ⟨.hbm, 52, rfl⟩
abbrev main_cst_5 : Ref sig .tc := ⟨.hbm, 53, rfl⟩
abbrev main_v22 : Ref sig .tc := ⟨.hbm, 54, rfl⟩
abbrev main_v23 : Ref sig .tc := ⟨.hbm, 55, rfl⟩
abbrev main_cst_6 : Ref sig .tc := ⟨.hbm, 56, rfl⟩
abbrev main_v24 : Ref sig .tc := ⟨.hbm, 57, rfl⟩
abbrev main_cst_7 : Ref sig .tc := ⟨.hbm, 58, rfl⟩
abbrev main_v25 : Ref sig .tc := ⟨.hbm, 59, rfl⟩
abbrev main_cst_8 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_cst_9 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_cst_10 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_cst_11 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_cst_12 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_cst_13 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_call2_cst : Ref sig .tc := ⟨.hbm, 98, rfl⟩
abbrev main_call2_v0 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩

abbrev nD : Nat := 1
abbrev τ : Topo := Topo.v7x

variable {F : FTy → Type} [FloatOps F]
-- ==== WeightGrad.lean ====
abbrev S4x4096x704 : Shape := ⟨3, ![4, 4096, 704]⟩
abbrev S4096x1024 : Shape := ⟨2, ![4096, 1024]⟩
abbrev S4x704x1024 : Shape := ⟨3, ![4, 704, 1024]⟩
abbrev S1x4096x704 : Shape := ⟨3, ![1, 4096, 704]⟩
abbrev S1x704x1024 : Shape := ⟨3, ![1, 704, 1024]⟩
abbrev S704x1024 : Shape := ⟨2, ![704, 1024]⟩
abbrev S4096x704 : Shape := ⟨2, ![4096, 704]⟩

abbrev nBuf : Space → Nat
  | .hbm => 5
  | .vmem => 5
  | .smem => 0
  | _ => 0

abbrev bufTy : (tb : Table) → Fin (tcTables nBuf tb) → BufTy
  | .hbm, ⟨0, _⟩ => ⟨S4x4096x704, .f32⟩
  | .hbm, ⟨1, _⟩ => ⟨S4096x1024, .f32⟩
  | .hbm, ⟨2, _⟩ => ⟨S4x4096x704, .bf16⟩
  | .hbm, ⟨3, _⟩ => ⟨S4096x1024, .bf16⟩
  | .hbm, ⟨4, _⟩ => ⟨S4x704x1024, .f32⟩
  | .local _ .vmem, ⟨0, _⟩ => ⟨S1x4096x704, .bf16⟩
  | .local _ .vmem, ⟨1, _⟩ => ⟨S1x4096x704, .bf16⟩
  | .local _ .vmem, ⟨2, _⟩ => ⟨S4096x1024, .bf16⟩
  | .local _ .vmem, ⟨3, _⟩ => ⟨S1x704x1024, .f32⟩
  | .local _ .vmem, ⟨4, _⟩ => ⟨S1x704x1024, .f32⟩
  | _, _ => ⟨S4x4096x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WeightGradReferenceIdeal.lean ====
abbrev S4x4096x704 : Shape := ⟨3, ![4, 4096, 704]⟩
abbrev S4096x1024 : Shape := ⟨2, ![4096, 1024]⟩
abbrev S_ : Shape := ⟨0, ![]⟩
abbrev S4x704x1024 : Shape := ⟨3, ![4, 704, 1024]⟩
abbrev S1024x4x704 : Shape := ⟨3, ![1024, 4, 704]⟩

abbrev nBuf : Space → Nat
  | .hbm => 7
  | .vmem => 0
  | .smem => 0
  | _ => 0

abbrev bufTy : (tb : Table) → Fin (tcTables nBuf tb) → BufTy
  | .hbm, ⟨0, _⟩ => ⟨S4x4096x704, .f32⟩
  | .hbm, ⟨1, _⟩ => ⟨S4096x1024, .f32⟩
  | .hbm, ⟨2, _⟩ => ⟨S_, .f32⟩
  | .hbm, ⟨3, _⟩ => ⟨S4x704x1024, .f32⟩
  | .hbm, ⟨4, _⟩ => ⟨S4096x1024, .f32⟩
  | .hbm, ⟨5, _⟩ => ⟨S1024x4x704, .f32⟩
  | .hbm, ⟨6, _⟩ => ⟨S4x704x1024, .f32⟩
  | _, _ => ⟨S4x4096x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FfnBackward.lean ====
abbrev S4096x1024 : Shape := ⟨2, ![4096, 1024]⟩
abbrev S4x4096x704 : Shape := ⟨3, ![4, 4096, 704]⟩
abbrev S6x1024 : Shape := ⟨2, ![6, 1024]⟩
abbrev S1x1024 : Shape := ⟨2, ![1, 1024]⟩
abbrev S4x704x1024 : Shape := ⟨3, ![4, 704, 1024]⟩
abbrev S8x1024 : Shape := ⟨2, ![8, 1024]⟩
abbrev S512x1024 : Shape := ⟨2, ![512, 1024]⟩
abbrev S1x512x704 : Shape := ⟨3, ![1, 512, 704]⟩
abbrev S1x256x704 : Shape := ⟨3, ![1, 256, 704]⟩
abbrev S256x704 : Shape := ⟨2, ![256, 704]⟩
abbrev S256x1024 : Shape := ⟨2, ![256, 1024]⟩
abbrev S1x704x1024 : Shape := ⟨3, ![1, 704, 1024]⟩
abbrev S704x1024 : Shape := ⟨2, ![704, 1024]⟩
abbrev S512 : Shape := ⟨1, ![512]⟩
abbrev S512x1 : Shape := ⟨2, ![512, 1]⟩
abbrev S1024 : Shape := ⟨1, ![1024]⟩

abbrev nBuf : Space → Nat
  | .hbm => 20
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4x4096x704, .f32⟩
  | .hbm, ⟨4, _⟩ => ⟨S4x4096x704, .f32⟩
  | .hbm, ⟨5, _⟩ => ⟨S6x1024, .f32⟩
  | .hbm, ⟨6, _⟩ => ⟨S1x1024, .f32⟩
  | .hbm, ⟨7, _⟩ => ⟨S4x704x1024, .f32⟩
  | .hbm, ⟨8, _⟩ => ⟨S4x704x1024, .f32⟩
  | .hbm, ⟨9, _⟩ => ⟨S4x704x1024, .f32⟩
  | .hbm, ⟨10, _⟩ => ⟨S4096x1024, .bf16⟩
  | .hbm, ⟨11, _⟩ => ⟨S4x4096x704, .bf16⟩
  | .hbm, ⟨12, _⟩ => ⟨S4x4096x704, .bf16⟩
  | .hbm, ⟨13, _⟩ => ⟨S4x704x1024, .bf16⟩
  | .hbm, ⟨14, _⟩ => ⟨S4x704x1024, .bf16⟩
  | .hbm, ⟨15, _⟩ => ⟨S4x704x1024, .bf16⟩
  | .hbm, ⟨16, _⟩ => ⟨S4x4096x704, .bf16⟩
  | .hbm, ⟨17, _⟩ => ⟨S4x4096x704, .bf16⟩
  | .hbm, ⟨18, _⟩ => ⟨S4096x1024, .f32⟩
  | .hbm, ⟨19, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S1x512x704, .bf16⟩
  | .local _ .vmem, ⟨7, _⟩ => ⟨S1x512x704, .bf16⟩
  | .local _ .vmem, ⟨8, _⟩ => ⟨S1x512x704, .bf16⟩
  | .local _ .vmem, ⟨9, _⟩ => ⟨S1x512x704, .bf16⟩
  | .local _ .vmem, ⟨10, _⟩ => ⟨S6x1024, .f32⟩
  | .local _ .vmem, ⟨11, _⟩ => ⟨S1x1024, .f32⟩
  | .local _ .vmem, ⟨12, _⟩ => ⟨S4x704x1024, .bf16⟩
  | .local _ .vmem, ⟨13, _⟩ => ⟨S4x704x1024, .bf16⟩
  | .local _ .vmem, ⟨14, _⟩ => ⟨S4x704x1024, .bf16⟩
  | .local _ .vmem, ⟨15, _⟩ => ⟨S1x512x704, .bf16⟩
  | .local _ .vmem, ⟨16, _⟩ => ⟨S1x512x704, .bf16⟩
  | .local _ .vmem, ⟨17, _⟩ => ⟨S1x512x704, .bf16⟩
  | .local _ .vmem, ⟨18, _⟩ => ⟨S1x512x704, .bf16⟩
  | .local _ .vmem, ⟨19, _⟩ => ⟨S512x1024, .f32⟩
  | .local _ .vmem, ⟨20, _⟩ => ⟨S512x1024, .f32⟩
  | .local _ .vmem, ⟨21, _⟩ => ⟨S8x1024, .f32⟩
  | .local _ .vmem, ⟨22, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev main_v6_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21

abbrev nD : Nat := 1
abbrev τ : Topo := Topo.v7x

variable {F : FTy → Type} [FloatOps F]

abbrev grid0 : Pipeline.Grid := ⟨2, ![8, 4], ![false, false]⟩

def k0_off1 (i : grid0.Coords) : Fin 3 → Nat :=
  let arg1 : BitVec 32 := BitVec.ofNat 32 (i 1).val
  let v17 : Index := Scalar.indexCast arg1
  let c0_11 : Index := 0#32
  let c0_12 : Index := 0#32
  ![v17.toNat, 0, 0]
def k0_cond3 (i : grid0.Coords) : BitVec 1 :=
  let arg1 : BitVec 32 := BitVec.ofNat 32 (i 1).val
  let c3_i32 : BitVec 32 := 3#32
  let v98 : BitVec 1 := Scalar.cmpi .eq arg1 c3_i32
  let v99 : BitVec 32 := Scalar.extui v98
  let c0_i32_59 : BitVec 32 := 0#32
  let v100 : BitVec 1 := Scalar.cmpi .ne v99 c0_i32_59
  v100

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S6x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x704x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x704x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4x704x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x704 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]
-- ==== FfnBackwardReferenceIdeal.lean ====
abbrev S4096x1024 : Shape := ⟨2, ![4096, 1024]⟩
abbrev S4x4096x704 : Shape := ⟨3, ![4, 4096, 704]⟩
abbrev S6x1024 : Shape := ⟨2, ![6, 1024]⟩
abbrev S1x1024 : Shape := ⟨2, ![1, 1024]⟩
abbrev S4x704x1024 : Shape := ⟨3, ![4, 704, 1024]⟩
abbrev S_ : Shape := ⟨0, ![]⟩
abbrev S4096x4x704 : Shape := ⟨3, ![4096, 4, 704]⟩
abbrev S4x704x4096 : Shape := ⟨3, ![4, 704, 4096]⟩
abbrev S4096 : Shape := ⟨1, ![4096]⟩
abbrev S4096x1 : Shape := ⟨2, ![4096, 1]⟩
abbrev S1024 : Shape := ⟨1, ![1024]⟩
abbrev S5x1024 : Shape := ⟨2, ![5, 1024]⟩
abbrev S8x1024 : Shape := ⟨2, ![8, 1024]⟩

abbrev nBuf : Space → Nat
  | .hbm => 110
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4x4096x704, .f32⟩
  | .hbm, ⟨4, _⟩ => ⟨S4x4096x704, .f32⟩
  | .hbm, ⟨5, _⟩ => ⟨S6x1024, .f32⟩
  | .hbm, ⟨6, _⟩ => ⟨S1x1024, .f32⟩
  | .hbm, ⟨7, _⟩ => ⟨S4x704x1024, .f32⟩
  | .hbm, ⟨8, _⟩ => ⟨S4x704x1024, .f32⟩
  | .hbm, ⟨9, _⟩ => ⟨S4x704x1024, .f32⟩
  | .hbm, ⟨10, _⟩ => ⟨S4x4096x704, .f32⟩
  | .hbm, ⟨11, _⟩ => ⟨S4x4096x704, .f32⟩
  | .hbm, ⟨12, _⟩ => ⟨S_, .f32⟩
  | .hbm, ⟨13, _⟩ => ⟨S4x4096x704, .f32⟩
  | .hbm, ⟨14, _⟩ => ⟨S4x4096x704, .f32⟩
  | .hbm, ⟨15, _⟩ => ⟨S_, .f32⟩
  | .hbm, ⟨16, _⟩ => ⟨S4x4096x704, .f32⟩
  | .hbm, ⟨17, _⟩ => ⟨S4x4096x704, .f32⟩
  | .hbm, ⟨18, _⟩ => ⟨S_, .f32⟩
  | .hbm, ⟨19, _⟩ => ⟨S4x4096x704, .f32⟩
  | .hbm, ⟨20, _⟩ => ⟨S4x4096x704, .f32⟩
  | .hbm, ⟨21, _⟩ => ⟨S4x4096x704, .f32⟩
  | .hbm, ⟨22, _⟩ => ⟨S4x4096x704, .f32⟩
  | .hbm, ⟨23, _⟩ => ⟨S4x4096x704, .f32⟩
  | .hbm, ⟨24, _⟩ => ⟨S4096x1024, .f32⟩
  | .hbm, ⟨25, _⟩ => ⟨S4096x4x704, .f32⟩
  | .hbm, ⟨26, _⟩ => ⟨S4x4096x704, .f32⟩
  | .hbm, ⟨27, _⟩ => ⟨S4x4096x704, .f32⟩
  | .hbm, ⟨28, _⟩ => ⟨S4x4096x704, .f32⟩
  | .hbm, ⟨29, _⟩ => ⟨S4x4096x704, .f32⟩
  | .hbm, ⟨30, _⟩ => ⟨S4x4096x704, .f32⟩
  | .hbm, ⟨31, _⟩ => ⟨S4x4096x704, .f32⟩
  | .hbm, ⟨32, _⟩ => ⟨S4x4096x704, .f32⟩
  | .hbm, ⟨33, _⟩ => ⟨S_, .f32⟩
  | .hbm, ⟨34, _⟩ => ⟨S4096x1024, .f32⟩
  | .hbm, ⟨35, _⟩ => ⟨S4x704x4096, .f32⟩
  | .hbm, ⟨36, _⟩ => ⟨S4x4096x704, .f32⟩
  | .hbm, ⟨37, _⟩ => ⟨S4x704x4096, .f32⟩
  | .hbm, ⟨38, _⟩ => ⟨S4x4096x704, .f32⟩
  | .hbm, ⟨39, _⟩ => ⟨S4x704x4096, .f32⟩
  | .hbm, ⟨40, _⟩ => ⟨S4096x1024, .f32⟩
  | .hbm, ⟨41, _⟩ => ⟨S4x704x4096, .f32⟩
  | .hbm, ⟨42, _⟩ => ⟨S4096x1024, .f32⟩
  | .hbm, ⟨43, _⟩ => ⟨S4096x1024, .f32⟩
  | .hbm, ⟨44, _⟩ => ⟨S1x1024, .f32⟩
  | .hbm, ⟨45, _⟩ => ⟨S1x1024, .f32⟩
  | .hbm, ⟨46, _⟩ => ⟨S4096x1024, .f32⟩
  | .hbm, ⟨47, _⟩ => ⟨S_, .f32⟩
  | .hbm, ⟨48, _⟩ => ⟨S4096, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S_, .f32⟩
  | .hbm, ⟨54, _⟩ => ⟨S4096x1, .f32⟩
  | .hbm, ⟨55, _⟩ => ⟨S4096x1, .f32⟩
  | .hbm, ⟨56, _⟩ => ⟨S4096x1, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S_, .f32⟩
  | .hbm, ⟨66, _⟩ => ⟨S1x1024, .f32⟩
  | .hbm, ⟨67, _⟩ => ⟨S1x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S_, .f32⟩
  | .hbm, ⟨73, _⟩ => ⟨S1024, .f32⟩
  | .hbm, ⟨74, _⟩ => ⟨S1x1024, .f32⟩
  | .hbm, ⟨75, _⟩ => ⟨S4096x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S_, .f32⟩
  | .hbm, ⟨83, _⟩ => ⟨S1024, .f32⟩
  | .hbm, ⟨84, _⟩ => ⟨S1x1024, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S_, .f32⟩
  | .hbm, ⟨89, _⟩ => ⟨S4096, .f32⟩
  | .hbm, ⟨90, _⟩ => ⟨S4096x1, .f32⟩
  | .hbm, ⟨91, _⟩ => ⟨S4096x1024, .f32⟩
  | .hbm, ⟨92, _⟩ => ⟨S4096x1024, .f32⟩
  | .hbm, ⟨93, _⟩ => ⟨S4096x1, .f32⟩
  | .hbm, ⟨94, _⟩ => ⟨S_, .f32⟩
  | .hbm, ⟨95, _⟩ => ⟨S4096x1, .f32⟩
  | .hbm, ⟨96, _⟩ => ⟨S4096x1, .f32⟩
  | .hbm, ⟨97, _⟩ => ⟨S_, .f32⟩
  | .hbm, ⟨98, _⟩ => ⟨S4096, .f32⟩
  | .hbm, ⟨99, _⟩ => ⟨S4096x1024, .f32⟩
  | .hbm, ⟨100, _⟩ => ⟨S4096x1024, .f32⟩
  | .hbm, ⟨101, _⟩ => ⟨S4096x1024, .f32⟩
  | .hbm, ⟨102, _⟩ => ⟨S4096x1024, .f32⟩
  | .hbm, ⟨103, _⟩ => ⟨S4096x1024, .f32⟩
  | .hbm, ⟨104, _⟩ => ⟨S4x4096x704, .bf16⟩
  | .hbm, ⟨105, _⟩ => ⟨S4x4096x704, .bf16⟩
  | .hbm, ⟨106, _⟩ => ⟨S4096x1024, .f32⟩
  | .hbm, ⟨107, _⟩ => ⟨S_, .f32⟩
  | .hbm, ⟨108, _⟩ => ⟨S5x1024, .f32⟩
  | .hbm, ⟨109, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v0_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v0_1 : Ref sig .tc := ⟨.hbm, 21, rfl⟩
abbrev main_v0_0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v7 : Ref sig .tc := ⟨.hbm, 32, rfl⟩
abbrev main_cst : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_cst_0 : Ref sig .tc := ⟨.hbm, 47, rfl⟩
abbrev main_v21 : Ref sig .tc := ⟨.hbm, 48, rfl⟩
abbrev main_v22 : Ref sig .tc := ⟨.hbm, 49, rfl⟩
abbrev main_cst_1 : Ref sig .tc := ⟨.hbm, 50, rfl⟩
abbrev main_v23 : Ref sig .tc := ⟨.hbm, 51, rfl⟩
abbrev main_v24 : Ref sig .tc := ⟨.hbm, 52, rfl⟩
abbrev main_cst_2 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_cst_3 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_cst_4 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst_5 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_cst_6 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_cst_7 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_cst_8 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_9 : Ref sig .tc := ⟨.hbm, 94, rfl⟩
abbrev main_v59 : Ref sig .tc := ⟨.hbm, 95, rfl⟩
abbrev main_v60 : Ref sig .tc := ⟨.hbm, 96, rfl⟩
abbrev main_cst_10 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_cst_11 : Ref sig .tc := ⟨.hbm, 107, rfl⟩
abbrev main_v70 : Ref sig .tc := ⟨.hbm, 108, rfl⟩
abbrev main_v71 : Ref sig .tc := ⟨.hbm, 109, rfl⟩

abbrev nD : Nat := 1
abbrev τ : Topo := Topo.v7x

variable {F : FTy → Type} [FloatOps F]
-- ==== FfnForward.lean ====
abbrev S4096x1024 : Shape := ⟨2, ![4096, 1024]⟩
abbrev S6x1024 : Shape := ⟨2, ![6, 1024]⟩
abbrev S1x1024 : Shape := ⟨2, ![1, 1024]⟩
abbrev S4x704x1024 : Shape := ⟨3, ![4, 704, 1024]⟩
abbrev S4x4096x704 : Shape := ⟨3, ![4, 4096, 704]⟩
abbrev S8x1024 : Shape := ⟨2, ![8, 1024]⟩
abbrev S512x1024 : Shape := ⟨2, ![512, 1024]⟩
abbrev S1x512x704 : Shape := ⟨3, ![1, 512, 704]⟩
abbrev S512 : Shape := ⟨1, ![512]⟩
abbrev S512x1 : Shape := ⟨2, ![512, 1]⟩
abbrev S1x704x1024 : Shape := ⟨3, ![1, 704, 1024]⟩
abbrev S704x1024 : Shape := ⟨2, ![704, 1024]⟩
abbrev S512x704 : Shape := ⟨2, ![512, 704]⟩
abbrev S1024 : Shape := ⟨1, ![1024]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 18
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S6x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S4x704x1024, .f32⟩
  | .hbm, ⟨6, _⟩ => ⟨S4x704x1024, .f32⟩
  | .hbm, ⟨7, _⟩ => ⟨S4x704x1024, .f32⟩
  | .hbm, ⟨8, _⟩ => ⟨S4x704x1024, .bf16⟩
  | .hbm, ⟨9, _⟩ => ⟨S4x704x1024, .bf16⟩
  | .hbm, ⟨10, _⟩ => ⟨S4x704x1024, .bf16⟩
  | .hbm, ⟨11, _⟩ => ⟨S4x4096x704, .bf16⟩
  | .hbm, ⟨12, _⟩ => ⟨S4x4096x704, .bf16⟩
  | .hbm, ⟨13, _⟩ => ⟨S4x4096x704, .bf16⟩
  | .hbm, ⟨14, _⟩ => ⟨S4096x1024, .bf16⟩
  | .hbm, ⟨15, _⟩ => ⟨S4096x1024, .bf16⟩
  | .hbm, ⟨16, _⟩ => ⟨S4096x1024, .f32⟩
  | .hbm, ⟨17, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S6x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S4x704x1024, .bf16⟩
  | .local _ .vmem, ⟨8, _⟩ => ⟨S4x704x1024, .bf16⟩
  | .local _ .vmem, ⟨9, _⟩ => ⟨S4x704x1024, .bf16⟩
  | .local _ .vmem, ⟨10, _⟩ => ⟨S1x512x704, .bf16⟩
  | .local _ .vmem, ⟨11, _⟩ => ⟨S1x512x704, .bf16⟩
  | .local _ .vmem, ⟨12, _⟩ => ⟨S1x512x704, .bf16⟩
  | .local _ .vmem, ⟨13, _⟩ => ⟨S1x512x704, .bf16⟩
  | .local _ .vmem, ⟨14, _⟩ => ⟨S1x512x704, .bf16⟩
  | .local _ .vmem, ⟨15, _⟩ => ⟨S1x512x704, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .f32⟩
  | .local _ .vmem, ⟨21, _⟩ => ⟨S512x1024, .f32⟩
  | .local _ .vmem, ⟨22, _⟩ => ⟨S8x1024, .f32⟩
  | .local _ .vmem, ⟨23, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_v3_4 : Ref sig .tc := ⟨.hbm, 15, rfl⟩
abbrev main_v3_5 : Ref sig .tc := ⟨.hbm, 16, rfl⟩
abbrev main_v3_6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22

abbrev nD : Nat := 1
abbrev τ : Topo := Topo.v7x

variable {F : FTy → Type} [FloatOps F]

abbrev grid0 : Pipeline.Grid := ⟨2, ![8, 4], ![false, false]⟩

def k0_off1 (i : grid0.Coords) : Fin 3 → Nat :=
  let arg1 : BitVec 32 := BitVec.ofNat 32 (i 1).val
  let v9 : Index := Scalar.indexCast arg1
  let c0_5 : Index := 0#32
  let c0_6 : Index := 0#32
  ![v9.toNat, 0, 0]
def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_cond3 (i : grid0.Coords) : BitVec 1 :=
  let arg1 : BitVec 32 := BitVec.ofNat 32 (i 1).val
  let c3_i32 : BitVec 32 := 3#32
  let v41 : BitVec 1 := Scalar.cmpi .eq arg1 c3_i32
  let v42 : BitVec 32 := Scalar.extui v41
  let c0_i32_26 : BitVec 32 := 0#32
  let v43 : BitVec 1 := Scalar.cmpi .ne v42 c0_i32_26
  v43

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S4x704x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x704x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x704x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 1 → Memref sig .tc .vmem S8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]
-- ==== FfnForwardReferenceIdeal.lean ====
abbrev S4096x1024 : Shape := ⟨2, ![4096, 1024]⟩
abbrev S6x1024 : Shape := ⟨2, ![6, 1024]⟩
abbrev S1x1024 : Shape := ⟨2, ![1, 1024]⟩
abbrev S4x704x1024 : Shape := ⟨3, ![4, 704, 1024]⟩
abbrev S_ : Shape := ⟨0, ![]⟩
abbrev S4096 : Shape := ⟨1, ![4096]⟩
abbrev S4096x1 : Shape := ⟨2, ![4096, 1]⟩
abbrev S4x704x4096 : Shape := ⟨3, ![4, 704, 4096]⟩
abbrev S4x4096x704 : Shape := ⟨3, ![4, 4096, 704]⟩
abbrev S1024 : Shape := ⟨1, ![1024]⟩
abbrev S5x1024 : Shape := ⟨2, ![5, 1024]⟩
abbrev S8x1024 : Shape := ⟨2, ![8, 1024]⟩

abbrev nBuf : Space → Nat
  | .hbm => 131
  | .vmem => 0
  | .smem => 0
  | _ => 0

abbrev hbmTy0_0 (i : Nat) : BufTy := match i % 128 with
  | 0 => ⟨S4096x1024, .f32⟩
  | 1 => ⟨S6x1024, .f32⟩
  | 2 => ⟨S1x1024, .f32⟩
  | 3 => ⟨S1x1024, .f32⟩
  | 4 => ⟨S4096x1024, .f32⟩
  | 5 => ⟨S4x704x1024, .f32⟩
  | 6 => ⟨S4x704x1024, .f32⟩
  | 7 => ⟨S4x704x1024, .f32⟩
  | 8 => ⟨S4096x1024, .f32⟩
  | 9 => ⟨S_, .f32⟩
  | 10 => ⟨S4096, .f32⟩
  | 11 => ⟨S4096x1, .f32⟩
  | 12 => ⟨S_, .f32⟩
  | 13 => ⟨S4096x1, .f32⟩
  | 14 => ⟨S4096x1, .f32⟩
  | 15 => ⟨S_, .f32⟩
  | 16 => ⟨S4096x1, .f32⟩
  | 17 => ⟨S4096x1, .f32⟩
  | 18 => ⟨S4096x1, .f32⟩
  | 19 => ⟨S4096x1024, .f32⟩
  | 20 => ⟨S4096x1024, .f32⟩
  | 21 => ⟨S4096x1024, .f32⟩
  | 22 => ⟨S4096x1024, .f32⟩
  | 23 => ⟨S1x1024, .f32⟩
  | 24 => ⟨S_, .f32⟩
  | 25 => ⟨S1x1024, .f32⟩
  | 26 => ⟨S1x1024, .f32⟩
  | 27 => ⟨S4096x1024, .f32⟩
  | 28 => ⟨S4096x1024, .f32⟩
  | 29 => ⟨S1x1024, .f32⟩
  | 30 => ⟨S4096x1024, .f32⟩
  | 31 => ⟨S4096x1024, .f32⟩
  | 32 => ⟨S4x704x4096, .f32⟩
  | 33 => ⟨S4x4096x704, .f32⟩
  | 34 => ⟨S4x704x4096, .f32⟩
  | 35 => ⟨S4x4096x704, .f32⟩
  | 36 => ⟨S4x4096x704, .f32⟩
  | 37 => ⟨S4x4096x704, .f32⟩
  | 38 => ⟨S_, .f32⟩
  | 39 => ⟨S4x4096x704, .f32⟩
  | 40 => ⟨S4x4096x704, .f32⟩
  | 41 => ⟨S_, .f32⟩
  | 42 => ⟨S4x4096x704, .f32⟩
  | 43 => ⟨S4x4096x704, .f32⟩
  | 44 => ⟨S4x4096x704, .f32⟩
  | 45 => ⟨S4x4096x704, .f32⟩
  | 46 => ⟨S4096x1024, .f32⟩
  | 47 => ⟨S1x1024, .f32⟩
  | 48 => ⟨S4096x1024, .f32⟩
  | 49 => ⟨S4096x1024, .f32⟩
  | 50 => ⟨S4096x1024, .f32⟩
  | 51 => ⟨S4096x1024, .f32⟩
  | 52 => ⟨S_, .f32⟩
  | 53 => ⟨S4096, .f32⟩
  | 54 => ⟨S4096x1, .f32⟩
  | 55 => ⟨S_, .f32⟩
  | 56 => ⟨S4096x1, .f32⟩
  | 57 => ⟨S4096x1, .f32⟩
  | 58 => ⟨S_, .f32⟩
  | 59 => ⟨S4096x1, .f32⟩
  | 60 => ⟨S4096x1, .f32⟩
  | 61 => ⟨S4096x1, .f32⟩
  | 62 => ⟨S4096x1, .f32⟩
  | 63 => ⟨S_, .f32⟩
  | 64 => ⟨S4096x1, .f32⟩
  | 65 => ⟨S4096x1, .f32⟩
  | 66 => ⟨S4096x1024, .f32⟩
  | 67 => ⟨S4096x1024, .f32⟩
  | 68 => ⟨S4096x1024, .f32⟩
  | 69 => ⟨S4096x1024, .f32⟩
  | 70 => ⟨S4096x1024, .f32⟩
  | 71 => ⟨S4096x1024, .f32⟩
  | 72 => ⟨S_, .f32⟩
  | 73 => ⟨S4096x1024, .f32⟩
  | 74 => ⟨S4096x1024, .f32⟩
  | 75 => ⟨S_, .f32⟩
  | 76 => ⟨S4096, .f32⟩
  | 77 => ⟨S_, .f32⟩
  | 78 => ⟨S4096, .f32⟩
  | 79 => ⟨S4096, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S4096, .f32⟩
  | 88 => ⟨S_, .f32⟩
  | 89 => ⟨S4096, .f32⟩
  | 90 => ⟨S4096, .f32⟩
  | 91 => ⟨S4096x1024, .f32⟩
  | 92 => ⟨S4096x1024, .f32⟩
  | 93 => ⟨S4096x1024, .f32⟩
  | 94 => ⟨S_, .f32⟩
  | 95 => ⟨S1024, .f32⟩
  | 96 => ⟨S1x1024, .f32⟩
  | 97 => ⟨S4096x1024, .f32⟩
  | 98 => ⟨S4096x1024, .f32⟩
  | 99 => ⟨S4096x1024, .f32⟩
  | 100 => ⟨S_, .f32⟩
  | 101 => ⟨S4096, .f32⟩
  | 102 => ⟨S4096x1, .f32⟩
  | 103 => ⟨S4096x1024, .f32⟩
  | 104 => ⟨S4096x1024, .f32⟩
  | 105 => ⟨S4096x1, .f32⟩
  | 106 => ⟨S_, .f32⟩
  | 107 => ⟨S4096x1, .f32⟩
  | 108 => ⟨S4096x1, .f32⟩
  | 109 => ⟨S_, .f32⟩
  | 110 => ⟨S4096, .f32⟩
  | 111 => ⟨S4096x1024, .f32⟩
  | 112 => ⟨S4096x1024, .f32⟩
  | 113 => ⟨S4096x1024, .f32⟩
  | 114 => ⟨S4096x1024, .f32⟩
  | 115 => ⟨S4096x1024, .f32⟩
  | 116 => ⟨S4096x1024, .f32⟩
  | 117 => ⟨S4096x1024, .f32⟩
  | 118 => ⟨S4096x1024, .f32⟩
  | 119 => ⟨S_, .f32⟩
  | 120 => ⟨S1024, .f32⟩
  | 121 => ⟨S1x1024, .f32⟩
  | 122 => ⟨S4x4096x704, .bf16⟩
  | 123 => ⟨S4x4096x704, .bf16⟩
  | 124 => ⟨S4x4096x704, .bf16⟩
  | 125 => ⟨S4096x1024, .bf16⟩
  | 126 => ⟨S4096x1024, .bf16⟩
  | 127 => ⟨S1x1024, .f32⟩
  | _ => ⟨S4096x1024, .f32⟩

abbrev hbmTy0_1 (i : Nat) : BufTy := match i % 128 with
  | 0 => ⟨S_, .f32⟩
  | 1 => ⟨S5x1024, .f32⟩
  | 2 => ⟨S8x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_3 : Ref sig .tc := ⟨.hbm, 52, rfl⟩
abbrev main_v32 : Ref sig .tc := ⟨.hbm, 53, rfl⟩
abbrev main_v33 : Ref sig .tc := ⟨.hbm, 54, rfl⟩
abbrev main_cst_4 : Ref sig .tc := ⟨.hbm, 55, rfl⟩
abbrev main_v34 : Ref sig .tc := ⟨.hbm, 56, rfl⟩
abbrev main_v35 : Ref sig .tc := ⟨.hbm, 57, rfl⟩
abbrev main_cst_5 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_6 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_7 : Ref sig .tc := ⟨.hbm, 72, rfl⟩
abbrev main_v48 : Ref sig .tc := ⟨.hbm, 73, rfl⟩
abbrev main_v49 : Ref sig .tc := ⟨.hbm, 74, rfl⟩
abbrev main_cst_8 : Ref sig .tc := ⟨.hbm, 75, rfl⟩
abbrev main_v50 : Ref sig .tc := ⟨.hbm, 76, rfl⟩
abbrev main_cst_9 : Ref sig .tc := ⟨.hbm, 77, rfl⟩
abbrev main_v51 : Ref sig .tc := ⟨.hbm, 78, rfl⟩
abbrev main_v52 : Ref sig .tc := ⟨.hbm, 79, rfl⟩
abbrev main_cst_10 : Ref sig .tc := ⟨.hbm, 80, rfl⟩
abbrev main_v53 : Ref sig .tc := ⟨.hbm, 81, rfl⟩
abbrev main_cst_11 : Ref sig .tc := ⟨.hbm, 82, rfl⟩
abbrev main_v54 : Ref sig .tc := ⟨.hbm, 83, rfl⟩
abbrev main_cst_12 : Ref sig .tc := ⟨.hbm, 84, rfl⟩
abbrev main_cst_13 : Ref sig .tc := ⟨.hbm, 85, rfl⟩
abbrev main_v55 : Ref sig .tc := ⟨.hbm, 86, rfl⟩
abbrev main_v56 : Ref sig .tc := ⟨.hbm, 87, rfl⟩
abbrev main_cst_14 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_15 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_16 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_17 : Ref sig .tc := ⟨.hbm, 106, rfl⟩
abbrev main_v72 : Ref sig .tc := ⟨.hbm, 107, rfl⟩
abbrev main_v73 : Ref sig .tc := ⟨.hbm, 108, rfl⟩
abbrev main_cst_18 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_cst_19 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_20 : Ref sig .tc := ⟨.hbm, 128, rfl⟩
abbrev main_v91 : Ref sig .tc := ⟨.hbm, 129, rfl⟩
abbrev main_v92 : Ref sig .tc := ⟨.hbm, 130, rfl⟩

abbrev nD : Nat := 1
abbrev τ : Topo := Topo.v7x

variable {F : FTy → Type} [FloatOps F]
-- ==== OutGrad.lean ====
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 5
  | .vmem => 3
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S1x1024x1024, .f32⟩
  | .local _ .vmem, ⟨0, _⟩ => ⟨S4096x1024, .bf16⟩
  | .local _ .vmem, ⟨1, _⟩ => ⟨S4096x1024, .bf16⟩
  | .local _ .vmem, ⟨2, _⟩ => ⟨S1x1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== OutGradReferenceIdeal.lean ====
abbrev S4096x1024 : Shape := ⟨2, ![4096, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1x1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Step.lean ====
/-
  What one grid point of the attention-backward kernel does to the arrays it carries, as functions of contents.

  A point of the grid is one block of 512 queries (of each of the four heads: 2048 columns).  It visits the key blocks
  of 512 rows one after the other.  Three arrays are updated by each visit: the key gradient `dk` (4096 rows), the
  value gradient `dv` (4096 rows) and the block's own query gradient `dq` (transposed: 2048 columns).
-/
module

public import proofs.«01_k».proof.Proof.Gen.KernelIdeal.Skeleton
public import Idealize.ShloMosaic.Lib.VecWindow

@[expose] public section

noncomputable section

namespace Cert.Attn

open Cert.KernelIdeal Cert.KernelIdeal.Gen
open Idealize.ShloMosaic

variable {F : FTy → Type} [FloatOps F]

/-- The row block's offsets lie inside an array of 4096 rows and 256 columns. -/
theorem inb256 (j : Fin 8) : ∀ a, (![512 * j.val, 0] : Fin 2 → ℕ) a + S512x256.size a ≤ S4096x256.size a := by
  have := j.isLt
  intro a
  fin_cases a
  · show 512 * j.val + 512 ≤ 4096; omega
  · show 0 + 256 ≤ 256; omega

/-- The row block's offsets lie inside an array of 4096 rows and 128 columns. -/
theorem inb128 (j : Fin 8) : ∀ a, (![512 * j.val, 0] : Fin 2 → ℕ) a + S512x128.size a ≤ S4096x128.size a := by
  have := j.isLt
  intro a
  fin_cases a
  · show 512 * j.val + 512 ≤ 4096; omega
  · show 0 + 128 ≤ 128; omega

/-- One block of the transposed keys lies inside the eight. -/
theorem inbT (j : Fin 8) : ∀ a, (![j.val, 0, 0] : Fin 3 → ℕ) a + S1x256x512.size a ≤ S8x256x512.size a := by
  have := j.isLt
  intro a
  fin_cases a
  · show j.val + 1 ≤ 8; omega
  · show 0 + 256 ≤ 256; omega
  · show 0 + 512 ≤ 512; omega

/-- Rows `512 j` to `512 j + 511` of 256 columns. -/
def rows256 {e : EltTy} (X : Vec F S4096x256 e) (j : Fin 8) : Vec F S512x256 e :=
  VecWindow.window X ![512 * j.val, 0] S512x256.size (inb256 j)

/-- Rows `512 j` to `512 j + 511` of 128 columns. -/
def rows128 {e : EltTy} (X : Vec F S4096x128 e) (j : Fin 8) : Vec F S512x128 e :=
  VecWindow.window X ![512 * j.val, 0] S512x128.size (inb128 j)

/-- Block `j` of the transposed keys. -/
def blockT {e : EltTy} (X : Vec F S8x256x512 e) (j : Fin 8) : Vec F S1x256x512 e :=
  VecWindow.window X ![j.val, 0, 0] S1x256x512.size (inbT j)

/-- The three arrays a point updates. -/
structure St (F : FTy → Type) where
  /-- the key gradient -/
  dk : Vec F S4096x256 .f32
  /-- the query block's gradient, transposed -/
  dq : Vec F S256x2048 .f32
  /-- the value gradient -/
  dv : Vec F S4096x128 .f32

/-- What a point reads: queries, output gradients, log-sum-exps and deltas of the block, all keys and their
    transpose. -/
structure Inp (F : FTy → Type) where
  q : Vec F S4x512x256 .bf16
  d : Vec F S4x512x128 .bf16
  lse : Vec F S1x1x2048 .f32
  del : Vec F S1x1x2048 .f32
  k : Vec F S4096x256 .bf16
  kt : Vec F S8x256x512 .bf16

/-- One visit of a key block before the diagonal. -/
def visit (x : Inp F) (j : Fin 8) (s : St F) : St F where
  dk := VecWindow.put s.dk ![512 * j.val, 0] S512x256.size
    (k0_pay10 (k0_pay20 x.q) (k0_pay21 x.d) (k0_pay22 x.lse) (k0_pay23 x.del) (rows256 x.k j) (rows256 s.dk j))
  dq := k0_pay25 (k0_pay11 (k0_pay20 x.q) (k0_pay21 x.d) (k0_pay22 x.lse) (k0_pay23 x.del) (rows256 x.k j) s.dq (blockT x.kt j))
  dv := VecWindow.put s.dv ![512 * j.val, 0] S512x128.size
    (k0_pay8 (k0_pay20 x.q) (k0_pay21 x.d) (k0_pay22 x.lse) (rows256 x.k j) (rows128 s.dv j))

/-- The visits of the key blocks before block `n`, in order. -/
def visits (x : Inp F) (s : St F) : ℕ → St F
  | 0 => s
  | n + 1 => if h : n < 8 then visit x ⟨n, h⟩ (visits x s n) else visits x s n

theorem visits_succ (x : Inp F) (s : St F) (j : Fin 8) : visits x s (j.val + 1) = visit x j (visits x s j.val) := by
  show (if h : j.val < 8 then visit x ⟨j.val, h⟩ (visits x s j.val) else _) = _
  rw [dif_pos j.isLt]

/-- The visit of the diagonal block. -/
def visitDiag (x : Inp F) (j : Fin 8) (s : St F) : St F where
  dk := VecWindow.put s.dk ![512 * j.val, 0] S512x256.size
    (k0_pay33 (k0_pay20 x.q) (k0_pay21 x.d) (k0_pay22 x.lse) (k0_pay23 x.del) (k0_pay27 (rows256 x.k j))
      (k0_pay28 x.q (rows256 x.k j)) (k0_pay29 (F := F)) (rows256 s.dk j))
  dq := k0_pay1 s.dq (k0_pay34 (k0_pay21 x.d) (k0_pay22 x.lse) (k0_pay23 x.del) (k0_pay27 (rows256 x.k j))
      (k0_pay28 x.q (rows256 x.k j)) (k0_pay29 (F := F)) (blockT x.kt j))
  dv := VecWindow.put s.dv ![512 * j.val, 0] S512x128.size
    (k0_pay31 (k0_pay21 x.d) (k0_pay22 x.lse) (k0_pay28 x.q (rows256 x.k j)) (k0_pay29 (F := F)) (rows128 s.dv j))

/-- What a point leaves, from the key and value gradients it finds: the query gradient starts at zero. -/
def point (x : Inp F) (i : Fin 8) (dk : Vec F S4096x256 .f32) (dv : Vec F S4096x128 .f32) : St F :=
  visitDiag x i (visits x ⟨dk, k0_pay24 (F := F), dv⟩ i.val)

/-- The array of zeros. -/
def zero256 : Vec F S4096x256 .f32 := fun _ => Scalar.ofBits .f32 0x00000000#32

/-- The array of zeros. -/
def zero128 : Vec F S4096x128 .f32 := fun _ => Scalar.ofBits .f32 0x00000000#32

/-- What the last point does to rows `512 j` to `512 j + 511` of the key gradient: scale them, and add the value
    gradient to the first 128 columns. -/
def close (dv : Vec F S4096x128 .f32) (j : Fin 8) (dk : Vec F S4096x256 .f32) : Vec F S4096x256 .f32 :=
  VecWindow.put (VecWindow.put dk ![512 * j.val, 0] S512x128.size (k0_pay4 (rows256 dk j) (rows128 dv j)))
    ![512 * j.val, 128] S512x128.size (k0_pay5 (rows256 dk j))

/-- The rows below `512 n` closed. -/
def closes (dv : Vec F S4096x128 .f32) (dk : Vec F S4096x256 .f32) : ℕ → Vec F S4096x256 .f32
  | 0 => dk
  | n + 1 => if h : n < 8 then close dv ⟨n, h⟩ (closes dv dk n) else closes dv dk n

theorem closes_succ (dv : Vec F S4096x128 .f32) (dk : Vec F S4096x256 .f32) (j : Fin 8) :
    closes dv dk (j.val + 1) = close dv j (closes dv dk j.val) := by
  show (if h : j.val < 8 then close dv ⟨j.val, h⟩ (closes dv dk j.val) else _) = _
  rw [dif_pos j.isLt]

/-- The key and value gradients before point `n`, from what each point reads. -/
def grads (xs : Fin 8 → Inp F) : ℕ → Vec F S4096x256 .f32 × Vec F S4096x128 .f32
  | 0 => (zero256, zero128)
  | n + 1 => if h : n < 8 then
      ((point (xs ⟨n, h⟩) ⟨n, h⟩ (grads xs n).1 (grads xs n).2).dk, (point (xs ⟨n, h⟩) ⟨n, h⟩ (grads xs n).1 (grads xs n).2).dv)
    else grads xs n

/-- What point `i` leaves. -/
def left (xs : Fin 8 → Inp F) (i : Fin 8) : St F := point (xs i) i (grads xs i.val).1 (grads xs i.val).2

theorem grads_succ (xs : Fin 8 → Inp F) (i : Fin 8) : grads xs (i.val + 1) = ((left xs i).dk, (left xs i).dv) := by
  show (if h : i.val < 8 then _ else _) = _
  rw [dif_pos i.isLt]
  rfl

/-- The key gradient the launch leaves. -/
def keyGrad (xs : Fin 8 → Inp F) : Vec F S4096x256 .f32 := closes (grads xs 8).2 (grads xs 8).1 8

/-- The key gradient's window after point `i`. -/
def keyWin (xs : Fin 8 → Inp F) (i : Fin 8) : Vec F S4096x256 .f32 :=
  if i.val = 7 then closes (left xs i).dv (left xs i).dk 8 else (left xs i).dk

end Cert.Attn

end
-- ==== Proof.Trips.lean ====
/-
  One trip of each counted loop of the kernel, and the loops by their invariants: what the buffers read before trip `k`.
-/
module

public import proofs.«01_k».proof.Proof.Step
public import Idealize.ShloMosaic.Lib.Tactic
public import Idealize.ShloMosaic.Lib.Pipeline.Kit

@[expose] public section

set_option maxRecDepth 8192
set_option maxHeartbeats 4000000

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the launch's frame. -/
local notation "𝕄" => MT nD τ sig Unit (Elt F) ℕ (UR sig nD τ) ℕ

/-- A memref's elements held at contents `f`. -/
abbrev at_ (c : Dev nD) {sp : Space} {S : Shape} {e : EltTy} (M : Memref sig .tc sp S e) (f : BufTy.Contents (Elt F) M.view.ty) : sProp 𝕄 :=
  M.view.loc (c : Thread nD τ) ↦[M.view.set]{fullShare} f

/-- A memref's elements held at some contents that read `X`. -/
abbrev reads (c : Dev nD) {sp : Space} {S : Shape} {e : EltTy} (M : Memref sig .tc sp S e) (X : S.Idx → Elt F e) : sProp 𝕄 :=
  iprop(∃ f, at_ c M f ∗ ⌜M.view.read (Elt F) f = X⌝)

/-- The visit loop runs over the key blocks before the diagonal. -/
theorem trips2 (i : grid0.Coords) : (k0_t2_loop i).trips = (i 0).val := by
  have h : ∀ n : Fin 8, Scf.trips 0#32 (Scalar.addi 0#32 (Scalar.muli (Scalar.divsi (Scalar.subi (BitVec.ofNat 32 n.val) 0#32) 1#32) 1#32)) 1#32 = n.val := by decide
  exact h (i 0)

theorem off3_eq (i : grid0.Coords) (k : Fin (k0_t2_loop i).trips) : k0_off3 i k = ![512 * k.val, 0] := by
  have hk : k.val < 8 := lt_of_lt_of_le k.isLt (by rw [trips2]; exact (i 0).isLt.le)
  have h : ∀ n : Fin 8, (Scalar.indexCast (Scalar.muli (Scf.iv 0#32 1#32 n.val) 512#32)).toNat = 512 * n.val := by decide
  show ![_, 0] = _
  rw [h ⟨k.val, hk⟩]

theorem off4_eq (i : grid0.Coords) (k : Fin (k0_t2_loop i).trips) : k0_off4 i k = ![512 * k.val, 0] := off3_eq i k

theorem off5_eq (i : grid0.Coords) (k : Fin (k0_t2_loop i).trips) : k0_off5 i k = ![k.val, 0, 0] := by
  have hk : k.val < 8 := lt_of_lt_of_le k.isLt (by rw [trips2]; exact (i 0).isLt.le)
  have h : ∀ n : Fin 8, (Scalar.indexCast (Scf.iv 0#32 1#32 n.val)).toNat = n.val := by decide
  show ![_, 0, 0] = _
  rw [h ⟨k.val, hk⟩]

/-- One visit, run: from the three arrays at any contents, they read what `visit` says. -/
theorem trip2 (𝒱 : Variants) (c : Dev nD) (bd : Option 𝒱.V) (E : Set ℕ) (i : grid0.Coords) (arg1 : Memref sig .tc .vmem S4x512x256 .bf16) (harg1 : arg1.IsWhole) (arg2 : Memref sig .tc .vmem S4x512x128 .bf16) (harg2 : arg2.IsWhole) (arg3 : Memref sig .tc .vmem S1x1x2048 .f32) (harg3 : arg3.IsWhole) (arg4 : Memref sig .tc .vmem S1x1x2048 .f32) (harg4 : arg4.IsWhole)
    (arg5 : Memref sig .tc .vmem S4096x256 .bf16) (harg5 : arg5.IsWhole) (arg6 : Memref sig .tc .vmem S8x256x512 .bf16) (harg6 : arg6.IsWhole) (arg7 : Memref sig .tc .vmem S1x256x2048 .f32) (harg7 : arg7.IsWhole) (arg8 : Memref sig .tc .vmem S4096x256 .f32) (harg8 : arg8.IsWhole)
    (arg9 : Memref sig .tc .vmem S256x2048 .f32) (harg9 : arg9.IsWhole) (arg10 : Memref sig .tc .vmem S4096x128 .f32) (harg10 : arg10.IsWhole)
    (x : Inp F) (X5 : BufTy.Contents (Elt F) arg5.view.ty) (X6 : BufTy.Contents (Elt F) arg6.view.ty)
    (h5 : arg5.view.read (Elt F) X5 = x.k) (h6 : arg6.view.read (Elt F) X6 = x.kt)
    (k : Fin (k0_t2_loop i).trips) (hk : k.val < 8) (s : St F) :
    (iprop(at_ c arg5 X5 ∗ at_ c arg6 X6 ∗ reads c arg8 s.dk ∗ reads c arg9 s.dq ∗ reads c arg10 s.dv) : sProp 𝕄)
      ⊢ wp frame (wpE (defs₀ (F := F)) 𝒱 (c : Thread nD τ) bd) E (k0_t2_body (F := F) i arg1 harg1 arg2 harg2 arg3 harg3 arg4 harg4 arg5 harg5 arg6 harg6 arg7 harg7 arg8 harg8 arg9 harg9 arg10 harg10 x.q x.d x.lse x.del k PUnit.unit)
          (fun _ => iprop(at_ c arg5 X5 ∗ at_ c arg6 X6 ∗ reads c arg8 (visit x ⟨k.val, hk⟩ s).dk ∗ reads c arg9 (visit x ⟨k.val, hk⟩ s).dq
            ∗ reads c arg10 (visit x ⟨k.val, hk⟩ s).dv)) := by
  unfold k0_t2_body
  iintro ⟨H5, H6, ⟨%f8, H8, %h8⟩, ⟨%f9, H9, %h9⟩, ⟨%f10, H10, %h10⟩⟩
  sl_exec
  sl_step
  isplitl [H5]; · iexact H5
  isplitl [H6]; · iexact H6
  isplitl [H8]
  · iexists _; isplitl [H8]; · iexact H8
    ipureintro
    rw [View.read_writes_cons_put _ _ _ _ _ (off3_eq i k), View.writes_nil, h8,
      View.readAt_unit _ _ _ (off3_eq i k) (inb256 ⟨k.val, hk⟩), View.readAt_unit _ _ _ (off3_eq i k) (inb256 ⟨k.val, hk⟩), h5, h8]
    rfl
  isplitl [H9]
  · iexists _; isplitl [H9]; · iexact H9
    ipureintro
    unfold trip2.sl.r
    rw [View.read_writes_full, View.readAt_full, View.readAt_unit _ _ _ (off3_eq i k) (inb256 ⟨k.val, hk⟩),
      View.readAt_unit _ _ _ (off5_eq i k) (inbT ⟨k.val, hk⟩), h5, h6, h9]
    rfl
  iexists _; isplitl [H10]; · iexact H10
  ipureintro
  rw [View.read_writes_cons_put _ _ _ _ _ (off4_eq i k), View.writes_nil, h10,
    View.readAt_unit _ _ _ (off3_eq i k) (inb256 ⟨k.val, hk⟩), View.readAt_unit _ _ _ (off4_eq i k) (inb128 ⟨k.val, hk⟩), h5, h10]
  rfl

/-- Contents held before trip `k` of a loop: what the loop found, then contents reading `X k`. -/
def carry {sp : Space} {S : Shape} {e : EltTy} {M : Memref sig .tc sp S e} (h : M.IsWhole) (G : BufTy.Contents (Elt F) M.view.ty)
    (X : ℕ → S.Idx → Elt F e) : ℕ → BufTy.Contents (Elt F) M.view.ty
  | 0 => G
  | k + 1 => h.unread (X (k + 1))

/-- A memref's elements held at the contents before trip `k`. -/
abbrev held (c : Dev nD) {sp : Space} {S : Shape} {e : EltTy} {M : Memref sig .tc sp S e} (h : M.IsWhole) (G : BufTy.Contents (Elt F) M.view.ty)
    (X : ℕ → S.Idx → Elt F e) (k : ℕ) : sProp 𝕄 :=
  iprop(∃ f, at_ c M f ∗ ⌜f = carry h G X k⌝)

theorem carry_read {sp : Space} {S : Shape} {e : EltTy} {M : Memref sig .tc sp S e} (h : M.IsWhole) (G : BufTy.Contents (Elt F) M.view.ty)
    (X : ℕ → S.Idx → Elt F e) (hG : M.view.read (Elt F) G = X 0) : ∀ k, M.view.read (Elt F) (carry h G X k) = X k
  | 0 => hG
  | k + 1 => h.read_unread (X (k + 1))

theorem held_reads (c : Dev nD) {sp : Space} {S : Shape} {e : EltTy} {M : Memref sig .tc sp S e} (h : M.IsWhole) (G : BufTy.Contents (Elt F) M.view.ty)
    (X : ℕ → S.Idx → Elt F e) (hG : M.view.read (Elt F) G = X 0) (k : ℕ) : held c h G X k ⊢ reads c M (X k) := by
  iintro ⟨%f, H, %hf⟩
  iexists f; isplitl [H]; · iexact H
  ipureintro
  rw [hf]; exact carry_read h G X hG k

theorem reads_held (c : Dev nD) {sp : Space} {S : Shape} {e : EltTy} {M : Memref sig .tc sp S e} (h : M.IsWhole) (G : BufTy.Contents (Elt F) M.view.ty)
    (X : ℕ → S.Idx → Elt F e) (k : ℕ) : reads c M (X (k + 1)) ⊢ held c h G X (k + 1) := by
  iintro ⟨%f, H, %hf⟩
  iexists f; isplitl [H]; · iexact H
  ipureintro
  exact h.eq_unread hf

set_option warn.classDefReducibility false in
/-- The visits, by their invariant: before visit `k` the three arrays read `visits … k`. -/
@[sl_loop] def loop2 (𝒱 : Variants) (c : Dev nD) (bd : Option 𝒱.V) (E : Set ℕ) (i : grid0.Coords) (arg1 : Memref sig .tc .vmem S4x512x256 .bf16) (harg1 : arg1.IsWhole) (arg2 : Memref sig .tc .vmem S4x512x128 .bf16) (harg2 : arg2.IsWhole) (arg3 : Memref sig .tc .vmem S1x1x2048 .f32) (harg3 : arg3.IsWhole) (arg4 : Memref sig .tc .vmem S1x1x2048 .f32) (harg4 : arg4.IsWhole)
    (arg5 : Memref sig .tc .vmem S4096x256 .bf16) (harg5 : arg5.IsWhole) (arg6 : Memref sig .tc .vmem S8x256x512 .bf16) (harg6 : arg6.IsWhole) (arg7 : Memref sig .tc .vmem S1x256x2048 .f32) (harg7 : arg7.IsWhole) (arg8 : Memref sig .tc .vmem S4096x256 .f32) (harg8 : arg8.IsWhole)
    (arg9 : Memref sig .tc .vmem S256x2048 .f32) (harg9 : arg9.IsWhole) (arg10 : Memref sig .tc .vmem S4096x128 .f32) (harg10 : arg10.IsWhole)
    (v3 : Vec F S4x512x256 .bf16) (v6 : Vec F S4x512x128 .bf16) (v9 : Vec F S1x1x2048 .f32) (v11 : Vec F S1x1x2048 .f32)
    (X5 : BufTy.Contents (Elt F) arg5.view.ty) (X6 : BufTy.Contents (Elt F) arg6.view.ty)
    (G8 : BufTy.Contents (Elt F) arg8.view.ty) (G9 : BufTy.Contents (Elt F) arg9.view.ty) (G10 : BufTy.Contents (Elt F) arg10.view.ty) :
    Idealize.ShloMosaic.LoopInv (M := 𝕄) Idealize.ShloMosaic.frame (wpE (defs₀ (F := F)) 𝒱 (c : Thread nD τ) bd) E
      (k0_t2_loop i).lb (k0_t2_loop i).ub (k0_t2_loop i).st (k0_t2_ok i) () (k0_t2_body (F := F) i arg1 harg1 arg2 harg2 arg3 harg3 arg4 harg4 arg5 harg5 arg6 harg6 arg7 harg7 arg8 harg8 arg9 harg9 arg10 harg10 v3 v6 v9 v11) where
  inv k _ := iprop(at_ c arg5 X5 ∗ at_ c arg6 X6
    ∗ held c harg8 G8 (fun n => (visits ⟨v3, v6, v9, v11, arg5.view.read (Elt F) X5, arg6.view.read (Elt F) X6⟩
        ⟨arg8.view.read (Elt F) G8, arg9.view.read (Elt F) G9, arg10.view.read (Elt F) G10⟩ n).dk) k
    ∗ held c harg9 G9 (fun n => (visits ⟨v3, v6, v9, v11, arg5.view.read (Elt F) X5, arg6.view.read (Elt F) X6⟩
        ⟨arg8.view.read (Elt F) G8, arg9.view.read (Elt F) G9, arg10.view.read (Elt F) G10⟩ n).dq) k
    ∗ held c harg10 G10 (fun n => (visits ⟨v3, v6, v9, v11, arg5.view.read (Elt F) X5, arg6.view.read (Elt F) X6⟩
        ⟨arg8.view.read (Elt F) G8, arg9.view.read (Elt F) G9, arg10.view.read (Elt F) G10⟩ n).dv) k)
  step k acc := by
    have hk : k.val < 8 := lt_of_lt_of_le k.isLt (by rw [show Scf.trips _ _ _ = (i 0).val from trips2 i]; exact (i 0).isLt.le)
    have key := trip2 𝒱 c bd E i arg1 harg1 arg2 harg2 arg3 harg3 arg4 harg4 arg5 harg5 arg6 harg6 arg7 harg7 arg8 harg8 arg9 harg9 arg10 harg10 ⟨v3, v6, v9, v11, arg5.view.read (Elt F) X5, arg6.view.read (Elt F) X6⟩ X5 X6 rfl rfl k hk
      (visits ⟨v3, v6, v9, v11, arg5.view.read (Elt F) X5, arg6.view.read (Elt F) X6⟩
        ⟨arg8.view.read (Elt F) G8, arg9.view.read (Elt F) G9, arg10.view.read (Elt F) G10⟩ k.val)
    rw [← visits_succ] at key
    let V := visits ⟨v3, v6, v9, v11, arg5.view.read (Elt F) X5, arg6.view.read (Elt F) X6⟩
      ⟨arg8.view.read (Elt F) G8, arg9.view.read (Elt F) G9, arg10.view.read (Elt F) G10⟩
    refine triple_restated key rfl ?_ fun _ => ?_
    · exact Idealize.SL.BI.sep_mono_r (Idealize.SL.BI.sep_mono_r (Idealize.SL.BI.sep_mono (held_reads c harg8 G8 (fun n => (V n).dk) rfl k.val)
        (Idealize.SL.BI.sep_mono (held_reads c harg9 G9 (fun n => (V n).dq) rfl k.val) (held_reads c harg10 G10 (fun n => (V n).dv) rfl k.val))))
    · exact Idealize.SL.BI.sep_mono_r (Idealize.SL.BI.sep_mono_r (Idealize.SL.BI.sep_mono (reads_held c harg8 G8 (fun n => (V n).dk) k.val)
        (Idealize.SL.BI.sep_mono (reads_held c harg9 G9 (fun n => (V n).dq) k.val) (reads_held c harg10 G10 (fun n => (V n).dv) k.val))))

/-! ### The loop behind the visits makes no trip -/

theorem trips3 (i : grid0.Coords) : (k0_t3_loop i).trips = 0 := by
  have h : ∀ n : Fin 8, Scf.trips (Scalar.addi 0#32 (Scalar.muli (Scalar.divsi (Scalar.subi (BitVec.ofNat 32 n.val) 0#32) 1#32) 1#32))
      (Scalar.addi 0#32 (Scalar.subi (BitVec.ofNat 32 n.val) 0#32)) 1#32 = 0 := by decide
  exact h (i 0)

set_option warn.classDefReducibility false in
/-- The second loop of the visits starts where it ends. -/
@[sl_loop] def loop3 (𝒱 : Variants) (c : Dev nD) (bd : Option 𝒱.V) (E : Set ℕ) (i : grid0.Coords) (arg1 : Memref sig .tc .vmem S4x512x256 .bf16) (harg1 : arg1.IsWhole) (arg2 : Memref sig .tc .vmem S4x512x128 .bf16) (harg2 : arg2.IsWhole) (arg3 : Memref sig .tc .vmem S1x1x2048 .f32) (harg3 : arg3.IsWhole) (arg4 : Memref sig .tc .vmem S1x1x2048 .f32) (harg4 : arg4.IsWhole)
    (arg5 : Memref sig .tc .vmem S4096x256 .bf16) (harg5 : arg5.IsWhole) (arg6 : Memref sig .tc .vmem S8x256x512 .bf16) (harg6 : arg6.IsWhole) (arg7 : Memref sig .tc .vmem S1x256x2048 .f32) (harg7 : arg7.IsWhole) (arg8 : Memref sig .tc .vmem S4096x256 .f32) (harg8 : arg8.IsWhole)
    (arg9 : Memref sig .tc .vmem S256x2048 .f32) (harg9 : arg9.IsWhole) (arg10 : Memref sig .tc .vmem S4096x128 .f32) (harg10 : arg10.IsWhole)
    (v3 : Vec F S4x512x256 .bf16) (v6 : Vec F S4x512x128 .bf16) (v9 : Vec F S1x1x2048 .f32) (v11 : Vec F S1x1x2048 .f32) (v21 : BitVec 32) :
    Idealize.ShloMosaic.LoopInv (M := 𝕄) Idealize.ShloMosaic.frame (wpE (defs₀ (F := F)) 𝒱 (c : Thread nD τ) bd) E
      (k0_t3_loop i).lb (k0_t3_loop i).ub (k0_t3_loop i).st (k0_t3_ok i) () (k0_t3_body (F := F) i arg1 harg1 arg2 harg2 arg3 harg3 arg4 harg4 arg5 harg5 arg6 harg6 arg7 harg7 arg8 harg8 arg9 harg9 arg10 harg10 v3 v6 v9 v11 v21) where
  inv _ acc := iprop(⌜acc = ()⌝)
  step k acc := (Nat.not_lt_zero k.val (lt_of_lt_of_eq k.isLt (trips3 i))).elim

/-! ### The zeroing loop -/

theorem trips1 : k0_t1_loop.trips = 8 := by decide

theorem off1_eq (k : Fin k0_t1_loop.trips) : k0_off1 k = ![512 * k.val, 0] := by
  have h : ∀ n : Fin 8, (Scalar.indexCast (Scalar.muli (Scf.iv 0#32 1#32 n.val) 512#32)).toNat = 512 * n.val := by decide
  have hk : k.val < 8 := lt_of_lt_of_eq k.isLt trips1
  show ![_, 0] = _
  rw [h ⟨k.val, hk⟩]

theorem off2_eq (k : Fin k0_t1_loop.trips) : k0_off2 k = ![512 * k.val, 0] := off1_eq k

/-- The rows below `512 k` read zero. -/
def Zeroed {n : ℕ} (X : (⟨2, ![4096, n]⟩ : Shape).Idx → F .f32) (k : ℕ) : Prop :=
  ∀ y, (y 0).val < 512 * k → X y = Scalar.ofBits .f32 0x00000000#32

theorem Zeroed.put {n : ℕ} {X : (⟨2, ![4096, n]⟩ : Shape).Idx → F .f32} {k : ℕ} (h : Zeroed X k)
    (w : ((a : Fin 2) → Fin ((⟨2, ![512, n]⟩ : Shape).size a)) → F .f32) (hw : ∀ y, w y = Scalar.ofBits .f32 0x00000000#32) :
    Zeroed (VecWindow.put (s := ⟨2, ![4096, n]⟩) X ![512 * k, 0] (⟨2, ![512, n]⟩ : Shape).size w) (k + 1) := by
  intro y hy
  unfold VecWindow.put
  split_ifs with hc
  · exact hw _
  · refine h y (not_le.mp fun hle => hc (Fin.forall_fin_two.mpr ⟨⟨hle, ?_⟩, ⟨Nat.zero_le _, ?_⟩⟩))
    · show (y 0).val < 512 * k + 512
      omega
    · show (y 1).val < 0 + n
      rw [Nat.zero_add]; exact (y 1).isLt

/-- A memref's elements held at contents whose rows below `512 k` read zero. -/
abbrev zeroed (c : Dev nD) {n : ℕ} (M : Memref sig .tc .vmem ⟨2, ![4096, n]⟩ .f32) (k : ℕ) : sProp 𝕄 :=
  iprop(∃ f, at_ c M f ∗ ⌜Zeroed (F := F) (M.view.read (Elt F) f) k⌝)

set_option warn.classDefReducibility false in
/-- The zeroing loop by its invariant: before trip `k` the rows below `512 k` of both arrays are zero. -/
@[sl_loop] def loop1 (𝒱 : Variants) (c : Dev nD) (bd : Option 𝒱.V) (E : Set ℕ) (i : grid0.Coords) (arg1 : Memref sig .tc .vmem S4x512x256 .bf16) (harg1 : arg1.IsWhole) (arg2 : Memref sig .tc .vmem S4x512x128 .bf16) (harg2 : arg2.IsWhole) (arg3 : Memref sig .tc .vmem S1x1x2048 .f32) (harg3 : arg3.IsWhole) (arg4 : Memref sig .tc .vmem S1x1x2048 .f32) (harg4 : arg4.IsWhole)
    (arg5 : Memref sig .tc .vmem S4096x256 .bf16) (harg5 : arg5.IsWhole) (arg6 : Memref sig .tc .vmem S8x256x512 .bf16) (harg6 : arg6.IsWhole) (arg7 : Memref sig .tc .vmem S1x256x2048 .f32) (harg7 : arg7.IsWhole) (arg8 : Memref sig .tc .vmem S4096x256 .f32) (harg8 : arg8.IsWhole)
    (arg9 : Memref sig .tc .vmem S256x2048 .f32) (harg9 : arg9.IsWhole) (arg10 : Memref sig .tc .vmem S4096x128 .f32) (harg10 : arg10.IsWhole)
    (k0_h1 : k0_cond1 i = 1#1) :
    Idealize.ShloMosaic.LoopInv (M := 𝕄) Idealize.ShloMosaic.frame (wpE (defs₀ (F := F)) 𝒱 (c : Thread nD τ) bd) E
      k0_t1_loop.lb k0_t1_loop.ub k0_t1_loop.st (k0_t1_ok i k0_h1) () (k0_t1_body (F := F) i arg1 harg1 arg2 harg2 arg3 harg3 arg4 harg4 arg5 harg5 arg6 harg6 arg7 harg7 arg8 harg8 arg9 harg9 arg10 harg10 k0_h1) where
  inv k _ := iprop(zeroed c arg8 k ∗ zeroed c arg10 k)
  step k acc := by
    unfold k0_t1_body
    iintro ⟨⟨%f8, H8, %h8⟩, ⟨%f10, H10, %h10⟩⟩
    sl_exec
    sl_step
    isplitl [H8]
    · iexists _; isplitl [H8]; · iexact H8
      ipureintro
      rw [View.read_writes_cons_put _ _ _ _ _ (off1_eq k), View.writes_nil]
      exact Zeroed.put h8 _ fun _ => rfl
    iexists _; isplitl [H10]; · iexact H10
    ipureintro
    rw [View.read_writes_cons_put _ _ _ _ _ (off2_eq k), View.writes_nil]
    exact Zeroed.put h10 _ fun _ => rfl

/-! ### The closing loop -/

theorem trips4 : k0_t4_loop.trips = 8 := by decide

theorem off12_eq (k : Fin k0_t4_loop.trips) : k0_off12 k = ![512 * k.val, 0] := by
  have h : ∀ n : Fin 8, (Scalar.indexCast (Scalar.muli (Scf.iv 0#32 1#32 n.val) 512#32)).toNat = 512 * n.val := by decide
  have hk : k.val < 8 := lt_of_lt_of_eq k.isLt trips4
  show ![_, 0] = _
  rw [h ⟨k.val, hk⟩]

theorem off13_eq (k : Fin k0_t4_loop.trips) : k0_off13 k = ![512 * k.val, 0] := off12_eq k
theorem off14_eq (k : Fin k0_t4_loop.trips) : k0_off14 k = ![512 * k.val, 0] := off12_eq k

theorem off15_eq (k : Fin k0_t4_loop.trips) : k0_off15 k = ![512 * k.val, 128] := by
  have h : ∀ n : Fin 8, (Scalar.indexCast (Scalar.muli (Scf.iv 0#32 1#32 n.val) 512#32)).toNat = 512 * n.val := by decide
  have hk : k.val < 8 := lt_of_lt_of_eq k.isLt trips4
  show ![_, 128] = _
  rw [h ⟨k.val, hk⟩]

set_option warn.classDefReducibility false in
/-- The closing loop by its invariant: before trip `k` the rows below `512 k` are closed. -/
@[sl_loop] def loop4 (𝒱 : Variants) (c : Dev nD) (bd : Option 𝒱.V) (E : Set ℕ) (i : grid0.Coords) (arg1 : Memref sig .tc .vmem S4x512x256 .bf16) (harg1 : arg1.IsWhole) (arg2 : Memref sig .tc .vmem S4x512x128 .bf16) (harg2 : arg2.IsWhole) (arg3 : Memref sig .tc .vmem S1x1x2048 .f32) (harg3 : arg3.IsWhole) (arg4 : Memref sig .tc .vmem S1x1x2048 .f32) (harg4 : arg4.IsWhole)
    (arg5 : Memref sig .tc .vmem S4096x256 .bf16) (harg5 : arg5.IsWhole) (arg6 : Memref sig .tc .vmem S8x256x512 .bf16) (harg6 : arg6.IsWhole) (arg7 : Memref sig .tc .vmem S1x256x2048 .f32) (harg7 : arg7.IsWhole) (arg8 : Memref sig .tc .vmem S4096x256 .f32) (harg8 : arg8.IsWhole)
    (arg9 : Memref sig .tc .vmem S256x2048 .f32) (harg9 : arg9.IsWhole) (arg10 : Memref sig .tc .vmem S4096x128 .f32) (harg10 : arg10.IsWhole)
    (k0_h2 : k0_cond2 i = 1#1) (X10 : BufTy.Contents (Elt F) arg10.view.ty) (G8 : BufTy.Contents (Elt F) arg8.view.ty) :
    Idealize.ShloMosaic.LoopInv (M := 𝕄) Idealize.ShloMosaic.frame (wpE (defs₀ (F := F)) 𝒱 (c : Thread nD τ) bd) E
      k0_t4_loop.lb k0_t4_loop.ub k0_t4_loop.st (k0_t4_ok i k0_h2) () (k0_t4_body (F := F) i arg1 harg1 arg2 harg2 arg3 harg3 arg4 harg4 arg5 harg5 arg6 harg6 arg7 harg7 arg8 harg8 arg9 harg9 arg10 harg10 k0_h2) where
  inv k _ := iprop(at_ c arg10 X10 ∗ held c harg8 G8 (fun n => closes (arg10.view.read (Elt F) X10) (arg8.view.read (Elt F) G8) n) k)
  step k acc := by
    have hk : k.val < 8 := lt_of_lt_of_eq k.isLt trips4
    unfold k0_t4_body
    iintro ⟨H10, ⟨%f8, H8, %hf⟩⟩
    have h8 : arg8.view.read (Elt F) f8 = closes (arg10.view.read (Elt F) X10) (arg8.view.read (Elt F) G8) k.val := by
      rw [hf]; exact carry_read harg8 G8 _ rfl _
    sl_exec
    sl_step
    isplitl [H10]; · iexact H10
    iexists _; isplitl [H8]; · iexact H8
    ipureintro
    refine harg8.eq_unread ?_
    rw [View.read_writes_cons_put _ _ _ _ _ (off15_eq k), View.read_writes_cons_put _ _ _ _ _ (off14_eq k), View.writes_nil, h8,
      View.readAt_unit _ _ _ (off12_eq k) (inb256 ⟨k.val, hk⟩), View.readAt_unit _ _ _ (off13_eq k) (inb128 ⟨k.val, hk⟩), h8]
    exact (closes_succ _ _ ⟨k.val, hk⟩).symm

end Cert.Attn

end
-- ==== Proof.Body.lean ====
/-
  One grid point of the kernel, run: from the operands it reads, the key and value gradients it finds and anything in
  the rest, it leaves what `point` says.  Three cases: the first point zeroes the gradients it would find, the last
  one closes the key gradient, the others do neither.
-/
module

public import proofs.«01_k».proof.Proof.Trips
public import Idealize.ShloMosaic.Lib.LoopRemainder

@[expose] public section

set_option maxRecDepth 8192
set_option maxHeartbeats 8000000

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the launch's frame. -/
local notation "𝕄" => MT nD τ sig Unit (Elt F) ℕ (UR sig nD τ) ℕ

/-- The block of queries of a grid point. -/
def blk (i : grid0.Coords) : Fin 8 := i 0

/-- The diagonal block's offsets. -/
theorem off9_eq (i : grid0.Coords) : k0_off9 i = ![512 * (blk i).val, 0] := by
  have h : ∀ n : Fin 8, (Scalar.indexCast (Scalar.muli (BitVec.ofNat 32 n.val) 512#32)).toNat = 512 * n.val := by decide
  show ![(Scalar.indexCast (Scalar.muli (BitVec.ofNat 32 (blk i).val) 512#32)).toNat, 0] = _
  rw [h (blk i)]

theorem off10_eq (i : grid0.Coords) : k0_off10 i = ![512 * (blk i).val, 0] := off9_eq i

theorem off11_eq (i : grid0.Coords) : k0_off11 i = ![(blk i).val, 0, 0] := by
  have h : ∀ n : Fin 8, (Scalar.indexCast (BitVec.ofNat 32 n.val)).toNat = n.val := by decide
  show ![(Scalar.indexCast (BitVec.ofNat 32 (blk i).val)).toNat, 0, 0] = _
  rw [h (blk i)]

/-- The trips of the visit loop, spelled by its bounds. -/
theorem trips2' (i : grid0.Coords) : Scf.trips (k0_t2_loop i).lb (k0_t2_loop i).ub (k0_t2_loop i).st = (blk i).val := trips2 i

/-- Contents written whole read what was written. -/
theorem read_write_full {sp : Space} {S : Shape} {e : EltTy} (M : Memref sig .tc sp S e) (f : BufTy.Contents (Elt F) M.view.ty)
    {off : Fin S.rank → ℕ} (inb : ∀ a, off a + S.size a ≤ S.size a) (w : S.Idx → Elt F e) :
    M.view.read (Elt F) (View.write (Elt F) (M.view.slice (⟨Rect.unit off S.size inb, w⟩ : View.Piece (Elt F) S e).fst)
      (M.view.writes (Elt F) f []) (⟨Rect.unit off S.size inb, w⟩ : View.Piece (Elt F) S e).snd Finset.univ) = w :=
  View.read_writes_full M.view f inb w []

/-- Elements held at some contents, whatever they read. -/
theorem any_of (c : Dev nD) {sp : Space} {S : Shape} {e : EltTy} (M : Memref sig .tc sp S e) (f : BufTy.Contents (Elt F) M.view.ty) :
    (at_ c M f : sProp 𝕄) ⊢ iprop(∃ X f, ⌜M.view.read (Elt F) f = X⌝ ∗ at_ c M f) := by
  iintro H
  iexists (M.view.read (Elt F) f); iexists f; isplitr
  · ipureintro; exact Eq.refl (M.view.read (Elt F) f)
  iexact H

/-- The operands a point reads, each held at what it reads. -/
abbrev ins (c : Dev nD) (arg1 : Memref sig .tc .vmem S4x512x256 .bf16) (arg2 : Memref sig .tc .vmem S4x512x128 .bf16) (arg3 arg4 : Memref sig .tc .vmem S1x1x2048 .f32)
    (arg5 : Memref sig .tc .vmem S4096x256 .bf16) (arg6 : Memref sig .tc .vmem S8x256x512 .bf16) (x : Inp F) : sProp 𝕄 :=
  iprop(owns (c : Thread nD τ) arg1 fullShare x.q ∗ owns (c : Thread nD τ) arg2 fullShare x.d ∗ owns (c : Thread nD τ) arg3 fullShare x.lse
    ∗ owns (c : Thread nD τ) arg4 fullShare x.del ∗ owns (c : Thread nD τ) arg5 fullShare x.k ∗ owns (c : Thread nD τ) arg6 fullShare x.kt)

/-- A point that is neither the first nor the last. -/
theorem body_mid (c : Dev nD) (i : grid0.Coords) (arg1 : Memref sig .tc .vmem S4x512x256 .bf16) (harg1 : arg1.IsWhole) (arg2 : Memref sig .tc .vmem S4x512x128 .bf16) (harg2 : arg2.IsWhole) (arg3 : Memref sig .tc .vmem S1x1x2048 .f32) (harg3 : arg3.IsWhole) (arg4 : Memref sig .tc .vmem S1x1x2048 .f32) (harg4 : arg4.IsWhole)
    (arg5 : Memref sig .tc .vmem S4096x256 .bf16) (harg5 : arg5.IsWhole) (arg6 : Memref sig .tc .vmem S8x256x512 .bf16) (harg6 : arg6.IsWhole) (arg7 : Memref sig .tc .vmem S1x256x2048 .f32) (harg7 : arg7.IsWhole) (arg8 : Memref sig .tc .vmem S4096x256 .f32) (harg8 : arg8.IsWhole)
    (arg9 : Memref sig .tc .vmem S256x2048 .f32) (harg9 : arg9.IsWhole) (arg10 : Memref sig .tc .vmem S4096x128 .f32) (harg10 : arg10.IsWhole)
    (x : Inp F) (dk : Vec F S4096x256 .f32) (dv : Vec F S4096x128 .f32)
    (hc1 : ¬ k0_cond1 i = 1#1) (hc2 : ¬ k0_cond2 i = 1#1) :
    (iprop(ins c arg1 arg2 arg3 arg4 arg5 arg6 x ∗ (∃ X, owns (c : Thread nD τ) arg7 fullShare X) ∗ owns (c : Thread nD τ) arg8 fullShare dk
      ∗ (∃ X, owns (c : Thread nD τ) arg9 fullShare X) ∗ owns (c : Thread nD τ) arg10 fullShare dv) : sProp 𝕄)
    ⊢ wp frame (wpE (defs₀ (F := F)) Variants.none (c : Thread nD τ) none) Set.univ (cc0_attention_bwd i arg1 harg1 arg2 harg2 arg3 harg3 arg4 harg4 arg5 harg5 arg6 harg6 arg7 harg7 arg8 harg8 arg9 harg9 arg10 harg10)
        (fun _ => iprop(ins c arg1 arg2 arg3 arg4 arg5 arg6 x ∗ owns (c : Thread nD τ) arg7 fullShare (k0_pay2 (point x (blk i) dk dv).dq)
          ∗ owns (c : Thread nD τ) arg8 fullShare ((point x (blk i) dk dv).dk)
          ∗ (∃ X, owns (c : Thread nD τ) arg9 fullShare X) ∗ owns (c : Thread nD τ) arg10 fullShare (point x (blk i) dk dv).dv)) := by
  obtain ⟨xq, xd, xl, xe, xk, xt⟩ := x
  unfold ins owns
  iintro ⟨⟨⟨%f1, %h1, H1⟩, ⟨%f2, %h2, H2⟩, ⟨%f3, %h3, H3⟩, ⟨%f4, %h4, H4⟩, ⟨%f5, %h5, H5⟩, ⟨%f6, %h6, H6⟩⟩, ⟨%X7, %f7, %h7, H7⟩, ⟨%f8, %h8, H8⟩, ⟨%X9, %f9, %h9, H9⟩, ⟨%f10, %h10, H10⟩⟩
  dsimp only at h1 h2 h3 h4 h5 h6
  subst h1 h2 h3 h4 h5 h6 h8 h10
  sl_exec
  sl_step
  isplitl [H1 H2 H3 H4 H5 H6]
  · isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    iexists f6; isplitr; · ipureintro; rfl
    iexact H6
  isplitl [H7]
  · iexists _; isplitr
    rotate_left
    · iexact H7
    ipureintro
    unfold body_mid.sl.v75 body_mid.sl.H9_1_1
    rw [View.read_writes_full, View.readCov_full]
    unfold body_mid.sl.r_6 body_mid.sl.r_1 body_mid.sl.r_2 body_mid.sl.r_3 body_mid.sl.r_4 body_mid.sl.r_5 body_mid.sl.v66
    rw [View.readAt_full arg9.view, carry_read harg9 _ _ rfl, View.readAt_unit arg5.view _ _ (off9_eq i) (inb256 (blk i)),
      View.readAt_unit arg6.view _ _ (off11_eq i) (inbT (blk i)), trips2', read_write_full, View.readAt_full arg1.view, View.readAt_full arg2.view, View.readAt_full arg3.view, View.readAt_full arg4.view]
    rfl
  isplitl [H8]
  · iexists _; isplitr
    rotate_left
    · iexact H8
    ipureintro
    unfold body_mid.sl.v60 body_mid.sl.r body_mid.sl.r_1 body_mid.sl.r_2 body_mid.sl.r_3 body_mid.sl.r_4 body_mid.sl.r_5
    rw [View.read_writes_cons_put _ _ _ _ _ (off9_eq i), View.writes_nil,
      View.readAt_unit arg5.view _ _ (off9_eq i) (inb256 (blk i)), View.readAt_unit arg8.view _ _ (off9_eq i) (inb256 (blk i)),
      carry_read harg8 _ _ rfl, trips2', read_write_full, View.readAt_full arg1.view, View.readAt_full arg2.view, View.readAt_full arg3.view, View.readAt_full arg4.view]
    rfl
  isplitl [H9]
  · iapply any_of c arg9
    iexact H9
  iexists _; isplitr
  rotate_left
  · iexact H10
  ipureintro
  unfold body_mid.sl.v45 body_mid.sl.r_1 body_mid.sl.r_2 body_mid.sl.r_5
  rw [View.read_writes_cons_put _ _ _ _ _ (off10_eq i), View.writes_nil,
    View.readAt_unit arg5.view _ _ (off9_eq i) (inb256 (blk i)), View.readAt_unit arg10.view _ _ (off10_eq i) (inb128 (blk i)),
    carry_read harg10 _ _ rfl, trips2', read_write_full, View.readAt_full arg1.view, View.readAt_full arg2.view, View.readAt_full arg3.view, View.readAt_full arg4.view]
  rfl

end Cert.Attn

end
-- ==== Proof.BodyFirst.lean ====
/-
  One grid point of the kernel, run: from the operands it reads, the key and value gradients it finds and anything in
  the rest, it leaves what `point` says.  Three cases: the first point zeroes the gradients it would find, the last
  one closes the key gradient, the others do neither.
-/
module

public import proofs.«01_k».proof.Proof.Body
public import Idealize.ShloMosaic.Lib.LoopRemainder

@[expose] public section

set_option maxRecDepth 8192
set_option maxHeartbeats 8000000

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the launch's frame. -/
local notation "𝕄" => MT nD τ sig Unit (Elt F) ℕ (UR sig nD τ) ℕ

/-- The first point: the gradients it finds do not matter, it zeroes them. -/
theorem body_first (c : Dev nD) (i : grid0.Coords) (arg1 : Memref sig .tc .vmem S4x512x256 .bf16) (harg1 : arg1.IsWhole) (arg2 : Memref sig .tc .vmem S4x512x128 .bf16) (harg2 : arg2.IsWhole) (arg3 : Memref sig .tc .vmem S1x1x2048 .f32) (harg3 : arg3.IsWhole) (arg4 : Memref sig .tc .vmem S1x1x2048 .f32) (harg4 : arg4.IsWhole)
    (arg5 : Memref sig .tc .vmem S4096x256 .bf16) (harg5 : arg5.IsWhole) (arg6 : Memref sig .tc .vmem S8x256x512 .bf16) (harg6 : arg6.IsWhole) (arg7 : Memref sig .tc .vmem S1x256x2048 .f32) (harg7 : arg7.IsWhole) (arg8 : Memref sig .tc .vmem S4096x256 .f32) (harg8 : arg8.IsWhole)
    (arg9 : Memref sig .tc .vmem S256x2048 .f32) (harg9 : arg9.IsWhole) (arg10 : Memref sig .tc .vmem S4096x128 .f32) (harg10 : arg10.IsWhole)
    (x : Inp F)
    (hc1 : k0_cond1 i = 1#1) (hc2 : ¬ k0_cond2 i = 1#1) :
    (iprop(ins c arg1 arg2 arg3 arg4 arg5 arg6 x ∗ (∃ X, owns (c : Thread nD τ) arg7 fullShare X) ∗ (∃ X, owns (c : Thread nD τ) arg8 fullShare X)
      ∗ (∃ X, owns (c : Thread nD τ) arg9 fullShare X) ∗ (∃ X, owns (c : Thread nD τ) arg10 fullShare X)) : sProp 𝕄)
    ⊢ wp frame (wpE (defs₀ (F := F)) Variants.none (c : Thread nD τ) none) Set.univ (cc0_attention_bwd i arg1 harg1 arg2 harg2 arg3 harg3 arg4 harg4 arg5 harg5 arg6 harg6 arg7 harg7 arg8 harg8 arg9 harg9 arg10 harg10)
        (fun _ => iprop(ins c arg1 arg2 arg3 arg4 arg5 arg6 x ∗ owns (c : Thread nD τ) arg7 fullShare (k0_pay2 (point x (blk i) zero256 zero128).dq)
          ∗ owns (c : Thread nD τ) arg8 fullShare ((point x (blk i) zero256 zero128).dk)
          ∗ (∃ X, owns (c : Thread nD τ) arg9 fullShare X) ∗ owns (c : Thread nD τ) arg10 fullShare (point x (blk i) zero256 zero128).dv)) := by
  obtain ⟨xq, xd, xl, xe, xk, xt⟩ := x
  unfold ins owns
  iintro ⟨⟨⟨%f1, %h1, H1⟩, ⟨%f2, %h2, H2⟩, ⟨%f3, %h3, H3⟩, ⟨%f4, %h4, H4⟩, ⟨%f5, %h5, H5⟩, ⟨%f6, %h6, H6⟩⟩, ⟨%X7, %f7, %h7, H7⟩, ⟨%X8, %f8, %h8, H8⟩, ⟨%X9, %f9, %h9, H9⟩, ⟨%X10, %f10, %h10, H10⟩⟩
  dsimp only at h1 h2 h3 h4 h5 h6
  subst h1 h2 h3 h4 h5 h6
  have z8 : Zeroed (F := F) (arg8.view.read (Elt F) f8) 0 := fun y h => (Nat.not_lt_zero _ h).elim
  have z10 : Zeroed (F := F) (arg10.view.read (Elt F) f10) 0 := fun y h => (Nat.not_lt_zero _ h).elim
  sl_exec
  have e8 : arg8.view.read (Elt F) fL0 = zero256 := by
    funext y
    exact (show Zeroed (arg8.view.read (Elt F) fL0) 8 from ‹Zeroed (arg8.view.read (Elt F) fL0) _›) y (y 0).isLt
  have e10 : arg10.view.read (Elt F) fL1 = zero128 := by
    funext y
    exact (show Zeroed (arg10.view.read (Elt F) fL1) 8 from ‹Zeroed (arg10.view.read (Elt F) fL1) _›) y (y 0).isLt
  rw [← e8, ← e10]
  sl_step
  isplitl [H1 H2 H3 H4 H5 H6]
  · isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    iexists f6; isplitr; · ipureintro; rfl
    iexact H6
  isplitl [H7]
  · iexists _; isplitr
    rotate_left
    · iexact H7
    ipureintro
    unfold body_first.sl.v75 body_first.sl.H9_1_1
    rw [View.read_writes_full, View.readCov_full]
    unfold body_first.sl.r_6 body_first.sl.r_1 body_first.sl.r_2 body_first.sl.r_3 body_first.sl.r_4 body_first.sl.r_5 body_first.sl.v66
    rw [View.readAt_full arg9.view, carry_read harg9 _ _ rfl, View.readAt_unit arg5.view _ _ (off9_eq i) (inb256 (blk i)),
      View.readAt_unit arg6.view _ _ (off11_eq i) (inbT (blk i)), trips2', read_write_full, View.readAt_full arg1.view, View.readAt_full arg2.view, View.readAt_full arg3.view, View.readAt_full arg4.view]
    rfl
  isplitl [H8]
  · iexists _; isplitr
    rotate_left
    · iexact H8
    ipureintro
    unfold body_first.sl.v60 body_first.sl.r body_first.sl.r_1 body_first.sl.r_2 body_first.sl.r_3 body_first.sl.r_4 body_first.sl.r_5
    rw [View.read_writes_cons_put _ _ _ _ _ (off9_eq i), View.writes_nil,
      View.readAt_unit arg5.view _ _ (off9_eq i) (inb256 (blk i)), View.readAt_unit arg8.view _ _ (off9_eq i) (inb256 (blk i)),
      carry_read harg8 _ _ rfl, trips2', read_write_full, View.readAt_full arg1.view, View.readAt_full arg2.view, View.readAt_full arg3.view, View.readAt_full arg4.view]
    rfl
  isplitl [H9]
  · iapply any_of c arg9
    iexact H9
  iexists _; isplitr
  rotate_left
  · iexact H10
  ipureintro
  unfold body_first.sl.v45 body_first.sl.r_1 body_first.sl.r_2 body_first.sl.r_5
  rw [View.read_writes_cons_put _ _ _ _ _ (off10_eq i), View.writes_nil,
    View.readAt_unit arg5.view _ _ (off9_eq i) (inb256 (blk i)), View.readAt_unit arg10.view _ _ (off10_eq i) (inb128 (blk i)),
    carry_read harg10 _ _ rfl, trips2', read_write_full, View.readAt_full arg1.view, View.readAt_full arg2.view, View.readAt_full arg3.view, View.readAt_full arg4.view]
  rfl

end Cert.Attn

end
-- ==== Proof.BodyLast.lean ====
/-
  One grid point of the kernel, run: from the operands it reads, the key and value gradients it finds and anything in
  the rest, it leaves what `point` says.  Three cases: the first point zeroes the gradients it would find, the last
  one closes the key gradient, the others do neither.
-/
module

public import proofs.«01_k».proof.Proof.Body
public import Idealize.ShloMosaic.Lib.LoopRemainder

@[expose] public section

set_option maxRecDepth 8192
set_option maxHeartbeats 8000000

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the launch's frame. -/
local notation "𝕄" => MT nD τ sig Unit (Elt F) ℕ (UR sig nD τ) ℕ

/-- The trips of the closing loop, spelled by its bounds. -/
theorem trips4' : Scf.trips k0_t4_loop.lb k0_t4_loop.ub k0_t4_loop.st = 8 := trips4

theorem closes_congr {dv dv' : Vec F S4096x128 .f32} {dk dk' : Vec F S4096x256 .f32} (h : dv = dv') (h' : dk = dk') :
    closes dv dk 8 = closes dv' dk' 8 := by
  rw [h, h']

/-- The last point: it closes the key gradient. -/
theorem body_last (c : Dev nD) (i : grid0.Coords) (arg1 : Memref sig .tc .vmem S4x512x256 .bf16) (harg1 : arg1.IsWhole) (arg2 : Memref sig .tc .vmem S4x512x128 .bf16) (harg2 : arg2.IsWhole) (arg3 : Memref sig .tc .vmem S1x1x2048 .f32) (harg3 : arg3.IsWhole) (arg4 : Memref sig .tc .vmem S1x1x2048 .f32) (harg4 : arg4.IsWhole)
    (arg5 : Memref sig .tc .vmem S4096x256 .bf16) (harg5 : arg5.IsWhole) (arg6 : Memref sig .tc .vmem S8x256x512 .bf16) (harg6 : arg6.IsWhole) (arg7 : Memref sig .tc .vmem S1x256x2048 .f32) (harg7 : arg7.IsWhole) (arg8 : Memref sig .tc .vmem S4096x256 .f32) (harg8 : arg8.IsWhole)
    (arg9 : Memref sig .tc .vmem S256x2048 .f32) (harg9 : arg9.IsWhole) (arg10 : Memref sig .tc .vmem S4096x128 .f32) (harg10 : arg10.IsWhole)
    (x : Inp F) (dk : Vec F S4096x256 .f32) (dv : Vec F S4096x128 .f32)
    (hc1 : ¬ k0_cond1 i = 1#1) (hc2 : k0_cond2 i = 1#1) :
    (iprop(ins c arg1 arg2 arg3 arg4 arg5 arg6 x ∗ (∃ X, owns (c : Thread nD τ) arg7 fullShare X) ∗ owns (c : Thread nD τ) arg8 fullShare dk
      ∗ (∃ X, owns (c : Thread nD τ) arg9 fullShare X) ∗ owns (c : Thread nD τ) arg10 fullShare dv) : sProp 𝕄)
    ⊢ wp frame (wpE (defs₀ (F := F)) Variants.none (c : Thread nD τ) none) Set.univ (cc0_attention_bwd i arg1 harg1 arg2 harg2 arg3 harg3 arg4 harg4 arg5 harg5 arg6 harg6 arg7 harg7 arg8 harg8 arg9 harg9 arg10 harg10)
        (fun _ => iprop(ins c arg1 arg2 arg3 arg4 arg5 arg6 x ∗ owns (c : Thread nD τ) arg7 fullShare (k0_pay2 (point x (blk i) dk dv).dq)
          ∗ owns (c : Thread nD τ) arg8 fullShare (closes (point x (blk i) dk dv).dv ((point x (blk i) dk dv).dk) 8)
          ∗ (∃ X, owns (c : Thread nD τ) arg9 fullShare X) ∗ owns (c : Thread nD τ) arg10 fullShare (point x (blk i) dk dv).dv)) := by
  obtain ⟨xq, xd, xl, xe, xk, xt⟩ := x
  unfold ins owns
  iintro ⟨⟨⟨%f1, %h1, H1⟩, ⟨%f2, %h2, H2⟩, ⟨%f3, %h3, H3⟩, ⟨%f4, %h4, H4⟩, ⟨%f5, %h5, H5⟩, ⟨%f6, %h6, H6⟩⟩, ⟨%X7, %f7, %h7, H7⟩, ⟨%f8, %h8, H8⟩, ⟨%X9, %f9, %h9, H9⟩, ⟨%f10, %h10, H10⟩⟩
  dsimp only at h1 h2 h3 h4 h5 h6
  subst h1 h2 h3 h4 h5 h6 h8 h10
  sl_exec
  sl_step
  isplitl [H1 H2 H3 H4 H5 H6]
  · isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    iexists f6; isplitr; · ipureintro; rfl
    iexact H6
  isplitl [H7]
  · iexists _; isplitr
    rotate_left
    · iexact H7
    ipureintro
    unfold body_last.sl.H7_1 body_last.sl.v75 body_last.sl.H9_1_1
    rw [View.read_writes_full, View.readCov_full]
    unfold body_last.sl.r_6 body_last.sl.r_1 body_last.sl.r_2 body_last.sl.r_3 body_last.sl.r_4 body_last.sl.r_5 body_last.sl.v66
    rw [View.readAt_full arg9.view, carry_read harg9 _ _ rfl, View.readAt_unit arg5.view _ _ (off9_eq i) (inb256 (blk i)),
      View.readAt_unit arg6.view _ _ (off11_eq i) (inbT (blk i)), trips2', read_write_full, View.readAt_full arg1.view, View.readAt_full arg2.view, View.readAt_full arg3.view, View.readAt_full arg4.view]
    rfl
  isplitl [H8]
  · iexists _; isplitr
    rotate_left
    · iexact H8
    ipureintro
    rw [carry_read harg8 _ _ rfl, trips4']
    refine closes_congr ?_ ?_
    · unfold body_last.sl.v45 body_last.sl.r_1 body_last.sl.r_2 body_last.sl.r_5
      refine (View.read_writes_cons_put arg10.view _ _ _ [] (off10_eq i)).trans ?_
      rw [View.writes_nil,
        View.readAt_unit arg5.view _ _ (off9_eq i) (inb256 (blk i)), View.readAt_unit arg10.view _ _ (off10_eq i) (inb128 (blk i)),
        carry_read harg10 _ _ rfl, trips2', read_write_full, View.readAt_full arg1.view, View.readAt_full arg2.view, View.readAt_full arg3.view, View.readAt_full arg4.view]
      rfl
    · unfold body_last.sl.v60 body_last.sl.r body_last.sl.r_1 body_last.sl.r_2 body_last.sl.r_3 body_last.sl.r_4 body_last.sl.r_5
      refine (View.read_writes_cons_put arg8.view _ _ _ [] (off9_eq i)).trans ?_
      rw [View.writes_nil,
        View.readAt_unit arg5.view _ _ (off9_eq i) (inb256 (blk i)), View.readAt_unit arg8.view _ _ (off9_eq i) (inb256 (blk i)),
        carry_read harg8 _ _ rfl, trips2', read_write_full, View.readAt_full arg1.view, View.readAt_full arg2.view, View.readAt_full arg3.view, View.readAt_full arg4.view]
      rfl
  isplitl [H9]
  · iapply any_of c arg9
    iexact H9
  iexists _; isplitr
  rotate_left
  · iexact H10
  ipureintro
  unfold body_last.sl.v45 body_last.sl.r_1 body_last.sl.r_2 body_last.sl.r_5
  refine (View.read_writes_cons_put arg10.view _ _ _ [] (off10_eq i)).trans ?_
  rw [View.writes_nil,
    View.readAt_unit arg5.view _ _ (off9_eq i) (inb256 (blk i)), View.readAt_unit arg10.view _ _ (off10_eq i) (inb128 (blk i)),
    carry_read harg10 _ _ rfl, trips2', read_write_full, View.readAt_full arg1.view, View.readAt_full arg2.view, View.readAt_full arg3.view, View.readAt_full arg4.view]
  rfl

end Cert.Attn

end
-- ==== Proof.Run.lean ====
/-
  The launch: the grid's eight points one after the other, the key gradient carried in its result window and the value
  gradient in a scratch buffer.
-/
module

public import proofs.«01_k».proof.Proof.BodyFirst
public import proofs.«01_k».proof.Proof.BodyLast
public import proofs.«01_k».proof.Proof.Gen.KernelIdeal.Frame

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The resource algebra of the launch's frame. -/
local notation "𝕄" => MT nD τ sig Unit (Elt F) ℕ (UR sig nD τ) ℕ

variable (m : (ℓ : Loc nD τ sig) → Buf (Elt F) ℓ) (ρ : Dev nD → PrngReg)

/-! ### Points and blocks -/

/-- The block of queries of a point. -/
def pt (t : Fin cfg0.N) : Fin 8 := ⟨t.val, lt_of_lt_of_eq t.isLt N_0⟩

/-- The point of a block of queries. -/
def tm (i : Fin 8) : Fin cfg0.N := ⟨i.val, lt_of_lt_of_eq i.isLt N_0.symm⟩

theorem tm_pt (t : Fin cfg0.N) : tm (pt t) = t := rfl

theorem pt_tm (i : Fin 8) : pt (tm i) = i := rfl

theorem blk_coords (t : Fin cfg0.N) : blk (grid0.coords t) = pt t := by
  rcases fin_N0 t with h | h | h | h | h | h | h | h <;> subst h <;> decide

/-- The first condition holds at the first point. -/
theorem cond1_iff (t : Fin cfg0.N) : k0_cond1 (grid0.coords t) = 1#1 ↔ t.val = 0 := by
  rcases fin_N0 t with h | h | h | h | h | h | h | h <;> subst h <;> decide

/-- The second condition holds at the last point. -/
theorem cond2_iff (t : Fin cfg0.N) : k0_cond2 (grid0.coords t) = 1#1 ↔ t.val = 7 := by
  rcases fin_N0 t with h | h | h | h | h | h | h | h <;> subst h <;> decide

/-- What point `t` reads: its blocks of the six operands. -/
def inp (c : Dev nD) (t : Fin cfg0.N) : Inp F where
  q := iblk m c 0 t
  d := iblk m c 1 t
  lse := iblk m c 2 t
  del := iblk m c 3 t
  k := iblk m c 4 t
  kt := iblk m c 5 t

/-- What the points read, block by block. -/
def inps (c : Dev nD) (i : Fin 8) : Inp F := inp m c (tm i)

/-! ### The proof data -/

/-- The invariant before point `n`: the first scratch at anything, the second at the value gradient so far. -/
def inv (c : Dev nD) (n : ℕ) : sProp 𝕄 :=
  iprop(((∃ X, owns (c : Thread nD τ) (Memref.whole cc0_scratch0) fullShare X)
      ∗ (∃ X, ⌜n ≠ 0 → X = (grads (inps m c) n).2⌝ ∗ owns (c : Thread nD τ) (Memref.whole cc0_scratch1) fullShare X))
    ∗ (∃ r, prngReg c r))

/-- The proof data: arrays as the host lines leave them, operands' blocks left in place, the two results at what the points leave. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay2 (left (inps m c) (pt t)).dq
    | ⟨7, _⟩ => keyWin (inps m c) (pt t)
  Φ t := inv m c t.val
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = k0_pay2 (left (inps m c) (pt t)).dq := by dsimp only [dats]
theorem after_7 (c : Dev nD) (t : Fin cfg0.N) : (dats m 0 c).after 7 t = keyWin (inps m c) (pt t) := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d

/-- The key gradient's window before a point that is not the first: the key gradient so far. -/
theorem before_7 (c : Dev nD) (t : Fin cfg0.N) (ht : t.val ≠ 0) (d) : (dats m 0 c).before 7 t d = (grads (inps m c) t.val).1 := by
  have hN : t.val < 8 := lt_of_lt_of_eq t.isLt N_0
  rw [(dats m 0 c).before_out_kept 7 rfl t ht (by
    rw [← Bool.not_eq_true]
    intro h
    have := (flush0_7 _).mp h
    dsimp only at this
    omega) (fun _ => rfl) (fun _ _ => rfl) d, after_7]
  have e : t.val = (pt ⟨t.val - 1, Nat.lt_of_le_of_lt (Nat.sub_le _ _) t.isLt⟩).val + 1 := by
    show t.val = t.val - 1 + 1
    omega
  have g : ∀ n (i : Fin 8), n = i.val + 1 → (grads (inps m c) n).1 = (left (inps m c) i).dk := by
    intro n i h
    rw [h, grads_succ]
  rw [g _ _ e]
  unfold keyWin
  rw [if_neg (by omega)]

/-! ### The body obligation -/

/-- What the pipeline hands the body at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What the body hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- One point as the body's three cases leave it, stated once: from what the point finds (`dk`, `dv` where it is not the
    first) to `left`. -/
theorem body_at (c : Dev nD) (t : Fin cfg0.N) (dk : Vec F S4096x256 .f32) (dv : Vec F S4096x128 .f32)
    (hk : t.val ≠ 0 → dk = (grads (inps m c) t.val).1) (hv : t.val ≠ 0 → dv = (grads (inps m c) t.val).2) :
    (iprop(ins c (st0_0 t) (st0_1 t) (st0_2 t) (st0_3 t) (st0_4 t) (st0_5 t) (inp m c t)
        ∗ (∃ X, owns (c : Thread nD τ) (st0_6 t) fullShare X) ∗ owns (c : Thread nD τ) (st0_7 t) fullShare dk
        ∗ (∃ X, owns (c : Thread nD τ) (Memref.whole cc0_scratch0) fullShare X)
        ∗ owns (c : Thread nD τ) (Memref.whole cc0_scratch1) fullShare dv) : sProp 𝕄)
      ⊢ wp frame (wpE (defs₀ (F := F)) Variants.none (c : Thread nD τ) none) Set.univ (bodyAt0 t)
          (fun _ => iprop(ins c (st0_0 t) (st0_1 t) (st0_2 t) (st0_3 t) (st0_4 t) (st0_5 t) (inp m c t)
            ∗ owns (c : Thread nD τ) (st0_6 t) fullShare (k0_pay2 (left (inps m c) (pt t)).dq)
            ∗ owns (c : Thread nD τ) (st0_7 t) fullShare (keyWin (inps m c) (pt t))
            ∗ (∃ X, owns (c : Thread nD τ) (Memref.whole cc0_scratch0) fullShare X)
            ∗ owns (c : Thread nD τ) (Memref.whole cc0_scratch1) fullShare (left (inps m c) (pt t)).dv)) := by
  have hb := blk_coords t
  have hpt : (pt t).val = t.val := rfl
  by_cases h0 : t.val = 0
  · have h7 : (pt t).val ≠ 7 := by omega
    have hl : left (inps m c) (pt t) = point (inp m c t) (blk (grid0.coords t)) zero256 zero128 := by
      unfold left; rw [hpt, h0, hb]; rfl
    have hw : keyWin (inps m c) (pt t) = (left (inps m c) (pt t)).dk := by unfold keyWin; rw [if_neg h7]
    rw [hw, hl]
    refine triple_restated (body_first c (grid0.coords t) _ _ _ _ _ _ _ _ _ _ _ _ _ _ _ _ _ _ _ _ (inp m c t)
      ((cond1_iff t).mpr h0) (fun h => by have := (cond2_iff t).mp h; omega)) rfl ?_ fun _ => .rfl
    iintro ⟨Hi, H6, H7, H8, H9⟩
    isplitl [Hi]; · iexact Hi
    isplitl [H6]; · iexact H6
    isplitl [H7]; · iexists _; iexact H7
    isplitl [H8]; · iexact H8
    iexists _; iexact H9
  · have hl : left (inps m c) (pt t) = point (inp m c t) (blk (grid0.coords t)) dk dv := by
      unfold left; rw [hpt, ← hk h0, ← hv h0, hb]; rfl
    by_cases h7 : t.val = 7
    · have hw : keyWin (inps m c) (pt t) = closes (left (inps m c) (pt t)).dv (left (inps m c) (pt t)).dk 8 := by
        unfold keyWin; rw [if_pos (hpt.trans h7)]
      rw [hw, hl]
      exact body_last c (grid0.coords t) _ _ _ _ _ _ _ _ _ _ _ _ _ _ _ _ _ _ _ _ (inp m c t) dk dv
        (fun h => h0 ((cond1_iff t).mp h)) ((cond2_iff t).mpr h7)
    · have hw : keyWin (inps m c) (pt t) = (left (inps m c) (pt t)).dk := by
        unfold keyWin; rw [if_neg (fun h => h7 (hpt.symm.trans h))]
      rw [hw, hl]
      exact body_mid c (grid0.coords t) _ _ _ _ _ _ _ _ _ _ _ _ _ _ _ _ _ _ _ _ (inp m c t) dk dv
        (fun h => h0 ((cond1_iff t).mp h)) (fun h => h7 ((cond2_iff t).mp h))

set_option maxHeartbeats 4000000 in
/-- The body at any point. -/
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost
  simp only [before_0, before_1, before_2, before_3, before_4, before_5]
  rw [show (dats m 0 c).Φ t.succ = inv m c (t.val + 1) from rfl, show (dats m 0 c).Φ t.castSucc = inv m c t.val from rfl,
    show (dats m 0 c).owesAt () t.succ = (dats m 0 c).owesAt () t.castSucc from rfl,
    after_0, after_1, after_2, after_3, after_4, after_5, after_6, after_7]
  have hg : (grads (inps m c) (t.val + 1)).2 = (left (inps m c) (pt t)).dv := by
    rw [show t.val + 1 = (pt t).val + 1 from rfl, grads_succ]
  unfold inv
  rw [hg]
  iintro ⟨⟨⟨HS0, ⟨%dv, %hv, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have key := body_at m c t ((dats m 0 c).before 7 t d7) dv (fun h => before_7 m c t h d7) hv
  iapply wp_wand_r Idealize.ShloMosaic.frame (wpE (defs₀ (F := F)) Variants.none (c : Thread nD τ) none) Set.univ
  isplitl [H0 H1 H2 H3 H4 H5 H6 H7 HS0 HS1]
  · iapply key
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6]; · iexists _; iexact H6
    isplitl [H7]; · iexact H7
    isplitl [HS0]; · iexact HS0
    iexact HS1
  iintro %_ ⟨⟨H0, H1, H2, H3, H4, H5⟩, H6, H7, HS0, HS1⟩
  isplitl [HS0 HS1 Hg]
  · isplitl [HS0 HS1]
    · isplitl [HS0]; · iexact HS0
      iexists _; isplitr
      rotate_left
      · iexact HS1
      ipureintro
      exact fun _ => rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at a point is the body as `bodyAt0` spells it. -/
theorem defs₀_row (t : Fin cfg0.N) :
    (defs₀ (F := F)) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ### The run -/

theorem hin (c : Dev nD) : (Pipeline.ΦA spec0 c : sProp 𝕄) ⊢ (dats m 0 c).Φ 0 := by
  rw [show (dats m 0 c).Φ 0 = inv m c 0 from rfl]
  unfold Pipeline.ΦA inv
  rw [scopedRest0_eq]
  iintro ⟨⟨⟨%f0, H0⟩, ⟨%f1, H1⟩⟩, Hg⟩
  isplitr [Hg]
  · isplitl [H0]
    · iexists f0; rw [owns_whole]; iexact H0
    iexists f1; isplitr
    · ipureintro; exact fun h => absurd rfl h
    rw [owns_whole]; iexact H1
  iexact Hg

theorem hout (c : Dev nD) : (dats m 0 c).Φ (Fin.last cfg0.N) ⊢ (Pipeline.ΦA spec0 c : sProp 𝕄) := by
  rw [show (dats m 0 c).Φ (Fin.last cfg0.N) = inv m c (Fin.last cfg0.N).val from rfl]
  unfold Pipeline.ΦA inv
  rw [scopedRest0_eq]
  simp only [owns_whole]
  iintro ⟨⟨⟨%f0, H0⟩, ⟨%f1, %h1, H1⟩⟩, Hg⟩
  isplitr [Hg]
  · isplitl [H0]
    · iexists f0; iexact H0
    iexists f1; iexact H1
  iexact Hg

/-- From any memory with zero counters every weakly fair execution terminates, and every final state has the result
    arrays at what the points left, every other array at what the host lines before the call left, and every counter
    at zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hin := hin m) (hout := hout m)

end Cert.Attn

end
-- ==== Proof.FrameK.lean ====
/- The frame of the kernel on float words, from the run that Proof/Run.lean makes over any float values. -/
module

public import proofs.«01_k».proof.Defs
public import proofs.«01_k».proof.Proof.Gen.Kernel
public import proofs.«01_k».proof.Proof.Run

@[expose] public section

noncomputable section

namespace Cert.Attn

open Idealize.ShloMosaic Idealize.ShloMosaic.TcCoe Idealize.SL.Sem

section
open Cert.KernelIdeal Cert.KernelIdeal.Gen

/-- From every memory the kernel, over the float values `F`, terminates without a fault, its argument arrays end as
    they began, and every counter ends at zero. -/
def FrameOver (F : FTy → Type) [FloatOps F] : Prop :=
  ∀ (m : (ℓ : Loc nD τ sig) → Buf (Elt F) ℓ) (ρ : Dev nD → PrngReg), True →
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)

theorem frame_over (F : FTy → Type) [FloatOps F] : FrameOver F := fun m ρ _ =>
  (θ_run defs _ _).mono (fun r (h : _ ∧ _) => ⟨fun c =>
    ⟨((h.1 c).2 main_arg0 (Pipeline.mem_restRefs_of main_arg0 (by decide) (by decide))).trans (V_main_arg0 m c),
     ((h.1 c).2 main_arg1 (Pipeline.mem_restRefs_of main_arg1 (by decide) (by decide))).trans (V_main_arg1 m c),
     ((h.1 c).2 main_arg2 (Pipeline.mem_restRefs_of main_arg2 (by decide) (by decide))).trans (V_main_arg2 m c)⟩, h.2⟩)
    (Attn.run_main m ρ)

end

/-- The claim on float words says what `FrameOver Bits` says: the two programs have one text. -/
theorem frame_eq : Cert.quiescent_Kernel (hKernel := Cert.Kernel.Gen.facts) = FrameOver Bits := by
  sl_kernel_rfl

end Cert.Attn

end
-- ==== Proof.Nums.lean ====
/-
  The gradient of the chunk-causal attention as a function of real numbers: queries `q`, keys `k` (whose first 128
  columns are the values), the output's gradient `d`, and the scale.
-/
module

public import Idealize.ShloMosaic.PureOps.Ideal.Laws
public import Idealize.ShloMosaic.Lib.Pointwise

@[expose] public section

noncomputable section

namespace Cert.Attn

open Idealize.ShloMosaic

/-! ### The chunks -/

/-- A word's quotient by 64, rounded toward −∞, as the host computes it. -/
def chunkWord (x : BitVec 32) : BitVec 32 :=
  Scalar.select
    (IntOp.andi
      (IntOp.cmpi .ne (if x = 0 then (0 : BitVec 32) else if x.msb = true then -1 else 1)
        (if 64#32 = 0 then (0 : BitVec 32) else if BitVec.msb 64#32 = true then -1 else 1))
      (IntOp.cmpi .ne (IntOp.remsi .host x 64#32) 0#32))
    (IntOp.subi (IntOp.divsi .host x 64#32) 1#32) (IntOp.divsi .host x 64#32)

theorem chunkWord_eq : ∀ r : Fin 4096, chunkWord (BitVec.ofNat 32 r.val) = BitVec.ofNat 32 (r.val / 64) := by decide +kernel

theorem chunkWord_le : ∀ a b : Fin 64,
    IntOp.cmpi .sle (BitVec.ofNat 32 a.val) (BitVec.ofNat 32 b.val) = BitVec.ofBool (decide (a.val ≤ b.val)) := by decide +kernel

/-! ### The numbers -/

/-- The real numbers that the arguments hold. -/
structure Nums where
  q : Fin 4 → Fin 4096 → Fin 256 → ℝ
  k : Fin 4096 → Fin 256 → ℝ
  d : Fin 4 → Fin 4096 → Fin 128 → ℝ

/-- Query `r` sees key `j`: the key's chunk of 64 is not a later one. -/
def Sees (r j : Fin 4096) : Prop := j.val / 64 ≤ r.val / 64

instance (r j : Fin 4096) : Decidable (Sees r j) := inferInstanceAs (Decidable (_ ≤ _))

/-- The scale, as the number that its word is. -/
def scale : ℝ := (Ideal.ofBits .f32 0x3D93CD3A#32).toReal

/-- A column of the values, as a column of the keys. -/
def valCol (c : Fin 128) : Fin 256 := ⟨c.val, by omega⟩

namespace Nums
variable (X : Nums)

/-- The scaled score of query `r` of head `h` against key `j`. -/
def score (h : Fin 4) (r j : Fin 4096) : ℝ := (∑ c, X.q h r c * X.k j c) * scale

/-- The score under the mask. -/
def masked (h : Fin 4) (r j : Fin 4096) : EReal := if Sees r j then (X.score h r j : EReal) else ⊥

/-- The largest of a row's scores. -/
def top (h : Fin 4) (r : Fin 4096) : ℝ := (Finset.univ.fold max ⊥ (fun j => X.masked h r j)).toReal

/-- The weight of key `j` before the division by the row's sum. -/
def wt (h : Fin 4) (r j : Fin 4096) : ℝ := if Sees r j then Real.exp (X.score h r j - X.top h r) else 0

/-- The row's sum of weights. -/
def tot (h : Fin 4) (r : Fin 4096) : ℝ := ∑ j, X.wt h r j

/-- The probability of key `j`. -/
def prob (h : Fin 4) (r j : Fin 4096) : ℝ := X.wt h r j / X.tot h r

/-- The gradient of that probability. -/
def dprob (h : Fin 4) (r j : Fin 4096) : ℝ := ∑ c, X.d h r c * X.k j (valCol c)

/-- The row's mean of it. -/
def mean (h : Fin 4) (r : Fin 4096) : ℝ := ∑ j, X.prob h r j * X.dprob h r j

/-- The gradient of the score. -/
def dscore (h : Fin 4) (r j : Fin 4096) : ℝ := X.prob h r j * (X.dprob h r j - X.mean h r)

/-- The gradient of the scaled query. -/
def dquery (h : Fin 4) (r : Fin 4096) (c : Fin 256) : ℝ := ∑ j, X.dscore h r j * X.k j c

/-- What a column of the key's gradient takes from the values. -/
def dvalue (j : Fin 4096) (c : Fin 256) : ℝ :=
  if hc : c.val < 128 then ∑ h, ∑ r, X.prob h r j * X.d h r ⟨c.val, hc⟩ else 0

/-- The gradient of the keys, that of the values included. -/
def dkey (j : Fin 4096) (c : Fin 256) : ℝ := (∑ h, ∑ r, X.dscore h r j * X.q h r c) * scale + X.dvalue j c

/-- The queries as the array that the programs take. -/
def qArr : (⟨3, ![4, 4096, 256]⟩ : Shape).Idx → EReal := fun i => (X.q (i 0) (i 1) (i 2) : EReal)
/-- The keys as the array that the programs take. -/
def kArr : (⟨2, ![4096, 256]⟩ : Shape).Idx → EReal := fun i => (X.k (i 0) (i 1) : EReal)
/-- The output's gradient as the array that the programs take. -/
def dArr : (⟨3, ![4, 4096, 128]⟩ : Shape).Idx → EReal := fun i => (X.d (i 0) (i 1) (i 2) : EReal)

end Nums

/-! ### Real numbers among the extended ones -/

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem div_real (a : ℝ) {b : ℝ} (hb : b ≠ 0) : Ideal.div (a : EReal) (b : EReal) = ((a / b : ℝ) : EReal) := by
  rw [Ideal.div_coe hb, ← EReal.coe_mul, mul_one_div]

theorem log_real {a : ℝ} (ha : 0 < a) : Ideal.log (a : EReal) = ((Real.log a : ℝ) : EReal) := by
  rw [Ideal.log_coe, if_neg (not_le.mpr ha)]

theorem scale_word : Ideal.ofBits .f32 0x3D93CD3A#32 = ((scale : ℝ) : EReal) := by
  have h : ∃ x : ℝ, Ideal.ofBits .f32 0x3D93CD3A#32 = (x : EReal) := by
    show ∃ x : ℝ, Ideal.ieee 8 23 0x3D93CD3A#32 = (x : EReal)
    unfold Ideal.ieee
    rw [if_neg (by decide), if_neg (by decide)]
    exact ⟨_, rfl⟩
  obtain ⟨x, hx⟩ := h
  rw [scale, hx, EReal.toReal_coe]

theorem negInf_word : Ideal.ofBits .f32 0xFF800000#32 = (⊥ : EReal) := by
  show Ideal.ieee 8 23 0xFF800000#32 = _
  unfold Ideal.ieee
  rw [if_pos (by decide), if_pos (by decide), if_pos (by decide)]

/-! ### The row's maximum and sum -/

theorem sees_self (r : Fin 4096) : Sees r r := le_refl _

namespace Nums
variable (X : Nums)

theorem top_eq (h : Fin 4) (r : Fin 4096) : Finset.univ.fold max ⊥ (fun j => X.masked h r j) = ((X.top h r : ℝ) : EReal) := by
  have key : Finset.univ.fold max ⊥ (fun j => X.masked h r j) ≠ ⊥ ∧ Finset.univ.fold max ⊥ (fun j => X.masked h r j) ≠ ⊤ := by
    constructor
    · intro hb
      have := (Finset.le_fold_max (b := (⊥ : EReal)) (s := Finset.univ) (f := fun j => X.masked h r j) (X.score h r r : EReal)).mpr
        (Or.inr ⟨r, Finset.mem_univ _, by simp [masked, sees_self]⟩)
      rw [hb] at this
      exact absurd (le_bot_iff.mp this) (EReal.coe_ne_bot _)
    · have : Finset.univ.fold max ⊥ (fun j => X.masked h r j) < ⊤ := by
        rw [Finset.fold_max_lt]
        refine ⟨bot_lt_top, fun j _ => ?_⟩
        unfold masked
        split
        · exact EReal.coe_lt_top _
        · exact bot_lt_top
      exact this.ne
  rw [top, EReal.coe_toReal key.2 key.1]

theorem wt_nonneg (h : Fin 4) (r j : Fin 4096) : 0 ≤ X.wt h r j := by
  unfold wt; split
  · exact (Real.exp_pos _).le
  · exact le_refl _

theorem tot_pos (h : Fin 4) (r : Fin 4096) : 0 < X.tot h r := by
  refine Finset.sum_pos' (fun j _ => X.wt_nonneg h r j) ⟨r, Finset.mem_univ _, ?_⟩
  rw [wt, if_pos (sees_self r)]
  exact Real.exp_pos _

/-- The weight is the exponential of the masked score less the maximum. -/
theorem exp_masked (h : Fin 4) (r j : Fin 4096) :
    Ideal.exp (X.masked h r j - ((X.top h r : ℝ) : EReal)) = ((X.wt h r j : ℝ) : EReal) := by
  unfold masked wt
  split
  · rw [← EReal.coe_sub, Ideal.exp_coe]
  · rw [EReal.bot_sub]; rfl

/-- The probability is the exponential of the score less the row's log-sum. -/
theorem exp_score_lse (h : Fin 4) (r j : Fin 4096) (hs : Sees r j) :
    Real.exp (X.score h r j - (X.top h r + Real.log (X.tot h r))) = X.prob h r j := by
  rw [← sub_sub, Real.exp_sub, Real.exp_log (X.tot_pos h r), prob, wt, if_pos hs]

theorem prob_unseen (h : Fin 4) (r j : Fin 4096) (hs : ¬ Sees r j) : X.prob h r j = 0 := by
  rw [prob, wt, if_neg hs, zero_div]

theorem dscore_unseen (h : Fin 4) (r j : Fin 4096) (hs : ¬ Sees r j) : X.dscore h r j = 0 := by
  rw [dscore, X.prob_unseen h r j hs, zero_mul]

end Nums

end Cert.Attn

end
-- ==== Proof.Host.lean ====
/- What the lines before the launch compute: the rows' log-sum-exps and deltas, and the keys' transpose by blocks. -/
module

public import proofs.«01_k».proof.Proof.Gen.KernelIdeal.Frame
public import proofs.«01_k».proof.Proof.Nums

@[expose] public section

noncomputable section

namespace Cert.Attn.Host

open Idealize.ShloMosaic Idealize.ShloMosaic.TcCoe Idealize.SL.Sem Idealize.ShloMosaic.StableHlo
open Cert.KernelIdeal Cert.KernelIdeal.Gen

variable {F : FTy → Type} [FloatOps F]

/-! ### The lines, in order -/

/-- The scaled scores. -/
def score (q : FVec F S4x4096x256 .f32) (k : FVec F S4096x256 .f32) : FVec F S4x4096x4096 .f32 :=
  mulf (Host.dotGeneral dot_S4x4096x256_S4096x256_S4x4096x4096_2_1_01_0_n_n none q k)
    (broadcastInDim S4x4096x4096 ![] bcast_S_S4x4096x4096 (constant S_ .f32 0x3D93CD3A#32))

/-- 64 at each row. -/
def word64 : IVec S4096 32 := broadcastInDim S4096 ![] bcast_S_S4096 (constantI S_ 32 64#32)

/-- The chunk that each row is in. -/
def chunk : IVec S4096 32 :=
  select
    (andi
      (cmpi .ne (signi (iotaInDim S4096 32 0)) (broadcastInDim S4096 ![] bcast_S_S4096 (signi (constantI S_ 32 64#32))))
      (cmpi .ne (Host.remsi (iotaInDim S4096 32 0) word64) (broadcastInDim S4096 ![] bcast_S_S4096 (constantI S_ 32 0#32))))
    (subi (Host.divsi (iotaInDim S4096 32 0) word64) (broadcastInDim S4096 ![] bcast_S_S4096 (constantI S_ 32 1#32)))
    (Host.divsi (iotaInDim S4096 32 0) word64)

/-- Which keys each query sees. -/
def sees : IVec S4x4096x4096 1 :=
  broadcastInDim S4x4096x4096 ![0, 1, 2] bcast_S1x4096x4096_S4x4096x4096_0_1_2
    (broadcastInDim S1x4096x4096 ![1, 2] bcast_S4096x4096_S1x4096x4096_1_2
      (cmpi .sle
        (broadcastInDim S4096x4096 ![0, 1] bcast_S1x4096_S4096x4096_0_1 (broadcastInDim S1x4096 ![1] bcast_S4096_S1x4096_1 chunk))
        (broadcastInDim S4096x4096 ![0, 1] bcast_S4096x1_S4096x4096_0_1 (broadcastInDim S4096x1 ![0] bcast_S4096_S4096x1_0 chunk))))

/-- The masked scores. -/
def masked (q : FVec F S4x4096x256 .f32) (k : FVec F S4096x256 .f32) : FVec F S4x4096x4096 .f32 :=
  select sees (score q k) (broadcastInDim S4x4096x4096 ![] bcast_S_S4x4096x4096 (constant S_ .f32 0xFF800000#32))

/-- The rows' maxima. -/
def top (q : FVec F S4x4096x256 .f32) (k : FVec F S4096x256 .f32) : FVec F S4x4096x1 .f32 :=
  broadcastInDim S4x4096x1 ![0, 1] bcast_S4x4096_S4x4096x1_0_1
    (Host.reduce FloatOps.maximumf (masked q k) (constant S_ .f32 0xFF800000#32) reducesTo_S4x4096x4096_S4x4096_d2 h_S_)

/-- The weights. -/
def weight (q : FVec F S4x4096x256 .f32) (k : FVec F S4096x256 .f32) : FVec F S4x4096x4096 .f32 :=
  Host.exp (subf (masked q k) (broadcastInDim S4x4096x4096 ![0, 1, 2] bcast_S4x4096x1_S4x4096x4096_0_1_2 (top q k)))

/-- The rows' sums. -/
def total (q : FVec F S4x4096x256 .f32) (k : FVec F S4096x256 .f32) : FVec F S4x4096x1 .f32 :=
  broadcastInDim S4x4096x1 ![0, 1] bcast_S4x4096_S4x4096x1_0_1
    (Host.reduceAdd (weight q k) (constant S_ .f32 0x00000000#32) reducesTo_S4x4096x4096_S4x4096_d2 h_S_)

/-- The rows' log-sum-exps. -/
def lse (q : FVec F S4x4096x256 .f32) (k : FVec F S4096x256 .f32) : FVec F S4x4096x1 .f32 :=
  addf (top q k) (Host.log (total q k))

/-- The attention's output. -/
def out (q : FVec F S4x4096x256 .f32) (k : FVec F S4096x256 .f32) : FVec F S4x4096x128 .f32 :=
  Host.divf
    (Host.dotGeneral dot_S4x4096x4096_S4096x128_S4x4096x128_2_0_01_1_n_n none (weight q k)
      (extractStridedSlice S4096x128 ![0, 0] k slices_S4096x256_S4096x128_0_0))
    (broadcastInDim S4x4096x128 ![0, 1, 2] bcast_S4x4096x1_S4x4096x128_0_1_2 (total q k))

/-- The rows' deltas. -/
def delta (q : FVec F S4x4096x256 .f32) (k : FVec F S4096x256 .f32) (d : FVec F S4x4096x128 .f32) : FVec F S4x4096 .f32 :=
  Host.reduceAdd (mulf d (out q k)) (constant S_ .f32 0x00000000#32) reducesTo_S4x4096x128_S4x4096_d2 h_S_

/-- Rows by blocks of 512, the heads side by side. -/
def byBlock (x : FVec F S4x8x512 .f32) : FVec F S8x1x2048 .f32 :=
  shapeCast S8x1x2048 (transpose S8x4x512 [1, 0, 2] x transposes_S4x8x512_S8x4x512_1_0_2) shapeCasts_S8x4x512_S8x1x2048

/-- The keys' transpose by blocks of 512. -/
def keysT (k : FVec F S4096x256 .f32) : FVec F S8x256x512 .bf16 :=
  transpose S8x256x512 [0, 2, 1]
    (shapeCast S8x512x256 (truncf .bf16 k bitsLt_bf16_f32 : FVec F S4096x256 .bf16) shapeCasts_S4096x256_S8x512x256)
    transposes_S8x512x256_S8x256x512_0_2_1

/-! ### The arrays the launch reads -/

variable (m : (ℓ : Loc nD τ sig) → Buf (Elt F) ℓ) (c : Dev nD)

/-- The queries. -/
abbrev argQ : FVec F S4x4096x256 .f32 := m ((c : Thread nD τ).loc main_arg0)
/-- The keys. -/
abbrev argK : FVec F S4096x256 .f32 := m ((c : Thread nD τ).loc main_arg1)
/-- The output's gradient. -/
abbrev argD : FVec F S4x4096x128 .f32 := m ((c : Thread nD τ).loc main_arg2)

theorem V_q : V m c main_v30 = truncf .bf16 (argQ m c) bitsLt_bf16_f32 := by
  simp only [V, hostOps0, hostOps0_1, hostOps0_2, hostOps0_3, hostOps0_4, List.flatten_cons, List.flatten_nil, List.append_nil,
    List.cons_append, List.nil_append, TRef.binary, TRef.nullary, TRef.ternary, TRef.unary, TRef.toBuf, TRef.ofBuf, cast_eq]
  after_results_simp <;> rfl

theorem V_k : V m c main_v31 = truncf .bf16 (argK m c) bitsLt_bf16_f32 := by
  simp only [V, hostOps0, hostOps0_1, hostOps0_2, hostOps0_3, hostOps0_4, List.flatten_cons, List.flatten_nil, List.append_nil,
    List.cons_append, List.nil_append, TRef.binary, TRef.nullary, TRef.ternary, TRef.unary, TRef.toBuf, TRef.ofBuf, cast_eq]
  after_results_simp <;> rfl

theorem V_d : V m c main_v32 = truncf .bf16 (argD m c) bitsLt_bf16_f32 := by
  simp only [V, hostOps0, hostOps0_1, hostOps0_2, hostOps0_3, hostOps0_4, List.flatten_cons, List.flatten_nil, List.append_nil,
    List.cons_append, List.nil_append, TRef.binary, TRef.nullary, TRef.ternary, TRef.unary, TRef.toBuf, TRef.ofBuf, cast_eq]
  after_results_simp <;> rfl

theorem V_kt : V m c main_v29 = keysT (argK m c) := by
  simp only [V, hostOps0, hostOps0_1, hostOps0_2, hostOps0_3, hostOps0_4, List.flatten_cons, List.flatten_nil, List.append_nil,
    List.cons_append, List.nil_append, TRef.binary, TRef.nullary, TRef.ternary, TRef.unary, TRef.toBuf, TRef.ofBuf, cast_eq]
  after_results_simp <;> rfl

theorem V_lse : V m c main_v35 = byBlock (shapeCast S4x8x512 (lse (argQ m c) (argK m c)) shapeCasts_S4x4096x1_S4x8x512) := by
  simp only [V, hostOps0, hostOps0_1, hostOps0_2, hostOps0_3, hostOps0_4, List.flatten_cons, List.flatten_nil, List.append_nil,
    List.cons_append, List.nil_append, TRef.binary, TRef.nullary, TRef.ternary, TRef.unary, TRef.toBuf, TRef.ofBuf, cast_eq]
  after_results_simp <;> rfl

theorem V_delta : V m c main_v38
    = byBlock (shapeCast S4x8x512 (delta (argQ m c) (argK m c) (argD m c)) shapeCasts_S4x4096_S4x8x512) := by
  simp only [V, hostOps0, hostOps0_1, hostOps0_2, hostOps0_3, hostOps0_4, List.flatten_cons, List.flatten_nil, List.append_nil,
    List.cons_append, List.nil_append, TRef.binary, TRef.nullary, TRef.ternary, TRef.unary, TRef.toBuf, TRef.ofBuf, cast_eq]
  after_results_simp <;> rfl

end Cert.Attn.Host

end
-- ==== Proof.HostValue.lean ====
/- What the lines before the launch compute, of arguments that are real numbers. -/
module

public import proofs.«01_k».proof.Proof.Host

@[expose] public section

noncomputable section

namespace Cert.Attn.Host

open Idealize.ShloMosaic Cert.KernelIdeal Cert.KernelIdeal.Gen

/-! ### The mask -/

theorem chunk_apply (r : Fin 4096) : chunk (ix1 r) = BitVec.ofNat 32 (r.val / 64) := by
  pointwise [chunk, word64]
  exact chunkWord_eq r

theorem sees_apply (h : Fin 4) (r j : Fin 4096) : sees (ix3 h r j) = BitVec.ofBool (decide (Sees r j)) := by
  pointwise [sees]
  rw [chunk_apply, chunk_apply]
  exact chunkWord_le ⟨j.val / 64, by omega⟩ ⟨r.val / 64, by omega⟩

variable (X : Nums)

theorem score_apply (h : Fin 4) (r j : Fin 4096) : score (F := Ideal) X.qArr X.kArr (ix3 h r j) = ((X.score h r j : ℝ) : EReal) := by
  pointwise [score]
  rw [scale_word, Nums.score, EReal.coe_mul, coe_sum]
  rfl

theorem masked_apply (h : Fin 4) (r j : Fin 4096) : masked (F := Ideal) X.qArr X.kArr (ix3 h r j) = X.masked h r j := by
  pointwise [masked]
  rw [sees_apply, score_apply, Nums.masked]
  show Scalar.select _ _ (Ideal.ofBits .f32 0xFF800000#32) = _
  rw [negInf_word]
  by_cases hs : Sees r j
  · rw [if_pos hs, decide_eq_true hs]; rfl
  · rw [if_neg hs, decide_eq_false hs]; rfl

theorem top_apply (h : Fin 4) (r : Fin 4096) (z : Fin 1) : top (F := Ideal) X.qArr X.kArr (ix3 h r z) = ((X.top h r : ℝ) : EReal) := by
  pointwise [top]
  rw [negInf_word, ← X.top_eq]
  exact congrArg (fun f => Finset.fold max ⊥ f Finset.univ) (funext fun j => masked_apply X h r j)

theorem weight_apply (h : Fin 4) (r j : Fin 4096) : weight (F := Ideal) X.qArr X.kArr (ix3 h r j) = ((X.wt h r j : ℝ) : EReal) := by
  pointwise [weight]
  rw [masked_apply, top_apply]
  exact X.exp_masked h r j

theorem total_apply (h : Fin 4) (r : Fin 4096) (z : Fin 1) : total (F := Ideal) X.qArr X.kArr (ix3 h r z) = ((X.tot h r : ℝ) : EReal) := by
  pointwise [total]
  rw [Nums.tot, coe_sum]
  exact Finset.sum_congr rfl fun j _ => weight_apply X h r j

theorem lse_apply (h : Fin 4) (r : Fin 4096) (z : Fin 1) :
    lse (F := Ideal) X.qArr X.kArr (ix3 h r z) = ((X.top h r + Real.log (X.tot h r) : ℝ) : EReal) := by
  have e : ∀ (x y : FVec Ideal S4x4096x1 .f32) (i : S4x4096x1.Idx), addf x (Host.log y) i = x i + Ideal.log (y i) := fun _ _ _ => rfl
  rw [lse, e, top_apply, total_apply, EReal.coe_add]
  exact congrArg (_ + ·) (log_real (X.tot_pos h r))

theorem out_apply (h : Fin 4) (r : Fin 4096) (c : Fin 128) :
    out (F := Ideal) X.qArr X.kArr (ix3 h r c) = ((∑ j, X.prob h r j * X.k j (valCol c) : ℝ) : EReal) := by
  pointwise [out]
  have e : (∑ j, X.prob h r j * X.k j (valCol c) : ℝ) = (∑ j, X.wt h r j * X.k j (valCol c)) / X.tot h r := by
    rw [Finset.sum_div]
    refine Finset.sum_congr rfl fun j _ => ?_
    rw [Nums.prob, div_mul_eq_mul_div]
  rw [total_apply, e, ← div_real _ (X.tot_pos h r).ne', coe_sum]
  refine congrArg (fun y => Ideal.div y _) (Finset.sum_congr rfl fun j _ => ?_)
  rw [weight_apply, EReal.coe_mul]
  rfl

theorem delta_apply (h : Fin 4) (r : Fin 4096) :
    delta (F := Ideal) X.qArr X.kArr X.dArr (ix2 h r) = ((X.mean h r : ℝ) : EReal) := by
  pointwise [delta]
  have e : X.mean h r = ∑ c, X.d h r c * ∑ j, X.prob h r j * X.k j (valCol c) := by
    simp only [Nums.mean, Nums.dprob, Finset.mul_sum]
    rw [Finset.sum_comm]
    exact Finset.sum_congr rfl fun c _ => Finset.sum_congr rfl fun j _ => mul_left_comm _ _ _
  rw [e, coe_sum]
  refine Finset.sum_congr rfl fun c _ => ?_
  rw [out_apply, EReal.coe_mul]
  rfl

/-! ### By blocks -/

theorem byBlock_apply (x : FVec Ideal S4x8x512 .f32) (i : Fin 8) (h : Fin 4) (t : Fin 512) (z : Fin 2048) (hz : z.val = 512 * h.val + t.val)
    (o : Fin 1) : byBlock x (ix3 i o z) = x (ix3 h i t) := by
  pointwise [byBlock]
  have := t.isLt
  refine congrArg x ?_
  funext a
  match a with
  | ⟨0, _⟩ => exact Fin.ext (by show z.val / 512 = h.val; omega)
  | ⟨1, _⟩ => rfl
  | ⟨2, _⟩ => exact Fin.ext (by show z.val % 512 = t.val; omega)

theorem lse_block (i : Fin 8) (h : Fin 4) (t : Fin 512) (r : Fin 4096) (hr : r.val = 512 * i.val + t.val) :
    shapeCast S4x8x512 (lse (F := Ideal) X.qArr X.kArr) shapeCasts_S4x4096x1_S4x8x512 (ix3 h i t)
      = ((X.top h r + Real.log (X.tot h r) : ℝ) : EReal) := by
  rw [← lse_apply X h r 0]
  generalize lse (F := Ideal) X.qArr X.kArr = y
  pointwise
  refine congrArg y ?_
  funext a
  match a with
  | ⟨0, _⟩ => rfl
  | ⟨1, _⟩ => exact Fin.ext (by show i.val * 512 + t.val = r.val; omega)
  | ⟨2, _⟩ => rfl

theorem delta_block (i : Fin 8) (h : Fin 4) (t : Fin 512) (r : Fin 4096) (hr : r.val = 512 * i.val + t.val) :
    shapeCast S4x8x512 (delta (F := Ideal) X.qArr X.kArr X.dArr) shapeCasts_S4x4096_S4x8x512 (ix3 h i t) = ((X.mean h r : ℝ) : EReal) := by
  rw [← delta_apply X h r]
  generalize delta (F := Ideal) X.qArr X.kArr X.dArr = y
  pointwise
  refine congrArg y ?_
  funext a
  match a with
  | ⟨0, _⟩ => rfl
  | ⟨1, _⟩ => exact Fin.ext (by show i.val * 512 + t.val = r.val; omega)

theorem keysT_apply (i : Fin 8) (t : Fin 512) (r : Fin 4096) (hr : r.val = 512 * i.val + t.val) (c : Fin 256) :
    keysT (F := Ideal) X.kArr (ix3 i c t) = ((X.k r c : ℝ) : EReal) := by
  pointwise [keysT]
  have e : (⟨i.val * 512 + t.val, by omega⟩ : Fin 4096) = r := Fin.ext (by show i.val * 512 + t.val = r.val; omega)
  rw [e]
  rfl

end Cert.Attn.Host

end
-- ==== Proof.PayAt.lean ====
/- The kernel's values at one index. -/
module

public import proofs.«01_k».proof.Proof.Step
public import proofs.«01_k».proof.Proof.Nums

@[expose] public section

noncomputable section

namespace Cert.Attn

open Cert.KernelIdeal Cert.KernelIdeal.Gen
open Idealize.ShloMosaic

/-- The head that a column of a block of queries is of. -/
def hd (z : Fin 2048) : Fin 4 := ⟨z.val / 512, by omega⟩

/-- The query that a column of block `i` is of. -/
def row (i : Fin 8) (z : Fin 2048) : Fin 4096 := ⟨512 * i.val + z.val % 512, by omega⟩

/-- The key that a row of block `j` is of. -/
def kr (j : Fin 8) (a : Fin 512) : Fin 4096 := ⟨512 * j.val + a.val, by omega⟩

theorem pay20_apply (x : Vec Ideal S4x512x256 .bf16) (z : Fin 2048) (c : Fin 256) (t : Fin 512) (ht : t.val = z.val % 512) :
    k0_pay20 x (ix2 z c) = x (ix3 (hd z) t c) := by
  pointwise [k0_pay20]
  exact congrArg x (funext fun a => match a with
    | ⟨0, _⟩ => rfl
    | ⟨1, _⟩ => Fin.ext ht.symm
    | ⟨2, _⟩ => rfl)

theorem pay21_apply (x : Vec Ideal S4x512x128 .bf16) (z : Fin 2048) (c : Fin 128) (t : Fin 512) (ht : t.val = z.val % 512) :
    k0_pay21 x (ix2 z c) = x (ix3 (hd z) t c) := by
  pointwise [k0_pay21]
  exact congrArg x (funext fun a => match a with
    | ⟨0, _⟩ => rfl
    | ⟨1, _⟩ => Fin.ext ht.symm
    | ⟨2, _⟩ => rfl)

theorem pay22_apply (x : Vec Ideal S1x1x2048 .f32) (o : Fin 1) (z : Fin 2048) : k0_pay22 x (ix2 o z) = x (ix3 0 0 z) := by
  pointwise [k0_pay22]

theorem pay23_apply (x : Vec Ideal S1x1x2048 .f32) (o : Fin 1) (z : Fin 2048) : k0_pay23 x (ix2 o z) = x (ix3 0 0 z) := by
  pointwise [k0_pay23]

section
variable (v5 : FVec Ideal S2048x256 .bf16) (v8 : FVec Ideal S2048x128 .bf16) (v10 v12 : FVec Ideal S1x2048 .f32)
  (k : Vec Ideal S512x256 .bf16) (a : Fin 512) (z : Fin 2048)

theorem pay7_apply : k0_pay7 v5 v10 k (ix2 a z)
    = Ideal.exp ((∑ c : Fin 256, (k (ix2 a c) : EReal) * v5 (ix2 z c)) * Ideal.ofBits .f32 0x3D93CD3A#32 - v10 (ix2 0 z)) := by
  pointwise [k0_pay7, k0_pay6]

theorem pay9_apply : k0_pay9 v5 v8 v10 v12 k (ix2 a z)
    = k0_pay7 v5 v10 k (ix2 a z) * ((∑ c : Fin 128, (k (ix2 a (valCol c)) : EReal) * v8 (ix2 z c)) - v12 (ix2 0 z)) := by
  unfold k0_pay9
  generalize k0_pay7 v5 v10 k = p
  pointwise [k0_pay6]
  rfl

theorem pay8_apply (s : Vec Ideal S512x128 .f32) (c : Fin 128) : k0_pay8 v5 v8 v10 k s (ix2 a c)
    = (s (ix2 a c) : EReal) + ∑ z : Fin 2048, k0_pay7 v5 v10 k (ix2 a z) * v8 (ix2 z c) := by
  unfold k0_pay8
  generalize k0_pay7 v5 v10 k = p
  pointwise

theorem pay10_apply (s : Vec Ideal S512x256 .f32) (c : Fin 256) : k0_pay10 v5 v8 v10 v12 k s (ix2 a c)
    = (s (ix2 a c) : EReal) + ∑ z : Fin 2048, k0_pay9 v5 v8 v10 v12 k (ix2 a z) * v5 (ix2 z c) := by
  unfold k0_pay10
  generalize k0_pay9 v5 v8 v10 v12 k = p
  pointwise

theorem pay11_apply (s : Vec Ideal S256x2048 .f32) (kt : Vec Ideal S1x256x512 .bf16) (c : Fin 256) :
    k0_pay25 (k0_pay11 v5 v8 v10 v12 k s kt) (ix2 c z)
    = (s (ix2 c z) : EReal) + ∑ a : Fin 512, (kt (ix3 0 c a) : EReal) * k0_pay9 v5 v8 v10 v12 k (ix2 a z) := by
  unfold k0_pay11
  generalize k0_pay9 v5 v8 v10 v12 k = p
  pointwise [k0_pay25]

theorem pay30_apply (x : FVec Ideal S512x2048 .f32) : k0_pay30 v10 x k0_pay29 (ix2 a z)
    = Ideal.exp (Scalar.select
        (IntOp.cmpi .sle (IntOp.shrsi .vector (BitVec.ofNat 32 a.val) 6#32) (IntOp.shrsi .vector (IntOp.andi (BitVec.ofNat 32 z.val) 511#32) 6#32))
        ((x (ix2 a z) : EReal) * Ideal.ofBits .f32 0x3D93CD3A#32) (Ideal.ofBits .f32 0xFF800000#32) - v10 (ix2 0 z)) := by
  pointwise [k0_pay30, k0_pay29]

theorem pay32_apply (x y : FVec Ideal S512x2048 .f32) : k0_pay32 v8 v10 v12 k x y (ix2 a z)
    = k0_pay30 v10 x y (ix2 a z) * ((∑ c : Fin 128, (k (ix2 a (valCol c)) : EReal) * v8 (ix2 z c)) - v12 (ix2 0 z)) := by
  unfold k0_pay32
  generalize k0_pay30 v10 x y = p
  pointwise
  rfl

theorem pay31_apply (x y : FVec Ideal S512x2048 .f32) (s : Vec Ideal S512x128 .f32) (c : Fin 128) : k0_pay31 v8 v10 x y s (ix2 a c)
    = (s (ix2 a c) : EReal) + ∑ z : Fin 2048, k0_pay30 v10 x y (ix2 a z) * v8 (ix2 z c) := by
  unfold k0_pay31
  generalize k0_pay30 v10 x y = p
  pointwise

theorem pay33_apply (x y : FVec Ideal S512x2048 .f32) (s : Vec Ideal S512x256 .f32) (c : Fin 256) :
    k0_pay33 v5 v8 v10 v12 k x y s (ix2 a c)
    = (s (ix2 a c) : EReal) + ∑ z : Fin 2048, k0_pay32 v8 v10 v12 k x y (ix2 a z) * v5 (ix2 z c) := by
  unfold k0_pay33
  generalize k0_pay32 v8 v10 v12 k x y = p
  pointwise

theorem pay34_apply (x y : FVec Ideal S512x2048 .f32) (s : Vec Ideal S256x2048 .f32) (kt : Vec Ideal S1x256x512 .bf16) (c : Fin 256) :
    k0_pay1 s (k0_pay34 v8 v10 v12 k x y kt) (ix2 c z)
    = (s (ix2 c z) : EReal) + ∑ a : Fin 512, (kt (ix3 0 c a) : EReal) * k0_pay32 v8 v10 v12 k x y (ix2 a z) := by
  unfold k0_pay34
  generalize k0_pay32 v8 v10 v12 k x y = p
  pointwise [k0_pay1]

theorem pay28_apply (q : Vec Ideal S4x512x256 .bf16) : k0_pay28 q k (ix2 a z) = ∑ c : Fin 256, (k (ix2 a c) : EReal) * k0_pay20 q (ix2 z c) := by
  unfold k0_pay28
  generalize k0_pay20 q = p
  pointwise [k0_pay27]

theorem pay27_apply (c : Fin 256) : k0_pay27 k (ix2 a c) = k (ix2 a c) := by
  pointwise [k0_pay27]

end

theorem pay24_apply (c : Fin 256) (z : Fin 2048) : k0_pay24 (F := Ideal) (ix2 c z) = ((0 : ℝ) : EReal) := by
  pointwise [k0_pay24]
  exact EReal.coe_zero.symm

theorem pay4_apply (x : Vec Ideal S512x256 .f32) (y : Vec Ideal S512x128 .f32) (a : Fin 512) (c : Fin 128) :
    k0_pay4 x y (ix2 a c) = (x (ix2 a (valCol c)) : EReal) * Ideal.ofBits .f32 0x3D93CD3A#32 + y (ix2 a c) := by
  pointwise [k0_pay4, k0_pay3]
  rfl

theorem pay5_apply (x : Vec Ideal S512x256 .f32) (a : Fin 512) (c : Fin 128) :
    k0_pay5 x (ix2 a c) = (x (ix2 a ⟨128 + c.val, by omega⟩) : EReal) * Ideal.ofBits .f32 0x3D93CD3A#32 := by
  pointwise [k0_pay5, k0_pay3]

theorem pay2_apply (x : Vec Ideal S256x2048 .f32) (o : Fin 1) (c : Fin 256) (z : Fin 2048) : k0_pay2 x (ix3 o c z) = x (ix2 c z) := by
  pointwise [k0_pay2]

end Cert.Attn

end
-- ==== Proof.PointValue.lean ====
/- What one point of the grid adds to the gradients, of arguments that are real numbers. -/
module

public import proofs.«01_k».proof.Proof.PayAt

@[expose] public section

noncomputable section

namespace Cert.Attn

open Cert.KernelIdeal Cert.KernelIdeal.Gen
open Idealize.ShloMosaic

variable (X : Nums)

/-! ### What block `i` of queries adds -/

/-- To the key gradient (without the scale). -/
def addK (i : Fin 8) (r : Fin 4096) (c : Fin 256) : ℝ := ∑ z, X.dscore (hd z) (row i z) r * X.q (hd z) (row i z) c

/-- To the value gradient. -/
def addV (i : Fin 8) (r : Fin 4096) (c : Fin 128) : ℝ := ∑ z, X.prob (hd z) (row i z) r * X.d (hd z) (row i z) c

/-- To its own query gradient, from key block `j`. -/
def addQ (i j : Fin 8) (c : Fin 256) (z : Fin 2048) : ℝ := ∑ a, X.k (kr j a) c * X.dscore (hd z) (row i z) (kr j a)

theorem not_sees_of_lt {i j : Fin 8} (h : i.val < j.val) (z : Fin 2048) (a : Fin 512) : ¬ Sees (row i z) (kr j a) := by
  have := a.isLt
  show ¬ (512 * j.val + a.val) / 64 ≤ (512 * i.val + z.val % 512) / 64
  omega

theorem sees_of_lt {i j : Fin 8} (h : j.val < i.val) (z : Fin 2048) (a : Fin 512) : Sees (row i z) (kr j a) := by
  have := a.isLt
  show (512 * j.val + a.val) / 64 ≤ (512 * i.val + z.val % 512) / 64
  omega

theorem sees_diag (i : Fin 8) (z : Fin 2048) (a : Fin 512) : Sees (row i z) (kr i a) ↔ a.val / 64 ≤ z.val % 512 / 64 := by
  have := a.isLt
  show (512 * i.val + a.val) / 64 ≤ (512 * i.val + z.val % 512) / 64 ↔ _
  omega

/-- A row is the row of its block. -/
theorem kr_eq (r : Fin 4096) : r = kr ⟨r.val / 512, by omega⟩ ⟨r.val % 512, by omega⟩ :=
  Fin.ext (by show r.val = 512 * (r.val / 512) + r.val % 512; omega)

theorem not_sees_row {i : Fin 8} {r : Fin 4096} (h : i.val < r.val / 512) (z : Fin 2048) : ¬ Sees (row i z) r := by
  rw [kr_eq r]; exact not_sees_of_lt (j := ⟨r.val / 512, by omega⟩) h z _

theorem addK_unseen {i : Fin 8} {r : Fin 4096} (h : i.val < r.val / 512) (c : Fin 256) : addK X i r c = 0 :=
  Finset.sum_eq_zero fun z _ => by rw [X.dscore_unseen _ _ _ (not_sees_row h z), zero_mul]

theorem addV_unseen {i : Fin 8} {r : Fin 4096} (h : i.val < r.val / 512) (c : Fin 128) : addV X i r c = 0 :=
  Finset.sum_eq_zero fun z _ => by rw [X.prob_unseen _ _ _ (not_sees_row h z), zero_mul]

theorem addQ_unseen {i j : Fin 8} (h : i.val < j.val) (c : Fin 256) (z : Fin 2048) : addQ X i j c z = 0 :=
  Finset.sum_eq_zero fun a _ => by rw [X.dscore_unseen _ _ _ (not_sees_of_lt h z a), mul_zero]

/-! ### The inputs of block `i` -/

/-- The arrays that a point reads hold the numbers' block `i`. -/
structure Holds (i : Fin 8) (x : Inp Ideal) : Prop where
  q : ∀ z c, k0_pay20 x.q (ix2 z c) = ((X.q (hd z) (row i z) c : ℝ) : EReal)
  d : ∀ z c, k0_pay21 x.d (ix2 z c) = ((X.d (hd z) (row i z) c : ℝ) : EReal)
  lse : ∀ z, k0_pay22 x.lse (ix2 0 z) = ((X.top (hd z) (row i z) + Real.log (X.tot (hd z) (row i z)) : ℝ) : EReal)
  del : ∀ z, k0_pay23 x.del (ix2 0 z) = ((X.mean (hd z) (row i z) : ℝ) : EReal)
  k : ∀ r c, x.k (ix2 r c) = ((X.k r c : ℝ) : EReal)
  kt : ∀ j c a, x.kt (ix3 j c a) = ((X.k (kr j a) c : ℝ) : EReal)

/-! ### Windows at an index -/

section
variable {α : EltTy} (Y : Vec Ideal S4096x256 α) (Z : Vec Ideal S4096x128 α) (T : Vec Ideal S8x256x512 α) (j : Fin 8)

theorem rows256_apply (a : Fin 512) (c : Fin 256) : rows256 Y j (ix2 a c) = Y (ix2 (kr j a) c) :=
  congrArg Y (funext fun b => match b with
    | ⟨0, _⟩ => Fin.ext (by show 512 * j.val + 1 * a.val = 512 * j.val + a.val; omega)
    | ⟨1, _⟩ => Fin.ext (by show 0 + 1 * c.val = c.val; omega))

theorem rows128_apply (a : Fin 512) (c : Fin 128) : rows128 Z j (ix2 a c) = Z (ix2 (kr j a) c) :=
  congrArg Z (funext fun b => match b with
    | ⟨0, _⟩ => Fin.ext (by show 512 * j.val + 1 * a.val = 512 * j.val + a.val; omega)
    | ⟨1, _⟩ => Fin.ext (by show 0 + 1 * c.val = c.val; omega))

theorem blockT_apply (o : Fin 1) (c : Fin 256) (a : Fin 512) : blockT T j (ix3 o c a) = T (ix3 j c a) :=
  congrArg T (funext fun b => match b with
    | ⟨0, _⟩ => Fin.ext (by have := o.isLt; show j.val + 1 * o.val = j.val; omega)
    | ⟨1, _⟩ => Fin.ext (by show 0 + 1 * c.val = c.val; omega)
    | ⟨2, _⟩ => Fin.ext (by show 0 + 1 * a.val = a.val; omega))

theorem put256_in (w : Vec Ideal S512x256 α) (r : Fin 4096) (c : Fin 256) (h : r.val / 512 = j.val) :
    VecWindow.put Y ![512 * j.val, 0] S512x256.size w (ix2 r c) = w (ix2 ⟨r.val % 512, by omega⟩ c) := by
  have hm : ∀ a, (![512 * j.val, 0] : Fin 2 → ℕ) a ≤ ((ix2 r c : S4096x256.Idx) a).val
      ∧ ((ix2 r c : S4096x256.Idx) a).val < (![512 * j.val, 0] : Fin 2 → ℕ) a + S512x256.size a := fun a => match a with
    | ⟨0, _⟩ => by show 512 * j.val ≤ r.val ∧ r.val < 512 * j.val + 512; omega
    | ⟨1, _⟩ => by have := c.isLt; show 0 ≤ c.val ∧ c.val < 0 + 256; omega
  refine (dif_pos hm).trans (congrArg w (funext fun b => match b with
    | ⟨0, _⟩ => Fin.ext (by show r.val - 512 * j.val = r.val % 512; omega)
    | ⟨1, _⟩ => Fin.ext (by show c.val - 0 = c.val; omega)))

theorem put256_out (w : Vec Ideal S512x256 α) (r : Fin 4096) (c : Fin 256) (h : r.val / 512 ≠ j.val) :
    VecWindow.put Y ![512 * j.val, 0] S512x256.size w (ix2 r c) = Y (ix2 r c) := by
  refine dif_neg fun hm => ?_
  have : 512 * j.val ≤ r.val ∧ r.val < 512 * j.val + 512 := hm (0 : Fin 2)
  omega

theorem put128_in (w : Vec Ideal S512x128 α) (r : Fin 4096) (c : Fin 128) (h : r.val / 512 = j.val) :
    VecWindow.put Z ![512 * j.val, 0] S512x128.size w (ix2 r c) = w (ix2 ⟨r.val % 512, by omega⟩ c) := by
  have hm : ∀ a, (![512 * j.val, 0] : Fin 2 → ℕ) a ≤ ((ix2 r c : S4096x128.Idx) a).val
      ∧ ((ix2 r c : S4096x128.Idx) a).val < (![512 * j.val, 0] : Fin 2 → ℕ) a + S512x128.size a := fun a => match a with
    | ⟨0, _⟩ => by show 512 * j.val ≤ r.val ∧ r.val < 512 * j.val + 512; omega
    | ⟨1, _⟩ => by have := c.isLt; show 0 ≤ c.val ∧ c.val < 0 + 128; omega
  refine (dif_pos hm).trans (congrArg w (funext fun b => match b with
    | ⟨0, _⟩ => Fin.ext (by show r.val - 512 * j.val = r.val % 512; omega)
    | ⟨1, _⟩ => Fin.ext (by show c.val - 0 = c.val; omega)))

theorem put128_out (w : Vec Ideal S512x128 α) (r : Fin 4096) (c : Fin 128) (h : r.val / 512 ≠ j.val) :
    VecWindow.put Z ![512 * j.val, 0] S512x128.size w (ix2 r c) = Z (ix2 r c) := by
  refine dif_neg fun hm => ?_
  have : 512 * j.val ≤ r.val ∧ r.val < 512 * j.val + 512 := hm (0 : Fin 2)
  omega

end

/-! ### The probabilities and score gradients -/

section
variable {X} {i : Fin 8} {x : Inp Ideal} (H : Holds X i x) (j : Fin 8) (a : Fin 512) (z : Fin 2048)
include H

theorem score_sum : (∑ c : Fin 256, (rows256 x.k j (ix2 a c) : EReal) * k0_pay20 x.q (ix2 z c)) * Ideal.ofBits .f32 0x3D93CD3A#32
    = ((X.score (hd z) (row i z) (kr j a) : ℝ) : EReal) := by
  rw [scale_word, Nums.score, EReal.coe_mul, coe_sum]
  refine congrArg (· * _) (Finset.sum_congr rfl fun c _ => ?_)
  rw [rows256_apply, H.k, H.q, ← EReal.coe_mul, mul_comm]

theorem dprob_sum (k : Vec Ideal S512x256 .bf16) (hk : ∀ c, k (ix2 a c) = rows256 x.k j (ix2 a c)) :
    (∑ c : Fin 128, (k (ix2 a (valCol c)) : EReal) * k0_pay21 x.d (ix2 z c)) - k0_pay23 x.del (ix2 0 z)
    = ((X.dprob (hd z) (row i z) (kr j a) - X.mean (hd z) (row i z) : ℝ) : EReal) := by
  rw [EReal.coe_sub, H.del, Nums.dprob, coe_sum]
  refine congrArg (· - _) (Finset.sum_congr rfl fun c _ => ?_)
  rw [hk, rows256_apply, H.k, H.d, ← EReal.coe_mul, mul_comm]

theorem prob_before (h : j.val < i.val) :
    k0_pay7 (k0_pay20 x.q) (k0_pay22 x.lse) (rows256 x.k j) (ix2 a z) = ((X.prob (hd z) (row i z) (kr j a) : ℝ) : EReal) := by
  rw [pay7_apply, score_sum H, H.lse, ← EReal.coe_sub, Ideal.exp_coe, X.exp_score_lse _ _ _ (sees_of_lt h z a)]

theorem dscore_before (h : j.val < i.val) :
    k0_pay9 (k0_pay20 x.q) (k0_pay21 x.d) (k0_pay22 x.lse) (k0_pay23 x.del) (rows256 x.k j) (ix2 a z)
      = ((X.dscore (hd z) (row i z) (kr j a) : ℝ) : EReal) := by
  rw [pay9_apply, prob_before H j a z h, dprob_sum H j a z _ (fun _ => rfl), ← EReal.coe_mul, Nums.dscore]

omit H in
theorem mask_word : ∀ (a : Fin 512) (b : Fin 512),
    IntOp.cmpi .sle (IntOp.shrsi .vector (BitVec.ofNat 32 a.val) 6#32) (IntOp.shrsi .vector (BitVec.ofNat 32 b.val) 6#32)
      = BitVec.ofBool (decide (a.val / 64 ≤ b.val / 64)) := by
  have h1 : ∀ a : Fin 512, IntOp.shrsi .vector (BitVec.ofNat 32 a.val) 6#32 = BitVec.ofNat 32 (a.val / 64) := by decide +kernel
  have h2 : ∀ a b : Fin 8, IntOp.cmpi .sle (BitVec.ofNat 32 a.val) (BitVec.ofNat 32 b.val) = BitVec.ofBool (decide (a.val ≤ b.val)) := by
    decide +kernel
  intro a b
  rw [h1, h1]
  exact h2 ⟨a.val / 64, by omega⟩ ⟨b.val / 64, by omega⟩

omit H in
theorem low_word : ∀ z : Fin 2048, IntOp.andi (BitVec.ofNat 32 z.val) 511#32 = BitVec.ofNat 32 (z.val % 512) := by decide +kernel

theorem prob_diag :
    k0_pay30 (k0_pay22 x.lse) (k0_pay28 x.q (rows256 x.k i)) (k0_pay29 (F := Ideal)) (ix2 a z)
      = ((X.prob (hd z) (row i z) (kr i a) : ℝ) : EReal) := by
  rw [pay30_apply, pay28_apply, score_sum H, H.lse, negInf_word, low_word,
    mask_word a ⟨z.val % 512, by omega⟩]
  by_cases hs : Sees (row i z) (kr i a)
  · rw [decide_eq_true ((sees_diag i z a).mp hs)]
    show Ideal.exp (((X.score (hd z) (row i z) (kr i a) : ℝ) : EReal) - _) = _
    rw [← EReal.coe_sub, Ideal.exp_coe, X.exp_score_lse _ _ _ hs]
  · rw [decide_eq_false (fun h => hs ((sees_diag i z a).mpr h)), X.prob_unseen _ _ _ hs]
    show Ideal.exp ((⊥ : EReal) - _) = _
    rw [EReal.bot_sub]
    rfl

theorem dscore_diag :
    k0_pay32 (k0_pay21 x.d) (k0_pay22 x.lse) (k0_pay23 x.del) (k0_pay27 (rows256 x.k i)) (k0_pay28 x.q (rows256 x.k i))
      (k0_pay29 (F := Ideal)) (ix2 a z) = ((X.dscore (hd z) (row i z) (kr i a) : ℝ) : EReal) := by
  rw [pay32_apply, prob_diag H a z, dprob_sum H i a z _ (fun c => pay27_apply _ a c), ← EReal.coe_mul, Nums.dscore]

end

/-! ### One visit -/

/-- The state holds the numbers. -/
structure HoldsSt (K : Fin 4096 → Fin 256 → ℝ) (Q : Fin 256 → Fin 2048 → ℝ) (W : Fin 4096 → Fin 128 → ℝ) (s : St Ideal) : Prop where
  dk : ∀ r c, s.dk (ix2 r c) = ((K r c : ℝ) : EReal)
  dq : ∀ c z, s.dq (ix2 c z) = ((Q c z : ℝ) : EReal)
  dv : ∀ r c, s.dv (ix2 r c) = ((W r c : ℝ) : EReal)

section
variable {X} {i : Fin 8} {x : Inp Ideal} (H : Holds X i x)
  {K : Fin 4096 → Fin 256 → ℝ} {Q : Fin 256 → Fin 2048 → ℝ} {W : Fin 4096 → Fin 128 → ℝ} {s : St Ideal}
include H

theorem visit_holds (j : Fin 8) (h : j.val < i.val) (S : HoldsSt K Q W s) :
    HoldsSt (fun r c => K r c + if r.val / 512 = j.val then addK X i r c else 0) (fun c z => Q c z + addQ X i j c z)
      (fun r c => W r c + if r.val / 512 = j.val then addV X i r c else 0) (visit x j s) where
  dk r c := by
    show VecWindow.put s.dk ![512 * j.val, 0] S512x256.size _ (ix2 r c) = _
    by_cases hr : r.val / 512 = j.val
    · have e : kr j ⟨r.val % 512, by omega⟩ = r := Fin.ext (by show 512 * j.val + r.val % 512 = r.val; omega)
      rw [if_pos hr, put256_in _ j _ r c hr, pay10_apply, rows256_apply, e, S.dk, EReal.coe_add, addK, coe_sum]
      refine congrArg (_ + ·) (Finset.sum_congr rfl fun z _ => ?_)
      rw [dscore_before H j _ z h, e, H.q, EReal.coe_mul]
    · rw [if_neg hr, put256_out _ j _ r c hr, S.dk, add_zero]
  dq c z := by
    show k0_pay25 (k0_pay11 (k0_pay20 x.q) (k0_pay21 x.d) (k0_pay22 x.lse) (k0_pay23 x.del) (rows256 x.k j) s.dq (blockT x.kt j)) (ix2 c z) = _
    rw [pay11_apply, S.dq, EReal.coe_add, addQ, coe_sum]
    refine congrArg (_ + ·) (Finset.sum_congr rfl fun a _ => ?_)
    rw [dscore_before H j _ z h, blockT_apply, H.kt, EReal.coe_mul]
  dv r c := by
    show VecWindow.put s.dv ![512 * j.val, 0] S512x128.size _ (ix2 r c) = _
    by_cases hr : r.val / 512 = j.val
    · have e : kr j ⟨r.val % 512, by omega⟩ = r := Fin.ext (by show 512 * j.val + r.val % 512 = r.val; omega)
      rw [if_pos hr, put128_in _ j _ r c hr, pay8_apply, rows128_apply, e, S.dv, EReal.coe_add, addV, coe_sum]
      refine congrArg (_ + ·) (Finset.sum_congr rfl fun z _ => ?_)
      rw [prob_before H j _ z h, e, H.d, EReal.coe_mul]
    · rw [if_neg hr, put128_out _ j _ r c hr, S.dv, add_zero]

theorem visitDiag_holds (S : HoldsSt K Q W s) :
    HoldsSt (fun r c => K r c + if r.val / 512 = i.val then addK X i r c else 0) (fun c z => Q c z + addQ X i i c z)
      (fun r c => W r c + if r.val / 512 = i.val then addV X i r c else 0) (visitDiag x i s) where
  dk r c := by
    show VecWindow.put s.dk ![512 * i.val, 0] S512x256.size _ (ix2 r c) = _
    by_cases hr : r.val / 512 = i.val
    · have e : kr i ⟨r.val % 512, by omega⟩ = r := Fin.ext (by show 512 * i.val + r.val % 512 = r.val; omega)
      rw [if_pos hr, put256_in _ i _ r c hr, pay33_apply, rows256_apply, e, S.dk, EReal.coe_add, addK, coe_sum]
      refine congrArg (_ + ·) (Finset.sum_congr rfl fun z _ => ?_)
      rw [dscore_diag H _ z, e, H.q, EReal.coe_mul]
    · rw [if_neg hr, put256_out _ i _ r c hr, S.dk, add_zero]
  dq c z := by
    show k0_pay1 _ _ (ix2 c z) = _
    rw [pay34_apply, S.dq, EReal.coe_add, addQ, coe_sum]
    refine congrArg (_ + ·) (Finset.sum_congr rfl fun a _ => ?_)
    rw [dscore_diag H _ z, blockT_apply, H.kt, EReal.coe_mul]
  dv r c := by
    show VecWindow.put s.dv ![512 * i.val, 0] S512x128.size _ (ix2 r c) = _
    by_cases hr : r.val / 512 = i.val
    · have e : kr i ⟨r.val % 512, by omega⟩ = r := Fin.ext (by show 512 * i.val + r.val % 512 = r.val; omega)
      rw [if_pos hr, put128_in _ i _ r c hr, pay31_apply, rows128_apply, e, S.dv, EReal.coe_add, addV, coe_sum]
      refine congrArg (_ + ·) (Finset.sum_congr rfl fun z _ => ?_)
      rw [prob_diag H _ z, e, H.d, EReal.coe_mul]
    · rw [if_neg hr, put128_out _ i _ r c hr, S.dv, add_zero]

omit H in
theorem HoldsSt.congr {K' : Fin 4096 → Fin 256 → ℝ} {Q' : Fin 256 → Fin 2048 → ℝ} {W' : Fin 4096 → Fin 128 → ℝ}
    (S : HoldsSt K Q W s) (hK : ∀ r c, K r c = K' r c) (hQ : ∀ c z, Q c z = Q' c z) (hW : ∀ r c, W r c = W' r c) : HoldsSt K' Q' W' s where
  dk r c := by rw [← hK]; exact S.dk r c
  dq c z := by rw [← hQ]; exact S.dq c z
  dv r c := by rw [← hW]; exact S.dv r c

omit H in
theorem below_succ {n v : ℕ} (f : ℝ) : ((if v < n then f else 0) + if v = n then f else 0) = if v < n + 1 then f else 0 := by
  by_cases h : v = n
  · rw [if_neg (by omega), if_pos h, if_pos (by omega), zero_add]
  · rw [if_neg h, add_zero]
    by_cases h' : v < n
    · rw [if_pos h', if_pos (by omega)]
    · rw [if_neg h', if_neg (by omega)]

omit H in
theorem sum_below_succ (f : Fin 8 → ℝ) (n : Fin 8) :
    (∑ j : Fin 8, if j.val < n.val then f j else 0) + f n = ∑ j : Fin 8, if j.val < n.val + 1 then f j else 0 := by
  have e : f n = ∑ j : Fin 8, if j.val = n.val then f j else 0 := by
    rw [Finset.sum_eq_single n (fun j _ hj => if_neg fun hv => hj (Fin.ext hv)) (fun hn => absurd (Finset.mem_univ _) hn), if_pos rfl]
  rw [e, ← Finset.sum_add_distrib]
  exact Finset.sum_congr rfl fun j _ => below_succ (f j)

theorem visits_holds (n : ℕ) (hn : n ≤ i.val) (S : HoldsSt K (fun _ _ => 0) W s) :
    HoldsSt (fun r c => K r c + if r.val / 512 < n then addK X i r c else 0) (fun c z => ∑ j : Fin 8, if j.val < n then addQ X i j c z else 0)
      (fun r c => W r c + if r.val / 512 < n then addV X i r c else 0) (visits x s n) := by
  induction n with
  | zero =>
    refine S.congr (fun r c => ?_) (fun c z => ?_) (fun r c => ?_)
    · rw [if_neg (by omega), add_zero]
    · exact (Finset.sum_eq_zero fun j _ => if_neg (by omega)).symm
    · rw [if_neg (by omega), add_zero]
  | succ n ih =>
    have hi := i.isLt
    have hlt : n < 8 := by omega
    have e : visits x s (n + 1) = visit x ⟨n, hlt⟩ (visits x s n) := visits_succ x s ⟨n, hlt⟩
    rw [e]
    refine (visit_holds H ⟨n, hlt⟩ (by show n < i.val; omega) (ih (by omega))).congr (fun r c => ?_) (fun c z => ?_) (fun r c => ?_)
    · rw [add_assoc]; exact congrArg (K r c + ·) (below_succ _)
    · exact sum_below_succ (fun j => addQ X i j c z) ⟨n, hlt⟩
    · rw [add_assoc]; exact congrArg (W r c + ·) (below_succ _)

/-- A point adds its block's share to the gradients, and leaves the query gradient of its block. -/
theorem point_holds {dk : Vec Ideal S4096x256 .f32} {dv : Vec Ideal S4096x128 .f32}
    (hk : ∀ r c, dk (ix2 r c) = ((K r c : ℝ) : EReal)) (hv : ∀ r c, dv (ix2 r c) = ((W r c : ℝ) : EReal)) :
    HoldsSt (fun r c => K r c + addK X i r c) (fun c z => ∑ j : Fin 8, addQ X i j c z) (fun r c => W r c + addV X i r c)
      (point x i dk dv) := by
  have S0 : HoldsSt K (fun _ _ => 0) W (⟨dk, k0_pay24 (F := Ideal), dv⟩ : St Ideal) := ⟨hk, fun c z => pay24_apply c z, hv⟩
  unfold point
  refine (visitDiag_holds H (visits_holds H i.val le_rfl S0)).congr (fun r c => ?_) (fun c z => ?_) (fun r c => ?_)
  · rw [add_assoc, below_succ]
    by_cases h : r.val / 512 < i.val + 1
    · rw [if_pos h]
    · rw [if_neg h, addK_unseen X (by omega)]
  · rw [sum_below_succ (fun j => addQ X i j c z) i]
    refine Finset.sum_congr rfl fun j _ => ?_
    by_cases h : j.val < i.val + 1
    · rw [if_pos h]
    · rw [if_neg h, addQ_unseen X (by omega)]
  · rw [add_assoc, below_succ]
    by_cases h : r.val / 512 < i.val + 1
    · rw [if_pos h]
    · rw [if_neg h, addV_unseen X (by omega)]

end

end Cert.Attn

end
-- ==== Proof.GradValue.lean ====
/- The gradients that the launch leaves, of arguments that are real numbers. -/
module

public import proofs.«01_k».proof.Proof.PointValue
public import Idealize.ShloMosaic.Lib.Pointwise.Sums

@[expose] public section

noncomputable section

namespace Cert.Attn

open Cert.KernelIdeal Cert.KernelIdeal.Gen
open Idealize.ShloMosaic

variable (X : Nums)

/-- A sum over the blocks of queries and their columns is a sum over the heads and the queries. -/
theorem sum_blocks (f : Fin 4 → Fin 4096 → ℝ) : ∑ i : Fin 8, ∑ z : Fin 2048, f (hd z) (row i z) = ∑ h, ∑ r, f h r := by
  have e1 : ∀ i : Fin 8, ∑ z : Fin 2048, f (hd z) (row i z) = ∑ h : Fin 4, ∑ t : Fin 512, f h (kr i t) := by
    intro i
    rw [Fin.sum_univ_tiles 4 512 (by norm_num)]
    refine Finset.sum_congr rfl fun h _ => Finset.sum_congr rfl fun t _ => ?_
    have := t.isLt
    congr 1
    · exact Fin.ext (by show (h.val * 512 + t.val) / 512 = h.val; omega)
    · exact Fin.ext (by show 512 * i.val + (h.val * 512 + t.val) % 512 = 512 * i.val + t.val; omega)
  rw [Finset.sum_congr rfl fun i _ => e1 i, Finset.sum_comm]
  refine Finset.sum_congr rfl fun h _ => ?_
  rw [Fin.sum_univ_tiles 8 512 (by norm_num) (fun r => f h r)]
  refine Finset.sum_congr rfl fun i _ => Finset.sum_congr rfl fun t _ => ?_
  exact congrArg (f h) (Fin.ext (by show 512 * i.val + t.val = i.val * 512 + t.val; omega))

/-- A sum over the key blocks and their rows is a sum over the keys. -/
theorem sum_keys (f : Fin 4096 → ℝ) : ∑ j : Fin 8, ∑ a : Fin 512, f (kr j a) = ∑ r, f r := by
  rw [Fin.sum_univ_tiles 8 512 (by norm_num) f]
  refine Finset.sum_congr rfl fun i _ => Finset.sum_congr rfl fun t _ => ?_
  exact congrArg f (Fin.ext (by show 512 * i.val + t.val = i.val * 512 + t.val; omega))

theorem dquery_eq (i : Fin 8) (c : Fin 256) (z : Fin 2048) : ∑ j : Fin 8, addQ X i j c z = X.dquery (hd z) (row i z) c := by
  unfold addQ Nums.dquery
  rw [sum_keys fun r => X.k r c * X.dscore (hd z) (row i z) r]
  exact Finset.sum_congr rfl fun r _ => mul_comm _ _

theorem addK_sum (r : Fin 4096) (c : Fin 256) : ∑ i : Fin 8, addK X i r c = ∑ h, ∑ r', X.dscore h r' r * X.q h r' c :=
  sum_blocks fun h r' => X.dscore h r' r * X.q h r' c

theorem addV_sum (r : Fin 4096) (c : Fin 128) : ∑ i : Fin 8, addV X i r c = ∑ h, ∑ r', X.prob h r' r * X.d h r' c :=
  sum_blocks fun h r' => X.prob h r' r * X.d h r' c

/-! ### The gradients before each point -/

section
variable {X} {xs : Fin 8 → Inp Ideal} (H : ∀ i, Holds X i (xs i))
include H

theorem grads_hold (n : ℕ) (hn : n ≤ 8) :
    (∀ r c, (grads xs n).1 (ix2 r c) = ((∑ i : Fin 8, if i.val < n then addK X i r c else 0 : ℝ) : EReal))
    ∧ (∀ r c, (grads xs n).2 (ix2 r c) = ((∑ i : Fin 8, if i.val < n then addV X i r c else 0 : ℝ) : EReal)) := by
  induction n with
  | zero =>
    have z : ∀ f : Fin 8 → ℝ, (∑ i : Fin 8, if i.val < 0 then f i else 0) = 0 := fun f => Finset.sum_eq_zero fun i _ => if_neg (by omega)
    constructor
    · intro r c
      rw [z, EReal.coe_zero]
      exact Ideal.ofBits_zero_f32
    · intro r c
      rw [z, EReal.coe_zero]
      exact Ideal.ofBits_zero_f32
  | succ n ih =>
    have hlt : n < 8 := by omega
    obtain ⟨ik, iv⟩ := ih (by omega)
    have e : grads xs (n + 1) = ((left xs ⟨n, hlt⟩).dk, (left xs ⟨n, hlt⟩).dv) := grads_succ xs ⟨n, hlt⟩
    have P : HoldsSt _ _ _ (left xs ⟨n, hlt⟩) := point_holds (H ⟨n, hlt⟩) ik iv
    rw [e]
    constructor
    · intro r c
      refine (P.dk r c).trans (congrArg Real.toEReal ?_)
      exact sum_below_succ (fun i => addK X i r c) ⟨n, hlt⟩
    · intro r c
      refine (P.dv r c).trans (congrArg Real.toEReal ?_)
      exact sum_below_succ (fun i => addV X i r c) ⟨n, hlt⟩

theorem left_dq (i : Fin 8) (c : Fin 256) (z : Fin 2048) : (left xs i).dq (ix2 c z) = ((X.dquery (hd z) (row i z) c : ℝ) : EReal) := by
  have G := grads_hold H i.val (by omega)
  rw [← dquery_eq]
  exact (point_holds (H i) G.1 G.2).dq c z

theorem grads_last : (∀ r c, (grads xs 8).1 (ix2 r c) = ((∑ h, ∑ r', X.dscore h r' r * X.q h r' c : ℝ) : EReal))
    ∧ (∀ r c, (grads xs 8).2 (ix2 r c) = ((∑ h, ∑ r', X.prob h r' r * X.d h r' c : ℝ) : EReal)) := by
  have G := grads_hold H 8 le_rfl
  constructor
  · intro r c
    rw [G.1, ← addK_sum]
    exact congrArg Real.toEReal (Finset.sum_congr rfl fun i _ => if_pos i.isLt)
  · intro r c
    rw [G.2, ← addV_sum]
    exact congrArg Real.toEReal (Finset.sum_congr rfl fun i _ => if_pos i.isLt)

end

/-! ### The last point's pass over the key gradient -/

section
variable (Y : Vec Ideal S4096x256 .f32) (w : Vec Ideal S512x128 .f32) (j : Fin 8) (r : Fin 4096) (c : Fin 256)

theorem putLow_in (h : r.val / 512 = j.val) (hc : c.val < 128) :
    VecWindow.put Y ![512 * j.val, 0] S512x128.size w (ix2 r c) = w (ix2 ⟨r.val % 512, by omega⟩ ⟨c.val, hc⟩) := by
  have hm : ∀ a, (![512 * j.val, 0] : Fin 2 → ℕ) a ≤ ((ix2 r c : S4096x256.Idx) a).val
      ∧ ((ix2 r c : S4096x256.Idx) a).val < (![512 * j.val, 0] : Fin 2 → ℕ) a + S512x128.size a := fun a => match a with
    | ⟨0, _⟩ => by show 512 * j.val ≤ r.val ∧ r.val < 512 * j.val + 512; omega
    | ⟨1, _⟩ => by show 0 ≤ c.val ∧ c.val < 0 + 128; omega
  refine (dif_pos hm).trans (congrArg w (funext fun b => match b with
    | ⟨0, _⟩ => Fin.ext (by show r.val - 512 * j.val = r.val % 512; omega)
    | ⟨1, _⟩ => Fin.ext (by show c.val - 0 = c.val; omega)))

theorem putLow_out (h : r.val / 512 ≠ j.val ∨ 128 ≤ c.val) :
    VecWindow.put Y ![512 * j.val, 0] S512x128.size w (ix2 r c) = Y (ix2 r c) := by
  refine dif_neg fun hm => ?_
  have h0 : 512 * j.val ≤ r.val ∧ r.val < 512 * j.val + 512 := hm (0 : Fin 2)
  have h1 : 0 ≤ c.val ∧ c.val < 0 + 128 := hm (1 : Fin 2)
  omega

theorem putHigh_in (h : r.val / 512 = j.val) (hc : 128 ≤ c.val) :
    VecWindow.put Y ![512 * j.val, 128] S512x128.size w (ix2 r c) = w (ix2 ⟨r.val % 512, by omega⟩ ⟨c.val - 128, by omega⟩) := by
  have hm : ∀ a, (![512 * j.val, 128] : Fin 2 → ℕ) a ≤ ((ix2 r c : S4096x256.Idx) a).val
      ∧ ((ix2 r c : S4096x256.Idx) a).val < (![512 * j.val, 128] : Fin 2 → ℕ) a + S512x128.size a := fun a => match a with
    | ⟨0, _⟩ => by show 512 * j.val ≤ r.val ∧ r.val < 512 * j.val + 512; omega
    | ⟨1, _⟩ => by have := c.isLt; show 128 ≤ c.val ∧ c.val < 128 + 128; omega
  refine (dif_pos hm).trans (congrArg w (funext fun b => match b with
    | ⟨0, _⟩ => Fin.ext (by show r.val - 512 * j.val = r.val % 512; omega)
    | ⟨1, _⟩ => rfl))

theorem putHigh_out (h : r.val / 512 ≠ j.val ∨ c.val < 128) :
    VecWindow.put Y ![512 * j.val, 128] S512x128.size w (ix2 r c) = Y (ix2 r c) := by
  refine dif_neg fun hm => ?_
  have h0 : 512 * j.val ≤ r.val ∧ r.val < 512 * j.val + 512 := hm (0 : Fin 2)
  have h1 : 128 ≤ c.val ∧ c.val < 128 + 128 := hm (1 : Fin 2)
  omega

end

/-- The value gradient's share of a column of the key gradient. -/
def share (W : Fin 4096 → Fin 128 → ℝ) (r : Fin 4096) (c : Fin 256) : ℝ := if hc : c.val < 128 then W r ⟨c.val, hc⟩ else 0

section
variable {K : Fin 4096 → Fin 256 → ℝ} {W : Fin 4096 → Fin 128 → ℝ} {dv : Vec Ideal S4096x128 .f32} {dk : Vec Ideal S4096x256 .f32}
  (hv : ∀ r c, dv (ix2 r c) = ((W r c : ℝ) : EReal))
include hv

theorem close_in (j : Fin 8) (r : Fin 4096) (c : Fin 256) (h : r.val / 512 = j.val) (hk : dk (ix2 r c) = ((K r c : ℝ) : EReal)) :
    close dv j dk (ix2 r c) = ((K r c * scale + share W r c : ℝ) : EReal) := by
  have e : kr j ⟨r.val % 512, by omega⟩ = r := Fin.ext (by show 512 * j.val + r.val % 512 = r.val; omega)
  unfold close share
  by_cases hc : c.val < 128
  · rw [putHigh_out _ _ _ _ _ (Or.inr hc), putLow_in _ _ _ _ _ h hc, pay4_apply, rows256_apply, rows128_apply, e, hv, dif_pos hc, scale_word,
      EReal.coe_add, EReal.coe_mul, ← hk]
    rfl
  · have e' : (⟨128 + (c.val - 128), by omega⟩ : Fin 256) = c := Fin.ext (by show 128 + (c.val - 128) = c.val; omega)
    rw [putHigh_in _ _ _ _ _ h (by omega), pay5_apply, rows256_apply, e, e', hk, dif_neg hc, scale_word, add_zero, EReal.coe_mul]

omit hv in
theorem close_out (j : Fin 8) (r : Fin 4096) (c : Fin 256) (h : r.val / 512 ≠ j.val) : close dv j dk (ix2 r c) = dk (ix2 r c) := by
  unfold close
  rw [putHigh_out _ _ _ _ _ (Or.inl h), putLow_out _ _ _ _ _ (Or.inl h)]

theorem closes_hold (hk : ∀ r c, dk (ix2 r c) = ((K r c : ℝ) : EReal)) (n : ℕ) (hn : n ≤ 8) (r : Fin 4096) (c : Fin 256) :
    closes dv dk n (ix2 r c) = ((if r.val / 512 < n then K r c * scale + share W r c else K r c : ℝ) : EReal) := by
  induction n with
  | zero => rw [if_neg (by omega)]; exact hk r c
  | succ n ih =>
    have hlt : n < 8 := by omega
    have e : closes dv dk (n + 1) = close dv ⟨n, hlt⟩ (closes dv dk n) := closes_succ dv dk ⟨n, hlt⟩
    have ih := ih (by omega)
    rw [e]
    by_cases h : r.val / 512 = n
    · rw [if_neg (by omega)] at ih
      rw [if_pos (by omega)]
      exact close_in hv ⟨n, hlt⟩ r c h ih
    · rw [close_out ⟨n, hlt⟩ r c h, ih]
      by_cases h' : r.val / 512 < n
      · rw [if_pos h', if_pos (by omega)]
      · rw [if_neg h', if_neg (by omega)]

end

/-- The key gradient that the launch leaves. -/
theorem keyGrad_apply {xs : Fin 8 → Inp Ideal} (H : ∀ i, Holds X i (xs i)) (r : Fin 4096) (c : Fin 256) :
    keyGrad xs (ix2 r c) = ((X.dkey r c : ℝ) : EReal) := by
  have G := grads_last H
  unfold keyGrad
  rw [closes_hold G.2 G.1 8 le_rfl r c, if_pos (by omega)]
  rfl

end Cert.Attn

end
-- ==== Proof.ArrValue.lean ====
/- The two result arrays that the launch leaves, of arguments that are real numbers. -/
module

public import proofs.«01_k».proof.Proof.Run
public import proofs.«01_k».proof.Proof.HostValue
public import proofs.«01_k».proof.Proof.GradValue
public import Idealize.ShloMosaic.Lib.Pipeline.ValueKit

@[expose] public section

noncomputable section

namespace Cert.Attn

open Cert.KernelIdeal Cert.KernelIdeal.Gen
open Idealize.ShloMosaic Idealize.ShloMosaic.TcCoe

variable (X : Nums) (m : (ℓ : Loc nD τ sig) → Buf (Elt Ideal) ℓ) (c : Dev nD)

/-! ### The blocks' places -/

theorem index_0 : ∀ t : Fin cfg0.N, win0_0.index t = ![0, t.val, 0] := by decide +kernel
theorem index_1 : ∀ t : Fin cfg0.N, win0_1.index t = ![0, t.val, 0] := by decide +kernel
theorem index_2 : ∀ t : Fin cfg0.N, win0_2.index t = ![t.val, 0, 0] := by decide +kernel
theorem index_3 : ∀ t : Fin cfg0.N, win0_3.index t = ![t.val, 0, 0] := by decide +kernel
theorem index_4 : ∀ t : Fin cfg0.N, win0_4.index t = ![0, 0] := by decide +kernel
theorem index_5 : ∀ t : Fin cfg0.N, win0_5.index t = ![0, 0, 0] := by decide +kernel
theorem index_6 : ∀ t : Fin cfg0.N, win0_6.index t = ![t.val, 0, 0] := by decide +kernel

theorem emb_0 (t : Fin cfg0.N) (h : Fin 4) (a : Fin 512) (e : Fin 256) :
    (win0_0.blk t).view.emb (ix3 h a e) = ix3 h (kr (pt t) a) e := by
  blk_ext [index_0, kr, pt]

theorem emb_1 (t : Fin cfg0.N) (h : Fin 4) (a : Fin 512) (e : Fin 128) :
    (win0_1.blk t).view.emb (ix3 h a e) = ix3 h (kr (pt t) a) e := by
  blk_ext [index_1, kr, pt]

theorem emb_2 (t : Fin cfg0.N) (z : Fin 2048) :
    (win0_2.blk t).view.emb (ix3 (0 : Fin 1) (0 : Fin 1) z) = ix3 (pt t) (0 : Fin 1) z := by
  blk_ext [index_2, pt]

theorem emb_3 (t : Fin cfg0.N) (z : Fin 2048) :
    (win0_3.blk t).view.emb (ix3 (0 : Fin 1) (0 : Fin 1) z) = ix3 (pt t) (0 : Fin 1) z := by
  blk_ext [index_3, pt]

theorem emb_4 (t : Fin cfg0.N) (r : Fin 4096) (e : Fin 256) : (win0_4.blk t).view.emb (ix2 r e) = ix2 r e := by
  blk_ext [index_4]

theorem emb_5 (t : Fin cfg0.N) (j : Fin 8) (e : Fin 256) (a : Fin 512) :
    (win0_5.blk t).view.emb (ix3 j e a) = ix3 j e a := by
  blk_ext [index_5]

theorem view_0 (G : Buf (Elt Ideal) ((c : Thread nD τ).loc main_v30)) (t : Fin cfg0.N) (h : Fin 4) (a : Fin 512) (e : Fin 256) :
    ((cfg0.win 0).blk t).view.read (Elt Ideal) G (ix3 h a e) = G (ix3 h (kr (pt t) a) e) :=
  congrArg G (emb_0 t h a e)

theorem read_0 (t : Fin cfg0.N) (h : Fin 4) (a : Fin 512) (e : Fin 256) : iblk m c 0 t (ix3 h a e) = V m c main_v30 (ix3 h (kr (pt t) a) e) :=
  view_0 c (V m c main_v30) t h a e

theorem view_1 (G : Buf (Elt Ideal) ((c : Thread nD τ).loc main_v32)) (t : Fin cfg0.N) (h : Fin 4) (a : Fin 512) (e : Fin 128) :
    ((cfg0.win 1).blk t).view.read (Elt Ideal) G (ix3 h a e) = G (ix3 h (kr (pt t) a) e) :=
  congrArg G (emb_1 t h a e)

theorem read_1 (t : Fin cfg0.N) (h : Fin 4) (a : Fin 512) (e : Fin 128) : iblk m c 1 t (ix3 h a e) = V m c main_v32 (ix3 h (kr (pt t) a) e) :=
  view_1 c (V m c main_v32) t h a e

theorem view_2 (G : Buf (Elt Ideal) ((c : Thread nD τ).loc main_v35)) (t : Fin cfg0.N) (z : Fin 2048) :
    ((cfg0.win 2).blk t).view.read (Elt Ideal) G (ix3 (0 : Fin 1) (0 : Fin 1) z) = G (ix3 (pt t) (0 : Fin 1) z) :=
  congrArg G (emb_2 t z)

theorem read_2 (t : Fin cfg0.N) (z : Fin 2048) : iblk m c 2 t (ix3 (0 : Fin 1) (0 : Fin 1) z) = V m c main_v35 (ix3 (pt t) (0 : Fin 1) z) :=
  view_2 c (V m c main_v35) t z

theorem view_3 (G : Buf (Elt Ideal) ((c : Thread nD τ).loc main_v38)) (t : Fin cfg0.N) (z : Fin 2048) :
    ((cfg0.win 3).blk t).view.read (Elt Ideal) G (ix3 (0 : Fin 1) (0 : Fin 1) z) = G (ix3 (pt t) (0 : Fin 1) z) :=
  congrArg G (emb_3 t z)

theorem read_3 (t : Fin cfg0.N) (z : Fin 2048) : iblk m c 3 t (ix3 (0 : Fin 1) (0 : Fin 1) z) = V m c main_v38 (ix3 (pt t) (0 : Fin 1) z) :=
  view_3 c (V m c main_v38) t z

theorem view_4 (G : Buf (Elt Ideal) ((c : Thread nD τ).loc main_v31)) (t : Fin cfg0.N) (r : Fin 4096) (e : Fin 256) :
    ((cfg0.win 4).blk t).view.read (Elt Ideal) G (ix2 r e) = G (ix2 r e) :=
  congrArg G (emb_4 t r e)

theorem read_4 (t : Fin cfg0.N) (r : Fin 4096) (e : Fin 256) : iblk m c 4 t (ix2 r e) = V m c main_v31 (ix2 r e) :=
  view_4 c (V m c main_v31) t r e

theorem view_5 (G : Buf (Elt Ideal) ((c : Thread nD τ).loc main_v29)) (t : Fin cfg0.N) (j : Fin 8) (e : Fin 256) (a : Fin 512) :
    ((cfg0.win 5).blk t).view.read (Elt Ideal) G (ix3 j e a) = G (ix3 j e a) :=
  congrArg G (emb_5 t j e a)

theorem read_5 (t : Fin cfg0.N) (j : Fin 8) (e : Fin 256) (a : Fin 512) : iblk m c 5 t (ix3 j e a) = V m c main_v29 (ix3 j e a) :=
  view_5 c (V m c main_v29) t j e a

/-! ### What the points read -/

/-- A column's place within its head's rows. -/
def col (z : Fin 2048) : Fin 512 := ⟨z.val % 512, Nat.mod_lt _ (by decide)⟩

theorem col_hd (z : Fin 2048) : z.val = 512 * (hd z).val + (col z).val := by
  show z.val = 512 * (z.val / 512) + z.val % 512
  omega

theorem kr_col (i : Fin 8) (z : Fin 2048) : kr i (col z) = row i z := rfl

variable {X m c}
variable (hq : Host.argQ m c = X.qArr) (hk : Host.argK m c = X.kArr) (hd' : Host.argD m c = X.dArr)
include hq hk hd'

omit hk hd' in
theorem block_q (i : Fin 8) (z : Fin 2048) (e : Fin 256) :
    (inps m c i).q (ix3 (hd z) (col z) e) = ((X.q (hd z) (row i z) e : ℝ) : EReal) :=
  (read_0 m c (tm i) (hd z) (col z) e).trans ((congrFun (Host.V_q m c) _).trans (congrFun hq _))

omit hq hk in
theorem block_d (i : Fin 8) (z : Fin 2048) (e : Fin 128) :
    (inps m c i).d (ix3 (hd z) (col z) e) = ((X.d (hd z) (row i z) e : ℝ) : EReal) :=
  (read_1 m c (tm i) (hd z) (col z) e).trans ((congrFun (Host.V_d m c) _).trans (congrFun hd' _))

omit hd' in
theorem block_lse (i : Fin 8) (z : Fin 2048) :
    (inps m c i).lse (ix3 (0 : Fin 1) (0 : Fin 1) z) = ((X.top (hd z) (row i z) + Real.log (X.tot (hd z) (row i z)) : ℝ) : EReal) := by
  refine (read_2 m c (tm i) z).trans ((congrFun (Host.V_lse m c) _).trans ?_)
  rw [hq, hk]
  exact (Host.byBlock_apply _ (pt (tm i)) (hd z) (col z) z (col_hd z) 0).trans (Host.lse_block X i (hd z) (col z) (row i z) rfl)

theorem block_del (i : Fin 8) (z : Fin 2048) :
    (inps m c i).del (ix3 (0 : Fin 1) (0 : Fin 1) z) = ((X.mean (hd z) (row i z) : ℝ) : EReal) := by
  refine (read_3 m c (tm i) z).trans ((congrFun (Host.V_delta m c) _).trans ?_)
  rw [hq, hk, hd']
  exact (Host.byBlock_apply _ (pt (tm i)) (hd z) (col z) z (col_hd z) 0).trans (Host.delta_block X i (hd z) (col z) (row i z) rfl)

omit hq hd' in
theorem block_k (i : Fin 8) (r : Fin 4096) (e : Fin 256) : (inps m c i).k (ix2 r e) = ((X.k r e : ℝ) : EReal) :=
  (read_4 m c (tm i) r e).trans ((congrFun (Host.V_k m c) _).trans (congrFun hk _))

omit hq hd' in
theorem block_kt (i : Fin 8) (j : Fin 8) (e : Fin 256) (a : Fin 512) :
    (inps m c i).kt (ix3 j e a) = ((X.k (kr j a) e : ℝ) : EReal) := by
  refine (read_5 m c (tm i) j e a).trans ((congrFun (Host.V_kt m c) _).trans ?_)
  rw [hk]
  exact Host.keysT_apply X j a (kr j a) rfl e

theorem inps_hold (i : Fin 8) : Holds X i (inps m c i) := by
  have q := block_q hq i
  have d := block_d hd' i
  have l := block_lse hq hk i
  have e := block_del hq hk hd' i
  have k := block_k hk i
  have t := block_kt hk i
  generalize inps m c i = x at q d l e k t
  exact
    { q := fun z a => (pay20_apply x.q z a (col z) rfl).trans (q z a)
      d := fun z a => (pay21_apply x.d z a (col z) rfl).trans (d z a)
      lse := fun z => (pay22_apply x.lse 0 z).trans (l z)
      del := fun z => (pay23_apply x.del 0 z).trans (e z)
      k := k
      kt := t }

/-! ### The arrays -/

omit hq hk hd' in
theorem emb_6 (t : Fin cfg0.N) (o : Fin 1) (e : Fin 256) (z : Fin 2048) :
    (win0_6.blk t).view.emb (ix3 o e z) = ix3 (pt t) e z := by
  have := o.isLt
  blk_ext [index_6, pt]

/-- The scaled queries' gradient, block by block and transposed, as an array. -/
def dqArr (X : Nums) : (⟨3, ![8, 256, 2048]⟩ : Shape).Idx → EReal := fun j => ((X.dquery (hd (j 2)) (row (j 0) (j 2)) (j 1) : ℝ) : EReal)

/-- The keys' gradient as an array. -/
def dkArr (X : Nums) : (⟨2, ![4096, 256]⟩ : Shape).Idx → EReal := fun j => ((X.dkey (j 0) (j 1) : ℝ) : EReal)

theorem left_6 (t : Fin cfg0.N) (y : (⟨3, ![1, 256, 2048]⟩ : Shape).Idx) :
    k0_pay2 (left (inps m c) (pt t)).dq y = dqArr X ((win0_6.blk t).view.emb y) := by
  have e : ∀ (o : Fin 1) (e : Fin 256) (z : Fin 2048),
      k0_pay2 (left (inps m c) (pt t)).dq (ix3 o e z) = dqArr X ((win0_6.blk t).view.emb (ix3 o e z)) := fun o e z =>
    (pay2_apply _ o e z).trans ((left_dq (inps_hold hq hk hd') (pt t) e z).trans (congrArg (dqArr X) (emb_6 t o e z)).symm)
  rw [eq_ix3 y]
  exact e (y 0) (y 1) (y 2)

theorem arr_6 : (dats m 0 c).arrAt 6 cfg0.N = dqArr X := by
  refine (dats m 0 c).arrAt_eq_of_covers 6 _ (by decide +kernel) fun t hf y => ?_
  show (dats m 0 c).after 6 t y = dqArr X ((win0_6.blk t).view.emb y)
  rw [after_6]
  exact left_6 hq hk hd' t y

omit hq hk hd' in
/-- The last point leaves the whole gradient of the keys. -/
theorem keyWin_last (xs : Fin 8 → Inp Ideal) : keyWin xs (pt t0_7) = keyGrad xs := by
  have e := grads_succ xs (pt t0_7)
  unfold keyWin keyGrad
  rw [if_pos (show (pt t0_7).val = 7 from rfl), show (8 : ℕ) = (pt t0_7).val + 1 from rfl, e]

theorem left_7 (j : (⟨2, ![4096, 256]⟩ : Shape).Idx) : keyGrad (inps m c) j = dkArr X j := by
  rw [eq_ix2 j]
  exact keyGrad_apply X (inps_hold hq hk hd') (j 0) (j 1)

theorem arr_7 : (dats m 0 c).arrAt 7 cfg0.N = dkArr X := by
  refine (dats m 0 c).arrAt_eq_of_after_last 7 t0_7 (by decide +kernel) _ fun j => ?_
  show (dats m 0 c).after 7 t0_7 j = dkArr X j
  rw [after_7, keyWin_last]
  exact left_7 hq hk hd' j

end Cert.Attn
-- ==== Proof.RefValue.lean ====
/- What the reference computes, of arguments that are real numbers. -/
module

public import proofs.«01_k».proof.Proof.Gen.ReferenceIdeal.Read
public import proofs.«01_k».proof.Proof.Nums

@[expose] public section

noncomputable section

namespace Cert.Attn.Ref

open Idealize.ShloMosaic Cert.ReferenceIdeal Cert.ReferenceIdeal.Gen Cert.ReferenceIdeal.Read

/-! ### The mask -/

/-- The quotient by 64 that the host computes in words. -/
theorem chunk_word (r : Fin 4096) : val_main_v4 (F := Ideal) (ix1 r) = BitVec.ofNat 32 (r.val / 64) := by
  pointwise [val_main_v4, val_main_call0_v11, val_main_call0_v13, val_main_call0_v2, val_main_call0_v6, val_main_call0_v10,
    val_main_call0_v3, val_main_call0_v5, val_main_call0_v4, val_main_call0_v8, val_main_call0_v9, val_main_v3, val_main_call0_v1,
    val_main_call0_v0, val_main_c, val_main_call0_v7, val_main_call0_c, val_main_call0_v12, val_main_call0_c_0]
  exact chunkWord_eq r

theorem mask (h : Fin 4) (r j : Fin 4096) : val_main_v11_1 (F := Ideal) (ix3 h r j) = BitVec.ofBool (decide (Sees r j)) := by
  pointwise [val_main_v11_1, val_main_v10, val_main_v9, val_main_v7, val_main_v8, val_main_v5, val_main_v6]
  rw [chunk_word, chunk_word]
  exact chunkWord_le ⟨j.val / 64, by omega⟩ ⟨r.val / 64, by omega⟩

variable (X : Nums)

theorem score (h : Fin 4) (r j : Fin 4096) : val_main_v2 (F := Ideal) X.qArr X.kArr (ix3 h r j) = ((X.score h r j : ℝ) : EReal) := by
  pointwise [val_main_v2, val_main_v1, val_main_v0, val_main_cst]
  rw [scale_word, Nums.score, Finset.sum_mul, coe_sum]
  refine Finset.sum_congr rfl fun c _ => ?_
  show ((X.q h r c : ℝ) : EReal) * ((scale : ℝ) : EReal) * ((X.k j c : ℝ) : EReal) = _
  rw [← EReal.coe_mul, ← EReal.coe_mul, mul_right_comm]

theorem masked (h : Fin 4) (r j : Fin 4096) : val_main_v11_0 (F := Ideal) X.qArr X.kArr (ix3 h r j) = X.masked h r j := by
  pointwise [val_main_v11_0, val_main_call1_v2, val_main_call1_v0, val_main_cst_0]
  rw [mask, score, Nums.masked]
  show Scalar.select _ _ (Ideal.ofBits .f32 0xFF800000#32) = _
  rw [negInf_word]
  by_cases hs : Sees r j
  · rw [if_pos hs, decide_eq_true hs]; rfl
  · rw [if_neg hs, decide_eq_false hs]; rfl

theorem top (h : Fin 4) (r : Fin 4096) : val_main_v12 (F := Ideal) X.qArr X.kArr (ix2 h r) = ((X.top h r : ℝ) : EReal) := by
  pointwise [val_main_v12, val_main_cst_1]
  rw [negInf_word, ← X.top_eq]
  exact congrArg (fun f => Finset.fold max ⊥ f Finset.univ) (funext fun j => masked X h r j)

theorem weight (h : Fin 4) (r j : Fin 4096) : val_main_v32 (F := Ideal) X.qArr X.kArr (ix3 h r j) = ((X.wt h r j : ℝ) : EReal) := by
  have e : idx_main_v29 (idx_main_v30 (ix3 h r j)) = ix2 h r := by
    funext a; match a with | ⟨0, _⟩ => rfl | ⟨1, _⟩ => rfl
  have e19 : val_main_v19 (F := Ideal) X.qArr X.kArr (ix2 h r) = ((X.top h r : ℝ) : EReal) := by
    rw [val_main_v19_apply, val_main_v18_apply, val_main_cst_3_apply, top]
    show max (Ideal.ofBits .f32 0xFF800000#32) _ = _
    rw [negInf_word, max_eq_right bot_le]
  rw [val_main_v32_apply, val_main_v31_apply, val_main_v30_apply, val_main_v29_apply, e, e19, masked]
  exact X.exp_masked h r j

theorem total (h : Fin 4) (r : Fin 4096) : val_main_v33 (F := Ideal) X.qArr X.kArr (ix2 h r) = ((X.tot h r : ℝ) : EReal) := by
  rw [val_main_v33_apply, Nums.tot, coe_sum]
  show Ideal.ofBits .f32 0x00000000#32 + _ = _
  rw [Ideal.ofBits_zero_f32, zero_add]
  refine Finset.sum_congr rfl fun j _ => ?_
  rw [← weight]
  refine congrArg _ ?_
  funext a; match a with | ⟨0, _⟩ => rfl | ⟨1, _⟩ => rfl | ⟨2, _⟩ => rfl

theorem total1 (h : Fin 4) (r : Fin 4096) (z : Fin 1) : val_main_v34 (F := Ideal) X.qArr X.kArr (ix3 h r z) = ((X.tot h r : ℝ) : EReal) := by
  rw [val_main_v34_apply, ← total]
  refine congrArg _ ?_
  funext a; match a with | ⟨0, _⟩ => rfl | ⟨1, _⟩ => rfl

theorem total2 (h : Fin 4) (r j : Fin 4096) : val_main_v35 (F := Ideal) X.qArr X.kArr (ix3 h r j) = ((X.tot h r : ℝ) : EReal) := by
  rw [val_main_v35_apply, ← total1 X h r 0]
  refine congrArg _ ?_
  funext a; match a with | ⟨0, _⟩ => rfl | ⟨1, _⟩ => rfl | ⟨2, _⟩ => rfl

theorem prob (h : Fin 4) (r j : Fin 4096) : val_main_v36 (F := Ideal) X.qArr X.kArr (ix3 h r j) = ((X.prob h r j : ℝ) : EReal) := by
  rw [val_main_v36_apply, total2, weight, Nums.prob]
  exact div_real _ (X.tot_pos h r).ne'

theorem value (j : Fin 4096) (c : Fin 128) : val_main_v40 (F := Ideal) X.kArr (ix2 j c) = ((X.k j (valCol c) : ℝ) : EReal) := by
  pointwise [val_main_v40]
  rfl

theorem dprob (h : Fin 4) (r j : Fin 4096) : val_main_v44 (F := Ideal) X.kArr X.dArr (ix3 h r j) = ((X.dprob h r j : ℝ) : EReal) := by
  rw [val_main_v44_apply, Nums.dprob, coe_sum]
  refine Finset.sum_congr rfl fun c _ => ?_
  have e : ridx_main_v44 (ix3 h r j) c = ix2 j c := by
    funext a; match a with | ⟨0, _⟩ => rfl | ⟨1, _⟩ => rfl
  rw [e, value, EReal.coe_mul]
  rfl

/-! ### The gradients -/

theorem meanTerm (h : Fin 4) (r j : Fin 4096) : val_main_v48 (F := Ideal) X.qArr X.kArr X.dArr (ix3 h r j)
    = ((X.dprob h r j * (1 / (X.tot h r * X.tot h r)) * X.wt h r j : ℝ) : EReal) := by
  have e : idx_main_v46 (ix3 h r j) = ix3 h r (0 : Fin 1) := by
    funext a; match a with | ⟨0, _⟩ => rfl | ⟨1, _⟩ => rfl | ⟨2, _⟩ => rfl
  have one : (Ideal.ofBits .f32 0x3F800000#32 : EReal) = ((1 : ℝ) : EReal) := by
    rw [Ideal.ofBits_one_f32, EReal.coe_one]
  have e39 : val_main_v39 (F := Ideal) X.qArr X.kArr (ix3 h r (0 : Fin 1)) = ((1 / (X.tot h r * X.tot h r) : ℝ) : EReal) := by
    rw [val_main_v39_apply, val_main_v38_apply, val_main_cst_10_apply, val_main_v37_apply, total1]
    show Ideal.div (Ideal.ofBits .f32 0x3F800000#32) (((X.tot h r : ℝ) : EReal) * ((X.tot h r : ℝ) : EReal)) = _
    rw [one, ← EReal.coe_mul, div_real _ (mul_pos (X.tot_pos h r) (X.tot_pos h r)).ne']
  rw [val_main_v48_apply, val_main_v47_apply, val_main_v46_apply, e, e39, dprob, weight]
  show ((X.dprob h r j : ℝ) : EReal) * _ * _ = _
  rw [← EReal.coe_mul, ← EReal.coe_mul]

theorem negMean (h : Fin 4) (r : Fin 4096) :
    val_main_v54 (F := Ideal) X.qArr X.kArr X.dArr (ix2 h r) = ((-(X.mean h r / X.tot h r) : ℝ) : EReal) := by
  have e49 : val_main_v49 (F := Ideal) X.qArr X.kArr X.dArr (ix2 h r) = ((X.mean h r / X.tot h r : ℝ) : EReal) := by
    rw [val_main_v49_apply]
    show Ideal.ofBits .f32 0x00000000#32 + _ = _
    rw [Ideal.ofBits_zero_f32, zero_add, Nums.mean, Finset.sum_div, coe_sum]
    refine Finset.sum_congr rfl fun j _ => ?_
    have e : idx_main_v49 (ix2 h r) j = ix3 h r j := by
      funext a; match a with | ⟨0, _⟩ => rfl | ⟨1, _⟩ => rfl | ⟨2, _⟩ => rfl
    rw [e, meanTerm, Nums.prob]
    refine congrArg _ ?_
    have := (X.tot_pos h r).ne'
    field_simp
  have e51 : ∀ z : Fin 1, val_main_v51 (F := Ideal) X.qArr X.kArr X.dArr (ix3 h r z) = ((-(X.mean h r / X.tot h r) : ℝ) : EReal) := by
    intro z
    rw [val_main_v51_apply, EReal.coe_neg, ← e49]
    have : val_main_v50 (F := Ideal) X.qArr X.kArr X.dArr (ix3 h r z) = val_main_v49 (F := Ideal) X.qArr X.kArr X.dArr (ix2 h r) := by
      have hz : z = 0 := Subsingleton.elim _ _
      subst hz
      pointwise [val_main_v50]
    rw [this]
    rfl
  pointwise [val_main_v54, val_main_cst_13]
  simp only [e51, Finset.univ_unique, Finset.sum_singleton, zero_add]

theorem dscore (h : Fin 4) (r j : Fin 4096) :
    val_main_v58 (F := Ideal) X.qArr X.kArr X.dArr (ix3 h r j) = ((X.dscore h r j : ℝ) : EReal) := by
  have e55 : val_main_v55 (F := Ideal) X.qArr X.kArr X.dArr (ix3 h r j) = ((-(X.mean h r / X.tot h r) : ℝ) : EReal) := by
    rw [val_main_v55_apply, ← negMean]
    refine congrArg _ ?_
    funext a; match a with | ⟨0, _⟩ => rfl | ⟨1, _⟩ => rfl
  have e52 : val_main_v52 (F := Ideal) X.qArr X.kArr (ix3 h r j) = ((X.tot h r : ℝ) : EReal) := by
    rw [val_main_v52_apply, ← total1 X h r 0]
    refine congrArg _ ?_
    funext a; match a with | ⟨0, _⟩ => rfl | ⟨1, _⟩ => rfl | ⟨2, _⟩ => rfl
  have ht := (X.tot_pos h r).ne'
  have e57 : val_main_v57 (F := Ideal) X.qArr X.kArr X.dArr (ix3 h r j) = ((X.dscore h r j : ℝ) : EReal) := by
    rw [val_main_v57_apply, val_main_v56_apply, val_main_v53_apply, e52, e55, dprob, weight]
    show (Ideal.div ((X.dprob h r j : ℝ) : EReal) ((X.tot h r : ℝ) : EReal) + _) * _ = _
    rw [div_real _ ht, ← EReal.coe_add, ← EReal.coe_mul, Nums.dscore, Nums.prob]
    refine congrArg _ ?_
    field_simp
    ring
  have ez : val_main_call2_v0 (F := Ideal) (ix3 h r j) = (0 : EReal) := by
    rw [val_main_call2_v0_apply]
    exact Ideal.ofBits_zero_f32
  rw [val_main_v58_apply, mask, e57, ez]
  by_cases hs : Sees r j
  · rw [decide_eq_true hs]; rfl
  · rw [decide_eq_false hs, X.dscore_unseen h r j hs, EReal.coe_zero]; rfl

/-- The reference's gradient of the scaled queries. -/
theorem dquery (h : Fin 4) (r : Fin 4096) (c : Fin 256) :
    val_main_v61 (F := Ideal) X.qArr X.kArr X.dArr (ix3 h r c) = ((X.dquery h r c : ℝ) : EReal) := by
  rw [val_main_v61_apply, Nums.dquery, coe_sum]
  refine Finset.sum_congr rfl fun j _ => ?_
  have e : lidx_main_v61 (ix3 h r c) j = ix3 h r j := by
    funext a; match a with | ⟨0, _⟩ => rfl | ⟨1, _⟩ => rfl | ⟨2, _⟩ => rfl
  rw [e, dscore, EReal.coe_mul]
  rfl

/-- The reference's gradient of the keys. -/
theorem dkey (j : Fin 4096) (c : Fin 256) :
    val_main_v60 (F := Ideal) X.qArr X.kArr X.dArr (ix2 j c) = ((X.dkey j c : ℝ) : EReal) := by
  have e59 : val_main_v59 (F := Ideal) X.qArr X.kArr X.dArr (ix2 j c)
      = (((∑ h, ∑ r, X.dscore h r j * X.q h r c) * scale : ℝ) : EReal) := by
    pointwise [val_main_v59, val_main_v1, val_main_v0, val_main_cst]
    rw [Finset.sum_mul, coe_sum]
    refine Finset.sum_congr rfl fun h _ => ?_
    rw [Finset.sum_mul, coe_sum]
    refine Finset.sum_congr rfl fun r _ => ?_
    rw [dscore, scale_word]
    show _ * (((X.q h r c : ℝ) : EReal) * _) = _
    rw [← EReal.coe_mul, ← EReal.coe_mul, mul_assoc]
  have e42 : ∀ c' : Fin 128, val_main_v42 (F := Ideal) X.qArr X.kArr X.dArr (ix2 c' j)
      = ((∑ h, ∑ r, X.prob h r j * X.d h r c' : ℝ) : EReal) := by
    intro c'
    pointwise [val_main_v42]
    rw [coe_sum]
    refine Finset.sum_congr rfl fun h _ => ?_
    rw [coe_sum]
    refine Finset.sum_congr rfl fun r _ => ?_
    rw [prob]
    show ((X.d h r c' : ℝ) : EReal) * _ = _
    rw [← EReal.coe_mul, mul_comm]
  have e45 : val_main_v45 (F := Ideal) X.qArr X.kArr X.dArr (ix2 j c) = ((X.dvalue j c : ℝ) : EReal) := by
    pointwise [val_main_v45, val_main_v43, val_main_cst_11]
    rw [Nums.dvalue]
    split
    · exact e42 _
    · exact EReal.coe_zero.symm
  rw [val_main_v60_apply, e59, e45, Nums.dkey, add_comm, EReal.coe_add]
  rfl

/-- The reference's gradient of the queries, as it is laid out: block `i`'s column `512 h + t` is query `512 i + t` of head `h`. -/
theorem dqueryT (i : Fin 8) (c : Fin 256) (h : Fin 4) (t : Fin 512) (z : Fin 2048) (hz : z.val = 512 * h.val + t.val)
    (r : Fin 4096) (hr : r.val = 512 * i.val + t.val) :
    val_main_v64 (F := Ideal) X.qArr X.kArr X.dArr (ix3 i c z) = ((X.dquery h r c : ℝ) : EReal) := by
  have := h.isLt; have := t.isLt; have := i.isLt; have := c.isLt
  have e64 : idx_main_v64 (ix3 i c z) = ix4 i c h t := by
    funext a
    match a with
    | ⟨0, _⟩ => exact Fin.ext (by show ((i.val * 256 + c.val) * 2048 + z.val) / 524288 = i.val; omega)
    | ⟨1, _⟩ => exact Fin.ext (by show ((i.val * 256 + c.val) * 2048 + z.val) / 2048 % 256 = c.val; omega)
    | ⟨2, _⟩ => exact Fin.ext (by show ((i.val * 256 + c.val) * 2048 + z.val) / 512 % 4 = h.val; omega)
    | ⟨3, _⟩ => exact Fin.ext (by show ((i.val * 256 + c.val) * 2048 + z.val) % 512 = t.val; omega)
  have e63 : idx_main_v63 (ix4 i c h t) = ix4 h i t c := by
    funext a; match a with | ⟨0, _⟩ => rfl | ⟨1, _⟩ => rfl | ⟨2, _⟩ => rfl | ⟨3, _⟩ => rfl
  have e62 : idx_main_v62 (ix4 h i t c) = ix3 h r c := by
    funext a
    match a with
    | ⟨0, _⟩ => exact Fin.ext (by show (((h.val * 8 + i.val) * 512 + t.val) * 256 + c.val) / 1048576 = h.val; omega)
    | ⟨1, _⟩ => exact Fin.ext (by show (((h.val * 8 + i.val) * 512 + t.val) * 256 + c.val) / 256 % 4096 = r.val; omega)
    | ⟨2, _⟩ => exact Fin.ext (by show (((h.val * 8 + i.val) * 512 + t.val) * 256 + c.val) % 256 = c.val; omega)
  rw [val_main_v64_apply, e64, val_main_v63_apply, e63, val_main_v62_apply, e62, dquery]

end Cert.Attn.Ref

end
-- ==== Proof.Finite.lean ====
/- The precondition of the value claim: every entry of the three arguments is a real number. -/
module

public import proofs.«01_k».proof.Proof.Nums
public import proofs.«01_k».proof.Proof.Gen.Pre_finite

@[expose] public section

noncomputable section

namespace Cert.Attn

open Idealize.ShloMosaic Cert.Pre_finite

/-- The word of the bound reads +∞. -/
theorem posInf_word : Ideal.ofBits .f32 0x7F800000#32 = (⊤ : EReal) := by
  show Ideal.ieee 8 23 0x7F800000#32 = _
  unfold Ideal.ieee
  rw [if_pos (by decide), if_pos (by decide), if_neg (by decide)]

theorem andi_one_iff (x y : BitVec 1) : IntOp.andi x y = 1#1 ↔ x = 1#1 ∧ y = 1#1 := by
  revert x y
  decide

theorem bit_one_iff (b : Bool) : BitVec.ofBool b = 1#1 ↔ b = true := by cases b <;> decide

/-- A value whose size is below +∞ is a real number. -/
theorem real_of_below (x : EReal) (h : FloatOps.absf (F := Ideal) (φ := .f32) x < Ideal.ofBits .f32 0x7F800000#32) : ((x.toReal : ℝ) : EReal) = x := by
  rw [posInf_word] at h
  have h' : max x (-x) < ⊤ := h
  refine EReal.coe_toReal (fun e => ?_) (fun e => ?_) <;> rw [e] at h' <;> simp at h'

section
variable {a : FVec Ideal S4x4096x256 .f32} {b : FVec Ideal S4096x256 .f32} {d : FVec Ideal S4x4096x128 .f32}
variable (h : fn (F := Ideal) a b d = fun _ => 1#1)
include h

/-- What the precondition says at one of its entries. -/
theorem real_at (o : Fin 4) (r : Fin 4096) (e : Fin 128) (lo hi : Fin 256) (hlo : lo.val = e.val) (hhi : hi.val = 128 + e.val) :
    ((((a (ix3 o r lo) : EReal).toReal : ℝ) : EReal) = a (ix3 o r lo) ∧ (((a (ix3 o r hi) : EReal).toReal : ℝ) : EReal) = a (ix3 o r hi))
    ∧ ((((b (ix2 r lo) : EReal).toReal : ℝ) : EReal) = b (ix2 r lo) ∧ (((b (ix2 r hi) : EReal).toReal : ℝ) : EReal) = b (ix2 r hi))
    ∧ (((d (ix3 o r e) : EReal).toReal : ℝ) : EReal) = d (ix3 o r e) := by
  have g := congrFun h (ix3 o r e)
  pointwise [fn, fn_part1] at g
  have elo : (⟨e.val, by have := e.isLt; omega⟩ : Fin 256) = lo := Fin.ext hlo.symm
  have ehi : (⟨128 + e.val, by have := e.isLt; omega⟩ : Fin 256) = hi := Fin.ext hhi.symm
  rw [elo, ehi] at g
  simp only [andi_one_iff, bit_one_iff, decide_eq_true_eq] at g
  obtain ⟨⟨⟨g1, g2⟩, g3, g4⟩, g5⟩ := g
  exact ⟨⟨real_of_below _ g1, real_of_below _ g2⟩, ⟨real_of_below _ g3, real_of_below _ g4⟩, real_of_below _ g5⟩

theorem real_q (o : Fin 4) (r : Fin 4096) (e : Fin 256) : (((a (ix3 o r e) : EReal).toReal : ℝ) : EReal) = a (ix3 o r e) := by
  by_cases he : e.val < 128
  · exact (real_at h o r ⟨e.val, he⟩ e ⟨128 + e.val, by omega⟩ rfl rfl).1.1
  · have := e.isLt
    exact (real_at h o r ⟨e.val - 128, by omega⟩ ⟨e.val - 128, by omega⟩ e rfl (by show e.val = 128 + (e.val - 128); omega)).1.2

theorem real_k (r : Fin 4096) (e : Fin 256) : (((b (ix2 r e) : EReal).toReal : ℝ) : EReal) = b (ix2 r e) := by
  by_cases he : e.val < 128
  · exact (real_at h 0 r ⟨e.val, he⟩ e ⟨128 + e.val, by omega⟩ rfl rfl).2.1.1
  · have := e.isLt
    exact (real_at h 0 r ⟨e.val - 128, by omega⟩ ⟨e.val - 128, by omega⟩ e rfl (by show e.val = 128 + (e.val - 128); omega)).2.1.2

theorem real_d (o : Fin 4) (r : Fin 4096) (e : Fin 128) : (((d (ix3 o r e) : EReal).toReal : ℝ) : EReal) = d (ix3 o r e) := by
  have := e.isLt
  exact (real_at h o r e ⟨e.val, by omega⟩ ⟨128 + e.val, by omega⟩ rfl rfl).2.2

end

/-- The numbers that the arguments are. -/
def numsOf (a : FVec Ideal S4x4096x256 .f32) (b : FVec Ideal S4096x256 .f32) (d : FVec Ideal S4x4096x128 .f32) : Nums where
  q o r e := EReal.toReal (a (ix3 o r e))
  k r e := EReal.toReal (b (ix2 r e))
  d o r e := EReal.toReal (d (ix3 o r e))

/-- Under the precondition the arguments are those numbers. -/
theorem args_eq {a : FVec Ideal S4x4096x256 .f32} {b : FVec Ideal S4096x256 .f32} {d : FVec Ideal S4x4096x128 .f32}
    (h : fn (F := Ideal) a b d = fun _ => 1#1) :
    a = (numsOf a b d).qArr ∧ b = (numsOf a b d).kArr ∧ d = (numsOf a b d).dArr := by
  refine ⟨funext fun i => ?_, funext fun i => ?_, funext fun i => ?_⟩
  · exact (congrArg a (eq_ix3 i)).trans (real_q h (i 0) (i 1) (i 2)).symm
  · exact (congrArg b (eq_ix2 i)).trans (real_k h (i 0) (i 1)).symm
  · exact (congrArg d (eq_ix3 i)).trans (real_d h (i 0) (i 1) (i 2)).symm

end Cert.Attn
-- ==== Proof.Value.lean ====
/- The value claim: of arguments that are real numbers, the ideal kernel and the ideal reference leave the same gradients. -/
module

public import proofs.«01_k».proof.Defs
public import proofs.«01_k».proof.Proof.Gen.ReferenceIdeal.Run
public import proofs.«01_k».proof.Proof.ArrValue
public import proofs.«01_k».proof.Proof.RefValue
public import proofs.«01_k».proof.Proof.Finite

@[expose] public section

noncomputable section

namespace Cert.Attn

open Idealize.ShloMosaic Idealize.ShloMosaic.TcCoe Idealize.SL.Sem

/-! ### The kernel's results -/

section
open Cert.KernelIdeal Cert.KernelIdeal.Gen

/-- The ideal kernel leaves the two gradients of the numbers `N c` that device `c`'s arguments are, and leaves its arguments alone. -/
theorem kernel_value (m : (ℓ : Loc nD τ sig) → Buf (Elt Ideal) ℓ) (g : Dev nD → PrngReg) (N : Dev nD → Nums)
    (hN : ∀ c, Host.argQ m c = (N c).qArr ∧ Host.argK m c = (N c).kArr ∧ Host.argD m c = (N c).dArr) :
    θ_run defs (onTc (τ := τ) (main (F := Ideal))) ⟨m, fun _ => 0, g⟩ (fun r => ∀ c : Dev nD,
      r.2.mem ((c.tc : Thread nD τ).loc main_v39_1) = dkArr (N c)
      ∧ r.2.mem ((c.tc : Thread nD τ).loc main_v39_0) = dqArr (N c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r (h : _ ∧ _) c =>
    ⟨((h.1 c).1 7).trans (arr_7 (hN c).1 (hN c).2.1 (hN c).2.2),
     ((h.1 c).1 6).trans (arr_6 (hN c).1 (hN c).2.1 (hN c).2.2),
     ((h.1 c).2 main_arg0 (Pipeline.mem_restRefs_of main_arg0 (by decide) (by decide))).trans (V_main_arg0 m c),
     ((h.1 c).2 main_arg1 (Pipeline.mem_restRefs_of main_arg1 (by decide) (by decide))).trans (V_main_arg1 m c),
     ((h.1 c).2 main_arg2 (Pipeline.mem_restRefs_of main_arg2 (by decide) (by decide))).trans (V_main_arg2 m c)⟩)
    (Attn.run_main m g)

end

/-! ### The reference's results -/

section
open Cert.ReferenceIdeal Cert.ReferenceIdeal.Gen Cert.ReferenceIdeal.Read

theorem ref_dk (X : Nums) : val_main_v60 (F := Ideal) X.qArr X.kArr X.dArr = dkArr X := by
  funext j
  exact (congrArg (val_main_v60 (F := Ideal) X.qArr X.kArr X.dArr) (eq_ix2 j)).trans (Ref.dkey X (j 0) (j 1))

theorem ref_dq (X : Nums) : val_main_v64 (F := Ideal) X.qArr X.kArr X.dArr = dqArr X := by
  funext j
  exact (congrArg (val_main_v64 (F := Ideal) X.qArr X.kArr X.dArr) (eq_ix3 j)).trans
    (Ref.dqueryT X (j 0) (j 1) (hd (j 2)) (col (j 2)) (j 2) (col_hd (j 2)) (row (j 0) (j 2)) rfl)

/-- The ideal reference computes the same two gradients. -/
theorem reference_value (m : (ℓ : Loc nD τ sig) → Buf (Elt Ideal) ℓ) (g : Dev nD → PrngReg) (N : Dev nD → Nums)
    (hN : ∀ c : Dev nD, m ((c.tc : Thread nD τ).loc main_arg0) = (N c).qArr ∧ m ((c.tc : Thread nD τ).loc main_arg1) = (N c).kArr
      ∧ m ((c.tc : Thread nD τ).loc main_arg2) = (N c).dArr) :
    θ_run defs (onTc (τ := τ) (main (F := Ideal))) ⟨m, fun _ => 0, g⟩ (fun r => ∀ c : Dev nD,
      r.2.mem ((c.tc : Thread nD τ).loc main_v60) = dkArr (N c)
      ∧ r.2.mem ((c.tc : Thread nD τ).loc main_v64) = dqArr (N c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => by
    refine ⟨(h c).1.trans ((val_main_v60_eq m c).trans ?_), (h c).2.1.trans ((val_main_v64_eq m c).trans ?_), (h c).2.2⟩
    · rw [(hN c).1, (hN c).2.1, (hN c).2.2, ref_dk]
    · rw [(hN c).1, (hN c).2.1, (hN c).2.2, ref_dq])
    (Cert.ReferenceIdeal.Value.run m g)

end

/-- The two programs agree on arguments that are real numbers. -/
theorem same_gradients :
    Cert.algebraic_KernelIdeal_ReferenceIdeal_pre_finite (hKernelIdeal := Cert.KernelIdeal.Gen.facts)
      (hReferenceIdeal := Cert.ReferenceIdeal.Gen.facts) (hPre_finite := Cert.Pre_finite.Gen.facts) := by
  intro m g m' g' hpre hagree
  let N : Dev Cert.KernelIdeal.nD → Nums := fun c => numsOf (Host.argQ m c) (Host.argK m c) (Host.argD m c)
  have hN : ∀ c, Host.argQ m c = (N c).qArr ∧ Host.argK m c = (N c).kArr ∧ Host.argD m c = (N c).dArr := fun c => args_eq (hpre c)
  exact ⟨fun c => dkArr (N c), fun c => dqArr (N c), kernel_value m g N hN,
    reference_value m' g' N fun c => ⟨(hagree c).1.trans (hN c).1, (hagree c).2.1.trans (hN c).2.1, (hagree c).2.2.trans (hN c).2.2⟩⟩

end Cert.Attn

end
-- ==== Proof.WeightGrad.lean ====
/- The weight gradient's call: its frames, and its value: one chunk's product at each point of the grid. -/
module

public import proofs.«01_k».proof.Defs
public import proofs.«01_k».proof.Proof.Gen.WeightGrad
public import proofs.«01_k».proof.Proof.Gen.WeightGradIdeal.Value
public import proofs.«01_k».proof.Proof.Gen.WeightGradReferenceIdeal.Run
public import proofs.«01_k».proof.Proof.Gen.WeightGradReferenceIdeal.Read
public import Idealize.ShloMosaic.Lib.Pipeline.ValueKit

@[expose] public section

noncomputable section

namespace Cert.Grad

open Idealize.ShloMosaic Idealize.ShloMosaic.TcCoe Idealize.SL.Sem

/-- The product that the gradient is: of each chunk's columns with the columns of `b`, over the 4096 rows. -/
def product (a : (⟨3, ![4, 4096, 704]⟩ : Shape).Idx → EReal) (b : (⟨2, ![4096, 1024]⟩ : Shape).Idx → EReal) :
    (⟨3, ![4, 704, 1024]⟩ : Shape).Idx → EReal := fun j => ∑ s : Fin 4096, a (ix3 (j 0) s (j 1)) * b (ix2 s (j 2))

section
open Cert.WeightGradIdeal Cert.WeightGradIdeal.Gen Cert.WeightGradIdeal.Value

/-- From every memory the call, over the float values `F`, terminates without a fault, its argument arrays end as they
    began, and every counter ends at zero. -/
def FrameOver (F : FTy → Type) [FloatOps F] : Prop :=
  ∀ (m : (ℓ : Loc nD τ sig) → Buf (Elt F) ℓ) (ρ : Dev nD → PrngReg), True →
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

theorem frame_over (F : FTy → Type) [FloatOps F] : FrameOver F := fun m ρ _ => frame m ρ

theorem zero3 : (![0, 0, 0] : Fin 3 → ℕ) = fun _ => 0 := funext fun a => by fin_cases a <;> rfl
theorem zero2 : (![0, 0] : Fin 2 → ℕ) = fun _ => 0 := funext fun a => by fin_cases a <;> rfl

/-- What a point leaves in the output's window: the product of its two blocks, added to zero. -/
theorem out_eq {F : FTy → Type} [FloatOps F] (c : Dev nD) (i : grid0.Coords) (arg2 : Memref sig .tc .vmem S1x4096x704 .bf16)
    (h2 : arg2.IsWhole) (arg3 : Memref sig .tc .vmem S4096x1024 .bf16) (h3 : arg3.IsWhole)
    (arg4 : Memref sig .tc .vmem S1x704x1024 .f32) (h4 : arg4.IsWhole) (hc : cond0_0 i) (x : Vec F S1x4096x704 .bf16)
    (y : Vec F S4096x1024 .bf16) : out0_A_2 c i arg2 h2 arg3 h3 arg4 h4 hc x y = k0_pay2 k0_pay1 x y := by
  unfold out0_A_2
  rw [View.read_writes_eq_canon _ _ _ (cover0_A_2 c i arg2 h2 arg3 h3 arg4 h4 hc x y)]
  unfold kernelRun0_A
  dsimp only
  sl_unfold_words
  rw [View.canon_cons_unit_zero (S := S1x704x1024) zero3, View.readCov_unit_zero (S := S1x704x1024) _ zero3]
  simp only [View.readAt_eq_ld, h2.read_unread, h3.read_unread, View.ld_unit_zero (S := S1x4096x704) zero3,
    View.ld_unit_zero (S := S4096x1024) zero2]

theorem pay_apply (x : Vec Ideal S1x4096x704 .bf16) (y : Vec Ideal S4096x1024 .bf16) (o : Fin 1) (f : Fin 704) (d : Fin 1024) :
    k0_pay2 k0_pay1 x y (ix3 o f d) = ∑ s : Fin 4096, (x (ix3 0 s f) : EReal) * y (ix2 s d) := by
  pointwise [k0_pay2, k0_pay1]

variable (m : (ℓ : Loc nD τ sig) → Buf (Elt Ideal) ℓ) (c : Dev nD)

/-- The chunks that the call is given. -/
def fa : FVec Ideal S4x4096x704 .f32 := m ((c : Thread nD τ).loc main_arg0)

/-- The rows that the call is given. -/
def fb : FVec Ideal S4096x1024 .f32 := m ((c : Thread nD τ).loc main_arg1)

theorem V_a : V m c main_v0 = (truncf (F := Ideal) .bf16 (fa m c) bitsLt_bf16_f32 : FVec Ideal S4x4096x704 .bf16) := by
  simp only [V, hostOps0]
  after_results_simp <;> rfl

theorem V_b : V m c main_v1 = (truncf (F := Ideal) .bf16 (fb m c) bitsLt_bf16_f32 : FVec Ideal S4096x1024 .bf16) := by
  simp only [V, hostOps0]
  after_results_simp <;> rfl

theorem index_0 : ∀ t : Fin cfg0.N, win0_0.index t = ![t.val, 0, 0] := by decide +kernel
theorem index_1 : ∀ t : Fin cfg0.N, win0_1.index t = ![0, 0] := by decide +kernel
theorem index_2 : ∀ t : Fin cfg0.N, win0_2.index t = ![t.val, 0, 0] := by decide +kernel

/-- The chunk that a point is of. -/
def pt (t : Fin cfg0.N) : Fin 4 := ⟨t.val, lt_of_lt_of_eq t.isLt (by decide)⟩

theorem emb_0 (t : Fin cfg0.N) (s : Fin 4096) (f : Fin 704) : (win0_0.blk t).view.emb (ix3 (0 : Fin 1) s f) = ix3 (pt t) s f := by
  blk_ext [index_0, pt]

theorem emb_1 (t : Fin cfg0.N) (s : Fin 4096) (d : Fin 1024) : (win0_1.blk t).view.emb (ix2 s d) = ix2 s d := by
  blk_ext [index_1]

theorem emb_2 (t : Fin cfg0.N) (o : Fin 1) (f : Fin 704) (d : Fin 1024) :
    (win0_2.blk t).view.emb (ix3 o f d) = ix3 (pt t) f d := by
  have := o.isLt
  blk_ext [index_2, pt]

theorem view_0 (G : Buf (Elt Ideal) ((c : Thread nD τ).loc main_v0)) (t : Fin cfg0.N) (s : Fin 4096) (f : Fin 704) :
    ((cfg0.win 0).blk t).view.read (Elt Ideal) G (ix3 (0 : Fin 1) s f) = G (ix3 (pt t) s f) :=
  congrArg G (emb_0 t s f)

theorem view_1 (G : Buf (Elt Ideal) ((c : Thread nD τ).loc main_v1)) (t : Fin cfg0.N) (s : Fin 4096) (d : Fin 1024) :
    ((cfg0.win 1).blk t).view.read (Elt Ideal) G (ix2 s d) = G (ix2 s d) :=
  congrArg G (emb_1 t s d)

theorem read_0 (t : Fin cfg0.N) (s : Fin 4096) (f : Fin 704) :
    iblk m c 0 t (ix3 (0 : Fin 1) s f) = fa m c (ix3 (pt t) s f) :=
  (view_0 c (V m c main_v0) t s f).trans (congrFun (V_a m c) _)

theorem read_1 (t : Fin cfg0.N) (s : Fin 4096) (d : Fin 1024) :
    iblk m c 1 t (ix2 s d) = fb m c (ix2 s d) :=
  (view_1 c (V m c main_v1) t s d).trans (congrFun (V_b m c) _)

theorem left_2 (t : Fin cfg0.N) (y : (⟨3, ![1, 704, 1024]⟩ : Shape).Idx) : outsAt0 m c t y
    = product (fa m c) (fb m c) ((win0_2.blk t).view.emb y) := by
  have e : ∀ (o : Fin 1) (f : Fin 704) (d : Fin 1024), outsAt0 m c t (ix3 o f d)
      = product (fa m c) (fb m c) ((win0_2.blk t).view.emb (ix3 o f d)) := by
    intro o f d
    rw [emb_2]
    refine (congrFun (out_eq ..) _).trans ((pay_apply _ _ o f d).trans (Finset.sum_congr rfl fun s _ => ?_))
    rw [read_0, read_1]
    rfl
  rw [eq_ix3 y]
  exact e (y 0) (y 1) (y 2)

theorem arr_2 : (dats m 0 c).arrAt 2 cfg0.N
    = product (fa m c) (fb m c) := by
  refine (dats m 0 c).arrAt_eq_of_covers 2 _ (by decide +kernel) fun t hf y => ?_
  show (dats m 0 c).after 2 t y = product (fa m c) (fb m c) ((win0_2.blk t).view.emb y)
  rw [after0_2]
  exact left_2 m c t y

end

/-- The claim on float words says what `FrameOver Bits` says: the two programs have one text. -/
theorem frame_eq : Cert.quiescent_WeightGrad (hWeightGrad := Cert.WeightGrad.Gen.facts) = FrameOver Bits := by
  sl_kernel_rfl

section
open Cert.WeightGradReferenceIdeal Cert.WeightGradReferenceIdeal.Gen Cert.WeightGradReferenceIdeal.Read

theorem reference_apply (x : FVec Ideal S4x4096x704 .f32) (y : FVec Ideal S4096x1024 .f32) :
    transpose S4x704x1024 [1, 2, 0] (Host.dotGeneral (F := Ideal) dot_S4096x1024_S4x4096x704_S1024x4x704_0_1_1_02_n_n none y x : FVec Ideal S1024x4x704 .f32)
      transposes_S1024x4x704_S4x704x1024_1_2_0 = product x y := by
  have e : ∀ (g : Fin 4) (f : Fin 704) (d : Fin 1024), transpose S4x704x1024 [1, 2, 0]
      (Host.dotGeneral (F := Ideal) dot_S4096x1024_S4x4096x704_S1024x4x704_0_1_1_02_n_n none y x : FVec Ideal S1024x4x704 .f32)
      transposes_S1024x4x704_S4x704x1024_1_2_0 (ix3 g f d) = product x y (ix3 g f d) := by
    intro g f d
    pointwise
    exact Finset.sum_congr rfl fun s _ => mul_comm _ _
  funext j
  rw [eq_ix3 j]
  exact e (j 0) (j 1) (j 2)

end

/-- The two programs leave the same gradient. -/
theorem same_gradient :
    Cert.algebraic_WeightGradIdeal_WeightGradReferenceIdeal (hWeightGradIdeal := Cert.WeightGradIdeal.Gen.facts)
      (hWeightGradReferenceIdeal := Cert.WeightGradReferenceIdeal.Gen.facts) := by
  intro m g m' g' _ hagree
  refine ⟨fun c => product (m ((c.tc : Thread Cert.WeightGradIdeal.nD Cert.WeightGradIdeal.τ).loc Cert.WeightGradIdeal.main_arg0))
      (m ((c.tc : Thread Cert.WeightGradIdeal.nD Cert.WeightGradIdeal.τ).loc Cert.WeightGradIdeal.main_arg1)), ?_, ?_⟩
  · exact (θ_run _ _ _).mono (fun r h c => ⟨(h c).1.trans (arr_2 m c), (h c).2⟩) (Cert.WeightGradIdeal.Value.run_blocks m g)
  · refine (θ_run _ _ _).mono (fun r h c => ⟨(h c).1.trans ((reference_apply _ _).trans ?_), (h c).2⟩)
      (Cert.WeightGradReferenceIdeal.Value.run m' g')
    rw [(hagree c).1, (hagree c).2]

end Cert.Grad

end
-- ==== Proof.OutGrad.lean ====
/- The call for the gradient of the mixer's output weight: its frames, and its value: the product, left by the one point of
   the grid. -/
module

public import proofs.«01_k».proof.Defs
public import proofs.«01_k».proof.Proof.Gen.OutGrad
public import proofs.«01_k».proof.Proof.Gen.OutGradIdeal.Value
public import proofs.«01_k».proof.Proof.Gen.OutGradReferenceIdeal.Run
public import proofs.«01_k».proof.Proof.Gen.OutGradReferenceIdeal.Read
public import proofs.«01_k».proof.Proof.WeightGrad
public import Idealize.ShloMosaic.Lib.Pipeline.ValueKit

@[expose] public section

noncomputable section

namespace Cert.Out

open Idealize.ShloMosaic Idealize.ShloMosaic.TcCoe Idealize.SL.Sem

/-- The product that the gradient is: of the columns of `a` with the columns of `b`, over the 4096 rows. -/
def product (a b : (⟨2, ![4096, 1024]⟩ : Shape).Idx → EReal) :
    (⟨3, ![1, 1024, 1024]⟩ : Shape).Idx → EReal := fun j => ∑ s : Fin 4096, a (ix2 s (j 1)) * b (ix2 s (j 2))

section
open Cert.OutGradIdeal Cert.OutGradIdeal.Gen Cert.OutGradIdeal.Value

/-- From every memory the call, over the float values `F`, terminates without a fault, its argument arrays end as they
    began, and every counter ends at zero. -/
def FrameOver (F : FTy → Type) [FloatOps F] : Prop :=
  ∀ (m : (ℓ : Loc nD τ sig) → Buf (Elt F) ℓ) (ρ : Dev nD → PrngReg), True →
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

theorem frame_over (F : FTy → Type) [FloatOps F] : FrameOver F := fun m ρ _ => frame m ρ

/-- What the point leaves in the output's window: the product of the two arrays, added to zero. -/
theorem out_eq {F : FTy → Type} [FloatOps F] (c : Dev nD) (i : grid0.Coords) (arg2 : Memref sig .tc .vmem S4096x1024 .bf16)
    (h2 : arg2.IsWhole) (arg3 : Memref sig .tc .vmem S4096x1024 .bf16) (h3 : arg3.IsWhole)
    (arg4 : Memref sig .tc .vmem S1x1024x1024 .f32) (h4 : arg4.IsWhole) (hc : cond0_0 i) (x : Vec F S4096x1024 .bf16)
    (y : Vec F S4096x1024 .bf16) : out0_A_2 c i arg2 h2 arg3 h3 arg4 h4 hc x y = k0_pay2 k0_pay1 x y := by
  unfold out0_A_2
  rw [View.read_writes_eq_canon _ _ _ (cover0_A_2 c i arg2 h2 arg3 h3 arg4 h4 hc x y)]
  unfold kernelRun0_A
  dsimp only
  sl_unfold_words
  rw [View.canon_cons_unit_zero (S := S1x1024x1024) Grad.zero3, View.readCov_unit_zero (S := S1x1024x1024) _ Grad.zero3]
  simp only [View.readAt_eq_ld, h2.read_unread, h3.read_unread, View.ld_unit_zero (S := S4096x1024) Grad.zero2]

theorem pay_apply (x : Vec Ideal S4096x1024 .bf16) (y : Vec Ideal S4096x1024 .bf16) (o : Fin 1) (f : Fin 1024) (d : Fin 1024) :
    k0_pay2 k0_pay1 x y (ix3 o f d) = ∑ s : Fin 4096, (x (ix2 s f) : EReal) * y (ix2 s d) := by
  pointwise [k0_pay2, k0_pay1]

variable (m : (ℓ : Loc nD τ sig) → Buf (Elt Ideal) ℓ) (c : Dev nD)

/-- The columns that the call is given. -/
def fa : FVec Ideal S4096x1024 .f32 := m ((c : Thread nD τ).loc main_arg0)

/-- The rows that the call is given. -/
def fb : FVec Ideal S4096x1024 .f32 := m ((c : Thread nD τ).loc main_arg1)

theorem V_a : V m c main_v0 = (truncf (F := Ideal) .bf16 (fa m c) bitsLt_bf16_f32 : FVec Ideal S4096x1024 .bf16) := by
  simp only [V, hostOps0]
  after_results_simp <;> rfl

theorem V_b : V m c main_v1 = (truncf (F := Ideal) .bf16 (fb m c) bitsLt_bf16_f32 : FVec Ideal S4096x1024 .bf16) := by
  simp only [V, hostOps0]
  after_results_simp <;> rfl

theorem index_0 : ∀ t : Fin cfg0.N, win0_0.index t = ![0, 0] := by decide +kernel
theorem index_1 : ∀ t : Fin cfg0.N, win0_1.index t = ![0, 0] := by decide +kernel
theorem index_2 : ∀ t : Fin cfg0.N, win0_2.index t = ![0, 0, 0] := by decide +kernel

theorem emb_0 (t : Fin cfg0.N) (s : Fin 4096) (f : Fin 1024) : (win0_0.blk t).view.emb (ix2 s f) = ix2 s f := by
  blk_ext [index_0]

theorem emb_1 (t : Fin cfg0.N) (s : Fin 4096) (d : Fin 1024) : (win0_1.blk t).view.emb (ix2 s d) = ix2 s d := by
  blk_ext [index_1]

theorem emb_2 (t : Fin cfg0.N) (o : Fin 1) (f : Fin 1024) (d : Fin 1024) :
    (win0_2.blk t).view.emb (ix3 o f d) = ix3 o f d := by
  blk_ext [index_2]

theorem view_0 (G : Buf (Elt Ideal) ((c : Thread nD τ).loc main_v0)) (t : Fin cfg0.N) (s : Fin 4096) (f : Fin 1024) :
    ((cfg0.win 0).blk t).view.read (Elt Ideal) G (ix2 s f) = G (ix2 s f) :=
  congrArg G (emb_0 t s f)

theorem view_1 (G : Buf (Elt Ideal) ((c : Thread nD τ).loc main_v1)) (t : Fin cfg0.N) (s : Fin 4096) (d : Fin 1024) :
    ((cfg0.win 1).blk t).view.read (Elt Ideal) G (ix2 s d) = G (ix2 s d) :=
  congrArg G (emb_1 t s d)

theorem read_0 (t : Fin cfg0.N) (s : Fin 4096) (f : Fin 1024) : iblk m c 0 t (ix2 s f) = fa m c (ix2 s f) :=
  (view_0 c (V m c main_v0) t s f).trans (congrFun (V_a m c) _)

theorem read_1 (t : Fin cfg0.N) (s : Fin 4096) (d : Fin 1024) : iblk m c 1 t (ix2 s d) = fb m c (ix2 s d) :=
  (view_1 c (V m c main_v1) t s d).trans (congrFun (V_b m c) _)

theorem left_2 (t : Fin cfg0.N) (y : (⟨3, ![1, 1024, 1024]⟩ : Shape).Idx) : outsAt0 m c t y
    = product (fa m c) (fb m c) ((win0_2.blk t).view.emb y) := by
  have e : ∀ (o : Fin 1) (f : Fin 1024) (d : Fin 1024), outsAt0 m c t (ix3 o f d)
      = product (fa m c) (fb m c) ((win0_2.blk t).view.emb (ix3 o f d)) := by
    intro o f d
    rw [emb_2]
    refine (congrFun (out_eq ..) _).trans ((pay_apply _ _ o f d).trans (Finset.sum_congr rfl fun s _ => ?_))
    rw [read_0, read_1]
    rfl
  rw [eq_ix3 y]
  exact e (y 0) (y 1) (y 2)

theorem arr_2 : (dats m 0 c).arrAt 2 cfg0.N
    = product (fa m c) (fb m c) := by
  refine (dats m 0 c).arrAt_eq_of_covers 2 _ (by decide +kernel) fun t hf y => ?_
  show (dats m 0 c).after 2 t y = product (fa m c) (fb m c) ((win0_2.blk t).view.emb y)
  rw [after0_2]
  exact left_2 m c t y

end

/-- The claim on float words says what `FrameOver Bits` says: the two programs have one text. -/
theorem frame_eq : Cert.quiescent_OutGrad (hOutGrad := Cert.OutGrad.Gen.facts) = FrameOver Bits := by
  sl_kernel_rfl

section
open Cert.OutGradReferenceIdeal Cert.OutGradReferenceIdeal.Gen Cert.OutGradReferenceIdeal.Read

/-- The reference's lines after its product turn it over and give it a first axis of size one. -/
theorem reference_apply (x y : FVec Ideal S4096x1024 .f32) :
    (broadcastInDim S1x1024x1024 ![1, 2] bcast_S1024x1024_S1x1024x1024_1_2 (transpose S1024x1024 [1, 0]
      (Host.dotGeneral (F := Ideal) dot_S4096x1024_S4096x1024_S1024x1024_0_0_1_1_n_n none y x : FVec Ideal S1024x1024 .f32)
      transposes_S1024x1024_S1024x1024_1_0) : FVec Ideal S1x1024x1024 .f32) = product x y := by
  have e : ∀ (o : Fin 1) (f : Fin 1024) (d : Fin 1024),
      (broadcastInDim S1x1024x1024 ![1, 2] bcast_S1024x1024_S1x1024x1024_1_2 (transpose S1024x1024 [1, 0]
      (Host.dotGeneral (F := Ideal) dot_S4096x1024_S4096x1024_S1024x1024_0_0_1_1_n_n none y x : FVec Ideal S1024x1024 .f32)
      transposes_S1024x1024_S1024x1024_1_0) : FVec Ideal S1x1024x1024 .f32) (ix3 o f d) = product x y (ix3 o f d) := by
    intro o f d
    pointwise
    exact Finset.sum_congr rfl fun s _ => mul_comm _ _
  funext j
  rw [eq_ix3 j]
  exact e (j 0) (j 1) (j 2)

end

/-- The two programs leave the same gradient. -/
theorem same_gradient :
    Cert.algebraic_OutGradIdeal_OutGradReferenceIdeal (hOutGradIdeal := Cert.OutGradIdeal.Gen.facts)
      (hOutGradReferenceIdeal := Cert.OutGradReferenceIdeal.Gen.facts) := by
  intro m g m' g' _ hagree
  refine ⟨fun c => product (m ((c.tc : Thread Cert.OutGradIdeal.nD Cert.OutGradIdeal.τ).loc Cert.OutGradIdeal.main_arg0))
      (m ((c.tc : Thread Cert.OutGradIdeal.nD Cert.OutGradIdeal.τ).loc Cert.OutGradIdeal.main_arg1)), ?_, ?_⟩
  · exact (θ_run _ _ _).mono (fun r h c => ⟨(h c).1.trans (arr_2 m c), (h c).2⟩) (Cert.OutGradIdeal.Value.run_blocks m g)
  · refine (θ_run _ _ _).mono (fun r h c => ⟨(h c).1.trans ((reference_apply _ _).trans ?_), (h c).2⟩)
      (Cert.OutGradReferenceIdeal.Value.run m' g')
    rw [(hagree c).1, (hagree c).2]

end Cert.Out

end
-- ==== Proof.FfnFrame.lean ====
/- The frame of the FFN's backward call on float words: the frame that its run makes over any float values. -/
module

public import proofs.«01_k».proof.Defs
public import proofs.«01_k».proof.Proof.Gen.FfnBackward
public import proofs.«01_k».proof.Proof.Gen.FfnBackwardIdeal.Frame

@[expose] public section

noncomputable section

namespace Cert.Ffn

open Idealize.ShloMosaic Idealize.ShloMosaic.TcCoe Idealize.SL.Sem

section
open Cert.FfnBackwardIdeal Cert.FfnBackwardIdeal.Gen

/-- From every memory the call, over the float values `F`, terminates without a fault, its argument arrays end as they
    began, and every counter ends at zero. -/
def FrameOver (F : FTy → Type) [FloatOps F] : Prop :=
  ∀ (m : (ℓ : Loc nD τ sig) → Buf (Elt F) ℓ) (ρ : Dev nD → PrngReg), True →
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0)

theorem frame_over (F : FTy → Type) [FloatOps F] : FrameOver F := fun m ρ _ => frame m ρ

end

/-- The claim on float words says what `FrameOver Bits` says: the two programs have one text. -/
theorem frame_eq : Cert.quiescent_FfnBackward (hFfnBackward := Cert.FfnBackward.Gen.facts) = FrameOver Bits := by
  sl_kernel_rfl

end Cert.Ffn

end
-- ==== Proof.FfnBody.lean ====
/- One point of the FFN's backward call: what its stores leave in each buffer, over any float values. Every point leaves
   the two gradients of its chunk and adds their products to the accumulator; the last point of a block of rows also
   leaves the norm's derivative and adds to the three sums. -/
module

public import proofs.«01_k».proof.Proof.Gen.FfnBackwardIdeal.Frame
public import Idealize.ShloMosaic.Lib.Pipeline.ValueKit
public import Idealize.ShloMosaic.Lib.Pipeline.RowLoads
public import Idealize.ShloMosaic.Lib.WritesUnit

@[expose] public section

noncomputable section

namespace Cert.Ffn

open Idealize.ShloMosaic Idealize.ShloMosaic.TcCoe Idealize.SL.Sem
open Cert.FfnBackwardIdeal Cert.FfnBackwardIdeal.Gen

variable {F : FTy → Type} [FloatOps F]

/-- The first 256 rows of a block of a chunk, and the last. -/
abbrev lo3 : Rect S1x512x704 := Rect.unit (s := S1x512x704) ![0, 0, 0] S1x256x704.size inb_S1x512x704_S1x256x704_0_0_0
abbrev hi3 : Rect S1x512x704 := Rect.unit (s := S1x512x704) ![0, 256, 0] S1x256x704.size inb_S1x512x704_S1x256x704_0_256_0

/-- The first 256 rows of a block, and the last. -/
abbrev lo2 : Rect S512x1024 := Rect.unit (s := S512x1024) ![0, 0] S256x1024.size inb_S512x1024_S256x1024_0_0
abbrev hi2 : Rect S512x1024 := Rect.unit (s := S512x1024) ![256, 0] S256x1024.size inb_S512x1024_S256x1024_256_0

/-- A block, whole. -/
abbrev all2 : Rect S512x1024 := Rect.unit (s := S512x1024) ![0, 0] S512x1024.size inb_S512x1024_S512x1024_0_0

/-- A weight's chunk at the point `i`. -/
abbrev chunk (i : grid0.Coords) : Rect S4x704x1024 := Rect.unit (s := S4x704x1024) (k0_off1 i) S1x704x1024.size (k0_off1_inb i)

/-- Row `k` of the sums, for the three rows that are written. -/
abbrev row0 : Rect S8x1024 := Rect.unit (s := S8x1024) ![0, 0] S1x1024.size inb_S8x1024_S1x1024_0_0
abbrev row1 : Rect S8x1024 := Rect.unit (s := S8x1024) ![1, 0] S1x1024.size inb_S8x1024_S1x1024_1_0
abbrev row2 : Rect S8x1024 := Rect.unit (s := S8x1024) ![2, 0] S1x1024.size inb_S8x1024_S1x1024_2_0

/-- The row of the modulation that is the scale. -/
abbrev scaleRow : Rect S6x1024 := Rect.unit (s := S6x1024) ![4, 0] S1x1024.size inb_S6x1024_S1x1024_4_0

section
variable (i : grid0.Coords) (x2 : Vec F S512x1024 .bf16) (x3 x4 : Vec F S1x512x704 .bf16) (x7 x8 x9 : Vec F S4x704x1024 .bf16)

/-- The two gradients of the first 256 rows, and of the last. -/
def dupLo : FVec F S256x704 .bf16 := k0_pay18 (View.ld x3 lo3) (View.ld x2 lo2) (View.ld x9 (chunk i))
def dupHi : FVec F S256x704 .bf16 := k0_pay18 (View.ld x3 hi3) (View.ld x2 hi2) (View.ld x9 (chunk i))
def dgateLo : FVec F S256x704 .bf16 := k0_pay19 (View.ld x3 lo3) (View.ld x4 lo3) (View.ld x2 lo2) (View.ld x9 (chunk i))
def dgateHi : FVec F S256x704 .bf16 := k0_pay19 (View.ld x3 hi3) (View.ld x4 hi3) (View.ld x2 hi2) (View.ld x9 (chunk i))

/-- The block of `dup` that a point leaves. -/
def dupBlk : Vec F S1x512x704 .bf16 :=
  View.canon [⟨hi3, k0_pay20 (dupHi i x2 x3 x9)⟩, ⟨lo3, k0_pay20 (dupLo i x2 x3 x9)⟩]

/-- The block of `dgate` that a point leaves. -/
def dgateBlk : Vec F S1x512x704 .bf16 :=
  View.canon [⟨hi3, k0_pay21 (dgateHi i x2 x3 x4 x9)⟩, ⟨lo3, k0_pay21 (dgateLo i x2 x3 x4 x9)⟩]

/-- The products of one half's rows, added to what the half had. -/
def accLo (a : Vec F S512x1024 .f32) : FVec F S256x1024 .f32 :=
  k0_pay22 (dupLo i x2 x3 x9) (dgateLo i x2 x3 x4 x9) (View.ld a lo2) (View.ld x7 (chunk i)) (View.ld x8 (chunk i))
def accHi (a : Vec F S512x1024 .f32) : FVec F S256x1024 .f32 :=
  k0_pay22 (dupHi i x2 x3 x9) (dgateHi i x2 x3 x4 x9) (View.ld a hi2) (View.ld x7 (chunk i)) (View.ld x8 (chunk i))

/-- The accumulator that a point leaves, where it had `a`. -/
def accBlk (a : Vec F S512x1024 .f32) : Vec F S512x1024 .f32 :=
  View.canon [⟨hi2, accHi i x2 x3 x4 x7 x8 x9 a⟩, ⟨lo2, accLo i x2 x3 x4 x7 x8 x9 a⟩]

end

/-- Two stores of 256 rows are the block. -/
theorem halves2 (a b : Vec F S256x1024 .f32) (y : S512x1024.Idx) :
    ∃ p ∈ ([⟨hi2, a⟩, ⟨lo2, b⟩] : List (View.Piece (Elt F) S512x1024 .f32)), y ∈ p.1.set := by
  have h0 : (y (0 : Fin 2)).val < 512 := (y 0).isLt
  have h1 : (y (1 : Fin 2)).val < 1024 := (y 1).isLt
  by_cases h : (y (0 : Fin 2)).val < 256
  · refine ⟨⟨lo2, b⟩, by simp, show y ∈ lo2.set from Rect.mem_set_unit.mpr (Fin.forall_fin_two.mpr ⟨⟨Nat.zero_le _, ?_⟩, Nat.zero_le _, ?_⟩)⟩
    · show (y (0 : Fin 2)).val < 0 + 256; omega
    · show (y (1 : Fin 2)).val < 0 + 1024; omega
  · refine ⟨⟨hi2, a⟩, by simp, show y ∈ hi2.set from Rect.mem_set_unit.mpr (Fin.forall_fin_two.mpr ⟨⟨?_, ?_⟩, Nat.zero_le _, ?_⟩)⟩
    · show 256 ≤ (y (0 : Fin 2)).val; omega
    · show (y (0 : Fin 2)).val < 256 + 256; omega
    · show (y (1 : Fin 2)).val < 0 + 1024; omega

/-- Under two stores that are the block nothing earlier is seen. -/
theorem canon_halves (a b : Vec F S256x1024 .f32) (L : List (View.Piece (Elt F) S512x1024 .f32)) :
    View.canon ((⟨hi2, a⟩ : View.Piece (Elt F) S512x1024 .f32) :: ⟨lo2, b⟩ :: L) = View.canon [⟨hi2, a⟩, ⟨lo2, b⟩] := by
  funext y
  by_cases h : y ∈ hi2.set
  · obtain ⟨x, rfl⟩ := hi2.exists_idx_of_mem h
    exact (View.canon_cons_emb hi2 a _ x).trans (View.canon_cons_emb hi2 a _ x).symm
  · have h' : y ∈ lo2.set := by
      obtain ⟨p, hp, hy⟩ := halves2 a b y
      simp only [List.mem_cons, List.mem_nil_iff, or_false] at hp
      rcases hp with rfl | rfl
      · exact absurd hy h
      · exact hy
    refine (View.canon_cons_of_not_mem ⟨hi2, a⟩ _ h).trans (Eq.trans ?_ (View.canon_cons_of_not_mem ⟨hi2, a⟩ _ h).symm)
    obtain ⟨x, rfl⟩ := lo2.exists_idx_of_mem h'
    exact (View.canon_cons_emb lo2 b _ x).trans (View.canon_cons_emb lo2 b _ x).symm

theorem zeros2 : (![0, 0] : Fin 2 → ℕ) = fun _ => 0 := funext fun a => by fin_cases a <;> rfl

/-- What the first half reads of the zeros just stored, and what the last half reads past the first half's store. -/
theorem readCov_lo (v : View sig .tc .vmem S512x1024 .f32) (z : Vec F S512x1024 .f32) :
    v.readCov (Val := Elt F) [⟨all2, z⟩] lo2.toLoadRect = View.ld z lo2 := by
  rw [View.readCov_eq_canon', View.canon_unit_zero zeros2]

theorem readCov_hi (v : View sig .tc .vmem S512x1024 .f32) (z : Vec F S512x1024 .f32) (b : Vec F S256x1024 .f32) :
    v.readCov (Val := Elt F) [⟨lo2, b⟩, ⟨all2, z⟩] hi2.toLoadRect = View.ld z hi2 := by
  refine (View.readCov_cons_of_rows_disjoint v 0 256 (.inl (le_refl _)) b _ _ _).trans ?_
  rw [View.readCov_eq_canon', View.canon_unit_zero zeros2]

/-- What is read of the accumulator once both halves are stored. -/
theorem readCov_all (v : View sig .tc .vmem S512x1024 .f32) (a b : Vec F S256x1024 .f32) :
    v.readCov (Val := Elt F) [⟨hi2, a⟩, ⟨lo2, b⟩] all2.toLoadRect = View.canon [⟨hi2, a⟩, ⟨lo2, b⟩] := by
  rw [View.readCov_eq_canon_ld v _ all2 (halves2 a b), View.ld_unit_zero zeros2]

section
variable {a a' : Vec F S512x1024 .f32} {x x' y y' : Vec F S512x1024 .f32} {g g' s s' r r' : Vec F S1x1024 .f32}

theorem pay7_congr (hx : x = x') (ha : a = a') (hs : s = s') (hg : g = g') (hy : y = y') :
    k0_pay7 (k0_pay8 x) (k0_pay9 x) (k0_pay12 a s) g y = k0_pay7 (k0_pay8 x') (k0_pay9 x') (k0_pay12 a' s') g' y' := by
  subst hx ha hs hg hy; rfl

theorem pay10_congr (ha : a = a') (hr : r = r') : k0_pay10 a r = k0_pay10 a' r' := by
  subst ha hr; rfl

theorem pay11_congr (ha : a = a') (hx : x = x') (hg : g = g') (hr : r = r') : k0_pay11 a x g r = k0_pay11 a' x' g' r' := by
  subst ha hx hg hr; rfl

theorem pay6_congr (hx : x = x') (ha : a = a') (hs : s = s') (hr : r = r') :
    k0_pay6 (k0_pay9 x) (k0_pay12 a s) r = k0_pay6 (k0_pay9 x') (k0_pay12 a' s') r' := by
  subst hx ha hs hr; rfl

end

section
variable (v : View sig .tc .vmem S8x1024 .f32) (f : v.ty.Contents (Elt F)) (p q r : Vec F S1x1024 .f32) (d : Fin 1024)

/-- What the sums' buffer holds once its first three rows are stored. -/
theorem stored_2 : v.read (Elt F) (v.writes (Elt F) f [⟨row2, r⟩, ⟨row1, q⟩, ⟨row0, p⟩]) (ix2 2 d) = r (ix2 0 d) :=
  View.read_writes_cons_rows_of_mem (d := ![8, 1024]) v f _ r _ _ (ix2 0 d) rfl rfl rfl

theorem stored_1 : v.read (Elt F) (v.writes (Elt F) f [⟨row2, r⟩, ⟨row1, q⟩, ⟨row0, p⟩]) (ix2 1 d) = q (ix2 0 d) :=
  (View.read_writes_cons_rows_of_not_mem (d := ![8, 1024]) v f _ r _ _ (W := 1) rfl rfl (.inl (by show 1 < 2; decide))).trans
    (View.read_writes_cons_rows_of_mem (d := ![8, 1024]) v f _ q _ _ (ix2 0 d) rfl rfl rfl)

theorem stored_0 : v.read (Elt F) (v.writes (Elt F) f [⟨row2, r⟩, ⟨row1, q⟩, ⟨row0, p⟩]) (ix2 0 d) = p (ix2 0 d) :=
  (View.read_writes_cons_rows_of_not_mem (d := ![8, 1024]) v f _ r _ _ (W := 1) rfl rfl (.inl (by show 0 < 2; decide))).trans
    ((View.read_writes_cons_rows_of_not_mem (d := ![8, 1024]) v f _ q _ _ (W := 1) rfl rfl (.inl (by show 0 < 1; decide))).trans
      (View.read_writes_cons_rows_of_mem (d := ![8, 1024]) v f _ p _ _ (ix2 0 d) rfl rfl rfl))

theorem stored_rest (k : Fin 8) (hk : 3 ≤ k.val) :
    v.read (Elt F) (v.writes (Elt F) f [⟨row2, r⟩, ⟨row1, q⟩, ⟨row0, p⟩]) (ix2 k d) = v.read (Elt F) f (ix2 k d) :=
  (View.read_writes_cons_rows_of_not_mem (d := ![8, 1024]) v f _ r _ _ (W := 1) rfl rfl (.inr (by show 2 + 1 ≤ k.val; omega))).trans
    ((View.read_writes_cons_rows_of_not_mem (d := ![8, 1024]) v f _ q _ _ (W := 1) rfl rfl (.inr (by show 1 + 1 ≤ k.val; omega))).trans
      (View.read_writes_cons_rows_of_not_mem (d := ![8, 1024]) v f _ p _ _ (W := 1) rfl rfl (.inr (by show 0 + 1 ≤ k.val; omega))))

end

/-- A load of a whole buffer that holds `x`. -/
theorem whole2 {a : Memref sig .tc .vmem S512x1024 .f32} (h : a.IsWhole) (x : Vec F S512x1024 .f32) :
    View.readAt (Elt F) a.view all2.toLoadRect (h.unread x) = x := by
  rw [View.readAt_eq_ld, h.read_unread, View.ld_unit_zero zeros2]

theorem whole1 {a : Memref sig .tc .vmem S1x1024 .f32} (h : a.IsWhole) (x : Vec F S1x1024 .f32) :
    View.readAt (Elt F) a.view (Rect.unit (s := S1x1024) ![0, 0] S1x1024.size inb_S1x1024_S1x1024_0_0).toLoadRect (h.unread x) = x := by
  rw [View.readAt_eq_ld, h.read_unread, View.ld_unit_zero zeros2]

variable (c : Dev nD) (i : grid0.Coords)
  (arg2 : Memref sig .tc .vmem S512x1024 .f32) (harg2 : arg2.IsWhole)
  (arg3 : Memref sig .tc .vmem S512x1024 .f32) (harg3 : arg3.IsWhole)
  (arg4 : Memref sig .tc .vmem S512x1024 .bf16) (harg4 : arg4.IsWhole)
  (arg5 : Memref sig .tc .vmem S1x512x704 .bf16) (harg5 : arg5.IsWhole)
  (arg6 : Memref sig .tc .vmem S1x512x704 .bf16) (harg6 : arg6.IsWhole)
  (arg7 : Memref sig .tc .vmem S6x1024 .f32) (harg7 : arg7.IsWhole)
  (arg8 : Memref sig .tc .vmem S1x1024 .f32) (harg8 : arg8.IsWhole)
  (arg9 : Memref sig .tc .vmem S4x704x1024 .bf16) (harg9 : arg9.IsWhole)
  (arg10 : Memref sig .tc .vmem S4x704x1024 .bf16) (harg10 : arg10.IsWhole)
  (arg11 : Memref sig .tc .vmem S4x704x1024 .bf16) (harg11 : arg11.IsWhole)
  (arg12 : Memref sig .tc .vmem S1x512x704 .bf16) (harg12 : arg12.IsWhole)
  (arg13 : Memref sig .tc .vmem S1x512x704 .bf16) (harg13 : arg13.IsWhole)
  (arg14 : Memref sig .tc .vmem S512x1024 .f32) (harg14 : arg14.IsWhole)
  (arg15 : Memref sig .tc .vmem S8x1024 .f32) (harg15 : arg15.IsWhole)
  (arg16 : Memref sig .tc .vmem S512x1024 .f32) (harg16 : arg16.IsWhole)
  (x0 x1 : Vec F S512x1024 .f32) (x2 : Vec F S512x1024 .bf16) (x3 x4 : Vec F S1x512x704 .bf16) (x5 : Vec F S6x1024 .f32)
  (x6 : Vec F S1x1024 .f32) (x7 x8 x9 : Vec F S4x704x1024 .bf16)

theorem out_A_10 (hc0 : cond0_0 i) (hc1 : cond0_1 i) (hc2 : ¬cond0_2 i) :
    out0_A_10 c i arg2 harg2 arg3 harg3 arg4 harg4 arg5 harg5 arg6 harg6 arg7 harg7 arg8 harg8 arg9 harg9 arg10 harg10
      arg11 harg11 arg12 harg12 arg13 harg13 arg14 harg14 arg15 harg15 arg16 harg16 hc0 hc1 hc2 x0 x1 x2 x3 x4 x5 x6
      x7 x8 x9
      = dgateBlk i x2 x3 x4 x9 := by
  unfold out0_A_10
  rw [View.read_writes_eq_canon _ _ _ (cover0_A_10 c i arg2 harg2 arg3 harg3 arg4 harg4 arg5 harg5 arg6 harg6 arg7
    harg7 arg8 harg8 arg9 harg9 arg10 harg10 arg11 harg11 arg12 harg12 arg13 harg13 arg14 harg14 arg15 harg15 arg16
    harg16 hc0 hc1 hc2 x0 x1 x2 x3 x4 x5 x6 x7 x8 x9)]
  unfold kernelRun0_A
  dsimp only
  sl_unfold_words
  simp only [View.readAt_eq_ld, harg4.read_unread, harg5.read_unread, harg6.read_unread, harg9.read_unread, harg10.read_unread, harg11.read_unread]
  rfl

theorem out_A_11 (hc0 : cond0_0 i) (hc1 : cond0_1 i) (hc2 : ¬cond0_2 i) :
    out0_A_11 c i arg2 harg2 arg3 harg3 arg4 harg4 arg5 harg5 arg6 harg6 arg7 harg7 arg8 harg8 arg9 harg9 arg10 harg10
      arg11 harg11 arg12 harg12 arg13 harg13 arg14 harg14 arg15 harg15 arg16 harg16 hc0 hc1 hc2 x0 x1 x2 x3 x4 x5 x6
      x7 x8 x9
      = dupBlk i x2 x3 x9 := by
  unfold out0_A_11
  rw [View.read_writes_eq_canon _ _ _ (cover0_A_11 c i arg2 harg2 arg3 harg3 arg4 harg4 arg5 harg5 arg6 harg6 arg7
    harg7 arg8 harg8 arg9 harg9 arg10 harg10 arg11 harg11 arg12 harg12 arg13 harg13 arg14 harg14 arg15 harg15 arg16
    harg16 hc0 hc1 hc2 x0 x1 x2 x3 x4 x5 x6 x7 x8 x9)]
  unfold kernelRun0_A
  dsimp only
  sl_unfold_words
  simp only [View.readAt_eq_ld, harg4.read_unread, harg5.read_unread, harg6.read_unread, harg9.read_unread, harg10.read_unread, harg11.read_unread]
  rfl

theorem acc_A (hc0 : cond0_0 i) (hc1 : cond0_1 i) (hc2 : ¬cond0_2 i) :
    sout0_A_0 c i arg2 harg2 arg3 harg3 arg4 harg4 arg5 harg5 arg6 harg6 arg7 harg7 arg8 harg8 arg9 harg9 arg10 harg10
      arg11 harg11 arg12 harg12 arg13 harg13 arg14 harg14 arg15 harg15 arg16 harg16 hc0 hc1 hc2 x0 x1 x2 x3 x4 x5 x6
      x7 x8 x9
      = accBlk i x2 x3 x4 x7 x8 x9 k0_pay14 := by
  unfold sout0_A_0
  rw [View.read_writes_eq_canon _ _ _ (scover0_A_0 c i arg2 harg2 arg3 harg3 arg4 harg4 arg5 harg5 arg6 harg6 arg7
    harg7 arg8 harg8 arg9 harg9 arg10 harg10 arg11 harg11 arg12 harg12 arg13 harg13 arg14 harg14 arg15 harg15 arg16
    harg16 hc0 hc1 hc2 x0 x1 x2 x3 x4 x5 x6 x7 x8 x9)]
  unfold kernelRun0_A
  dsimp only
  sl_unfold_words
  refine (canon_halves _ _ _).trans ?_
  rw [readCov_lo, readCov_hi]
  simp only [View.readAt_eq_ld, harg4.read_unread, harg5.read_unread, harg6.read_unread, harg9.read_unread, harg10.read_unread, harg11.read_unread]
  rfl

theorem out_A_13 (hc0 : cond0_0 i) (hc1 : cond0_1 i) (hc2 : ¬cond0_2 i) :
    out0_A_13 c i arg2 harg2 arg3 harg3 arg4 harg4 arg5 harg5 arg6 harg6 arg7 harg7 arg8 harg8 arg9 harg9 arg10 harg10
      arg11 harg11 arg12 harg12 arg13 harg13 arg14 harg14 arg15 harg15 arg16 harg16 hc0 hc1 hc2 x0 x1 x2 x3 x4 x5 x6
      x7 x8 x9
      = k0_pay13 := by
  unfold out0_A_13
  rw [View.read_writes_eq_canon _ _ _ (cover0_A_13 c i arg2 harg2 arg3 harg3 arg4 harg4 arg5 harg5 arg6 harg6 arg7
    harg7 arg8 harg8 arg9 harg9 arg10 harg10 arg11 harg11 arg12 harg12 arg13 harg13 arg14 harg14 arg15 harg15 arg16
    harg16 hc0 hc1 hc2 x0 x1 x2 x3 x4 x5 x6 x7 x8 x9)]
  unfold kernelRun0_A
  dsimp only
  sl_unfold_words
  exact View.canon_unit_zero (S := S8x1024) zeros2 _ _

theorem out_B_10 (hc0 : ¬cond0_0 i) (hc1 : ¬cond0_1 i) (hc2 : ¬cond0_2 i) (xs0 : Vec F S512x1024 .f32) :
    out0_B_10 c i arg2 harg2 arg3 harg3 arg4 harg4 arg5 harg5 arg6 harg6 arg7 harg7 arg8 harg8 arg9 harg9 arg10 harg10
      arg11 harg11 arg12 harg12 arg13 harg13 arg14 harg14 arg15 harg15 arg16 harg16 hc0 hc1 hc2 x0 x1 x2 x3 x4 x5 x6
      x7 x8 x9 xs0
      = dgateBlk i x2 x3 x4 x9 := by
  unfold out0_B_10
  rw [View.read_writes_eq_canon _ _ _ (cover0_B_10 c i arg2 harg2 arg3 harg3 arg4 harg4 arg5 harg5 arg6 harg6 arg7
    harg7 arg8 harg8 arg9 harg9 arg10 harg10 arg11 harg11 arg12 harg12 arg13 harg13 arg14 harg14 arg15 harg15 arg16
    harg16 hc0 hc1 hc2 x0 x1 x2 x3 x4 x5 x6 x7 x8 x9 xs0)]
  unfold kernelRun0_B
  dsimp only
  sl_unfold_words
  simp only [View.readAt_eq_ld, harg4.read_unread, harg5.read_unread, harg6.read_unread, harg9.read_unread, harg10.read_unread, harg11.read_unread]
  rfl

theorem out_B_11 (hc0 : ¬cond0_0 i) (hc1 : ¬cond0_1 i) (hc2 : ¬cond0_2 i) (xs0 : Vec F S512x1024 .f32) :
    out0_B_11 c i arg2 harg2 arg3 harg3 arg4 harg4 arg5 harg5 arg6 harg6 arg7 harg7 arg8 harg8 arg9 harg9 arg10 harg10
      arg11 harg11 arg12 harg12 arg13 harg13 arg14 harg14 arg15 harg15 arg16 harg16 hc0 hc1 hc2 x0 x1 x2 x3 x4 x5 x6
      x7 x8 x9 xs0
      = dupBlk i x2 x3 x9 := by
  unfold out0_B_11
  rw [View.read_writes_eq_canon _ _ _ (cover0_B_11 c i arg2 harg2 arg3 harg3 arg4 harg4 arg5 harg5 arg6 harg6 arg7
    harg7 arg8 harg8 arg9 harg9 arg10 harg10 arg11 harg11 arg12 harg12 arg13 harg13 arg14 harg14 arg15 harg15 arg16
    harg16 hc0 hc1 hc2 x0 x1 x2 x3 x4 x5 x6 x7 x8 x9 xs0)]
  unfold kernelRun0_B
  dsimp only
  sl_unfold_words
  simp only [View.readAt_eq_ld, harg4.read_unread, harg5.read_unread, harg6.read_unread, harg9.read_unread, harg10.read_unread, harg11.read_unread]
  rfl

theorem acc_B (hc0 : ¬cond0_0 i) (hc1 : ¬cond0_1 i) (hc2 : ¬cond0_2 i) (xs0 : Vec F S512x1024 .f32) :
    sout0_B_0 c i arg2 harg2 arg3 harg3 arg4 harg4 arg5 harg5 arg6 harg6 arg7 harg7 arg8 harg8 arg9 harg9 arg10 harg10
      arg11 harg11 arg12 harg12 arg13 harg13 arg14 harg14 arg15 harg15 arg16 harg16 hc0 hc1 hc2 x0 x1 x2 x3 x4 x5 x6
      x7 x8 x9 xs0
      = accBlk i x2 x3 x4 x7 x8 x9 xs0 := by
  unfold sout0_B_0
  rw [View.read_writes_eq_canon _ _ _ (scover0_B_0 c i arg2 harg2 arg3 harg3 arg4 harg4 arg5 harg5 arg6 harg6 arg7
    harg7 arg8 harg8 arg9 harg9 arg10 harg10 arg11 harg11 arg12 harg12 arg13 harg13 arg14 harg14 arg15 harg15 arg16
    harg16 hc0 hc1 hc2 x0 x1 x2 x3 x4 x5 x6 x7 x8 x9 xs0)]
  unfold kernelRun0_B
  dsimp only
  sl_unfold_words
  simp only [View.readAt_eq_ld, harg4.read_unread, harg5.read_unread, harg6.read_unread, harg9.read_unread, harg10.read_unread, harg11.read_unread, harg16.read_unread]
  rfl

theorem out_C_10 (hc0 : ¬cond0_0 i) (hc1 : ¬cond0_1 i) (hc2 : cond0_2 i) (xo13 : Vec F S8x1024 .f32) (xs0 : Vec F S512x1024 .f32) :
    out0_C_10 c i arg2 harg2 arg3 harg3 arg4 harg4 arg5 harg5 arg6 harg6 arg7 harg7 arg8 harg8 arg9 harg9 arg10 harg10
      arg11 harg11 arg12 harg12 arg13 harg13 arg14 harg14 arg15 harg15 arg16 harg16 hc0 hc1 hc2 x0 x1 x2 x3 x4 x5 x6
      x7 x8 x9 xo13 xs0
      = dgateBlk i x2 x3 x4 x9 := by
  unfold out0_C_10
  rw [View.read_writes_eq_canon _ _ _ (cover0_C_10 c i arg2 harg2 arg3 harg3 arg4 harg4 arg5 harg5 arg6 harg6 arg7
    harg7 arg8 harg8 arg9 harg9 arg10 harg10 arg11 harg11 arg12 harg12 arg13 harg13 arg14 harg14 arg15 harg15 arg16
    harg16 hc0 hc1 hc2 x0 x1 x2 x3 x4 x5 x6 x7 x8 x9 xo13 xs0)]
  unfold kernelRun0_C
  dsimp only
  sl_unfold_words
  simp only [View.readAt_eq_ld, harg4.read_unread, harg5.read_unread, harg6.read_unread, harg9.read_unread, harg10.read_unread, harg11.read_unread]
  rfl

theorem out_C_11 (hc0 : ¬cond0_0 i) (hc1 : ¬cond0_1 i) (hc2 : cond0_2 i) (xo13 : Vec F S8x1024 .f32) (xs0 : Vec F S512x1024 .f32) :
    out0_C_11 c i arg2 harg2 arg3 harg3 arg4 harg4 arg5 harg5 arg6 harg6 arg7 harg7 arg8 harg8 arg9 harg9 arg10 harg10
      arg11 harg11 arg12 harg12 arg13 harg13 arg14 harg14 arg15 harg15 arg16 harg16 hc0 hc1 hc2 x0 x1 x2 x3 x4 x5 x6
      x7 x8 x9 xo13 xs0
      = dupBlk i x2 x3 x9 := by
  unfold out0_C_11
  rw [View.read_writes_eq_canon _ _ _ (cover0_C_11 c i arg2 harg2 arg3 harg3 arg4 harg4 arg5 harg5 arg6 harg6 arg7
    harg7 arg8 harg8 arg9 harg9 arg10 harg10 arg11 harg11 arg12 harg12 arg13 harg13 arg14 harg14 arg15 harg15 arg16
    harg16 hc0 hc1 hc2 x0 x1 x2 x3 x4 x5 x6 x7 x8 x9 xo13 xs0)]
  unfold kernelRun0_C
  dsimp only
  sl_unfold_words
  simp only [View.readAt_eq_ld, harg4.read_unread, harg5.read_unread, harg6.read_unread, harg9.read_unread, harg10.read_unread, harg11.read_unread]
  rfl

theorem acc_C (hc0 : ¬cond0_0 i) (hc1 : ¬cond0_1 i) (hc2 : cond0_2 i) (xo13 : Vec F S8x1024 .f32) (xs0 : Vec F S512x1024 .f32) :
    sout0_C_0 c i arg2 harg2 arg3 harg3 arg4 harg4 arg5 harg5 arg6 harg6 arg7 harg7 arg8 harg8 arg9 harg9 arg10 harg10
      arg11 harg11 arg12 harg12 arg13 harg13 arg14 harg14 arg15 harg15 arg16 harg16 hc0 hc1 hc2 x0 x1 x2 x3 x4 x5 x6
      x7 x8 x9 xo13 xs0
      = accBlk i x2 x3 x4 x7 x8 x9 xs0 := by
  unfold sout0_C_0
  rw [View.read_writes_eq_canon _ _ _ (scover0_C_0 c i arg2 harg2 arg3 harg3 arg4 harg4 arg5 harg5 arg6 harg6 arg7
    harg7 arg8 harg8 arg9 harg9 arg10 harg10 arg11 harg11 arg12 harg12 arg13 harg13 arg14 harg14 arg15 harg15 arg16
    harg16 hc0 hc1 hc2 x0 x1 x2 x3 x4 x5 x6 x7 x8 x9 xo13 xs0)]
  unfold kernelRun0_C
  dsimp only
  sl_unfold_words
  simp only [View.readAt_eq_ld, harg4.read_unread, harg5.read_unread, harg6.read_unread, harg9.read_unread, harg10.read_unread, harg11.read_unread, harg16.read_unread]
  rfl

theorem out_D_10 (hc0 : ¬cond0_0 i) (hc1 : cond0_1 i) (hc2 : ¬cond0_2 i) :
    out0_D_10 c i arg2 harg2 arg3 harg3 arg4 harg4 arg5 harg5 arg6 harg6 arg7 harg7 arg8 harg8 arg9 harg9 arg10 harg10
      arg11 harg11 arg12 harg12 arg13 harg13 arg14 harg14 arg15 harg15 arg16 harg16 hc0 hc1 hc2 x0 x1 x2 x3 x4 x5 x6
      x7 x8 x9
      = dgateBlk i x2 x3 x4 x9 := by
  unfold out0_D_10
  rw [View.read_writes_eq_canon _ _ _ (cover0_D_10 c i arg2 harg2 arg3 harg3 arg4 harg4 arg5 harg5 arg6 harg6 arg7
    harg7 arg8 harg8 arg9 harg9 arg10 harg10 arg11 harg11 arg12 harg12 arg13 harg13 arg14 harg14 arg15 harg15 arg16
    harg16 hc0 hc1 hc2 x0 x1 x2 x3 x4 x5 x6 x7 x8 x9)]
  unfold kernelRun0_D
  dsimp only
  sl_unfold_words
  simp only [View.readAt_eq_ld, harg4.read_unread, harg5.read_unread, harg6.read_unread, harg9.read_unread, harg10.read_unread, harg11.read_unread]
  rfl

theorem out_D_11 (hc0 : ¬cond0_0 i) (hc1 : cond0_1 i) (hc2 : ¬cond0_2 i) :
    out0_D_11 c i arg2 harg2 arg3 harg3 arg4 harg4 arg5 harg5 arg6 harg6 arg7 harg7 arg8 harg8 arg9 harg9 arg10 harg10
      arg11 harg11 arg12 harg12 arg13 harg13 arg14 harg14 arg15 harg15 arg16 harg16 hc0 hc1 hc2 x0 x1 x2 x3 x4 x5 x6
      x7 x8 x9
      = dupBlk i x2 x3 x9 := by
  unfold out0_D_11
  rw [View.read_writes_eq_canon _ _ _ (cover0_D_11 c i arg2 harg2 arg3 harg3 arg4 harg4 arg5 harg5 arg6 harg6 arg7
    harg7 arg8 harg8 arg9 harg9 arg10 harg10 arg11 harg11 arg12 harg12 arg13 harg13 arg14 harg14 arg15 harg15 arg16
    harg16 hc0 hc1 hc2 x0 x1 x2 x3 x4 x5 x6 x7 x8 x9)]
  unfold kernelRun0_D
  dsimp only
  sl_unfold_words
  simp only [View.readAt_eq_ld, harg4.read_unread, harg5.read_unread, harg6.read_unread, harg9.read_unread, harg10.read_unread, harg11.read_unread]
  rfl

theorem acc_D (hc0 : ¬cond0_0 i) (hc1 : cond0_1 i) (hc2 : ¬cond0_2 i) :
    sout0_D_0 c i arg2 harg2 arg3 harg3 arg4 harg4 arg5 harg5 arg6 harg6 arg7 harg7 arg8 harg8 arg9 harg9 arg10 harg10
      arg11 harg11 arg12 harg12 arg13 harg13 arg14 harg14 arg15 harg15 arg16 harg16 hc0 hc1 hc2 x0 x1 x2 x3 x4 x5 x6
      x7 x8 x9
      = accBlk i x2 x3 x4 x7 x8 x9 k0_pay14 := by
  unfold sout0_D_0
  rw [View.read_writes_eq_canon _ _ _ (scover0_D_0 c i arg2 harg2 arg3 harg3 arg4 harg4 arg5 harg5 arg6 harg6 arg7
    harg7 arg8 harg8 arg9 harg9 arg10 harg10 arg11 harg11 arg12 harg12 arg13 harg13 arg14 harg14 arg15 harg15 arg16
    harg16 hc0 hc1 hc2 x0 x1 x2 x3 x4 x5 x6 x7 x8 x9)]
  unfold kernelRun0_D
  dsimp only
  sl_unfold_words
  refine (canon_halves _ _ _).trans ?_
  rw [readCov_lo, readCov_hi]
  simp only [View.readAt_eq_ld, harg4.read_unread, harg5.read_unread, harg6.read_unread, harg9.read_unread, harg10.read_unread, harg11.read_unread]
  rfl

theorem out_C_12 (hc0 : ¬cond0_0 i) (hc1 : ¬cond0_1 i) (hc2 : cond0_2 i) (xo13 : Vec F S8x1024 .f32) (xs0 : Vec F S512x1024 .f32) :
    out0_C_12 c i arg2 harg2 arg3 harg3 arg4 harg4 arg5 harg5 arg6 harg6 arg7 harg7 arg8 harg8 arg9 harg9 arg10 harg10
      arg11 harg11 arg12 harg12 arg13 harg13 arg14 harg14 arg15 harg15 arg16 harg16 hc0 hc1 hc2 x0 x1 x2 x3 x4 x5 x6
      x7 x8 x9 xo13 xs0
      = k0_pay7 (k0_pay8 x1) (k0_pay9 x1) (k0_pay12 (accBlk i x2 x3 x4 x7 x8 x9 xs0) (View.ld x5 scaleRow)) x6 x0 := by
  unfold out0_C_12
  rw [View.read_writes_eq_canon _ _ _ (cover0_C_12 c i arg2 harg2 arg3 harg3 arg4 harg4 arg5 harg5 arg6 harg6 arg7
    harg7 arg8 harg8 arg9 harg9 arg10 harg10 arg11 harg11 arg12 harg12 arg13 harg13 arg14 harg14 arg15 harg15 arg16
    harg16 hc0 hc1 hc2 x0 x1 x2 x3 x4 x5 x6 x7 x8 x9 xo13 xs0)]
  unfold kernelRun0_C
  dsimp only
  sl_unfold_words
  rw [View.canon_unit_zero zeros2]
  refine pay7_congr (whole2 harg3 x1) ((readCov_all _ _ _).trans ?_) (congrArg (View.ld · scaleRow) (harg7.read_unread x5))
    (whole1 harg8 x6) (whole2 harg2 x0)
  simp only [View.readAt_eq_ld, harg4.read_unread, harg5.read_unread, harg6.read_unread, harg9.read_unread, harg10.read_unread, harg11.read_unread, harg16.read_unread]
  rfl

theorem sum_0 (hc0 : ¬cond0_0 i) (hc1 : ¬cond0_1 i) (hc2 : cond0_2 i) (xo13 : Vec F S8x1024 .f32) (xs0 : Vec F S512x1024 .f32) (d : Fin 1024) :
    out0_C_13 c i arg2 harg2 arg3 harg3 arg4 harg4 arg5 harg5 arg6 harg6 arg7 harg7 arg8 harg8 arg9 harg9 arg10 harg10
      arg11 harg11 arg12 harg12 arg13 harg13 arg14 harg14 arg15 harg15 arg16 harg16 hc0 hc1 hc2 x0 x1 x2 x3 x4 x5 x6
      x7 x8 x9 xo13 xs0 (ix2 0 d)
      = k0_pay10 (accBlk i x2 x3 x4 x7 x8 x9 xs0) (View.ld xo13 row0) (ix2 0 d) := by
  unfold out0_C_13
  unfold kernelRun0_C
  dsimp only
  sl_unfold_words
  refine (stored_0 _ _ _ _ _ d).trans (congrFun ?_ _)
  refine pay10_congr ((readCov_all _ _ _).trans ?_) (congrArg (View.ld · row0) (harg15.read_unread xo13))
  simp only [View.readAt_eq_ld, harg4.read_unread, harg5.read_unread, harg6.read_unread, harg9.read_unread, harg10.read_unread, harg11.read_unread, harg16.read_unread]
  rfl

theorem sum_1 (hc0 : ¬cond0_0 i) (hc1 : ¬cond0_1 i) (hc2 : cond0_2 i) (xo13 : Vec F S8x1024 .f32) (xs0 : Vec F S512x1024 .f32) (d : Fin 1024) :
    out0_C_13 c i arg2 harg2 arg3 harg3 arg4 harg4 arg5 harg5 arg6 harg6 arg7 harg7 arg8 harg8 arg9 harg9 arg10 harg10
      arg11 harg11 arg12 harg12 arg13 harg13 arg14 harg14 arg15 harg15 arg16 harg16 hc0 hc1 hc2 x0 x1 x2 x3 x4 x5 x6
      x7 x8 x9 xo13 xs0 (ix2 1 d)
      = k0_pay11 (accBlk i x2 x3 x4 x7 x8 x9 xs0) x1 x6 (View.ld xo13 row1) (ix2 0 d) := by
  unfold out0_C_13
  unfold kernelRun0_C
  dsimp only
  sl_unfold_words
  refine (stored_1 _ _ _ _ _ d).trans (congrFun ?_ _)
  refine pay11_congr ((readCov_all _ _ _).trans ?_) (whole2 harg3 x1) (whole1 harg8 x6) (congrArg (View.ld · row1) (harg15.read_unread xo13))
  simp only [View.readAt_eq_ld, harg4.read_unread, harg5.read_unread, harg6.read_unread, harg9.read_unread, harg10.read_unread, harg11.read_unread, harg16.read_unread]
  rfl

theorem sum_2 (hc0 : ¬cond0_0 i) (hc1 : ¬cond0_1 i) (hc2 : cond0_2 i) (xo13 : Vec F S8x1024 .f32) (xs0 : Vec F S512x1024 .f32) (d : Fin 1024) :
    out0_C_13 c i arg2 harg2 arg3 harg3 arg4 harg4 arg5 harg5 arg6 harg6 arg7 harg7 arg8 harg8 arg9 harg9 arg10 harg10
      arg11 harg11 arg12 harg12 arg13 harg13 arg14 harg14 arg15 harg15 arg16 harg16 hc0 hc1 hc2 x0 x1 x2 x3 x4 x5 x6
      x7 x8 x9 xo13 xs0 (ix2 2 d)
      = k0_pay6 (k0_pay9 x1) (k0_pay12 (accBlk i x2 x3 x4 x7 x8 x9 xs0) (View.ld x5 scaleRow)) (View.ld xo13 row2) (ix2 0 d) := by
  unfold out0_C_13
  unfold kernelRun0_C
  dsimp only
  sl_unfold_words
  refine (stored_2 _ _ _ _ _ d).trans (congrFun ?_ _)
  refine pay6_congr (whole2 harg3 x1) ((readCov_all _ _ _).trans ?_) (congrArg (View.ld · scaleRow) (harg7.read_unread x5)) (congrArg (View.ld · row2) (harg15.read_unread xo13))
  simp only [View.readAt_eq_ld, harg4.read_unread, harg5.read_unread, harg6.read_unread, harg9.read_unread, harg10.read_unread, harg11.read_unread, harg16.read_unread]
  rfl

theorem sum_rest (hc0 : ¬cond0_0 i) (hc1 : ¬cond0_1 i) (hc2 : cond0_2 i) (xo13 : Vec F S8x1024 .f32) (xs0 : Vec F S512x1024 .f32) (k : Fin 8) (hk : 3 ≤ k.val) (d : Fin 1024) :
    out0_C_13 c i arg2 harg2 arg3 harg3 arg4 harg4 arg5 harg5 arg6 harg6 arg7 harg7 arg8 harg8 arg9 harg9 arg10 harg10
      arg11 harg11 arg12 harg12 arg13 harg13 arg14 harg14 arg15 harg15 arg16 harg16 hc0 hc1 hc2 x0 x1 x2 x3 x4 x5 x6
      x7 x8 x9 xo13 xs0 (ix2 k d)
      = xo13 (ix2 k d) := by
  unfold out0_C_13
  unfold kernelRun0_C
  dsimp only
  sl_unfold_words
  exact (stored_rest _ _ _ _ _ d k hk).trans (congrFun (harg15.read_unread xo13) _)

end Cert.Ffn

end
-- ==== Proof.FfnNums.lean ====
/- The FFN's backward pass as a function of real numbers, and the two ways of writing it that the kernel and the reference
   have. -/
module

public import proofs.«01_k».proof.Proof.Nums
public import Idealize.ShloMosaic.Lib.IdealHost

@[expose] public section

noncomputable section

namespace Cert.Ffn

open Idealize.ShloMosaic

/-- The sigmoid. -/
def sigmoid (x : ℝ) : ℝ := (1 + Real.exp (-x))⁻¹

/-- The number that the norm adds to the mean square. -/
def eps : ℝ := (Ideal.ofBits .f32 0x358637BD#32).toReal

/-- The numbers that the arguments are: the gradient of the layer's output along the skip, the layer's input, the gradient
    of the gated product, the two projections, the modulation, the norm's weight, the three weights. -/
structure Nums where
  skip : Fin 4096 → Fin 1024 → ℝ
  x : Fin 4096 → Fin 1024 → ℝ
  dff : Fin 4096 → Fin 1024 → ℝ
  gate : Fin 4 → Fin 4096 → Fin 704 → ℝ
  up : Fin 4 → Fin 4096 → Fin 704 → ℝ
  mod : Fin 6 → Fin 1024 → ℝ
  g : Fin 1024 → ℝ
  wg : Fin 4 → Fin 704 → Fin 1024 → ℝ
  wu : Fin 4 → Fin 704 → Fin 1024 → ℝ
  wd : Fin 4 → Fin 704 → Fin 1024 → ℝ

namespace Nums
variable (X : Nums)

/-- The gradient of the gated product of a chunk. -/
def dact (j : Fin 4) (s : Fin 4096) (f : Fin 704) : ℝ := ∑ d, X.dff s d * X.wd j f d

/-- The gradient of the second projection. -/
def dup (j : Fin 4) (s : Fin 4096) (f : Fin 704) : ℝ := X.dact j s f * (X.gate j s f * sigmoid (X.gate j s f))

/-- The gradient of the first projection. -/
def dgate (j : Fin 4) (s : Fin 4096) (f : Fin 704) : ℝ :=
  X.dact j s f * X.up j s f * (sigmoid (X.gate j s f) * (1 + X.gate j s f * (1 - sigmoid (X.gate j s f))))

/-- A chunk's part of the gradient of the norm's output. -/
def part (j : Fin 4) (s : Fin 4096) (d : Fin 1024) : ℝ := ∑ f, X.dgate j s f * X.wg j f d + ∑ f, X.dup j s f * X.wu j f d

/-- The gradient of the norm's output. -/
def dh (s : Fin 4096) (d : Fin 1024) : ℝ := ∑ j, X.part j s d

/-- The mean square of a row, and `eps`. -/
def var (s : Fin 4096) : ℝ := (∑ d, X.x s d * X.x s d) / 1024 + eps

/-- What a row is multiplied by. -/
def rms (s : Fin 4096) : ℝ := (√(X.var s))⁻¹

/-- The row, divided by its size. -/
def xh (s : Fin 4096) (d : Fin 1024) : ℝ := X.x s d * X.rms s

/-- The gradient before the scale. -/
def dn (s : Fin 4096) (d : Fin 1024) : ℝ := X.dh s d * (1 + X.mod 4 d)

/-- The gradient before the norm's weight. -/
def dy (s : Fin 4096) (d : Fin 1024) : ℝ := X.dn s d * X.g d

/-- The mean of the gradient against the row. -/
def mean (s : Fin 4096) : ℝ := (∑ d, X.dy s d * X.xh s d) / 1024

/-- The gradient of the layer's input. -/
def dx (s : Fin 4096) (d : Fin 1024) : ℝ := X.rms s * (X.dy s d - X.xh s d * X.mean s) + X.skip s d

/-- What one row adds to the gradients of the shift, of the scale and of the norm's weight. -/
def shift (s : Fin 4096) (d : Fin 1024) : ℝ := X.dh s d
def scale (s : Fin 4096) (d : Fin 1024) : ℝ := X.dh s d * (X.xh s d * X.g d)
def weight (s : Fin 4096) (d : Fin 1024) : ℝ := X.dn s d * X.xh s d

/-! ### The arguments that the numbers are -/

def skipArr : FVec Ideal ⟨2, ![4096, 1024]⟩ .f32 := fun i => ((X.skip (i 0) (i 1) : ℝ) : EReal)
def xArr : FVec Ideal ⟨2, ![4096, 1024]⟩ .f32 := fun i => ((X.x (i 0) (i 1) : ℝ) : EReal)
def dffArr : FVec Ideal ⟨2, ![4096, 1024]⟩ .f32 := fun i => ((X.dff (i 0) (i 1) : ℝ) : EReal)
def gateArr : FVec Ideal ⟨3, ![4, 4096, 704]⟩ .f32 := fun i => ((X.gate (i 0) (i 1) (i 2) : ℝ) : EReal)
def upArr : FVec Ideal ⟨3, ![4, 4096, 704]⟩ .f32 := fun i => ((X.up (i 0) (i 1) (i 2) : ℝ) : EReal)
def modArr : FVec Ideal ⟨2, ![6, 1024]⟩ .f32 := fun i => ((X.mod (i 0) (i 1) : ℝ) : EReal)
def gArr : FVec Ideal ⟨2, ![1, 1024]⟩ .f32 := fun i => ((X.g (i 1) : ℝ) : EReal)
def wgArr : FVec Ideal ⟨3, ![4, 704, 1024]⟩ .f32 := fun i => ((X.wg (i 0) (i 1) (i 2) : ℝ) : EReal)
def wuArr : FVec Ideal ⟨3, ![4, 704, 1024]⟩ .f32 := fun i => ((X.wu (i 0) (i 1) (i 2) : ℝ) : EReal)
def wdArr : FVec Ideal ⟨3, ![4, 704, 1024]⟩ .f32 := fun i => ((X.wd (i 0) (i 1) (i 2) : ℝ) : EReal)

/-! ### The results -/

/-- What row `s` adds to row `k` of the small gradients. -/
def summand (k : Fin 8) (s : Fin 4096) (d : Fin 1024) : ℝ :=
  if k.val = 0 then X.shift s d else if k.val = 1 then X.scale s d else if k.val = 2 then X.weight s d else 0

theorem summand_rest (k : Fin 8) (hk : 3 ≤ k.val) (s : Fin 4096) (d : Fin 1024) : X.summand k s d = 0 := by
  unfold summand
  rw [if_neg (by omega), if_neg (by omega), if_neg (by omega)]

end Nums

/-- The four arrays that the call returns. -/
def outDgate (X : Nums) : (⟨3, ![4, 4096, 704]⟩ : Shape).Idx → EReal := fun y => ((X.dgate (y 0) (y 1) (y 2) : ℝ) : EReal)
def outDup (X : Nums) : (⟨3, ![4, 4096, 704]⟩ : Shape).Idx → EReal := fun y => ((X.dup (y 0) (y 1) (y 2) : ℝ) : EReal)
def outDx (X : Nums) : (⟨2, ![4096, 1024]⟩ : Shape).Idx → EReal := fun y => ((X.dx (y 0) (y 1) : ℝ) : EReal)
def outSums (X : Nums) : (⟨2, ![8, 1024]⟩ : Shape).Idx → EReal := fun y => ((∑ s, X.summand (y 0) s (y 1) : ℝ) : EReal)

/-! ### Words -/

theorem one_word : Ideal.ofBits .f32 0x3F800000#32 = ((1 : ℝ) : EReal) := Ideal.ofBits_one_f32.trans EReal.coe_one.symm

theorem minus_half_word : Ideal.ofBits .f32 0xBF000000#32 = ((-(1 / 2) : ℝ) : EReal) := by
  show Ideal.ieee 8 23 0xBF000000#32 = _
  unfold Ideal.ieee
  rw [if_neg (by decide), if_neg (by decide)]
  refine congrArg _ ?_
  rw [if_pos (by decide), show (BitVec.extractLsb' 0 23 0xBF000000#32).toNat = 0 by decide,
    show (BitVec.extractLsb' 23 8 0xBF000000#32).toNat = 126 by decide]
  norm_num

theorem count_word : Ideal.ofBits .f32 0x44800000#32 = ((1024 : ℝ) : EReal) := by
  show Ideal.ieee 8 23 0x44800000#32 = _
  unfold Ideal.ieee
  rw [if_neg (by decide), if_neg (by decide)]
  refine congrArg _ ?_
  rw [if_neg (by decide), show (BitVec.extractLsb' 0 23 0x44800000#32).toNat = 0 by decide,
    show (BitVec.extractLsb' 23 8 0x44800000#32).toNat = 137 by decide]
  norm_num

theorem eps_both : Ideal.ofBits .f32 0x358637BD#32 = ((eps : ℝ) : EReal) ∧ 0 < eps := by
  have h : ∃ x : ℝ, Ideal.ofBits .f32 0x358637BD#32 = (x : EReal) ∧ 0 < x := by
    show ∃ x : ℝ, Ideal.ieee 8 23 0x358637BD#32 = (x : EReal) ∧ 0 < x
    unfold Ideal.ieee
    rw [if_neg (by decide), if_neg (by decide)]
    refine ⟨_, rfl, ?_⟩
    rw [if_neg (by decide), one_mul]
    positivity
  obtain ⟨x, hx, hp⟩ := h
  have e : eps = x := by rw [eps, hx, EReal.toReal_coe]
  rw [e]
  exact ⟨hx, hp⟩

theorem eps_word : Ideal.ofBits .f32 0x358637BD#32 = ((eps : ℝ) : EReal) := eps_both.1

theorem logistic_real (x : ℝ) : Ideal.logistic (x : EReal) = ((sigmoid x : ℝ) : EReal) := Ideal.logistic_coe x

theorem rsqrt_real {a : ℝ} (ha : 0 < a) : Ideal.rsqrt (a : EReal) = (((√a)⁻¹ : ℝ) : EReal) := by
  rw [Ideal.rsqrt_coe, if_neg (not_lt.mpr ha.le), if_neg ha.ne']

namespace Nums
variable (X : Nums)

theorem var_pos (s : Fin 4096) : 0 < X.var s := by
  have h : 0 ≤ (∑ d, X.x s d * X.x s d) / 1024 := div_nonneg (Finset.sum_nonneg fun d _ => mul_self_nonneg _) (by norm_num)
  have := eps_both.2
  unfold var
  linarith

/-- The factor over what it is the root of is its cube. -/
theorem rms_over (s : Fin 4096) : X.rms s / X.var s = X.rms s * X.rms s * X.rms s := by
  have h := (Real.sqrt_pos.mpr (X.var_pos s)).ne'
  have e : X.var s = √(X.var s) * √(X.var s) := (Real.mul_self_sqrt (X.var_pos s).le).symm
  unfold rms
  generalize √(X.var s) = w at *
  rw [e]
  field_simp

/-- The norm's derivative as `jax.vjp` spells it. -/
theorem dx_reference (s : Fin 4096) (d : Fin 1024) :
    X.skip s d + (X.dy s d * X.rms s + X.x s d * ((∑ e, X.x s e * X.dy s e) * (-(1 / 2) * (X.rms s / X.var s)) / 1024)
      + (∑ e, X.x s e * X.dy s e) * (-(1 / 2) * (X.rms s / X.var s)) / 1024 * X.x s d) = X.dx s d := by
  have e : X.mean s = X.rms s * (∑ e, X.x s e * X.dy s e) / 1024 := by
    unfold mean
    rw [Finset.mul_sum]
    refine congrArg (· / 1024) (Finset.sum_congr rfl fun e _ => ?_)
    unfold xh
    ring
  unfold dx
  rw [e, rms_over, xh]
  ring

/-- The gate's derivative as `jax.vjp` spells it. -/
theorem dgate_reference (j : Fin 4) (s : Fin 4096) (f : Fin 704) :
    X.dact j s f * X.up j s f * sigmoid (X.gate j s f)
      + X.gate j s f * (X.dact j s f * X.up j s f) * (sigmoid (X.gate j s f) * (1 - sigmoid (X.gate j s f))) = X.dgate j s f := by
  unfold dgate
  ring

theorem dh_reference (s : Fin 4096) (d : Fin 1024) :
    ∑ j, ∑ f, X.dup j s f * X.wu j f d + ∑ j, ∑ f, X.dgate j s f * X.wg j f d = X.dh s d := by
  unfold dh part
  rw [Finset.sum_add_distrib, add_comm]

end Nums

/-! ### Sums by chunks and by blocks of rows -/

/-- The first `n` of the numbers `f`, added. -/
def upTo {N : ℕ} (f : Fin N → ℝ) (n : ℕ) : ℝ := ∑ k ∈ Finset.range n, if h : k < N then f ⟨k, h⟩ else 0

theorem upTo_zero {N : ℕ} (f : Fin N → ℝ) : upTo f 0 = 0 := Finset.sum_range_zero _

theorem upTo_all {N : ℕ} (f : Fin N → ℝ) : upTo f N = ∑ k, f k := by
  unfold upTo
  rw [Finset.sum_range]
  exact Finset.sum_congr rfl fun k _ => dif_pos k.isLt

theorem upTo_succ {N : ℕ} (f : Fin N → ℝ) (k : Fin N) (n : ℕ) (hn : n = k.val) : upTo f (n + 1) = upTo f n + f k := by
  subst hn
  unfold upTo
  rw [Finset.sum_range_succ, dif_pos k.isLt]

/-- Row `r` of block `b`. -/
def rowOf (b : Fin 8) (r : Fin 512) : Fin 4096 := ⟨512 * b.val + r.val, by omega⟩

theorem upTo_block (f : Fin 4096 → ℝ) (b : Fin 8) (n : ℕ) (hn : n = b.val) :
    upTo f (512 * (n + 1)) = upTo f (512 * n) + ∑ r, f (rowOf b r) := by
  subst hn
  unfold upTo
  rw [Nat.mul_succ, Finset.sum_range_add, Finset.sum_range (n := 512)]
  refine congrArg _ (Finset.sum_congr rfl fun r _ => ?_)
  exact dif_pos (rowOf b r).isLt

end Cert.Ffn

end
-- ==== Proof.FfnPoint.lean ====
/- One point of the FFN's backward call, of blocks of real numbers: what it leaves. -/
module

public import proofs.«01_k».proof.Proof.FfnBody
public import proofs.«01_k».proof.Proof.FfnNums

@[expose] public section

noncomputable section

namespace Cert.Ffn

open Idealize.ShloMosaic Cert.FfnBackwardIdeal Cert.FfnBackwardIdeal.Gen
open Cert.Attn (coe_sum div_real)

/-! ### The payloads at one index -/

section
variable (g u : Vec Ideal S1x256x704 .bf16) (a : Vec Ideal S256x1024 .bf16) (w : Vec Ideal S1x704x1024 .bf16) (r : Fin 256) (f : Fin 704)

theorem pay17_apply : k0_pay17 a w (ix2 r f) = ∑ d : Fin 1024, (a (ix2 r d) : EReal) * w (ix3 0 f d) := by
  pointwise [k0_pay17]

theorem pay18_apply : k0_pay18 g a w (ix2 r f)
    = k0_pay17 a w (ix2 r f) * ((g (ix3 0 r f) : EReal) * Ideal.logistic (g (ix3 0 r f))) := by
  unfold k0_pay18
  generalize k0_pay17 a w = p
  pointwise [k0_pay15, k0_pay16]

theorem pay19_apply : k0_pay19 g u a w (ix2 r f)
    = k0_pay17 a w (ix2 r f) * (u (ix3 0 r f) : EReal) * (Ideal.logistic (g (ix3 0 r f)) * (Ideal.ofBits .f32 0x3F800000#32
      + (g (ix3 0 r f) : EReal) * (Ideal.ofBits .f32 0x3F800000#32 - Ideal.logistic (g (ix3 0 r f))))) := by
  unfold k0_pay19
  generalize k0_pay17 a w = p
  pointwise [k0_pay15, k0_pay16]

theorem pay20_apply (x : FVec Ideal S256x704 .bf16) (o : Fin 1) : k0_pay20 x (ix3 o r f) = x (ix2 r f) := by
  pointwise [k0_pay20]

theorem pay21_apply (x : FVec Ideal S256x704 .bf16) (o : Fin 1) : k0_pay21 x (ix3 o r f) = x (ix2 r f) := by
  pointwise [k0_pay21]

theorem pay22_apply (p q : FVec Ideal S256x704 .bf16) (b : Vec Ideal S256x1024 .f32) (v : Vec Ideal S1x704x1024 .bf16) (d : Fin 1024) :
    k0_pay22 p q b w v (ix2 r d) = (b (ix2 r d) : EReal)
      + ((∑ f : Fin 704, (q (ix2 r f) : EReal) * w (ix3 0 f d)) + ∑ f : Fin 704, (p (ix2 r f) : EReal) * v (ix3 0 f d)) := by
  pointwise [k0_pay22]

end

section
variable (a x : Vec Ideal S512x1024 .f32) (g s t : Vec Ideal S1x1024 .f32) (r : Fin 512) (d : Fin 1024) (z : Fin 1)

theorem pay8_apply : k0_pay8 x (ix2 r z) = Ideal.rsqrt (Ideal.div (∑ e : Fin 1024, (x (ix2 r e) : EReal) * x (ix2 r e))
    (Ideal.ofBits .f32 0x44800000#32) + Ideal.ofBits .f32 0x358637BD#32) := by
  pointwise [k0_pay8]

theorem pay9_apply : k0_pay9 x (ix2 r d) = (x (ix2 r d) : EReal) * k0_pay8 x (ix2 r 0) := by
  unfold k0_pay9
  generalize k0_pay8 x = p
  pointwise

theorem pay12_apply : k0_pay12 a s (ix2 r d) = (a (ix2 r d) : EReal) * (Ideal.ofBits .f32 0x3F800000#32 + s (ix2 0 d)) := by
  pointwise [k0_pay12]

theorem pay10_apply : k0_pay10 a t (ix2 z d) = (t (ix2 z d) : EReal) + ∑ r : Fin 512, (a (ix2 r d) : EReal) := by
  pointwise [k0_pay10]

theorem pay11_apply : k0_pay11 a x g t (ix2 z d)
    = (t (ix2 z d) : EReal) + ∑ r : Fin 512, (a (ix2 r d) : EReal) * (k0_pay9 x (ix2 r d) * g (ix2 0 d)) := by
  unfold k0_pay11
  generalize k0_pay9 x = p
  pointwise

theorem pay6_apply (p q : FVec Ideal S512x1024 .f32) : k0_pay6 p q t (ix2 z d)
    = (t (ix2 z d) : EReal) + ∑ r : Fin 512, (q (ix2 r d) : EReal) * p (ix2 r d) := by
  pointwise [k0_pay6]

theorem pay7_apply (w : FVec Ideal S512x1 .f32) (p q : FVec Ideal S512x1024 .f32) : k0_pay7 w p q g x (ix2 r d)
    = (w (ix2 r 0) : EReal) * ((q (ix2 r d) : EReal) * g (ix2 0 d) - p (ix2 r d)
        * Ideal.div (∑ e : Fin 1024, (q (ix2 r e) : EReal) * g (ix2 0 e) * p (ix2 r e)) (Ideal.ofBits .f32 0x44800000#32))
      + x (ix2 r d) := by
  pointwise [k0_pay7]

end

theorem zeroAcc (r : Fin 512) (d : Fin 1024) : k0_pay14 (F := Ideal) (ix2 r d) = ((0 : ℝ) : EReal) := by
  pointwise [k0_pay14]
  exact EReal.coe_zero.symm

theorem zeroSums (k : Fin 8) (d : Fin 1024) : k0_pay13 (F := Ideal) (ix2 k d) = ((0 : ℝ) : EReal) := by
  pointwise [k0_pay13]
  exact EReal.coe_zero.symm

/-! ### Of real numbers -/

section
variable (X : Nums) (j : Fin 4) (ρ : Fin 256 → Fin 4096) {g u : Vec Ideal S1x256x704 .bf16} {a : Vec Ideal S256x1024 .bf16}
  {w wa wb : Vec Ideal S1x704x1024 .bf16}

theorem dact_real (ha : ∀ r d, (a (ix2 r d) : EReal) = ((X.dff (ρ r) d : ℝ) : EReal))
    (hw : ∀ f d, (w (ix3 0 f d) : EReal) = ((X.wd j f d : ℝ) : EReal)) (r : Fin 256) (f : Fin 704) :
    k0_pay17 a w (ix2 r f) = ((X.dact j (ρ r) f : ℝ) : EReal) := by
  rw [pay17_apply, Nums.dact, coe_sum]
  refine Finset.sum_congr rfl fun d _ => ?_
  rw [ha, hw, EReal.coe_mul]

theorem dup_real (ha : ∀ r d, (a (ix2 r d) : EReal) = ((X.dff (ρ r) d : ℝ) : EReal))
    (hw : ∀ f d, (w (ix3 0 f d) : EReal) = ((X.wd j f d : ℝ) : EReal))
    (hg : ∀ r f, (g (ix3 0 r f) : EReal) = ((X.gate j (ρ r) f : ℝ) : EReal)) (r : Fin 256) (f : Fin 704) :
    k0_pay18 g a w (ix2 r f) = ((X.dup j (ρ r) f : ℝ) : EReal) := by
  rw [pay18_apply, dact_real X j ρ ha hw, hg, logistic_real]
  simp only [← EReal.coe_mul]
  rfl

theorem dgate_real (ha : ∀ r d, (a (ix2 r d) : EReal) = ((X.dff (ρ r) d : ℝ) : EReal))
    (hw : ∀ f d, (w (ix3 0 f d) : EReal) = ((X.wd j f d : ℝ) : EReal))
    (hg : ∀ r f, (g (ix3 0 r f) : EReal) = ((X.gate j (ρ r) f : ℝ) : EReal))
    (hu : ∀ r f, (u (ix3 0 r f) : EReal) = ((X.up j (ρ r) f : ℝ) : EReal)) (r : Fin 256) (f : Fin 704) :
    k0_pay19 g u a w (ix2 r f) = ((X.dgate j (ρ r) f : ℝ) : EReal) := by
  rw [pay19_apply, dact_real X j ρ ha hw, hg, hu, logistic_real, one_word]
  simp only [← EReal.coe_mul, ← EReal.coe_add, ← EReal.coe_sub]
  rfl

theorem acc_real {p q : FVec Ideal S256x704 .bf16} {b : Vec Ideal S256x1024 .f32} (β : Fin 256 → Fin 1024 → ℝ)
    (hp : ∀ r f, (p (ix2 r f) : EReal) = ((X.dup j (ρ r) f : ℝ) : EReal))
    (hq : ∀ r f, (q (ix2 r f) : EReal) = ((X.dgate j (ρ r) f : ℝ) : EReal))
    (hb : ∀ r d, (b (ix2 r d) : EReal) = ((β r d : ℝ) : EReal))
    (hwa : ∀ f d, (wa (ix3 0 f d) : EReal) = ((X.wg j f d : ℝ) : EReal))
    (hwb : ∀ f d, (wb (ix3 0 f d) : EReal) = ((X.wu j f d : ℝ) : EReal)) (r : Fin 256) (d : Fin 1024) :
    k0_pay22 p q b wa wb (ix2 r d) = ((β r d + X.part j (ρ r) d : ℝ) : EReal) := by
  rw [pay22_apply, hb, EReal.coe_add, Nums.part, EReal.coe_add, coe_sum, coe_sum]
  simp only [hp, hq, hwa, hwb, EReal.coe_mul]

end

section
variable (X : Nums) (ρ : Fin 512 → Fin 4096) {a x y : Vec Ideal S512x1024 .f32} {g s t : Vec Ideal S1x1024 .f32}
  (hx : ∀ r d, (x (ix2 r d) : EReal) = ((X.x (ρ r) d : ℝ) : EReal))
  (ha : ∀ r d, (a (ix2 r d) : EReal) = ((X.dh (ρ r) d : ℝ) : EReal))
  (hg : ∀ d, (g (ix2 0 d) : EReal) = ((X.g d : ℝ) : EReal))
  (hs : ∀ d, (s (ix2 0 d) : EReal) = ((X.mod 4 d : ℝ) : EReal))
  (hy : ∀ r d, (y (ix2 r d) : EReal) = ((X.skip (ρ r) d : ℝ) : EReal))

include hx in
theorem rms_at (r : Fin 512) (z : Fin 1) : k0_pay8 x (ix2 r z) = ((X.rms (ρ r) : ℝ) : EReal) := by
  rw [pay8_apply, count_word, eps_word]
  simp only [hx, ← EReal.coe_mul]
  rw [← coe_sum, div_real _ (by norm_num), ← EReal.coe_add]
  exact rsqrt_real (X.var_pos (ρ r))

include hx in
theorem xh_at (r : Fin 512) (d : Fin 1024) : k0_pay9 x (ix2 r d) = ((X.xh (ρ r) d : ℝ) : EReal) := by
  rw [pay9_apply, rms_at X ρ hx, hx, ← EReal.coe_mul]
  rfl

include ha hs in
theorem dn_at (r : Fin 512) (d : Fin 1024) : k0_pay12 a s (ix2 r d) = ((X.dn (ρ r) d : ℝ) : EReal) := by
  rw [pay12_apply, ha, hs, one_word, ← EReal.coe_add, ← EReal.coe_mul]
  rfl

include hx ha hg hs hy in
theorem dx_at (r : Fin 512) (d : Fin 1024) :
    k0_pay7 (k0_pay8 x) (k0_pay9 x) (k0_pay12 a s) g y (ix2 r d) = ((X.dx (ρ r) d : ℝ) : EReal) := by
  rw [pay7_apply, count_word]
  simp only [rms_at X ρ hx, xh_at X ρ hx, dn_at X ρ ha hs, hg, hy, ← EReal.coe_mul]
  rw [← coe_sum, div_real _ (by norm_num)]
  simp only [← EReal.coe_mul, ← EReal.coe_add, ← EReal.coe_sub]
  rfl

include ha in
theorem shift_at (τ : Fin 1024 → ℝ) (ht : ∀ d, (t (ix2 0 d) : EReal) = ((τ d : ℝ) : EReal)) (d : Fin 1024) :
    k0_pay10 a t (ix2 0 d) = ((τ d + ∑ r, X.shift (ρ r) d : ℝ) : EReal) := by
  rw [pay10_apply, ht, EReal.coe_add, coe_sum]
  simp only [ha]
  rfl

include hx ha hg in
theorem scale_at (τ : Fin 1024 → ℝ) (ht : ∀ d, (t (ix2 0 d) : EReal) = ((τ d : ℝ) : EReal)) (d : Fin 1024) :
    k0_pay11 a x g t (ix2 0 d) = ((τ d + ∑ r, X.scale (ρ r) d : ℝ) : EReal) := by
  rw [pay11_apply, ht, EReal.coe_add, coe_sum]
  simp only [ha, xh_at X ρ hx, hg, ← EReal.coe_mul]
  rfl

include hx ha hs in
theorem weight_at (τ : Fin 1024 → ℝ) (ht : ∀ d, (t (ix2 0 d) : EReal) = ((τ d : ℝ) : EReal)) (d : Fin 1024) :
    k0_pay6 (k0_pay9 x) (k0_pay12 a s) t (ix2 0 d) = ((τ d + ∑ r, X.weight (ρ r) d : ℝ) : EReal) := by
  rw [pay6_apply, ht, EReal.coe_add, coe_sum]
  simp only [xh_at X ρ hx, dn_at X ρ ha hs, ← EReal.coe_mul]
  rfl

end

/-! ### The loads -/

/-- A row of a half, as a row of the block. -/
def low (r : Fin 256) : Fin 512 := ⟨r.val, by omega⟩
def high (r : Fin 256) : Fin 512 := ⟨256 + r.val, by omega⟩

section
variable {e : EltTy}

theorem ld_lo3 (x : Vec Ideal S1x512x704 e) (o : Fin 1) (r : Fin 256) (f : Fin 704) : View.ld x lo3 (ix3 o r f) = x (ix3 o (low r) f) :=
  View.ld_unit_apply_of x _ _ _ _ _ fun a => match a with
    | ⟨0, _⟩ => (Nat.zero_add _).symm
    | ⟨1, _⟩ => (Nat.zero_add _).symm
    | ⟨2, _⟩ => (Nat.zero_add _).symm

theorem ld_hi3 (x : Vec Ideal S1x512x704 e) (o : Fin 1) (r : Fin 256) (f : Fin 704) : View.ld x hi3 (ix3 o r f) = x (ix3 o (high r) f) :=
  View.ld_unit_apply_of x _ _ _ _ _ fun a => match a with
    | ⟨0, _⟩ => (Nat.zero_add _).symm
    | ⟨1, _⟩ => rfl
    | ⟨2, _⟩ => (Nat.zero_add _).symm

theorem ld_lo2 (x : Vec Ideal S512x1024 e) (r : Fin 256) (d : Fin 1024) : View.ld x lo2 (ix2 r d) = x (ix2 (low r) d) :=
  View.ld_unit_apply_of x _ _ _ _ _ fun a => match a with
    | ⟨0, _⟩ => (Nat.zero_add _).symm
    | ⟨1, _⟩ => (Nat.zero_add _).symm

theorem ld_hi2 (x : Vec Ideal S512x1024 e) (r : Fin 256) (d : Fin 1024) : View.ld x hi2 (ix2 r d) = x (ix2 (high r) d) :=
  View.ld_unit_apply_of x _ _ _ _ _ fun a => match a with
    | ⟨0, _⟩ => rfl
    | ⟨1, _⟩ => (Nat.zero_add _).symm

theorem ld_chunk (x : Vec Ideal S4x704x1024 e) (i : grid0.Coords) (j : Fin 4) (h : k0_off1 i = ![j.val, 0, 0]) (f : Fin 704) (d : Fin 1024) :
    View.ld x (chunk i) (ix3 0 f d) = x (ix3 j f d) :=
  View.ld_unit_apply_of x _ _ _ _ _ fun a => match a with
    | ⟨0, _⟩ => (congrFun h 0).symm
    | ⟨1, _⟩ => ((congrArg (· + f.val) (congrFun h 1)).trans (Nat.zero_add _)).symm
    | ⟨2, _⟩ => ((congrArg (· + d.val) (congrFun h 2)).trans (Nat.zero_add _)).symm

theorem ld_scaleRow (x : Vec Ideal S6x1024 e) (d : Fin 1024) : View.ld x scaleRow (ix2 0 d) = x (ix2 4 d) :=
  View.ld_unit_apply_of x _ _ _ _ _ fun a => match a with
    | ⟨0, _⟩ => rfl
    | ⟨1, _⟩ => (Nat.zero_add _).symm

theorem ld_row0 (x : Vec Ideal S8x1024 e) (d : Fin 1024) : View.ld x row0 (ix2 0 d) = x (ix2 0 d) :=
  View.ld_unit_apply_of x _ _ _ _ _ fun a => match a with
    | ⟨0, _⟩ => rfl
    | ⟨1, _⟩ => (Nat.zero_add _).symm

theorem ld_row1 (x : Vec Ideal S8x1024 e) (d : Fin 1024) : View.ld x row1 (ix2 0 d) = x (ix2 1 d) :=
  View.ld_unit_apply_of x _ _ _ _ _ fun a => match a with
    | ⟨0, _⟩ => rfl
    | ⟨1, _⟩ => (Nat.zero_add _).symm

theorem ld_row2 (x : Vec Ideal S8x1024 e) (d : Fin 1024) : View.ld x row2 (ix2 0 d) = x (ix2 2 d) :=
  View.ld_unit_apply_of x _ _ _ _ _ fun a => match a with
    | ⟨0, _⟩ => rfl
    | ⟨1, _⟩ => (Nat.zero_add _).symm

end

/-! ### The stores -/

theorem emb_lo3 (o : Fin 1) (r : Fin 256) (f : Fin 704) : lo3.emb (ix3 o r f) = ix3 o (low r) f := funext fun a => match a with
  | ⟨0, _⟩ => Fin.ext (by show 0 + 1 * o.val = o.val; omega)
  | ⟨1, _⟩ => Fin.ext (by show 0 + 1 * r.val = r.val; omega)
  | ⟨2, _⟩ => Fin.ext (by show 0 + 1 * f.val = f.val; omega)

theorem emb_hi3 (o : Fin 1) (r : Fin 256) (f : Fin 704) : hi3.emb (ix3 o r f) = ix3 o (high r) f := funext fun a => match a with
  | ⟨0, _⟩ => Fin.ext (by show 0 + 1 * o.val = o.val; omega)
  | ⟨1, _⟩ => Fin.ext (by show 256 + 1 * r.val = 256 + r.val; omega)
  | ⟨2, _⟩ => Fin.ext (by show 0 + 1 * f.val = f.val; omega)

theorem emb_lo2 (r : Fin 256) (d : Fin 1024) : lo2.emb (ix2 r d) = ix2 (low r) d := funext fun a => match a with
  | ⟨0, _⟩ => Fin.ext (by show 0 + 1 * r.val = r.val; omega)
  | ⟨1, _⟩ => Fin.ext (by show 0 + 1 * d.val = d.val; omega)

theorem emb_hi2 (r : Fin 256) (d : Fin 1024) : hi2.emb (ix2 r d) = ix2 (high r) d := funext fun a => match a with
  | ⟨0, _⟩ => Fin.ext (by show 256 + 1 * r.val = 256 + r.val; omega)
  | ⟨1, _⟩ => Fin.ext (by show 0 + 1 * d.val = d.val; omega)

/-- Every row is a row of a half. -/
theorem row_cases (r : Fin 512) : (∃ q, r = low q) ∨ ∃ q, r = high q := by
  by_cases h : r.val < 256
  · exact .inl ⟨⟨r.val, h⟩, Fin.ext rfl⟩
  · exact .inr ⟨⟨r.val - 256, by omega⟩, Fin.ext (by show r.val = 256 + (r.val - 256); omega)⟩

theorem low_out3 (y : S1x512x704.Idx) (hy : (y (1 : Fin 3)).val < 256) : y ∉ hi3.set := fun h =>
  absurd (show 256 ≤ (y (1 : Fin 3)).val from (Rect.mem_set_unit.mp h (1 : Fin 3)).1) (by omega)

theorem low_out2 (y : S512x1024.Idx) (hy : (y (0 : Fin 2)).val < 256) : y ∉ hi2.set := fun h =>
  absurd (show 256 ≤ (y (0 : Fin 2)).val from (Rect.mem_set_unit.mp h (0 : Fin 2)).1) (by omega)

/-- Two stores of the halves, read at a row. -/
theorem canon3 (G : Fin 512 → Fin 704 → EReal) (p q : Vec Ideal S1x256x704 .bf16)
    (hp : ∀ o r f, (p (ix3 o r f) : EReal) = G (high r) f) (hq : ∀ o r f, (q (ix3 o r f) : EReal) = G (low r) f)
    (o : Fin 1) (r : Fin 512) (f : Fin 704) :
    View.canon ([⟨hi3, p⟩, ⟨lo3, q⟩] : List (View.Piece (Elt Ideal) S1x512x704 .bf16)) (ix3 o r f) = G r f := by
  rcases row_cases r with ⟨q', rfl⟩ | ⟨q', rfl⟩
  · refine (View.canon_cons_of_not_mem ⟨hi3, p⟩ _ (low_out3 (ix3 o (low q') f) q'.isLt)).trans ?_
    exact (congrArg (View.canon _) (emb_lo3 o q' f).symm).trans ((View.canon_cons_emb lo3 q [] _).trans (hq o q' f))
  · exact (congrArg (View.canon _) (emb_hi3 o q' f).symm).trans ((View.canon_cons_emb hi3 p _ _).trans (hp o q' f))

theorem canon2 (G : Fin 512 → Fin 1024 → EReal) (p q : Vec Ideal S256x1024 .f32)
    (hp : ∀ r d, (p (ix2 r d) : EReal) = G (high r) d) (hq : ∀ r d, (q (ix2 r d) : EReal) = G (low r) d)
    (r : Fin 512) (d : Fin 1024) :
    View.canon ([⟨hi2, p⟩, ⟨lo2, q⟩] : List (View.Piece (Elt Ideal) S512x1024 .f32)) (ix2 r d) = G r d := by
  rcases row_cases r with ⟨q', rfl⟩ | ⟨q', rfl⟩
  · refine (View.canon_cons_of_not_mem ⟨hi2, p⟩ _ (low_out2 (ix2 (low q') d) q'.isLt)).trans ?_
    exact (congrArg (View.canon _) (emb_lo2 q' d).symm).trans ((View.canon_cons_emb lo2 q [] _).trans (hq q' d))
  · exact (congrArg (View.canon _) (emb_hi2 q' d).symm).trans ((View.canon_cons_emb hi2 p _ _).trans (hp q' d))

/-! ### A point -/

/-- The blocks of chunk `j` and of the rows of block `b` are the numbers `X`. -/
structure Holds (X : Nums) (b : Fin 8) (j : Fin 4) (i : grid0.Coords) (x0 x1 : Vec Ideal S512x1024 .f32) (x2 : Vec Ideal S512x1024 .bf16)
    (x3 x4 : Vec Ideal S1x512x704 .bf16) (x5 : Vec Ideal S6x1024 .f32) (x6 : Vec Ideal S1x1024 .f32)
    (x7 x8 x9 : Vec Ideal S4x704x1024 .bf16) : Prop where
  off : k0_off1 i = ![j.val, 0, 0]
  h0 : ∀ r d, (x0 (ix2 r d) : EReal) = ((X.skip (rowOf b r) d : ℝ) : EReal)
  h1 : ∀ r d, (x1 (ix2 r d) : EReal) = ((X.x (rowOf b r) d : ℝ) : EReal)
  h2 : ∀ r d, (x2 (ix2 r d) : EReal) = ((X.dff (rowOf b r) d : ℝ) : EReal)
  h3 : ∀ r f, (x3 (ix3 0 r f) : EReal) = ((X.gate j (rowOf b r) f : ℝ) : EReal)
  h4 : ∀ r f, (x4 (ix3 0 r f) : EReal) = ((X.up j (rowOf b r) f : ℝ) : EReal)
  h5 : ∀ k d, (x5 (ix2 k d) : EReal) = ((X.mod k d : ℝ) : EReal)
  h6 : ∀ d, (x6 (ix2 0 d) : EReal) = ((X.g d : ℝ) : EReal)
  h7 : ∀ k f d, (x7 (ix3 k f d) : EReal) = ((X.wg k f d : ℝ) : EReal)
  h8 : ∀ k f d, (x8 (ix3 k f d) : EReal) = ((X.wu k f d : ℝ) : EReal)
  h9 : ∀ k f d, (x9 (ix3 k f d) : EReal) = ((X.wd k f d : ℝ) : EReal)

section
variable {X : Nums} {b : Fin 8} {j : Fin 4} {i : grid0.Coords} {x0 x1 : Vec Ideal S512x1024 .f32} {x2 : Vec Ideal S512x1024 .bf16}
    {x3 x4 : Vec Ideal S1x512x704 .bf16} {x5 : Vec Ideal S6x1024 .f32} {x6 : Vec Ideal S1x1024 .f32}
    {x7 x8 x9 : Vec Ideal S4x704x1024 .bf16} (H : Holds X b j i x0 x1 x2 x3 x4 x5 x6 x7 x8 x9)
include H

theorem chunk_7 (f : Fin 704) (d : Fin 1024) : (View.ld x7 (chunk i) (ix3 0 f d) : EReal) = ((X.wg j f d : ℝ) : EReal) :=
  (ld_chunk x7 i j H.off f d).trans (H.h7 j f d)

theorem chunk_8 (f : Fin 704) (d : Fin 1024) : (View.ld x8 (chunk i) (ix3 0 f d) : EReal) = ((X.wu j f d : ℝ) : EReal) :=
  (ld_chunk x8 i j H.off f d).trans (H.h8 j f d)

theorem chunk_9 (f : Fin 704) (d : Fin 1024) : (View.ld x9 (chunk i) (ix3 0 f d) : EReal) = ((X.wd j f d : ℝ) : EReal) :=
  (ld_chunk x9 i j H.off f d).trans (H.h9 j f d)

theorem dupLo_at (r : Fin 256) (f : Fin 704) : (dupLo i x2 x3 x9 (ix2 r f) : EReal) = ((X.dup j (rowOf b (low r)) f : ℝ) : EReal) :=
  dup_real X j (fun r => rowOf b (low r)) (fun r d => (ld_lo2 x2 r d).trans (H.h2 _ _)) (chunk_9 H)
    (fun r f => (ld_lo3 x3 0 r f).trans (H.h3 _ _)) r f

theorem dupHi_at (r : Fin 256) (f : Fin 704) : (dupHi i x2 x3 x9 (ix2 r f) : EReal) = ((X.dup j (rowOf b (high r)) f : ℝ) : EReal) :=
  dup_real X j (fun r => rowOf b (high r)) (fun r d => (ld_hi2 x2 r d).trans (H.h2 _ _)) (chunk_9 H)
    (fun r f => (ld_hi3 x3 0 r f).trans (H.h3 _ _)) r f

theorem dgateLo_at (r : Fin 256) (f : Fin 704) : (dgateLo i x2 x3 x4 x9 (ix2 r f) : EReal) = ((X.dgate j (rowOf b (low r)) f : ℝ) : EReal) :=
  dgate_real X j (fun r => rowOf b (low r)) (fun r d => (ld_lo2 x2 r d).trans (H.h2 _ _)) (chunk_9 H)
    (fun r f => (ld_lo3 x3 0 r f).trans (H.h3 _ _)) (fun r f => (ld_lo3 x4 0 r f).trans (H.h4 _ _)) r f

theorem dgateHi_at (r : Fin 256) (f : Fin 704) : (dgateHi i x2 x3 x4 x9 (ix2 r f) : EReal) = ((X.dgate j (rowOf b (high r)) f : ℝ) : EReal) :=
  dgate_real X j (fun r => rowOf b (high r)) (fun r d => (ld_hi2 x2 r d).trans (H.h2 _ _)) (chunk_9 H)
    (fun r f => (ld_hi3 x3 0 r f).trans (H.h3 _ _)) (fun r f => (ld_hi3 x4 0 r f).trans (H.h4 _ _)) r f

theorem dupBlk_at (o : Fin 1) (r : Fin 512) (f : Fin 704) : (dupBlk i x2 x3 x9 (ix3 o r f) : EReal) = ((X.dup j (rowOf b r) f : ℝ) : EReal) :=
  canon3 (fun r f => ((X.dup j (rowOf b r) f : ℝ) : EReal)) _ _
    (fun o r f => (pay20_apply r f _ o).trans (dupHi_at H r f)) (fun o r f => (pay20_apply r f _ o).trans (dupLo_at H r f)) o r f

theorem dgateBlk_at (o : Fin 1) (r : Fin 512) (f : Fin 704) :
    (dgateBlk i x2 x3 x4 x9 (ix3 o r f) : EReal) = ((X.dgate j (rowOf b r) f : ℝ) : EReal) :=
  canon3 (fun r f => ((X.dgate j (rowOf b r) f : ℝ) : EReal)) _ _
    (fun o r f => (pay21_apply r f _ o).trans (dgateHi_at H r f)) (fun o r f => (pay21_apply r f _ o).trans (dgateLo_at H r f)) o r f

theorem accBlk_at {a : Vec Ideal S512x1024 .f32} (β : Fin 512 → Fin 1024 → ℝ)
    (ha : ∀ r d, (a (ix2 r d) : EReal) = ((β r d : ℝ) : EReal)) (r : Fin 512) (d : Fin 1024) :
    (accBlk i x2 x3 x4 x7 x8 x9 a (ix2 r d) : EReal) = ((β r d + X.part j (rowOf b r) d : ℝ) : EReal) :=
  canon2 (fun r d => ((β r d + X.part j (rowOf b r) d : ℝ) : EReal)) _ _
    (fun r d => acc_real X j (fun r => rowOf b (high r)) (fun r d => β (high r) d) (dupHi_at H) (dgateHi_at H)
      (fun r d => (ld_hi2 a r d).trans (ha _ _)) (chunk_7 H) (chunk_8 H) r d)
    (fun r d => acc_real X j (fun r => rowOf b (low r)) (fun r d => β (low r) d) (dupLo_at H) (dgateLo_at H)
      (fun r d => (ld_lo2 a r d).trans (ha _ _)) (chunk_7 H) (chunk_8 H) r d) r d

end

end Cert.Ffn

end
-- ==== Proof.FfnLaunch.lean ====
/- The feed-forward block's backward call: what the launch leaves in its arrays. -/
module

public import proofs.«01_k».proof.Proof.FfnPoint
public import proofs.«01_k».proof.Proof.Gen.FfnBackwardIdeal.Value
public import Idealize.ShloMosaic.Lib.Pipeline.ValueKit

@[expose] public section

noncomputable section

namespace Cert.Ffn

open Idealize.ShloMosaic Idealize.ShloMosaic.TcCoe Idealize.SL.Sem
open Cert.FfnBackwardIdeal Cert.FfnBackwardIdeal.Gen Cert.FfnBackwardIdeal.Value

variable (m : (ℓ : Loc nD τ sig) → Buf (Elt Ideal) ℓ) (c : Dev nD)

/-! ### The arguments -/
def arg0 : FVec Ideal S4096x1024 .f32 := m ((c : Thread nD τ).loc main_arg0)
def arg1 : FVec Ideal S4096x1024 .f32 := m ((c : Thread nD τ).loc main_arg1)
def arg2 : FVec Ideal S4096x1024 .f32 := m ((c : Thread nD τ).loc main_arg2)
def arg3 : FVec Ideal S4x4096x704 .f32 := m ((c : Thread nD τ).loc main_arg3)
def arg4 : FVec Ideal S4x4096x704 .f32 := m ((c : Thread nD τ).loc main_arg4)
def arg5 : FVec Ideal S6x1024 .f32 := m ((c : Thread nD τ).loc main_arg5)
def arg6 : FVec Ideal S1x1024 .f32 := m ((c : Thread nD τ).loc main_arg6)
def arg7 : FVec Ideal S4x704x1024 .f32 := m ((c : Thread nD τ).loc main_arg7)
def arg8 : FVec Ideal S4x704x1024 .f32 := m ((c : Thread nD τ).loc main_arg8)
def arg9 : FVec Ideal S4x704x1024 .f32 := m ((c : Thread nD τ).loc main_arg9)

/-- The arguments are the numbers `X`. -/
structure Given (X : Nums) : Prop where
  a0 : ∀ s d, (arg0 m c (ix2 s d) : EReal) = ((X.skip s d : ℝ) : EReal)
  a1 : ∀ s d, (arg1 m c (ix2 s d) : EReal) = ((X.x s d : ℝ) : EReal)
  a2 : ∀ s d, (arg2 m c (ix2 s d) : EReal) = ((X.dff s d : ℝ) : EReal)
  a3 : ∀ j s f, (arg3 m c (ix3 j s f) : EReal) = ((X.gate j s f : ℝ) : EReal)
  a4 : ∀ j s f, (arg4 m c (ix3 j s f) : EReal) = ((X.up j s f : ℝ) : EReal)
  a5 : ∀ k d, (arg5 m c (ix2 k d) : EReal) = ((X.mod k d : ℝ) : EReal)
  a6 : ∀ d, (arg6 m c (ix2 0 d) : EReal) = ((X.g d : ℝ) : EReal)
  a7 : ∀ j f d, (arg7 m c (ix3 j f d) : EReal) = ((X.wg j f d : ℝ) : EReal)
  a8 : ∀ j f d, (arg8 m c (ix3 j f d) : EReal) = ((X.wu j f d : ℝ) : EReal)
  a9 : ∀ j f d, (arg9 m c (ix3 j f d) : EReal) = ((X.wd j f d : ℝ) : EReal)

/-! ### The windows' arrays -/

theorem V_0 : V m c main_arg0 = arg0 m c := by
  simp only [V, hostOps0]
  after_results_simp <;> rfl

theorem V_1 : V m c main_arg1 = arg1 m c := by
  simp only [V, hostOps0]
  after_results_simp <;> rfl

theorem V_2 : V m c main_v0 = (truncf (F := Ideal) .bf16 (arg2 m c) bitsLt_bf16_f32 : FVec Ideal S4096x1024 .bf16) := by
  simp only [V, hostOps0]
  after_results_simp <;> rfl

theorem V_3 : V m c main_v1 = (truncf (F := Ideal) .bf16 (arg3 m c) bitsLt_bf16_f32 : FVec Ideal S4x4096x704 .bf16) := by
  simp only [V, hostOps0]
  after_results_simp <;> rfl

theorem V_4 : V m c main_v2 = (truncf (F := Ideal) .bf16 (arg4 m c) bitsLt_bf16_f32 : FVec Ideal S4x4096x704 .bf16) := by
  simp only [V, hostOps0]
  after_results_simp <;> rfl

theorem V_5 : V m c main_arg5 = arg5 m c := by
  simp only [V, hostOps0]
  after_results_simp <;> rfl

theorem V_6 : V m c main_arg6 = arg6 m c := by
  simp only [V, hostOps0]
  after_results_simp <;> rfl

theorem V_7 : V m c main_v3 = (truncf (F := Ideal) .bf16 (arg7 m c) bitsLt_bf16_f32 : FVec Ideal S4x704x1024 .bf16) := by
  simp only [V, hostOps0]
  after_results_simp <;> rfl

theorem V_8 : V m c main_v4 = (truncf (F := Ideal) .bf16 (arg8 m c) bitsLt_bf16_f32 : FVec Ideal S4x704x1024 .bf16) := by
  simp only [V, hostOps0]
  after_results_simp <;> rfl

theorem V_9 : V m c main_v5 = (truncf (F := Ideal) .bf16 (arg9 m c) bitsLt_bf16_f32 : FVec Ideal S4x704x1024 .bf16) := by
  simp only [V, hostOps0]
  after_results_simp <;> rfl

/-- The block of rows and the chunk that a point is of. -/
def row (t : Fin cfg0.N) : Fin 8 := ⟨t.val / 4, Nat.div_lt_of_lt_mul (lt_of_lt_of_eq t.isLt (by decide))⟩
def col (t : Fin cfg0.N) : Fin 4 := ⟨t.val % 4, Nat.mod_lt _ (by decide)⟩

theorem chunk_off : ∀ t : Fin cfg0.N, k0_off1 (grid0.coords t) = ![(col t).val, 0, 0] := by decide +kernel

theorem index_0 : ∀ t : Fin cfg0.N, win0_0.index t = ![t.val / 4, 0] := by decide +kernel
theorem index_1 : ∀ t : Fin cfg0.N, win0_1.index t = ![t.val / 4, 0] := by decide +kernel
theorem index_2 : ∀ t : Fin cfg0.N, win0_2.index t = ![t.val / 4, 0] := by decide +kernel
theorem index_3 : ∀ t : Fin cfg0.N, win0_3.index t = ![t.val % 4, t.val / 4, 0] := by decide +kernel
theorem index_4 : ∀ t : Fin cfg0.N, win0_4.index t = ![t.val % 4, t.val / 4, 0] := by decide +kernel
theorem index_5 : ∀ t : Fin cfg0.N, win0_5.index t = ![0, 0] := by decide +kernel
theorem index_6 : ∀ t : Fin cfg0.N, win0_6.index t = ![0, 0] := by decide +kernel
theorem index_7 : ∀ t : Fin cfg0.N, win0_7.index t = ![0, 0, 0] := by decide +kernel
theorem index_8 : ∀ t : Fin cfg0.N, win0_8.index t = ![0, 0, 0] := by decide +kernel
theorem index_9 : ∀ t : Fin cfg0.N, win0_9.index t = ![0, 0, 0] := by decide +kernel
theorem index_10 : ∀ t : Fin cfg0.N, win0_10.index t = ![t.val % 4, t.val / 4, 0] := by decide +kernel
theorem index_11 : ∀ t : Fin cfg0.N, win0_11.index t = ![t.val % 4, t.val / 4, 0] := by decide +kernel
theorem index_12 : ∀ t : Fin cfg0.N, win0_12.index t = ![t.val / 4, 0] := by decide +kernel
theorem index_13 : ∀ t : Fin cfg0.N, win0_13.index t = ![0, 0] := by decide +kernel

theorem emb_0 (t : Fin cfg0.N) (r : Fin 512) (d : Fin 1024) : (win0_0.blk t).view.emb (ix2 r d) = ix2 (rowOf (row t) r) d := by
  blk_ext [index_0, row, rowOf]

theorem emb_1 (t : Fin cfg0.N) (r : Fin 512) (d : Fin 1024) : (win0_1.blk t).view.emb (ix2 r d) = ix2 (rowOf (row t) r) d := by
  blk_ext [index_1, row, rowOf]

theorem emb_2 (t : Fin cfg0.N) (r : Fin 512) (d : Fin 1024) : (win0_2.blk t).view.emb (ix2 r d) = ix2 (rowOf (row t) r) d := by
  blk_ext [index_2, row, rowOf]

theorem emb_3 (t : Fin cfg0.N) (o : Fin 1) (r : Fin 512) (f : Fin 704) :
    (win0_3.blk t).view.emb (ix3 o r f) = ix3 (col t) (rowOf (row t) r) f := by
  have := o.isLt
  blk_ext [index_3, row, col, rowOf]

theorem emb_4 (t : Fin cfg0.N) (o : Fin 1) (r : Fin 512) (f : Fin 704) :
    (win0_4.blk t).view.emb (ix3 o r f) = ix3 (col t) (rowOf (row t) r) f := by
  have := o.isLt
  blk_ext [index_4, row, col, rowOf]

theorem emb_5 (t : Fin cfg0.N) (k : Fin 6) (d : Fin 1024) : (win0_5.blk t).view.emb (ix2 k d) = ix2 k d := by
  blk_ext [index_5]

theorem emb_6 (t : Fin cfg0.N) (k : Fin 1) (d : Fin 1024) : (win0_6.blk t).view.emb (ix2 k d) = ix2 k d := by
  blk_ext [index_6]

theorem emb_7 (t : Fin cfg0.N) (j : Fin 4) (f : Fin 704) (d : Fin 1024) : (win0_7.blk t).view.emb (ix3 j f d) = ix3 j f d := by
  blk_ext [index_7]

theorem emb_8 (t : Fin cfg0.N) (j : Fin 4) (f : Fin 704) (d : Fin 1024) : (win0_8.blk t).view.emb (ix3 j f d) = ix3 j f d := by
  blk_ext [index_8]

theorem emb_9 (t : Fin cfg0.N) (j : Fin 4) (f : Fin 704) (d : Fin 1024) : (win0_9.blk t).view.emb (ix3 j f d) = ix3 j f d := by
  blk_ext [index_9]

theorem emb_10 (t : Fin cfg0.N) (o : Fin 1) (r : Fin 512) (f : Fin 704) :
    (win0_10.blk t).view.emb (ix3 o r f) = ix3 (col t) (rowOf (row t) r) f := by
  have := o.isLt
  blk_ext [index_10, row, col, rowOf]

theorem emb_11 (t : Fin cfg0.N) (o : Fin 1) (r : Fin 512) (f : Fin 704) :
    (win0_11.blk t).view.emb (ix3 o r f) = ix3 (col t) (rowOf (row t) r) f := by
  have := o.isLt
  blk_ext [index_11, row, col, rowOf]

theorem emb_12 (t : Fin cfg0.N) (r : Fin 512) (d : Fin 1024) : (win0_12.blk t).view.emb (ix2 r d) = ix2 (rowOf (row t) r) d := by
  blk_ext [index_12, row, rowOf]

theorem emb_13 (t : Fin cfg0.N) (k : Fin 8) (d : Fin 1024) : (win0_13.blk t).view.emb (ix2 k d) = ix2 k d := by
  blk_ext [index_13]

/-! ### What a point loads -/

theorem view_0 (G : Buf (Elt Ideal) ((c : Thread nD τ).loc main_arg0)) (t : Fin cfg0.N) (r : Fin 512) (d : Fin 1024) :
    ((cfg0.win 0).blk t).view.read (Elt Ideal) G (ix2 r d) = G (ix2 (rowOf (row t) r) d) :=
  congrArg G (emb_0 t r d)

theorem read_0 (t : Fin cfg0.N) (r : Fin 512) (d : Fin 1024) : iblk m c 0 t (ix2 r d) = arg0 m c (ix2 (rowOf (row t) r) d) :=
  (view_0 c (V m c main_arg0) t r d).trans (congrFun (V_0 m c) _)

theorem view_1 (G : Buf (Elt Ideal) ((c : Thread nD τ).loc main_arg1)) (t : Fin cfg0.N) (r : Fin 512) (d : Fin 1024) :
    ((cfg0.win 1).blk t).view.read (Elt Ideal) G (ix2 r d) = G (ix2 (rowOf (row t) r) d) :=
  congrArg G (emb_1 t r d)

theorem read_1 (t : Fin cfg0.N) (r : Fin 512) (d : Fin 1024) : iblk m c 1 t (ix2 r d) = arg1 m c (ix2 (rowOf (row t) r) d) :=
  (view_1 c (V m c main_arg1) t r d).trans (congrFun (V_1 m c) _)

theorem view_2 (G : Buf (Elt Ideal) ((c : Thread nD τ).loc main_v0)) (t : Fin cfg0.N) (r : Fin 512) (d : Fin 1024) :
    ((cfg0.win 2).blk t).view.read (Elt Ideal) G (ix2 r d) = G (ix2 (rowOf (row t) r) d) :=
  congrArg G (emb_2 t r d)

theorem read_2 (t : Fin cfg0.N) (r : Fin 512) (d : Fin 1024) : iblk m c 2 t (ix2 r d) = arg2 m c (ix2 (rowOf (row t) r) d) :=
  (view_2 c (V m c main_v0) t r d).trans (congrFun (V_2 m c) _)

theorem view_3 (G : Buf (Elt Ideal) ((c : Thread nD τ).loc main_v1)) (t : Fin cfg0.N) (r : Fin 512) (f : Fin 704) :
    ((cfg0.win 3).blk t).view.read (Elt Ideal) G (ix3 (0 : Fin 1) r f) = G (ix3 (col t) (rowOf (row t) r) f) :=
  congrArg G (emb_3 t 0 r f)

theorem read_3 (t : Fin cfg0.N) (r : Fin 512) (f : Fin 704) : iblk m c 3 t (ix3 (0 : Fin 1) r f) = arg3 m c (ix3 (col t) (rowOf (row t) r) f) :=
  (view_3 c (V m c main_v1) t r f).trans (congrFun (V_3 m c) _)

theorem view_4 (G : Buf (Elt Ideal) ((c : Thread nD τ).loc main_v2)) (t : Fin cfg0.N) (r : Fin 512) (f : Fin 704) :
    ((cfg0.win 4).blk t).view.read (Elt Ideal) G (ix3 (0 : Fin 1) r f) = G (ix3 (col t) (rowOf (row t) r) f) :=
  congrArg G (emb_4 t 0 r f)

theorem read_4 (t : Fin cfg0.N) (r : Fin 512) (f : Fin 704) : iblk m c 4 t (ix3 (0 : Fin 1) r f) = arg4 m c (ix3 (col t) (rowOf (row t) r) f) :=
  (view_4 c (V m c main_v2) t r f).trans (congrFun (V_4 m c) _)

theorem view_5 (G : Buf (Elt Ideal) ((c : Thread nD τ).loc main_arg5)) (t : Fin cfg0.N) (k : Fin 6) (d : Fin 1024) :
    ((cfg0.win 5).blk t).view.read (Elt Ideal) G (ix2 k d) = G (ix2 k d) :=
  congrArg G (emb_5 t k d)

theorem read_5 (t : Fin cfg0.N) (k : Fin 6) (d : Fin 1024) : iblk m c 5 t (ix2 k d) = arg5 m c (ix2 k d) :=
  (view_5 c (V m c main_arg5) t k d).trans (congrFun (V_5 m c) _)

theorem view_6 (G : Buf (Elt Ideal) ((c : Thread nD τ).loc main_arg6)) (t : Fin cfg0.N) (k : Fin 1) (d : Fin 1024) :
    ((cfg0.win 6).blk t).view.read (Elt Ideal) G (ix2 k d) = G (ix2 k d) :=
  congrArg G (emb_6 t k d)

theorem read_6 (t : Fin cfg0.N) (k : Fin 1) (d : Fin 1024) : iblk m c 6 t (ix2 k d) = arg6 m c (ix2 k d) :=
  (view_6 c (V m c main_arg6) t k d).trans (congrFun (V_6 m c) _)

theorem view_7 (G : Buf (Elt Ideal) ((c : Thread nD τ).loc main_v3)) (t : Fin cfg0.N) (j : Fin 4) (f : Fin 704) (d : Fin 1024) :
    ((cfg0.win 7).blk t).view.read (Elt Ideal) G (ix3 j f d) = G (ix3 j f d) :=
  congrArg G (emb_7 t j f d)

theorem read_7 (t : Fin cfg0.N) (j : Fin 4) (f : Fin 704) (d : Fin 1024) : iblk m c 7 t (ix3 j f d) = arg7 m c (ix3 j f d) :=
  (view_7 c (V m c main_v3) t j f d).trans (congrFun (V_7 m c) _)

theorem view_8 (G : Buf (Elt Ideal) ((c : Thread nD τ).loc main_v4)) (t : Fin cfg0.N) (j : Fin 4) (f : Fin 704) (d : Fin 1024) :
    ((cfg0.win 8).blk t).view.read (Elt Ideal) G (ix3 j f d) = G (ix3 j f d) :=
  congrArg G (emb_8 t j f d)

theorem read_8 (t : Fin cfg0.N) (j : Fin 4) (f : Fin 704) (d : Fin 1024) : iblk m c 8 t (ix3 j f d) = arg8 m c (ix3 j f d) :=
  (view_8 c (V m c main_v4) t j f d).trans (congrFun (V_8 m c) _)

theorem view_9 (G : Buf (Elt Ideal) ((c : Thread nD τ).loc main_v5)) (t : Fin cfg0.N) (j : Fin 4) (f : Fin 704) (d : Fin 1024) :
    ((cfg0.win 9).blk t).view.read (Elt Ideal) G (ix3 j f d) = G (ix3 j f d) :=
  congrArg G (emb_9 t j f d)

theorem read_9 (t : Fin cfg0.N) (j : Fin 4) (f : Fin 704) (d : Fin 1024) : iblk m c 9 t (ix3 j f d) = arg9 m c (ix3 j f d) :=
  (view_9 c (V m c main_v5) t j f d).trans (congrFun (V_9 m c) _)

variable {m c} {X : Nums} (hX : Given m c X)
include hX

theorem holds (t : Fin cfg0.N) : Holds X (row t) (col t) (grid0.coords t) (iblk m c 0 t) (iblk m c 1 t) (iblk m c 2 t) (iblk m c 3 t)
    (iblk m c 4 t) (iblk m c 5 t) (iblk m c 6 t) (iblk m c 7 t) (iblk m c 8 t) (iblk m c 9 t) where
  off := chunk_off t
  h0 := fun r d => (read_0 m c t r d).trans (hX.a0 _ _)
  h1 := fun r d => (read_1 m c t r d).trans (hX.a1 _ _)
  h2 := fun r d => (read_2 m c t r d).trans (hX.a2 _ _)
  h3 := fun r f => (read_3 m c t r f).trans (hX.a3 _ _ _)
  h4 := fun r f => (read_4 m c t r f).trans (hX.a4 _ _ _)
  h5 := fun k d => (read_5 m c t k d).trans (hX.a5 _ _)
  h6 := fun d => (read_6 m c t 0 d).trans (hX.a6 _)
  h7 := fun j f d => (read_7 m c t j f d).trans (hX.a7 _ _ _)
  h8 := fun j f d => (read_8 m c t j f d).trans (hX.a8 _ _ _)
  h9 := fun j f d => (read_9 m c t j f d).trans (hX.a9 _ _ _)

end Cert.Ffn

end
-- ==== Proof.FfnLeft.lean ====
/- The feed-forward block's backward call: what each point leaves, by induction over the points, and the four arrays. -/
module

public import proofs.«01_k».proof.Proof.FfnLaunch

@[expose] public section

noncomputable section

namespace Cert.Ffn

open Idealize.ShloMosaic Idealize.ShloMosaic.TcCoe Idealize.SL.Sem
open Cert.FfnBackwardIdeal Cert.FfnBackwardIdeal.Gen Cert.FfnBackwardIdeal.Value

variable (m : (ℓ : Loc nD τ sig) → Buf (Elt Ideal) ℓ) (c : Dev nD)

/-! ### The parts of what a point leaves -/

/-- What the points up to `t` leave: of the two projections' gradients, of the input's gradient, of the sums, and the accumulator. -/
def left10 (t : Fin cfg0.N) : Vec Ideal S1x512x704 .bf16 := (outsAt0 m c t.val t.isLt).1
def left11 (t : Fin cfg0.N) : Vec Ideal S1x512x704 .bf16 := (outsAt0 m c t.val t.isLt).2.1
def left12 (t : Fin cfg0.N) : Vec Ideal S512x1024 .f32 := (outsAt0 m c t.val t.isLt).2.2.1
def left13 (t : Fin cfg0.N) : Vec Ideal S8x1024 .f32 := (outsAt0 m c t.val t.isLt).2.2.2.1
def leftAcc (t : Fin cfg0.N) : Vec Ideal S512x1024 .f32 := (outsAt0 m c t.val t.isLt).2.2.2.2

/-- The point before. -/
def pred (t : Fin cfg0.N) : Fin cfg0.N := ⟨t.val - 1, Nat.lt_of_le_of_lt (Nat.sub_le _ _) t.isLt⟩

/-- The accumulator that the point `t` leaves over `a`. -/
def accAt (t : Fin cfg0.N) (a : Vec Ideal S512x1024 .f32) : Vec Ideal S512x1024 .f32 :=
  accBlk (grid0.coords t) (iblk m c 2 t) (iblk m c 3 t) (iblk m c 4 t) (iblk m c 7 t) (iblk m c 8 t) (iblk m c 9 t) a

def dgateAt (t : Fin cfg0.N) : Vec Ideal S1x512x704 .bf16 :=
  dgateBlk (grid0.coords t) (iblk m c 2 t) (iblk m c 3 t) (iblk m c 4 t) (iblk m c 9 t)

def dupAt (t : Fin cfg0.N) : Vec Ideal S1x512x704 .bf16 :=
  dupBlk (grid0.coords t) (iblk m c 2 t) (iblk m c 3 t) (iblk m c 9 t)

theorem left10_A (t : Fin cfg0.N) (h0 : t.val % 32 = 0) (h1 : t.val % 4 = 0) (h2 : ¬t.val % 4 = 3) : left10 m c t = dgateAt m c t := by
  unfold left10 dgateAt
  rw [outsAt0_A m c t h0 h1 h2]
  dsimp only
  exact out_A_10 (F := Ideal) ..

theorem left11_A (t : Fin cfg0.N) (h0 : t.val % 32 = 0) (h1 : t.val % 4 = 0) (h2 : ¬t.val % 4 = 3) : left11 m c t = dupAt m c t := by
  unfold left11 dupAt
  rw [outsAt0_A m c t h0 h1 h2]
  dsimp only
  exact out_A_11 (F := Ideal) ..

theorem leftAcc_A (t : Fin cfg0.N) (h0 : t.val % 32 = 0) (h1 : t.val % 4 = 0) (h2 : ¬t.val % 4 = 3) : leftAcc m c t = accAt m c t (k0_pay14 (F := Ideal)) := by
  unfold leftAcc accAt
  rw [outsAt0_A m c t h0 h1 h2]
  dsimp only
  exact acc_A (F := Ideal) ..

theorem left10_B (t : Fin cfg0.N) (h0 : ¬t.val % 32 = 0) (h1 : ¬t.val % 4 = 0) (h2 : ¬t.val % 4 = 3) : left10 m c t = dgateAt m c t := by
  unfold left10 dgateAt
  rw [outsAt0_B m c t h0 h1 h2]
  dsimp only
  exact out_B_10 (F := Ideal) ..

theorem left11_B (t : Fin cfg0.N) (h0 : ¬t.val % 32 = 0) (h1 : ¬t.val % 4 = 0) (h2 : ¬t.val % 4 = 3) : left11 m c t = dupAt m c t := by
  unfold left11 dupAt
  rw [outsAt0_B m c t h0 h1 h2]
  dsimp only
  exact out_B_11 (F := Ideal) ..

theorem leftAcc_B (t : Fin cfg0.N) (h0 : ¬t.val % 32 = 0) (h1 : ¬t.val % 4 = 0) (h2 : ¬t.val % 4 = 3) : leftAcc m c t = accAt m c t (leftAcc m c (pred t)) := by
  unfold leftAcc accAt
  rw [outsAt0_B m c t h0 h1 h2]
  dsimp only
  exact acc_B (F := Ideal) ..

theorem left10_C (t : Fin cfg0.N) (h0 : ¬t.val % 32 = 0) (h1 : ¬t.val % 4 = 0) (h2 : t.val % 4 = 3) : left10 m c t = dgateAt m c t := by
  unfold left10 dgateAt
  rw [outsAt0_C m c t h0 h1 h2]
  dsimp only
  exact out_C_10 (F := Ideal) ..

theorem left11_C (t : Fin cfg0.N) (h0 : ¬t.val % 32 = 0) (h1 : ¬t.val % 4 = 0) (h2 : t.val % 4 = 3) : left11 m c t = dupAt m c t := by
  unfold left11 dupAt
  rw [outsAt0_C m c t h0 h1 h2]
  dsimp only
  exact out_C_11 (F := Ideal) ..

theorem leftAcc_C (t : Fin cfg0.N) (h0 : ¬t.val % 32 = 0) (h1 : ¬t.val % 4 = 0) (h2 : t.val % 4 = 3) : leftAcc m c t = accAt m c t (leftAcc m c (pred t)) := by
  unfold leftAcc accAt
  rw [outsAt0_C m c t h0 h1 h2]
  dsimp only
  exact acc_C (F := Ideal) ..

theorem left10_D (t : Fin cfg0.N) (h0 : ¬t.val % 32 = 0) (h1 : t.val % 4 = 0) (h2 : ¬t.val % 4 = 3) : left10 m c t = dgateAt m c t := by
  unfold left10 dgateAt
  rw [outsAt0_D m c t h0 h1 h2]
  dsimp only
  exact out_D_10 (F := Ideal) ..

theorem left11_D (t : Fin cfg0.N) (h0 : ¬t.val % 32 = 0) (h1 : t.val % 4 = 0) (h2 : ¬t.val % 4 = 3) : left11 m c t = dupAt m c t := by
  unfold left11 dupAt
  rw [outsAt0_D m c t h0 h1 h2]
  dsimp only
  exact out_D_11 (F := Ideal) ..

theorem leftAcc_D (t : Fin cfg0.N) (h0 : ¬t.val % 32 = 0) (h1 : t.val % 4 = 0) (h2 : ¬t.val % 4 = 3) : leftAcc m c t = accAt m c t (k0_pay14 (F := Ideal)) := by
  unfold leftAcc accAt
  rw [outsAt0_D m c t h0 h1 h2]
  dsimp only
  exact acc_D (F := Ideal) ..

theorem left12_C (t : Fin cfg0.N) (h0 : ¬t.val % 32 = 0) (h1 : ¬t.val % 4 = 0) (h2 : t.val % 4 = 3) : left12 m c t
    = k0_pay7 (k0_pay8 (iblk m c 1 t)) (k0_pay9 (iblk m c 1 t)) (k0_pay12 (accAt m c t (leftAcc m c (pred t))) (View.ld (iblk m c 5 t) scaleRow))
      (iblk m c 6 t) (iblk m c 0 t) := by
  unfold left12 accAt leftAcc
  rw [outsAt0_C m c t h0 h1 h2]
  dsimp only
  exact out_C_12 (F := Ideal) ..

theorem left13_A (t : Fin cfg0.N) (h0 : t.val % 32 = 0) (h1 : t.val % 4 = 0) (h2 : ¬t.val % 4 = 3) : left13 m c t = k0_pay13 (F := Ideal) := by
  unfold left13
  rw [outsAt0_A m c t h0 h1 h2]
  dsimp only
  exact out_A_13 (F := Ideal) ..

theorem left13_B (t : Fin cfg0.N) (h0 : ¬t.val % 32 = 0) (h1 : ¬t.val % 4 = 0) (h2 : ¬t.val % 4 = 3) : left13 m c t = left13 m c (pred t) := by
  unfold left13
  rw [outsAt0_B m c t h0 h1 h2]
  dsimp only
  unfold out0_B_13
  rfl

theorem left13_D (t : Fin cfg0.N) (h0 : ¬t.val % 32 = 0) (h1 : t.val % 4 = 0) (h2 : ¬t.val % 4 = 3) : left13 m c t = left13 m c (pred t) := by
  unfold left13
  rw [outsAt0_D m c t h0 h1 h2]
  dsimp only
  unfold out0_D_13
  rfl

theorem left13_C0 (t : Fin cfg0.N) (h0 : ¬t.val % 32 = 0) (h1 : ¬t.val % 4 = 0) (h2 : t.val % 4 = 3) (d : Fin 1024) : left13 m c t (ix2 0 d)
    = k0_pay10 (accAt m c t (leftAcc m c (pred t))) (View.ld (left13 m c (pred t)) row0) (ix2 0 d) := by
  unfold left13 accAt leftAcc
  rw [outsAt0_C m c t h0 h1 h2]
  dsimp only
  exact sum_0 (F := Ideal) ..

theorem left13_C1 (t : Fin cfg0.N) (h0 : ¬t.val % 32 = 0) (h1 : ¬t.val % 4 = 0) (h2 : t.val % 4 = 3) (d : Fin 1024) : left13 m c t (ix2 1 d)
    = k0_pay11 (accAt m c t (leftAcc m c (pred t))) (iblk m c 1 t) (iblk m c 6 t) (View.ld (left13 m c (pred t)) row1) (ix2 0 d) := by
  unfold left13 accAt leftAcc
  rw [outsAt0_C m c t h0 h1 h2]
  dsimp only
  exact sum_1 (F := Ideal) ..

theorem left13_C2 (t : Fin cfg0.N) (h0 : ¬t.val % 32 = 0) (h1 : ¬t.val % 4 = 0) (h2 : t.val % 4 = 3) (d : Fin 1024) : left13 m c t (ix2 2 d)
    = k0_pay6 (k0_pay9 (iblk m c 1 t)) (k0_pay12 (accAt m c t (leftAcc m c (pred t))) (View.ld (iblk m c 5 t) scaleRow))
      (View.ld (left13 m c (pred t)) row2) (ix2 0 d) := by
  unfold left13 accAt leftAcc
  rw [outsAt0_C m c t h0 h1 h2]
  dsimp only
  exact sum_2 (F := Ideal) ..

theorem left13_Crest (t : Fin cfg0.N) (h0 : ¬t.val % 32 = 0) (h1 : ¬t.val % 4 = 0) (h2 : t.val % 4 = 3) (k : Fin 8) (hk : 3 ≤ k.val) (d : Fin 1024) :
    left13 m c t (ix2 k d) = left13 m c (pred t) (ix2 k d) := by
  unfold left13
  rw [outsAt0_C m c t h0 h1 h2]
  dsimp only
  exact sum_rest (F := Ideal) (hk := hk) ..

/-! ### What a point leaves, of real numbers -/

variable {m c} {X : Nums} (hX : Given m c X)

/-- The accumulator has the chunks so far of its block of rows, and the sums the blocks of rows that are done. -/
structure Inv (X : Nums) (m : (ℓ : Loc nD τ sig) → Buf (Elt Ideal) ℓ) (c : Dev nD) (t : Fin cfg0.N) : Prop where
  acc : ∀ r d, (leftAcc m c t (ix2 r d) : EReal) = ((upTo (fun j => X.part j (rowOf (row t) r) d) (t.val % 4 + 1) : ℝ) : EReal)
  sums : ∀ k d, (left13 m c t (ix2 k d) : EReal) = ((upTo (fun s => X.summand k s d) (512 * ((t.val + 1) / 4)) : ℝ) : EReal)

include hX

theorem acc_step (t : Fin cfg0.N) (a : Vec Ideal S512x1024 .f32)
    (ha : ∀ r d, (a (ix2 r d) : EReal) = ((upTo (fun j => X.part j (rowOf (row t) r) d) (t.val % 4) : ℝ) : EReal))
    (r : Fin 512) (d : Fin 1024) :
    (accAt m c t a (ix2 r d) : EReal) = ((upTo (fun j => X.part j (rowOf (row t) r) d) (t.val % 4 + 1) : ℝ) : EReal) := by
  rw [upTo_succ (fun j => X.part j (rowOf (row t) r) d) (col t) (t.val % 4) rfl]
  exact accBlk_at (holds hX t) (fun r d => upTo (fun j => X.part j (rowOf (row t) r) d) (t.val % 4)) ha r d

theorem acc_first (t : Fin cfg0.N) (h1 : t.val % 4 = 0) (r : Fin 512) (d : Fin 1024) :
    (accAt m c t (k0_pay14 (F := Ideal)) (ix2 r d) : EReal)
      = ((upTo (fun j => X.part j (rowOf (row t) r) d) (t.val % 4 + 1) : ℝ) : EReal) :=
  acc_step hX t _ (fun r d => by rw [zeroAcc, h1, upTo_zero]) r d

theorem acc_last (t : Fin cfg0.N) (h2 : t.val % 4 = 3) (a : Vec Ideal S512x1024 .f32)
    (ha : ∀ r d, (a (ix2 r d) : EReal) = ((upTo (fun j => X.part j (rowOf (row t) r) d) (t.val % 4) : ℝ) : EReal))
    (r : Fin 512) (d : Fin 1024) : (accAt m c t a (ix2 r d) : EReal) = ((X.dh (rowOf (row t) r) d : ℝ) : EReal) := by
  rw [acc_step hX t a ha, h2]
  exact congrArg _ (upTo_all _)

theorem scale_row (t : Fin cfg0.N) (d : Fin 1024) : (View.ld (iblk (F := Ideal) m c 5 t) scaleRow (ix2 0 d) : EReal) = ((X.mod 4 d : ℝ) : EReal) :=
  (ld_scaleRow _ d).trans ((holds hX t).h5 4 d)

/-- The last chunk of a block of rows adds the rows to the sums. -/
theorem sums_step (t : Fin cfg0.N) (h0 : ¬t.val % 32 = 0) (h1 : ¬t.val % 4 = 0) (h2 : t.val % 4 = 3)
    (ha : ∀ r d, (leftAcc m c (pred t) (ix2 r d) : EReal) = ((upTo (fun j => X.part j (rowOf (row t) r) d) (t.val % 4) : ℝ) : EReal))
    (hs : ∀ k d, (left13 m c (pred t) (ix2 k d) : EReal) = ((upTo (fun s => X.summand k s d) (512 * (t.val / 4)) : ℝ) : EReal))
    (k : Fin 8) (d : Fin 1024) :
    (left13 m c t (ix2 k d) : EReal) = ((upTo (fun s => X.summand k s d) (512 * (t.val / 4 + 1)) : ℝ) : EReal) := by
  have H := holds hX t
  have hdh := acc_last hX t h2 _ ha
  rw [upTo_block (fun s => X.summand k s d) (row t) (t.val / 4) rfl]
  match k with
  | ⟨0, _⟩ =>
    refine (left13_C0 m c t h0 h1 h2 d).trans ?_
    exact shift_at X (rowOf (row t)) hdh (fun d => upTo (fun s => X.summand 0 s d) (512 * (t.val / 4)))
      (fun d => (ld_row0 _ d).trans (hs 0 d)) d
  | ⟨1, _⟩ =>
    refine (left13_C1 m c t h0 h1 h2 d).trans ?_
    exact scale_at X (rowOf (row t)) H.h1 hdh H.h6 (fun d => upTo (fun s => X.summand 1 s d) (512 * (t.val / 4)))
      (fun d => (ld_row1 _ d).trans (hs 1 d)) d
  | ⟨2, _⟩ =>
    refine (left13_C2 m c t h0 h1 h2 d).trans ?_
    exact weight_at X (rowOf (row t)) H.h1 hdh (scale_row hX t) (fun d => upTo (fun s => X.summand 2 s d) (512 * (t.val / 4)))
      (fun d => (ld_row2 _ d).trans (hs 2 d)) d
  | ⟨n + 3, hn⟩ =>
    rw [left13_Crest m c t h0 h1 h2 ⟨n + 3, hn⟩ (Nat.le_add_left 3 n) d, hs]
    rw [Finset.sum_eq_zero fun r _ => X.summand_rest ⟨n + 3, hn⟩ (Nat.le_add_left 3 n) _ d, add_zero]

theorem inv : ∀ (n : ℕ) (hn : n < cfg0.N), Inv X m c ⟨n, hn⟩ := by
  have hN : cfg0.N = 32 := by decide
  intro n
  induction n with
  | zero =>
    intro hn
    refine ⟨fun r d => ?_, fun k d => ?_⟩
    · rw [leftAcc_A m c ⟨0, hn⟩ rfl rfl (show ¬0 % 4 = 3 by decide)]
      exact acc_first hX ⟨0, hn⟩ rfl r d
    · rw [left13_A m c ⟨0, hn⟩ rfl rfl (show ¬0 % 4 = 3 by decide), zeroSums]
      rw [show 512 * (((⟨0, hn⟩ : Fin cfg0.N).val + 1) / 4) = 0 from (by decide : 512 * ((0 + 1) / 4) = 0), upTo_zero]
  | succ n ih =>
    intro hn
    have hn' : n + 1 < 32 := hN ▸ hn
    have h0 : ¬(n + 1) % 32 = 0 := by omega
    have I := ih (Nat.lt_of_succ_lt hn)
    have hsums : ∀ k d, (left13 m c (pred ⟨n + 1, hn⟩) (ix2 k d) : EReal)
        = ((upTo (fun s => X.summand k s d) (512 * ((n + 1) / 4)) : ℝ) : EReal) := I.sums
    by_cases h1 : (n + 1) % 4 = 0
    · have h2 : ¬(n + 1) % 4 = 3 := by omega
      refine ⟨fun r d => ?_, fun k d => ?_⟩
      · rw [leftAcc_D m c ⟨n + 1, hn⟩ h0 h1 h2]
        exact acc_first hX ⟨n + 1, hn⟩ h1 r d
      · rw [left13_D m c ⟨n + 1, hn⟩ h0 h1 h2, hsums]
        have e : (n + 1) / 4 = (n + 1 + 1) / 4 := by omega
        rw [e]
    · have hacc : ∀ r d, (leftAcc m c (pred ⟨n + 1, hn⟩) (ix2 r d) : EReal)
          = ((upTo (fun j => X.part j (rowOf (row ⟨n + 1, hn⟩) r) d) ((n + 1) % 4) : ℝ) : EReal) := fun r d => by
        have e : row ⟨n, Nat.lt_of_succ_lt hn⟩ = row ⟨n + 1, hn⟩ := Fin.ext (by show n / 4 = (n + 1) / 4; omega)
        have e' : n % 4 + 1 = (n + 1) % 4 := by omega
        rw [← e, ← e']
        exact I.acc r d
      by_cases h2 : (n + 1) % 4 = 3
      · refine ⟨fun r d => ?_, fun k d => ?_⟩
        · rw [leftAcc_C m c ⟨n + 1, hn⟩ h0 h1 h2]
          exact acc_step hX ⟨n + 1, hn⟩ _ hacc r d
        · rw [sums_step hX ⟨n + 1, hn⟩ h0 h1 h2 hacc hsums]
          have e : (n + 1) / 4 + 1 = (n + 1 + 1) / 4 := by omega
          show _ = ((upTo (fun s => X.summand k s d) (512 * ((n + 1 + 1) / 4)) : ℝ) : EReal)
          rw [← e]
      · refine ⟨fun r d => ?_, fun k d => ?_⟩
        · rw [leftAcc_B m c ⟨n + 1, hn⟩ h0 h1 h2]
          exact acc_step hX ⟨n + 1, hn⟩ _ hacc r d
        · rw [left13_B m c ⟨n + 1, hn⟩ h0 h1 h2, hsums]
          have e : (n + 1) / 4 = (n + 1 + 1) / 4 := by omega
          rw [e]

theorem left10_at (t : Fin cfg0.N) (o : Fin 1) (r : Fin 512) (f : Fin 704) :
    (left10 m c t (ix3 o r f) : EReal) = ((X.dgate (col t) (rowOf (row t) r) f : ℝ) : EReal) := by
  have e : left10 m c t = dgateAt m c t := by
    by_cases h1 : t.val % 4 = 0
    · by_cases h0 : t.val % 32 = 0
      · exact left10_A m c t h0 h1 (by omega)
      · exact left10_D m c t h0 h1 (by omega)
    · by_cases h2 : t.val % 4 = 3
      · exact left10_C m c t (by omega) h1 h2
      · exact left10_B m c t (by omega) h1 h2
  rw [e]
  exact dgateBlk_at (holds hX t) o r f

theorem left11_at (t : Fin cfg0.N) (o : Fin 1) (r : Fin 512) (f : Fin 704) :
    (left11 m c t (ix3 o r f) : EReal) = ((X.dup (col t) (rowOf (row t) r) f : ℝ) : EReal) := by
  have e : left11 m c t = dupAt m c t := by
    by_cases h1 : t.val % 4 = 0
    · by_cases h0 : t.val % 32 = 0
      · exact left11_A m c t h0 h1 (by omega)
      · exact left11_D m c t h0 h1 (by omega)
    · by_cases h2 : t.val % 4 = 3
      · exact left11_C m c t (by omega) h1 h2
      · exact left11_B m c t (by omega) h1 h2
  rw [e]
  exact dupBlk_at (holds hX t) o r f

theorem left12_at (t : Fin cfg0.N) (h2 : t.val % 4 = 3) (r : Fin 512) (d : Fin 1024) :
    (left12 m c t (ix2 r d) : EReal) = ((X.dx (rowOf (row t) r) d : ℝ) : EReal) := by
  obtain ⟨n, hn⟩ := t
  match n, hn, h2 with
  | n + 1, hn, h2 =>
    have h2' : (n + 1) % 4 = 3 := h2
    have H := holds hX ⟨n + 1, hn⟩
    have hacc : ∀ r d, (leftAcc m c (pred ⟨n + 1, hn⟩) (ix2 r d) : EReal)
        = ((upTo (fun j => X.part j (rowOf (row ⟨n + 1, hn⟩) r) d) ((n + 1) % 4) : ℝ) : EReal) := fun r d => by
      have e : row ⟨n, Nat.lt_of_succ_lt hn⟩ = row ⟨n + 1, hn⟩ := Fin.ext (by show n / 4 = (n + 1) / 4; omega)
      have e' : n % 4 + 1 = (n + 1) % 4 := by omega
      rw [← e, ← e']
      exact (inv hX n (Nat.lt_of_succ_lt hn)).acc r d
    rw [left12_C m c ⟨n + 1, hn⟩ (by show ¬(n + 1) % 32 = 0; omega) (by show ¬(n + 1) % 4 = 0; omega) h2]
    exact dx_at X (rowOf (row ⟨n + 1, hn⟩)) H.h1 (acc_last hX ⟨n + 1, hn⟩ h2 _ hacc) H.h6 (scale_row hX _) H.h0 r d

/-! ### The arrays -/

omit hX

theorem flush_12 : ∀ t : Fin cfg0.N, win0_12.flush t = true → t.val % 4 = 3 := by decide +kernel
theorem flush_13 : ∀ t : Fin cfg0.N, win0_13.flush t = true → t.val = 31 := by decide +kernel

include hX

theorem arr_10 : (dats m 0 c).arrAt 10 cfg0.N = outDgate X := by
  refine (dats m 0 c).arrAt_eq_of_covers 10 _ (by decide +kernel) fun t hf y => ?_
  show (dats m 0 c).after 10 t y = outDgate X ((win0_10.blk t).view.emb y)
  rw [after0_10]
  have e : ∀ (o : Fin 1) (r : Fin 512) (f : Fin 704), left10 m c t (ix3 o r f) = outDgate X ((win0_10.blk t).view.emb (ix3 o r f)) := by
    intro o r f
    rw [emb_10]
    exact left10_at hX t o r f
  rw [eq_ix3 y]
  exact e (y 0) (y 1) (y 2)

theorem arr_11 : (dats m 0 c).arrAt 11 cfg0.N = outDup X := by
  refine (dats m 0 c).arrAt_eq_of_covers 11 _ (by decide +kernel) fun t hf y => ?_
  show (dats m 0 c).after 11 t y = outDup X ((win0_11.blk t).view.emb y)
  rw [after0_11]
  have e : ∀ (o : Fin 1) (r : Fin 512) (f : Fin 704), left11 m c t (ix3 o r f) = outDup X ((win0_11.blk t).view.emb (ix3 o r f)) := by
    intro o r f
    rw [emb_11]
    exact left11_at hX t o r f
  rw [eq_ix3 y]
  exact e (y 0) (y 1) (y 2)

theorem arr_12 : (dats m 0 c).arrAt 12 cfg0.N = outDx X := by
  refine (dats m 0 c).arrAt_eq_of_covers 12 _ (by decide +kernel) fun t hf y => ?_
  show (dats m 0 c).after 12 t y = outDx X ((win0_12.blk t).view.emb y)
  rw [after0_12]
  have e : ∀ (r : Fin 512) (d : Fin 1024), left12 m c t (ix2 r d) = outDx X ((win0_12.blk t).view.emb (ix2 r d)) := by
    intro r d
    rw [emb_12]
    exact left12_at hX t (flush_12 t hf) r d
  rw [eq_ix2 y]
  exact e (y 0) (y 1)

theorem arr_13 : (dats m 0 c).arrAt 13 cfg0.N = outSums X := by
  refine (dats m 0 c).arrAt_eq_of_covers 13 _ (by decide +kernel) fun t hf y => ?_
  show (dats m 0 c).after 13 t y = outSums X ((win0_13.blk t).view.emb y)
  rw [after0_13]
  have e : ∀ (k : Fin 8) (d : Fin 1024), left13 m c t (ix2 k d) = outSums X ((win0_13.blk t).view.emb (ix2 k d)) := by
    intro k d
    rw [emb_13]
    refine ((inv hX t.val t.isLt).sums k d).trans ?_
    rw [flush_13 t hf]
    exact congrArg _ (upTo_all _)
  rw [eq_ix2 y]
  exact e (y 0) (y 1)

end Cert.Ffn

end
-- ==== Proof.FfnRef.lean ====
/- What the reference of the feed-forward block's backward call computes, of arguments that are real numbers. -/
module

public import proofs.«01_k».proof.Proof.FfnNums
public import proofs.«01_k».proof.Proof.Gen.FfnBackwardReferenceIdeal.Run
public import proofs.«01_k».proof.Proof.Gen.FfnBackwardReferenceIdeal.Read
public import Idealize.ShloMosaic.Lib.TwoAxisContraction
public import Idealize.ShloMosaic.Lib.Pipeline.ValueKit

@[expose] public section

noncomputable section

namespace Cert.Ffn.Ref

open Idealize.ShloMosaic Cert.FfnBackwardReferenceIdeal Cert.FfnBackwardReferenceIdeal.Gen Cert.FfnBackwardReferenceIdeal.Read
open Cert.Attn (coe_sum div_real)

variable (X : Nums)

/-! ### The two projections -/

theorem sigmoid_at (j : Fin 4) (s : Fin 4096) (f : Fin 704) :
    val_main_v0_2 (F := Ideal) X.gateArr (ix3 j s f) = ((sigmoid (X.gate j s f) : ℝ) : EReal) := by
  pointwise [val_main_v0_2, val_main_call0_v4, val_main_call0_cst_0, val_main_call0_v3, val_main_call0_v2, val_main_call0_cst,
    val_main_call0_v1, val_main_call0_v0]
  show Ideal.div 1 (1 + Ideal.exp (-((X.gate j s f : ℝ) : EReal))) = _
  have hne : 1 + Real.exp (-X.gate j s f) ≠ 0 := by positivity
  rw [← EReal.coe_one, ← EReal.coe_neg, Ideal.exp_coe, ← EReal.coe_add, div_real _ hne, sigmoid, one_div]

theorem dact_at (j : Fin 4) (s : Fin 4096) (f : Fin 704) :
    val_main_v4 (F := Ideal) X.dffArr X.wdArr (ix3 j s f) = ((X.dact j s f : ℝ) : EReal) := by
  pointwise [val_main_v4, val_main_v3]
  rw [Nums.dact, coe_sum]
  exact Finset.sum_congr rfl fun d _ => (EReal.coe_mul _ _).symm

theorem dup_at (j : Fin 4) (s : Fin 4096) (f : Fin 704) :
    val_main_v5 (F := Ideal) X.dffArr X.gateArr X.wdArr (ix3 j s f) = ((X.dup j s f : ℝ) : EReal) := by
  pointwise [val_main_v5, val_main_v0_0]
  rw [sigmoid_at, dact_at]
  show ((X.gate j s f : ℝ) : EReal) * _ * _ = _
  rw [← EReal.coe_mul, ← EReal.coe_mul, Nums.dup, mul_comm]

theorem dgate_at (j : Fin 4) (s : Fin 4096) (f : Fin 704) :
    val_main_v7 (F := Ideal) X.dffArr X.gateArr X.upArr X.wdArr (ix3 j s f) = ((X.dgate j s f : ℝ) : EReal) := by
  pointwise [val_main_v7, val_main_call1_v1, val_main_call1_v2, val_main_call1_v0, val_main_v6, val_main_v0_1, val_main_call0_v7,
    val_main_call0_v6, val_main_call0_cst_1]
  rw [sigmoid_at, dact_at, ← EReal.coe_one]
  show ((X.dact j s f : ℝ) : EReal) * ((X.up j s f : ℝ) : EReal) * _ + ((X.gate j s f : ℝ) : EReal) * (_ * ((X.up j s f : ℝ) : EReal)) * _ = _
  simp only [← EReal.coe_mul, ← EReal.coe_sub, ← EReal.coe_add]
  rw [X.dgate_reference]

/-! ### The gradient of the norm's output -/

/-- A product summed over the chunk and over the middle axis. -/
theorem dot_at (L : FVec Ideal S4x704x4096 .f32) (R : FVec Ideal S4x704x1024 .f32) (s : Fin 4096) (d : Fin 1024) :
    Host.dotGeneral dot_S4x704x4096_S4x704x1024_S4096x1024_01_01_2_2_n_n none L R (ix2 s d)
      = ∑ j : Fin 4, ∑ f : Fin 704, L (ix3 j f s) * R (ix3 j f d) := by
  simp only [Host.dotGeneral]
  rw [Ideal.dotGeneral_apply, ValueIdx.sum_contr2 dot_S4x704x4096_S4x704x1024_S4096x1024_01_01_2_2_n_n 4 704 rfl rfl rfl]
  refine Finset.sum_congr rfl fun j _ => Finset.sum_congr rfl fun f _ => ?_
  have h0 := ValueIdx.contrEquiv2_symm_val0 dot_S4x704x4096_S4x704x1024_S4096x1024_01_01_2_2_n_n 4 704 rfl rfl rfl (j, f)
  have h1 := ValueIdx.contrEquiv2_symm_val1 dot_S4x704x4096_S4x704x1024_S4096x1024_01_01_2_2_n_n 4 704 rfl rfl rfl (j, f)
  refine congrArg₂ (· * ·) (congrArg L (funext fun a => Fin.ext ?_)) (congrArg R (funext fun a => Fin.ext ?_))
  · match a with
    | ⟨0, _⟩ => exact h0
    | ⟨1, _⟩ => exact h1
    | ⟨2, _⟩ => rfl
  · match a with
    | ⟨0, _⟩ => exact h0
    | ⟨1, _⟩ => exact h1
    | ⟨2, _⟩ => rfl

theorem dh_at (s : Fin 4096) (d : Fin 1024) :
    val_main_v17 (F := Ideal) X.dffArr X.gateArr X.upArr X.wgArr X.wuArr X.wdArr (ix2 s d) = ((X.dh s d : ℝ) : EReal) := by
  rw [val_main_v17_apply, ← X.dh_reference, EReal.coe_add]
  refine congrArg₂ (fun a b : EReal => a + b) ?_ ?_
  · unfold val_main_v14
    rw [dot_at, coe_sum]
    refine Finset.sum_congr rfl fun j _ => ?_
    rw [coe_sum]
    refine Finset.sum_congr rfl fun f _ => ?_
    pointwise [val_main_v13]
    rw [dup_at]
    exact (EReal.coe_mul _ _).symm
  · unfold val_main_v16
    rw [dot_at, coe_sum]
    refine Finset.sum_congr rfl fun j _ => ?_
    rw [coe_sum]
    refine Finset.sum_congr rfl fun f _ => ?_
    pointwise [val_main_v15]
    rw [dgate_at]
    exact (EReal.coe_mul _ _).symm

/-! ### The norm -/

theorem var_at (s : Fin 4096) (z : Fin 1) : val_main_v26 (F := Ideal) X.xArr (ix2 s z) = ((X.var s : ℝ) : EReal) := by
  pointwise [val_main_v26, val_main_v25, val_main_cst_2, val_main_v24, val_main_v23, val_main_cst_1, val_main_v22, val_main_v21,
    val_main_v20, val_main_cst_0]
  rw [count_word, eps_word, Nums.var, EReal.coe_add, ← div_real _ (by norm_num : (1024 : ℝ) ≠ 0), coe_sum]
  simp only [EReal.coe_mul]
  rfl

theorem rms_at (s : Fin 4096) (z : Fin 1) : val_main_v27 (F := Ideal) X.xArr (ix2 s z) = ((X.rms s : ℝ) : EReal) := by
  rw [val_main_v27_apply, var_at]
  exact rsqrt_real (X.var_pos s)

theorem xh_at (s : Fin 4096) (d : Fin 1024) : val_main_v32 (F := Ideal) X.xArr (ix2 s d) = ((X.xh s d : ℝ) : EReal) := by
  pointwise [val_main_v32, val_main_v31]
  rw [rms_at]
  exact (EReal.coe_mul _ _).symm

theorem scale_at (d : Fin 1024) (z : Fin 1) : val_main_v36 (F := Ideal) X.modArr (ix2 z d) = ((1 + X.mod 4 d : ℝ) : EReal) := by
  have hz : z = 0 := Subsingleton.elim _ _
  subst hz
  pointwise [val_main_v36, val_main_v35, val_main_cst_4, val_main_v19]
  rw [EReal.coe_add, EReal.coe_one]
  rfl

theorem dn_at (s : Fin 4096) (d : Fin 1024) :
    val_main_v47 (F := Ideal) X.dffArr X.gateArr X.upArr X.modArr X.wgArr X.wuArr X.wdArr (ix2 s d) = ((X.dn s d : ℝ) : EReal) := by
  pointwise [val_main_v47, val_main_v46]
  rw [dh_at, scale_at]
  exact (EReal.coe_mul _ _).symm

theorem dy_at (s : Fin 4096) (d : Fin 1024) :
    val_main_v52 (F := Ideal) X.dffArr X.gateArr X.upArr X.modArr X.gArr X.wgArr X.wuArr X.wdArr (ix2 s d) = ((X.dy s d : ℝ) : EReal) := by
  pointwise [val_main_v52, val_main_v51]
  rw [dn_at]
  exact (EReal.coe_mul _ _).symm

/-- The row's part of the derivative of the mean square. -/
theorem mean_at (s : Fin 4096) :
    val_main_v61 (F := Ideal) X.xArr X.dffArr X.gateArr X.upArr X.modArr X.gArr X.wgArr X.wuArr X.wdArr (ix1 s)
      = (((∑ e, X.x s e * X.dy s e) * (-(1 / 2) * (X.rms s / X.var s)) / 1024 : ℝ) : EReal) := by
  pointwise [val_main_v61, val_main_cst_10, val_main_v60, val_main_v59, val_main_cst_9, val_main_v58, val_main_v55, val_main_v54,
    val_main_cst_8, val_main_v53, val_main_v30, val_main_v29, val_main_cst_3, val_main_v28]
  have e : ∑ e, X.xArr (ix2 s e) * val_main_v52 (F := Ideal) X.dffArr X.gateArr X.upArr X.modArr X.gArr X.wgArr X.wuArr X.wdArr (ix2 s e)
      = ((∑ e, X.x s e * X.dy s e : ℝ) : EReal) := by
    rw [coe_sum]
    refine Finset.sum_congr rfl fun e _ => ?_
    rw [dy_at]
    exact (EReal.coe_mul _ _).symm
  rw [Fin.sum_univ_one, e, rms_at, var_at, minus_half_word, count_word, div_real _ (X.var_pos s).ne', ← EReal.coe_mul, ← EReal.coe_mul,
    div_real _ (by norm_num : (1024 : ℝ) ≠ 0)]

theorem dx_at (s : Fin 4096) (d : Fin 1024) :
    val_main_v69 (F := Ideal) X.skipArr X.xArr X.dffArr X.gateArr X.upArr X.modArr X.gArr X.wgArr X.wuArr X.wdArr (ix2 s d)
      = ((X.dx s d : ℝ) : EReal) := by
  pointwise [val_main_v69, val_main_v66, val_main_v65, val_main_v64, val_main_v63, val_main_v62, val_main_v57, val_main_v56]
  rw [mean_at, dy_at, rms_at]
  show ((X.skip s d : ℝ) : EReal) + (_ * _ + ((X.x s d : ℝ) : EReal) * _ + _ * ((X.x s d : ℝ) : EReal)) = _
  simp only [← EReal.coe_mul, ← EReal.coe_add]
  rw [X.dx_reference]

/-! ### The small gradients -/

theorem shift_at (z : Fin 1) (d : Fin 1024) :
    val_main_v42 (F := Ideal) X.dffArr X.gateArr X.upArr X.wgArr X.wuArr X.wdArr (ix2 z d) = ((∑ s, X.shift s d : ℝ) : EReal) := by
  pointwise [val_main_v42, val_main_v41, val_main_cst_5]
  rw [coe_sum]
  refine Finset.sum_congr rfl fun s _ => dh_at X s d

theorem scaleSum_at (z : Fin 1) (d : Fin 1024) :
    val_main_v45 (F := Ideal) X.xArr X.dffArr X.gateArr X.upArr X.gArr X.wgArr X.wuArr X.wdArr (ix2 z d)
      = ((∑ s, X.scale s d : ℝ) : EReal) := by
  pointwise [val_main_v45, val_main_v44, val_main_cst_6, val_main_v43, val_main_v34, val_main_v33]
  rw [coe_sum]
  refine Finset.sum_congr rfl fun s _ => ?_
  rw [dh_at, xh_at]
  show _ * ((X.g d : ℝ) : EReal) * _ = _
  rw [← EReal.coe_mul, ← EReal.coe_mul, Nums.scale, mul_comm]

theorem weight_at (z : Fin 1) (d : Fin 1024) :
    val_main_v50 (F := Ideal) X.xArr X.dffArr X.gateArr X.upArr X.modArr X.wgArr X.wuArr X.wdArr (ix2 z d)
      = ((∑ s, X.weight s d : ℝ) : EReal) := by
  pointwise [val_main_v50, val_main_v49, val_main_cst_7, val_main_v48]
  rw [coe_sum]
  refine Finset.sum_congr rfl fun s _ => ?_
  rw [dn_at, xh_at, ← EReal.coe_mul, Nums.weight, mul_comm]

theorem sums_at (k : Fin 8) (d : Fin 1024) :
    val_main_v71 (F := Ideal) X.xArr X.dffArr X.gateArr X.upArr X.modArr X.gArr X.wgArr X.wuArr X.wdArr (ix2 k d)
      = ((∑ s, X.summand k s d : ℝ) : EReal) := by
  match k with
  | ⟨0, _⟩ =>
    pointwise [val_main_v71]
    exact shift_at X 0 d
  | ⟨1, _⟩ =>
    pointwise [val_main_v71]
    exact scaleSum_at X 0 d
  | ⟨2, _⟩ =>
    pointwise [val_main_v71]
    exact weight_at X 0 d
  | ⟨n + 3, hn⟩ =>
    pointwise [val_main_v71]
    rw [dif_neg (by omega), dif_neg (by omega), dif_neg (by omega), Finset.sum_eq_zero fun s _ => X.summand_rest ⟨n + 3, hn⟩ (Nat.le_add_left 3 n) s d]
    pointwise [val_main_v70, val_main_cst_11]
    exact EReal.coe_zero.symm

/-! ### The results -/

theorem dgate_eq : val_main_v67 (F := Ideal) X.dffArr X.gateArr X.upArr X.wdArr = outDgate X := by
  funext i
  exact (congrArg _ (eq_ix3 i)).trans (dgate_at X (i 0) (i 1) (i 2))

theorem dup_eq : val_main_v68 (F := Ideal) X.dffArr X.gateArr X.wdArr = outDup X := by
  funext i
  exact (congrArg _ (eq_ix3 i)).trans (dup_at X (i 0) (i 1) (i 2))

theorem dx_eq : val_main_v69 (F := Ideal) X.skipArr X.xArr X.dffArr X.gateArr X.upArr X.modArr X.gArr X.wgArr X.wuArr X.wdArr = outDx X := by
  funext i
  exact (congrArg _ (eq_ix2 i)).trans (dx_at X (i 0) (i 1))

theorem sums_eq : val_main_v71 (F := Ideal) X.xArr X.dffArr X.gateArr X.upArr X.modArr X.gArr X.wgArr X.wuArr X.wdArr = outSums X := by
  funext i
  exact (congrArg _ (eq_ix2 i)).trans (sums_at X (i 0) (i 1))

end Cert.Ffn.Ref

end
-- ==== Proof.FfnValue.lean ====
/- The value claim of the feed-forward block's backward call: of arguments that are real numbers, the call and its reference leave
   the same four results. -/
module

public import proofs.«01_k».proof.Defs
public import proofs.«01_k».proof.Proof.Finite
public import proofs.«01_k».proof.Proof.FfnLeft
public import proofs.«01_k».proof.Proof.FfnRef
public import proofs.«01_k».proof.Proof.Gen.Pre_ffn_finite
public import Idealize.ShloMosaic.Lib.ReduceAll

@[expose] public section

noncomputable section

namespace Cert.Ffn

open Idealize.ShloMosaic Idealize.ShloMosaic.TcCoe Idealize.SL.Sem

/-! ### The precondition -/

section
open Cert.Pre_ffn_finite Cert.Pre_ffn_finite.Gen

/-- A conjunction of two bits, read back. -/
theorem both_of_andi {x y : IVec S_ 1} (h : andi x y = fun _ => 1#1) : (x = fun _ => 1#1) ∧ y = fun _ => 1#1 :=
  ⟨funext fun i => ((Attn.andi_one_iff _ _).1 (congrFun h i)).1, funext fun i => ((Attn.andi_one_iff _ _).1 (congrFun h i)).2⟩

/-- An array whose entries are all of a size below +∞ has real entries. -/
theorem entries_real {s : Shape} {axes : List (Fin s.rank)} (x : FVec Ideal s .f32) (hb : S_.BroadcastsInDim s (![] : Fin 0 → Fin s.rank))
    (hr : s.ReducesTo axes S_)
    (h : Host.reduce IntOp.andi (cmpf .olt (Host.absf x) (broadcastInDim s ![] hb (constant (F := Ideal) S_ .f32 0x7F800000#32)))
      (constantI S_ 1 1#1) hr h_S_ = fun _ => 1#1) (i : s.Idx) : (((x i : EReal).toReal : ℝ) : EReal) = x i := by
  haveI : Subsingleton S_.Idx := ⟨fun a b => funext fun k => k.elim0⟩
  have e := Host.reduce_andi_all _ _ hr h_S_ (Shape.Idx.first h_S_) (congrFun h _) i
  have e' := (Attn.bit_one_iff _).1 e
  exact Attn.real_of_below _ (of_decide_eq_true e')

/-- The numbers that the arguments are. -/
def numsOf (a0 a1 a2 : FVec Ideal S4096x1024 .f32) (a3 a4 : FVec Ideal S4x4096x704 .f32) (a5 : FVec Ideal S6x1024 .f32)
    (a6 : FVec Ideal S1x1024 .f32) (a7 a8 a9 : FVec Ideal S4x704x1024 .f32) : Nums where
  skip s d := EReal.toReal (a0 (ix2 s d))
  x s d := EReal.toReal (a1 (ix2 s d))
  dff s d := EReal.toReal (a2 (ix2 s d))
  gate j s f := EReal.toReal (a3 (ix3 j s f))
  up j s f := EReal.toReal (a4 (ix3 j s f))
  mod k d := EReal.toReal (a5 (ix2 k d))
  g d := EReal.toReal (a6 (ix2 0 d))
  wg j f d := EReal.toReal (a7 (ix3 j f d))
  wu j f d := EReal.toReal (a8 (ix3 j f d))
  wd j f d := EReal.toReal (a9 (ix3 j f d))

/-- The arrays are those of the numbers `X`. -/
structure Are (X : Nums) (a0 a1 a2 : FVec Ideal S4096x1024 .f32) (a3 a4 : FVec Ideal S4x4096x704 .f32) (a5 : FVec Ideal S6x1024 .f32)
    (a6 : FVec Ideal S1x1024 .f32) (a7 a8 a9 : FVec Ideal S4x704x1024 .f32) : Prop where
  e0 : a0 = X.skipArr
  e1 : a1 = X.xArr
  e2 : a2 = X.dffArr
  e3 : a3 = X.gateArr
  e4 : a4 = X.upArr
  e5 : a5 = X.modArr
  e6 : a6 = X.gArr
  e7 : a7 = X.wgArr
  e8 : a8 = X.wuArr
  e9 : a9 = X.wdArr

theorem args_eq {a0 a1 a2 : FVec Ideal S4096x1024 .f32} {a3 a4 : FVec Ideal S4x4096x704 .f32} {a5 : FVec Ideal S6x1024 .f32}
    {a6 : FVec Ideal S1x1024 .f32} {a7 a8 a9 : FVec Ideal S4x704x1024 .f32}
    (h : fn (F := Ideal) a0 a1 a2 a3 a4 a5 a6 a7 a8 a9 = fun _ => 1#1) :
    Are (numsOf a0 a1 a2 a3 a4 a5 a6 a7 a8 a9) a0 a1 a2 a3 a4 a5 a6 a7 a8 a9 := by
  unfold fn fn_part1 fn_part2 at h
  obtain ⟨h, h9⟩ := both_of_andi h
  obtain ⟨h, h8⟩ := both_of_andi h
  obtain ⟨h, h7⟩ := both_of_andi h
  obtain ⟨h, h6⟩ := both_of_andi h
  obtain ⟨h, h5⟩ := both_of_andi h
  obtain ⟨h, h4⟩ := both_of_andi h
  obtain ⟨h, h3⟩ := both_of_andi h
  obtain ⟨h, h2⟩ := both_of_andi h
  obtain ⟨h0, h1⟩ := both_of_andi h
  constructor
  · exact funext fun i => (congrArg a0 (eq_ix2 i)).trans (entries_real a0 _ _ h0 _).symm
  · exact funext fun i => (congrArg a1 (eq_ix2 i)).trans (entries_real a1 _ _ h1 _).symm
  · exact funext fun i => (congrArg a2 (eq_ix2 i)).trans (entries_real a2 _ _ h2 _).symm
  · exact funext fun i => (congrArg a3 (eq_ix3 i)).trans (entries_real a3 _ _ h3 _).symm
  · exact funext fun i => (congrArg a4 (eq_ix3 i)).trans (entries_real a4 _ _ h4 _).symm
  · exact funext fun i => (congrArg a5 (eq_ix2 i)).trans (entries_real a5 _ _ h5 _).symm
  · refine funext fun i => (congrArg a6 ?_).trans (entries_real a6 _ _ h6 (ix2 0 (i 1))).symm
    exact (eq_ix2 i).trans (congrArg (fun z : Fin 1 => ix2 z (i 1)) (Subsingleton.elim (α := Fin 1) (i 0) 0))
  · exact funext fun i => (congrArg a7 (eq_ix3 i)).trans (entries_real a7 _ _ h7 _).symm
  · exact funext fun i => (congrArg a8 (eq_ix3 i)).trans (entries_real a8 _ _ h8 _).symm
  · exact funext fun i => (congrArg a9 (eq_ix3 i)).trans (entries_real a9 _ _ h9 _).symm

end

/-! ### The call's results -/

section
open Cert.FfnBackwardIdeal Cert.FfnBackwardIdeal.Gen

theorem given {m : (ℓ : Loc nD τ sig) → Buf (Elt Ideal) ℓ} {c : Dev nD} {X : Nums}
    (h : Are X (arg0 m c) (arg1 m c) (arg2 m c) (arg3 m c) (arg4 m c) (arg5 m c) (arg6 m c) (arg7 m c) (arg8 m c) (arg9 m c)) : Given m c X where
  a0 s d := congrFun h.e0 (ix2 s d)
  a1 s d := congrFun h.e1 (ix2 s d)
  a2 s d := congrFun h.e2 (ix2 s d)
  a3 j s f := congrFun h.e3 (ix3 j s f)
  a4 j s f := congrFun h.e4 (ix3 j s f)
  a5 k d := congrFun h.e5 (ix2 k d)
  a6 d := congrFun h.e6 (ix2 0 d)
  a7 j f d := congrFun h.e7 (ix3 j f d)
  a8 j f d := congrFun h.e8 (ix3 j f d)
  a9 j f d := congrFun h.e9 (ix3 j f d)

end

/-! ### The reference's results -/

section
open Cert.FfnBackwardReferenceIdeal Cert.FfnBackwardReferenceIdeal.Gen Cert.FfnBackwardReferenceIdeal.Read

/-- The four results of the ideal reference. -/
theorem reference_results (m : (ℓ : Loc nD τ sig) → Buf (Elt Ideal) ℓ) (c : Dev nD) (X : Nums)
    (h : Are X (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9))) :
    val_main_v67 (F := Ideal) (m ((c.tc : Thread nD τ).loc main_arg2)) (m ((c.tc : Thread nD τ).loc main_arg3))
        (m ((c.tc : Thread nD τ).loc main_arg4)) (m ((c.tc : Thread nD τ).loc main_arg9)) = outDgate X
      ∧ val_main_v68 (F := Ideal) (m ((c.tc : Thread nD τ).loc main_arg2)) (m ((c.tc : Thread nD τ).loc main_arg3))
        (m ((c.tc : Thread nD τ).loc main_arg9)) = outDup X
      ∧ Cert.FfnBackwardReferenceIdeal.Value.res_main_v69 m c = outDx X
      ∧ Cert.FfnBackwardReferenceIdeal.Value.res_main_v71 m c = outSums X := by
  rw [val_main_v69_eq m c, val_main_v71_eq m c, h.e0, h.e1, h.e2, h.e3, h.e4, h.e5, h.e6, h.e7, h.e8, h.e9]
  exact ⟨Ref.dgate_eq X, Ref.dup_eq X, Ref.dx_eq X, Ref.sums_eq X⟩

end

/-- The two programs agree on arguments that are real numbers. -/
theorem same_gradients :
    Cert.algebraic_FfnBackwardIdeal_FfnBackwardReferenceIdeal_pre_ffn_finite (hFfnBackwardIdeal := Cert.FfnBackwardIdeal.Gen.facts)
      (hFfnBackwardReferenceIdeal := Cert.FfnBackwardReferenceIdeal.Gen.facts) (hPre_ffn_finite := Cert.Pre_ffn_finite.Gen.facts) := by
  intro m g m' g' hpre hagree
  let N : Dev Cert.FfnBackwardIdeal.nD → Nums := fun c => numsOf (arg0 m c) (arg1 m c) (arg2 m c) (arg3 m c) (arg4 m c) (arg5 m c)
    (arg6 m c) (arg7 m c) (arg8 m c) (arg9 m c)
  have hN : ∀ c, Are (N c) (arg0 m c) (arg1 m c) (arg2 m c) (arg3 m c) (arg4 m c) (arg5 m c) (arg6 m c) (arg7 m c) (arg8 m c) (arg9 m c) :=
    fun c => args_eq (hpre c)
  refine ⟨fun c => outDgate (N c), fun c => outDup (N c), fun c => outDx (N c), fun c => outSums (N c), ?_, ?_⟩
  · exact (θ_run _ _ _).mono (fun r h c =>
      ⟨(h c).1.trans (arr_10 (given (hN c))), (h c).2.1.trans (arr_11 (given (hN c))), (h c).2.2.1.trans (arr_12 (given (hN c))),
        (h c).2.2.2.1.trans (arr_13 (given (hN c))), (h c).2.2.2.2⟩)
      (Cert.FfnBackwardIdeal.Value.run_blocks m g)
  · refine (θ_run _ _ _).mono (fun r h c => ?_) (Cert.FfnBackwardReferenceIdeal.Value.run m' g')
    obtain ⟨g0, g1, g2, g3, g4, g5, g6, g7, g8, g9⟩ := hagree c
    have H := reference_results m' c (N c) ⟨g0.trans (hN c).e0, g1.trans (hN c).e1, g2.trans (hN c).e2, g3.trans (hN c).e3,
      g4.trans (hN c).e4, g5.trans (hN c).e5, g6.trans (hN c).e6, g7.trans (hN c).e7, g8.trans (hN c).e8, g9.trans (hN c).e9⟩
    exact ⟨(h c).1.trans H.1, (h c).2.1.trans H.2.1, (h c).2.2.1.trans H.2.2.1, (h c).2.2.2.1.trans H.2.2.2, (h c).2.2.2.2⟩

end Cert.Ffn

end
-- ==== Proof.FwdPoint.lean ====
/- One point of the FFN's forward call: what it reads, and what it leaves in each buffer, over any float values. -/
module

public import proofs.«01_k».proof.Proof.Gen.FfnForwardIdeal.Frame
public import proofs.«01_k».proof.Proof.Gen.FfnForwardIdeal.Skeleton
public import Idealize.ShloMosaic.Lib.Pipeline.ValueKit
public import Idealize.ShloMosaic.Lib.Pipeline.RowLoads
public import Idealize.ShloMosaic.Lib.WritesUnit

@[expose] public section

noncomputable section

namespace Cert.Fwd

open Idealize.ShloMosaic Idealize.ShloMosaic.TcCoe Idealize.SL.Sem
open Cert.FfnForwardIdeal Cert.FfnForwardIdeal.Gen

variable {F : FTy → Type} [FloatOps F]

/-- A weight's chunk at the point `i`. -/
abbrev chunk (i : grid0.Coords) : Rect S4x704x1024 := Rect.unit (s := S4x704x1024) (k0_off1 i) S1x704x1024.size (k0_off1_inb i)

/-- The three rows of the modulation that the call reads: shift, scale and gate. -/
abbrev shiftRow : Rect S6x1024 := Rect.unit (s := S6x1024) ![3, 0] S1x1024.size inb_S6x1024_S1x1024_3_0
abbrev scaleRow : Rect S6x1024 := Rect.unit (s := S6x1024) ![4, 0] S1x1024.size inb_S6x1024_S1x1024_4_0
abbrev gateRow : Rect S6x1024 := Rect.unit (s := S6x1024) ![5, 0] S1x1024.size inb_S6x1024_S1x1024_5_0

/-- The three rows of the sums that are written. -/
abbrev row0 : Rect S8x1024 := Rect.unit (s := S8x1024) ![0, 0] S1x1024.size inb_S8x1024_S1x1024_0_0
abbrev row1 : Rect S8x1024 := Rect.unit (s := S8x1024) ![1, 0] S1x1024.size inb_S8x1024_S1x1024_1_0
abbrev row2 : Rect S8x1024 := Rect.unit (s := S8x1024) ![2, 0] S1x1024.size inb_S8x1024_S1x1024_2_0

/-- What a point reads. -/
structure Inp (F : FTy → Type) where
  x : Vec F S512x1024 .f32
  mod : Vec F S6x1024 .f32
  gf : Vec F S1x1024 .f32
  gl : Vec F S1x1024 .f32
  y : Vec F S512x1024 .f32
  wg : Vec F S4x704x1024 .bf16
  wu : Vec F S4x704x1024 .bf16
  wd : Vec F S4x704x1024 .bf16

namespace Inp

variable (u : Inp F) (i : grid0.Coords)

/-- The normed and modulated rows. -/
def hid : Vec F S512x1024 .bf16 := k0_pay14 u.x u.gf (View.ld u.mod scaleRow) (View.ld u.mod shiftRow)

/-- The three results of a chunk. -/
def gateBlk (h : Vec F S512x1024 .bf16) : Vec F S1x512x704 .bf16 := k0_pay18 h (View.ld u.wg (chunk i))
def upBlk (h : Vec F S512x1024 .bf16) : Vec F S1x512x704 .bf16 := k0_pay19 h (View.ld u.wu (chunk i))
def actBlk (h : Vec F S512x1024 .bf16) : Vec F S1x512x704 .bf16 := k0_pay21 h (View.ld u.wg (chunk i)) (View.ld u.wu (chunk i))

/-- The accumulator, where it had `a`. -/
def accBlk (h : Vec F S512x1024 .bf16) (a : Vec F S512x1024 .f32) : Vec F S512x1024 .f32 :=
  k0_pay1 (k0_pay20 h (View.ld u.wg (chunk i)) (View.ld u.wu (chunk i))) a (View.ld u.wd (chunk i))

/-- Of the accumulated rows `a`: the two derivatives. -/
def dx (a : Vec F S512x1024 .f32) : Vec F S512x1024 .f32 := k0_pay12 a u.x (View.ld u.mod gateRow) u.gl u.y u.gl
def dff (a : Vec F S512x1024 .f32) : Vec F S512x1024 .bf16 :=
  k0_pay2 (k0_pay11 a u.x (View.ld u.mod gateRow) u.gl u.y u.gl) (View.ld u.mod gateRow)

/-- The three sums, where they were the rows of `s`. -/
def sum0 (a : Vec F S512x1024 .f32) (s : Vec F S8x1024 .f32) : Vec F S1x1024 .f32 :=
  k0_pay3 (k0_pay8 a u.x (View.ld u.mod gateRow)) (k0_pay10 a u.x (View.ld u.mod gateRow) u.gl u.y) (View.ld s row0)
def sum1 (a : Vec F S512x1024 .f32) (s : Vec F S8x1024 .f32) : Vec F S1x1024 .f32 :=
  k0_pay4 a (k0_pay11 a u.x (View.ld u.mod gateRow) u.gl u.y u.gl) (View.ld s row1)
def sum2 (a : Vec F S512x1024 .f32) (s : Vec F S8x1024 .f32) : Vec F S1x1024 .f32 :=
  k0_pay5 (k0_pay9 a u.x (View.ld u.mod gateRow) u.gl u.y) (k0_pay10 a u.x (View.ld u.mod gateRow) u.gl u.y) (View.ld s row2)

/-- The sums' buffer, where it had `s`. -/
def sums (a : Vec F S512x1024 .f32) (s : Vec F S8x1024 .f32) : Vec F S8x1024 .f32 := fun k =>
  if (k 0).val = 0 then u.sum0 a s (ix2 0 (k 1)) else if (k 0).val = 1 then u.sum1 a s (ix2 0 (k 1))
  else if (k 0).val = 2 then u.sum2 a s (ix2 0 (k 1)) else s k

end Inp

section
variable (v : View sig .tc .vmem S8x1024 .f32) (f : v.ty.Contents (Elt F)) (p q r : Vec F S1x1024 .f32) (d : Fin 1024)

/-- What the sums' buffer holds once its first three rows are stored, row by row. -/
theorem stored_2 : v.read (Elt F) (v.writes (Elt F) f [⟨row2, r⟩, ⟨row1, q⟩, ⟨row0, p⟩]) (ix2 2 d) = r (ix2 0 d) :=
  View.read_writes_cons_rows_of_mem (d := ![8, 1024]) v f _ r _ _ (ix2 0 d) rfl rfl rfl

theorem stored_1 : v.read (Elt F) (v.writes (Elt F) f [⟨row2, r⟩, ⟨row1, q⟩, ⟨row0, p⟩]) (ix2 1 d) = q (ix2 0 d) :=
  (View.read_writes_cons_rows_of_not_mem (d := ![8, 1024]) v f _ r _ _ (W := 1) rfl rfl (.inl (by show 1 < 2; decide))).trans
    (View.read_writes_cons_rows_of_mem (d := ![8, 1024]) v f _ q _ _ (ix2 0 d) rfl rfl rfl)

theorem stored_0 : v.read (Elt F) (v.writes (Elt F) f [⟨row2, r⟩, ⟨row1, q⟩, ⟨row0, p⟩]) (ix2 0 d) = p (ix2 0 d) :=
  (View.read_writes_cons_rows_of_not_mem (d := ![8, 1024]) v f _ r _ _ (W := 1) rfl rfl (.inl (by show 0 < 2; decide))).trans
    ((View.read_writes_cons_rows_of_not_mem (d := ![8, 1024]) v f _ q _ _ (W := 1) rfl rfl (.inl (by show 0 < 1; decide))).trans
      (View.read_writes_cons_rows_of_mem (d := ![8, 1024]) v f _ p _ _ (ix2 0 d) rfl rfl rfl))

theorem stored_rest (k : Fin 8) (hk : 3 ≤ k.val) :
    v.read (Elt F) (v.writes (Elt F) f [⟨row2, r⟩, ⟨row1, q⟩, ⟨row0, p⟩]) (ix2 k d) = v.read (Elt F) f (ix2 k d) :=
  (View.read_writes_cons_rows_of_not_mem (d := ![8, 1024]) v f _ r _ _ (W := 1) rfl rfl (.inr (by show 2 + 1 ≤ k.val; omega))).trans
    ((View.read_writes_cons_rows_of_not_mem (d := ![8, 1024]) v f _ q _ _ (W := 1) rfl rfl (.inr (by show 1 + 1 ≤ k.val; omega))).trans
      (View.read_writes_cons_rows_of_not_mem (d := ![8, 1024]) v f _ p _ _ (W := 1) rfl rfl (.inr (by show 0 + 1 ≤ k.val; omega))))

theorem stored (u : Inp F) (a : Vec F S512x1024 .f32) (hp : p = u.sum0 a (v.read (Elt F) f)) (hq : q = u.sum1 a (v.read (Elt F) f))
    (hr : r = u.sum2 a (v.read (Elt F) f)) :
    v.read (Elt F) (v.writes (Elt F) f [⟨row2, r⟩, ⟨row1, q⟩, ⟨row0, p⟩]) = u.sums a (v.read (Elt F) f) := by
  funext y
  obtain ⟨k, d, rfl⟩ : ∃ (k : Fin 8) (d : Fin 1024), y = ix2 k d := ⟨y 0, y 1, funext fun a => match a with | ⟨0, _⟩ => rfl | ⟨1, _⟩ => rfl⟩
  show _ = if k.val = 0 then u.sum0 a (v.read (Elt F) f) (ix2 0 d) else if k.val = 1 then u.sum1 a (v.read (Elt F) f) (ix2 0 d)
    else if k.val = 2 then u.sum2 a (v.read (Elt F) f) (ix2 0 d) else v.read (Elt F) f (ix2 k d)
  rw [← hp, ← hq, ← hr]
  by_cases h0 : k.val = 0
  · obtain rfl : k = 0 := Fin.ext h0
    rw [if_pos (by assumption)]; exact stored_0 v f p q r d
  by_cases h1 : k.val = 1
  · obtain rfl : k = 1 := Fin.ext h1
    rw [if_neg h0, if_pos (by assumption)]; exact stored_1 v f p q r d
  by_cases h2 : k.val = 2
  · obtain rfl : k = 2 := Fin.ext h2
    rw [if_neg h0, if_neg h1, if_pos (by assumption)]; exact stored_2 v f p q r d
  rw [if_neg h0, if_neg h1, if_neg h2]
  exact stored_rest v f p q r d k (by omega)

end

end Cert.Fwd

end
-- ==== Proof.FwdBody.lean ====
/-
  One grid point of the FFN's forward call, run: from the operands it reads and what it finds in the buffers that are
  carried from point to point, it leaves what the payloads say.  Four cases: the first point of all zeroes the sums, the
  first point of a block of rows norms the rows and zeroes the accumulator, the last one leaves the derivatives and adds
  to the sums, the points between do none of that.
-/
module

public import proofs.«01_k».proof.Proof.FwdPoint
public import Idealize.ShloMosaic.Lib.VecWindow

@[expose] public section

set_option maxRecDepth 8192
set_option maxHeartbeats 8000000

noncomputable section

namespace Cert.Fwd

open Cert.FfnForwardIdeal Cert.FfnForwardIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the launch's frame. -/
local notation "𝕄" => MT nD τ sig Unit (Elt F) ℕ (UR sig nD τ) ℕ

/-- The operands a point reads, each held at what it reads. -/
abbrev ins (c : Dev nD) (arg2 : Memref sig .tc .vmem S512x1024 .f32) (arg3 : Memref sig .tc .vmem S6x1024 .f32) (arg4 : Memref sig .tc .vmem S1x1024 .f32) (arg5 : Memref sig .tc .vmem S1x1024 .f32) (arg6 : Memref sig .tc .vmem S512x1024 .f32) (arg7 : Memref sig .tc .vmem S4x704x1024 .bf16) (arg8 : Memref sig .tc .vmem S4x704x1024 .bf16) (arg9 : Memref sig .tc .vmem S4x704x1024 .bf16) (u : Inp F) : sProp 𝕄 :=
  iprop(owns (c : Thread nD τ) arg2 fullShare u.x ∗ owns (c : Thread nD τ) arg3 fullShare u.mod ∗ owns (c : Thread nD τ) arg4 fullShare u.gf ∗ owns (c : Thread nD τ) arg5 fullShare u.gl ∗ owns (c : Thread nD τ) arg6 fullShare u.y ∗ owns (c : Thread nD τ) arg7 fullShare u.wg ∗ owns (c : Thread nD τ) arg8 fullShare u.wu ∗ owns (c : Thread nD τ) arg9 fullShare u.wd)

/-! Loads and stores of whole buffers, by shape. -/

theorem wide_readAt {e : EltTy} (v : View sig .tc .vmem S512x1024 e) (f : v.ty.Contents (Elt F))
    (inb : ∀ a, (![0, 0] : Fin S512x1024.rank → ℕ) a + (![512, 1024] : Fin S512x1024.rank → ℕ) a ≤ S512x1024.size a) :
    View.readAt (Elt F) v (Rect.unit (s := S512x1024) ![0, 0] ![512, 1024] inb).toLoadRect f = v.read (Elt F) f := View.readAt_full v f inb

theorem wide_stored {e : EltTy} (v : View sig .tc .vmem S512x1024 e) (f : v.ty.Contents (Elt F))
    (inb : ∀ a, (![0, 0] : Fin S512x1024.rank → ℕ) a + (![512, 1024] : Fin S512x1024.rank → ℕ) a ≤ S512x1024.size a)
    (w : (Rect.unit (s := S512x1024) ![0, 0] ![512, 1024] inb).shape.Idx → Elt F e) (L : List (View.Piece (Elt F) S512x1024 e)) :
    v.read (Elt F) (v.writes (Elt F) f (⟨(Rect.unit (s := S512x1024) ![0, 0] ![512, 1024] inb), w⟩ :: L)) = w := View.read_writes_full v f inb w L

theorem wide_readCov {e : EltTy} (v : View sig .tc .vmem S512x1024 e)
    (inb : ∀ a, (![0, 0] : Fin S512x1024.rank → ℕ) a + (![512, 1024] : Fin S512x1024.rank → ℕ) a ≤ S512x1024.size a)
    (w : (Rect.unit (s := S512x1024) ![0, 0] ![512, 1024] inb).shape.Idx → Elt F e) (L : List (View.Piece (Elt F) S512x1024 e)) :
    v.readCov (⟨(Rect.unit (s := S512x1024) ![0, 0] ![512, 1024] inb), w⟩ :: L) (Rect.unit (s := S512x1024) ![0, 0] ![512, 1024] inb).toLoadRect = w := View.readCov_full v inb inb w L

theorem deep_readAt {e : EltTy} (v : View sig .tc .vmem S1x512x704 e) (f : v.ty.Contents (Elt F))
    (inb : ∀ a, (![0, 0, 0] : Fin S1x512x704.rank → ℕ) a + (![1, 512, 704] : Fin S1x512x704.rank → ℕ) a ≤ S1x512x704.size a) :
    View.readAt (Elt F) v (Rect.unit (s := S1x512x704) ![0, 0, 0] ![1, 512, 704] inb).toLoadRect f = v.read (Elt F) f := View.readAt_full v f inb

theorem deep_stored {e : EltTy} (v : View sig .tc .vmem S1x512x704 e) (f : v.ty.Contents (Elt F))
    (inb : ∀ a, (![0, 0, 0] : Fin S1x512x704.rank → ℕ) a + (![1, 512, 704] : Fin S1x512x704.rank → ℕ) a ≤ S1x512x704.size a)
    (w : (Rect.unit (s := S1x512x704) ![0, 0, 0] ![1, 512, 704] inb).shape.Idx → Elt F e) (L : List (View.Piece (Elt F) S1x512x704 e)) :
    v.read (Elt F) (v.writes (Elt F) f (⟨(Rect.unit (s := S1x512x704) ![0, 0, 0] ![1, 512, 704] inb), w⟩ :: L)) = w := View.read_writes_full v f inb w L

theorem deep_readCov {e : EltTy} (v : View sig .tc .vmem S1x512x704 e)
    (inb : ∀ a, (![0, 0, 0] : Fin S1x512x704.rank → ℕ) a + (![1, 512, 704] : Fin S1x512x704.rank → ℕ) a ≤ S1x512x704.size a)
    (w : (Rect.unit (s := S1x512x704) ![0, 0, 0] ![1, 512, 704] inb).shape.Idx → Elt F e) (L : List (View.Piece (Elt F) S1x512x704 e)) :
    v.readCov (⟨(Rect.unit (s := S1x512x704) ![0, 0, 0] ![1, 512, 704] inb), w⟩ :: L) (Rect.unit (s := S1x512x704) ![0, 0, 0] ![1, 512, 704] inb).toLoadRect = w := View.readCov_full v inb inb w L

theorem sums_readAt {e : EltTy} (v : View sig .tc .vmem S8x1024 e) (f : v.ty.Contents (Elt F))
    (inb : ∀ a, (![0, 0] : Fin S8x1024.rank → ℕ) a + (![8, 1024] : Fin S8x1024.rank → ℕ) a ≤ S8x1024.size a) :
    View.readAt (Elt F) v (Rect.unit (s := S8x1024) ![0, 0] ![8, 1024] inb).toLoadRect f = v.read (Elt F) f := View.readAt_full v f inb

theorem sums_stored {e : EltTy} (v : View sig .tc .vmem S8x1024 e) (f : v.ty.Contents (Elt F))
    (inb : ∀ a, (![0, 0] : Fin S8x1024.rank → ℕ) a + (![8, 1024] : Fin S8x1024.rank → ℕ) a ≤ S8x1024.size a)
    (w : (Rect.unit (s := S8x1024) ![0, 0] ![8, 1024] inb).shape.Idx → Elt F e) (L : List (View.Piece (Elt F) S8x1024 e)) :
    v.read (Elt F) (v.writes (Elt F) f (⟨(Rect.unit (s := S8x1024) ![0, 0] ![8, 1024] inb), w⟩ :: L)) = w := View.read_writes_full v f inb w L

theorem sums_readCov {e : EltTy} (v : View sig .tc .vmem S8x1024 e)
    (inb : ∀ a, (![0, 0] : Fin S8x1024.rank → ℕ) a + (![8, 1024] : Fin S8x1024.rank → ℕ) a ≤ S8x1024.size a)
    (w : (Rect.unit (s := S8x1024) ![0, 0] ![8, 1024] inb).shape.Idx → Elt F e) (L : List (View.Piece (Elt F) S8x1024 e)) :
    v.readCov (⟨(Rect.unit (s := S8x1024) ![0, 0] ![8, 1024] inb), w⟩ :: L) (Rect.unit (s := S8x1024) ![0, 0] ![8, 1024] inb).toLoadRect = w := View.readCov_full v inb inb w L

theorem line_readAt {e : EltTy} (v : View sig .tc .vmem S1x1024 e) (f : v.ty.Contents (Elt F))
    (inb : ∀ a, (![0, 0] : Fin S1x1024.rank → ℕ) a + (![1, 1024] : Fin S1x1024.rank → ℕ) a ≤ S1x1024.size a) :
    View.readAt (Elt F) v (Rect.unit (s := S1x1024) ![0, 0] ![1, 1024] inb).toLoadRect f = v.read (Elt F) f := View.readAt_full v f inb

theorem line_stored {e : EltTy} (v : View sig .tc .vmem S1x1024 e) (f : v.ty.Contents (Elt F))
    (inb : ∀ a, (![0, 0] : Fin S1x1024.rank → ℕ) a + (![1, 1024] : Fin S1x1024.rank → ℕ) a ≤ S1x1024.size a)
    (w : (Rect.unit (s := S1x1024) ![0, 0] ![1, 1024] inb).shape.Idx → Elt F e) (L : List (View.Piece (Elt F) S1x1024 e)) :
    v.read (Elt F) (v.writes (Elt F) f (⟨(Rect.unit (s := S1x1024) ![0, 0] ![1, 1024] inb), w⟩ :: L)) = w := View.read_writes_full v f inb w L

theorem line_readCov {e : EltTy} (v : View sig .tc .vmem S1x1024 e)
    (inb : ∀ a, (![0, 0] : Fin S1x1024.rank → ℕ) a + (![1, 1024] : Fin S1x1024.rank → ℕ) a ≤ S1x1024.size a)
    (w : (Rect.unit (s := S1x1024) ![0, 0] ![1, 1024] inb).shape.Idx → Elt F e) (L : List (View.Piece (Elt F) S1x1024 e)) :
    v.readCov (⟨(Rect.unit (s := S1x1024) ![0, 0] ![1, 1024] inb), w⟩ :: L) (Rect.unit (s := S1x1024) ![0, 0] ![1, 1024] inb).toLoadRect = w := View.readCov_full v inb inb w L

variable (c : Dev nD) (i : grid0.Coords)
  (arg2 : Memref sig .tc .vmem S512x1024 .f32) (harg2 : arg2.IsWhole)
  (arg3 : Memref sig .tc .vmem S6x1024 .f32) (harg3 : arg3.IsWhole)
  (arg4 : Memref sig .tc .vmem S1x1024 .f32) (harg4 : arg4.IsWhole)
  (arg5 : Memref sig .tc .vmem S1x1024 .f32) (harg5 : arg5.IsWhole)
  (arg6 : Memref sig .tc .vmem S512x1024 .f32) (harg6 : arg6.IsWhole)
  (arg7 : Memref sig .tc .vmem S4x704x1024 .bf16) (harg7 : arg7.IsWhole)
  (arg8 : Memref sig .tc .vmem S4x704x1024 .bf16) (harg8 : arg8.IsWhole)
  (arg9 : Memref sig .tc .vmem S4x704x1024 .bf16) (harg9 : arg9.IsWhole)
  (arg10 : Memref sig .tc .vmem S1x512x704 .bf16) (harg10 : arg10.IsWhole)
  (arg11 : Memref sig .tc .vmem S1x512x704 .bf16) (harg11 : arg11.IsWhole)
  (arg12 : Memref sig .tc .vmem S1x512x704 .bf16) (harg12 : arg12.IsWhole)
  (arg13 : Memref sig .tc .vmem S512x1024 .bf16) (harg13 : arg13.IsWhole)
  (arg14 : Memref sig .tc .vmem S512x1024 .bf16) (harg14 : arg14.IsWhole)
  (arg15 : Memref sig .tc .vmem S512x1024 .f32) (harg15 : arg15.IsWhole)
  (arg16 : Memref sig .tc .vmem S8x1024 .f32) (harg16 : arg16.IsWhole)
  (arg17 : Memref sig .tc .vmem S512x1024 .f32) (harg17 : arg17.IsWhole)
  (u : Inp F)

/-- A point between. -/
theorem body_mid (a : Vec F S512x1024 .f32) (d14 : Vec F S512x1024 .bf16) (d15 : Vec F S512x1024 .f32) (h : Vec F S512x1024 .bf16) (s : Vec F S8x1024 .f32) (hc1 : ¬ k0_cond1 i = 1#1) (hc2 : ¬ k0_cond2 i = 1#1) (hc3 : ¬ k0_cond3 i = 1#1) :
    (iprop(ins c arg2 arg3 arg4 arg5 arg6 arg7 arg8 arg9 u
      ∗ (∃ X, owns (c : Thread nD τ) arg10 fullShare X)
      ∗ (∃ X, owns (c : Thread nD τ) arg11 fullShare X)
      ∗ (∃ X, owns (c : Thread nD τ) arg12 fullShare X)
      ∗ owns (c : Thread nD τ) arg13 fullShare h
      ∗ owns (c : Thread nD τ) arg14 fullShare d14
      ∗ owns (c : Thread nD τ) arg15 fullShare d15
      ∗ owns (c : Thread nD τ) arg16 fullShare s
      ∗ owns (c : Thread nD τ) arg17 fullShare a) : sProp 𝕄)
    ⊢ wp frame (wpE (defs₀ (F := F)) Variants.none (c : Thread nD τ) none) Set.univ (cc0_ffn_forward i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
        (fun _ => iprop(ins c arg2 arg3 arg4 arg5 arg6 arg7 arg8 arg9 u
          ∗ owns (c : Thread nD τ) arg10 fullShare (u.gateBlk i h)
          ∗ owns (c : Thread nD τ) arg11 fullShare (u.upBlk i h)
          ∗ owns (c : Thread nD τ) arg12 fullShare (u.actBlk i h)
          ∗ owns (c : Thread nD τ) arg13 fullShare h
          ∗ owns (c : Thread nD τ) arg14 fullShare d14
          ∗ owns (c : Thread nD τ) arg15 fullShare d15
          ∗ owns (c : Thread nD τ) arg16 fullShare s
          ∗ owns (c : Thread nD τ) arg17 fullShare (u.accBlk i h a))) := by
  obtain ⟨ux, umod, ugf, ugl, uy, uwg, uwu, uwd⟩ := u
  unfold ins owns
  iintro ⟨⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩⟩, ⟨%X10, %f10, %h10, H10⟩, ⟨%X11, %f11, %h11, H11⟩, ⟨%X12, %f12, %h12, H12⟩, ⟨%f13, %h13, H13⟩, ⟨%f14, %h14, H14⟩, ⟨%f15, %h15, H15⟩, ⟨%f16, %h16, H16⟩, ⟨%f17, %h17, H17⟩⟩
  dsimp only at h2 h3 h4 h5 h6 h7 h8 h9
  subst h2 h3 h4 h5 h6 h7 h8 h9 h13 h14 h15 h16 h17
  sl_exec
  sl_step
  isplitl [H2 H3 H4 H5 H6 H7 H8 H9]
  · isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    iexists f9; isplitr; · ipureintro; rfl
    iexact H9
  isplitl [H10]
  · iexists _; isplitr
    rotate_left
    · iexact H10
    ipureintro
    sl_unfold_words
    simp only [wide_readAt, wide_stored, wide_readCov, deep_readAt, deep_stored, deep_readCov, sums_readAt, sums_stored, sums_readCov, line_readAt, line_stored, line_readCov]
    rfl
  isplitl [H11]
  · iexists _; isplitr
    rotate_left
    · iexact H11
    ipureintro
    sl_unfold_words
    simp only [wide_readAt, wide_stored, wide_readCov, deep_readAt, deep_stored, deep_readCov, sums_readAt, sums_stored, sums_readCov, line_readAt, line_stored, line_readCov]
    rfl
  isplitl [H12]
  · iexists _; isplitr
    rotate_left
    · iexact H12
    ipureintro
    sl_unfold_words
    simp only [wide_readAt, wide_stored, wide_readCov, deep_readAt, deep_stored, deep_readCov, sums_readAt, sums_stored, sums_readCov, line_readAt, line_stored, line_readCov]
    rfl
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  iexists _; isplitr
  rotate_left
  · iexact H17
  ipureintro
  sl_unfold_words
  simp only [wide_readAt, wide_stored, wide_readCov, deep_readAt, deep_stored, deep_readCov, sums_readAt, sums_stored, sums_readCov, line_readAt, line_stored, line_readCov]
  rfl

end Cert.Fwd

end
-- ==== Proof.FwdBodyHead.lean ====
/-
  One grid point of the FFN's forward call, run: from the operands it reads and what it finds in the buffers that are
  carried from point to point, it leaves what the payloads say.  Four cases: the first point of all zeroes the sums, the
  first point of a block of rows norms the rows and zeroes the accumulator, the last one leaves the derivatives and adds
  to the sums, the points between do none of that.
-/
module

public import proofs.«01_k».proof.Proof.FwdBody

@[expose] public section

set_option maxRecDepth 8192
set_option maxHeartbeats 8000000

noncomputable section

namespace Cert.Fwd

open Cert.FfnForwardIdeal Cert.FfnForwardIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the launch's frame. -/
local notation "𝕄" => MT nD τ sig Unit (Elt F) ℕ (UR sig nD τ) ℕ

variable (c : Dev nD) (i : grid0.Coords)
  (arg2 : Memref sig .tc .vmem S512x1024 .f32) (harg2 : arg2.IsWhole)
  (arg3 : Memref sig .tc .vmem S6x1024 .f32) (harg3 : arg3.IsWhole)
  (arg4 : Memref sig .tc .vmem S1x1024 .f32) (harg4 : arg4.IsWhole)
  (arg5 : Memref sig .tc .vmem S1x1024 .f32) (harg5 : arg5.IsWhole)
  (arg6 : Memref sig .tc .vmem S512x1024 .f32) (harg6 : arg6.IsWhole)
  (arg7 : Memref sig .tc .vmem S4x704x1024 .bf16) (harg7 : arg7.IsWhole)
  (arg8 : Memref sig .tc .vmem S4x704x1024 .bf16) (harg8 : arg8.IsWhole)
  (arg9 : Memref sig .tc .vmem S4x704x1024 .bf16) (harg9 : arg9.IsWhole)
  (arg10 : Memref sig .tc .vmem S1x512x704 .bf16) (harg10 : arg10.IsWhole)
  (arg11 : Memref sig .tc .vmem S1x512x704 .bf16) (harg11 : arg11.IsWhole)
  (arg12 : Memref sig .tc .vmem S1x512x704 .bf16) (harg12 : arg12.IsWhole)
  (arg13 : Memref sig .tc .vmem S512x1024 .bf16) (harg13 : arg13.IsWhole)
  (arg14 : Memref sig .tc .vmem S512x1024 .bf16) (harg14 : arg14.IsWhole)
  (arg15 : Memref sig .tc .vmem S512x1024 .f32) (harg15 : arg15.IsWhole)
  (arg16 : Memref sig .tc .vmem S8x1024 .f32) (harg16 : arg16.IsWhole)
  (arg17 : Memref sig .tc .vmem S512x1024 .f32) (harg17 : arg17.IsWhole)
  (u : Inp F)

/-- The first point of all: it zeroes the sums too. -/
theorem body_first (d14 : Vec F S512x1024 .bf16) (d15 : Vec F S512x1024 .f32) (hc1 : k0_cond1 i = 1#1) (hc2 : k0_cond2 i = 1#1) (hc3 : ¬ k0_cond3 i = 1#1) :
    (iprop(ins c arg2 arg3 arg4 arg5 arg6 arg7 arg8 arg9 u
      ∗ (∃ X, owns (c : Thread nD τ) arg10 fullShare X)
      ∗ (∃ X, owns (c : Thread nD τ) arg11 fullShare X)
      ∗ (∃ X, owns (c : Thread nD τ) arg12 fullShare X)
      ∗ (∃ X, owns (c : Thread nD τ) arg13 fullShare X)
      ∗ owns (c : Thread nD τ) arg14 fullShare d14
      ∗ owns (c : Thread nD τ) arg15 fullShare d15
      ∗ (∃ X, owns (c : Thread nD τ) arg16 fullShare X)
      ∗ (∃ X, owns (c : Thread nD τ) arg17 fullShare X)) : sProp 𝕄)
    ⊢ wp frame (wpE (defs₀ (F := F)) Variants.none (c : Thread nD τ) none) Set.univ (cc0_ffn_forward i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
        (fun _ => iprop(ins c arg2 arg3 arg4 arg5 arg6 arg7 arg8 arg9 u
          ∗ owns (c : Thread nD τ) arg10 fullShare (u.gateBlk i u.hid)
          ∗ owns (c : Thread nD τ) arg11 fullShare (u.upBlk i u.hid)
          ∗ owns (c : Thread nD τ) arg12 fullShare (u.actBlk i u.hid)
          ∗ owns (c : Thread nD τ) arg13 fullShare u.hid
          ∗ owns (c : Thread nD τ) arg14 fullShare d14
          ∗ owns (c : Thread nD τ) arg15 fullShare d15
          ∗ owns (c : Thread nD τ) arg16 fullShare k0_pay13
          ∗ owns (c : Thread nD τ) arg17 fullShare (u.accBlk i u.hid k0_pay15))) := by
  obtain ⟨ux, umod, ugf, ugl, uy, uwg, uwu, uwd⟩ := u
  unfold ins owns
  iintro ⟨⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩⟩, ⟨%X10, %f10, %h10, H10⟩, ⟨%X11, %f11, %h11, H11⟩, ⟨%X12, %f12, %h12, H12⟩, ⟨%X13, %f13, %h13, H13⟩, ⟨%f14, %h14, H14⟩, ⟨%f15, %h15, H15⟩, ⟨%X16, %f16, %h16, H16⟩, ⟨%X17, %f17, %h17, H17⟩⟩
  dsimp only at h2 h3 h4 h5 h6 h7 h8 h9
  subst h2 h3 h4 h5 h6 h7 h8 h9 h14 h15
  sl_exec
  sl_step
  isplitl [H2 H3 H4 H5 H6 H7 H8 H9]
  · isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    iexists f9; isplitr; · ipureintro; rfl
    iexact H9
  isplitl [H10]
  · iexists _; isplitr
    rotate_left
    · iexact H10
    ipureintro
    sl_unfold_words
    simp only [wide_readAt, wide_stored, wide_readCov, deep_readAt, deep_stored, deep_readCov, sums_readAt, sums_stored, sums_readCov, line_readAt, line_stored, line_readCov]
    rfl
  isplitl [H11]
  · iexists _; isplitr
    rotate_left
    · iexact H11
    ipureintro
    sl_unfold_words
    simp only [wide_readAt, wide_stored, wide_readCov, deep_readAt, deep_stored, deep_readCov, sums_readAt, sums_stored, sums_readCov, line_readAt, line_stored, line_readCov]
    rfl
  isplitl [H12]
  · iexists _; isplitr
    rotate_left
    · iexact H12
    ipureintro
    sl_unfold_words
    simp only [wide_readAt, wide_stored, wide_readCov, deep_readAt, deep_stored, deep_readCov, sums_readAt, sums_stored, sums_readCov, line_readAt, line_stored, line_readCov]
    rfl
  isplitl [H13]
  · iexists _; isplitr
    rotate_left
    · iexact H13
    ipureintro
    sl_unfold_words
    simp only [wide_readAt, wide_stored, wide_readCov, deep_readAt, deep_stored, deep_readCov, sums_readAt, sums_stored, sums_readCov, line_readAt, line_stored, line_readCov]
    rfl
  isplitl [H14]
  · iexists f14; isplitr; · ipureintro; rfl
    iexact H14
  isplitl [H15]
  · iexists f15; isplitr; · ipureintro; rfl
    iexact H15
  isplitl [H16]
  · iexists _; isplitr
    rotate_left
    · iexact H16
    ipureintro
    sl_unfold_words
    simp only [wide_readAt, wide_stored, wide_readCov, deep_readAt, deep_stored, deep_readCov, sums_readAt, sums_stored, sums_readCov, line_readAt, line_stored, line_readCov]
  iexists _; isplitr
  rotate_left
  · iexact H17
  ipureintro
  sl_unfold_words
  simp only [wide_readAt, wide_stored, wide_readCov, deep_readAt, deep_stored, deep_readCov, sums_readAt, sums_stored, sums_readCov, line_readAt, line_stored, line_readCov]
  rfl

/-- The first point of a later block of rows. -/
theorem body_head (d14 : Vec F S512x1024 .bf16) (d15 : Vec F S512x1024 .f32) (s : Vec F S8x1024 .f32) (hc1 : ¬ k0_cond1 i = 1#1) (hc2 : k0_cond2 i = 1#1) (hc3 : ¬ k0_cond3 i = 1#1) :
    (iprop(ins c arg2 arg3 arg4 arg5 arg6 arg7 arg8 arg9 u
      ∗ (∃ X, owns (c : Thread nD τ) arg10 fullShare X)
      ∗ (∃ X, owns (c : Thread nD τ) arg11 fullShare X)
      ∗ (∃ X, owns (c : Thread nD τ) arg12 fullShare X)
      ∗ (∃ X, owns (c : Thread nD τ) arg13 fullShare X)
      ∗ owns (c : Thread nD τ) arg14 fullShare d14
      ∗ owns (c : Thread nD τ) arg15 fullShare d15
      ∗ owns (c : Thread nD τ) arg16 fullShare s
      ∗ (∃ X, owns (c : Thread nD τ) arg17 fullShare X)) : sProp 𝕄)
    ⊢ wp frame (wpE (defs₀ (F := F)) Variants.none (c : Thread nD τ) none) Set.univ (cc0_ffn_forward i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
        (fun _ => iprop(ins c arg2 arg3 arg4 arg5 arg6 arg7 arg8 arg9 u
          ∗ owns (c : Thread nD τ) arg10 fullShare (u.gateBlk i u.hid)
          ∗ owns (c : Thread nD τ) arg11 fullShare (u.upBlk i u.hid)
          ∗ owns (c : Thread nD τ) arg12 fullShare (u.actBlk i u.hid)
          ∗ owns (c : Thread nD τ) arg13 fullShare u.hid
          ∗ owns (c : Thread nD τ) arg14 fullShare d14
          ∗ owns (c : Thread nD τ) arg15 fullShare d15
          ∗ owns (c : Thread nD τ) arg16 fullShare s
          ∗ owns (c : Thread nD τ) arg17 fullShare (u.accBlk i u.hid k0_pay15))) := by
  obtain ⟨ux, umod, ugf, ugl, uy, uwg, uwu, uwd⟩ := u
  unfold ins owns
  iintro ⟨⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩⟩, ⟨%X10, %f10, %h10, H10⟩, ⟨%X11, %f11, %h11, H11⟩, ⟨%X12, %f12, %h12, H12⟩, ⟨%X13, %f13, %h13, H13⟩, ⟨%f14, %h14, H14⟩, ⟨%f15, %h15, H15⟩, ⟨%f16, %h16, H16⟩, ⟨%X17, %f17, %h17, H17⟩⟩
  dsimp only at h2 h3 h4 h5 h6 h7 h8 h9
  subst h2 h3 h4 h5 h6 h7 h8 h9 h14 h15 h16
  sl_exec
  sl_step
  isplitl [H2 H3 H4 H5 H6 H7 H8 H9]
  · isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    iexists f9; isplitr; · ipureintro; rfl
    iexact H9
  isplitl [H10]
  · iexists _; isplitr
    rotate_left
    · iexact H10
    ipureintro
    sl_unfold_words
    simp only [wide_readAt, wide_stored, wide_readCov, deep_readAt, deep_stored, deep_readCov, sums_readAt, sums_stored, sums_readCov, line_readAt, line_stored, line_readCov]
    rfl
  isplitl [H11]
  · iexists _; isplitr
    rotate_left
    · iexact H11
    ipureintro
    sl_unfold_words
    simp only [wide_readAt, wide_stored, wide_readCov, deep_readAt, deep_stored, deep_readCov, sums_readAt, sums_stored, sums_readCov, line_readAt, line_stored, line_readCov]
    rfl
  isplitl [H12]
  · iexists _; isplitr
    rotate_left
    · iexact H12
    ipureintro
    sl_unfold_words
    simp only [wide_readAt, wide_stored, wide_readCov, deep_readAt, deep_stored, deep_readCov, sums_readAt, sums_stored, sums_readCov, line_readAt, line_stored, line_readCov]
    rfl
  isplitl [H13]
  · iexists _; isplitr
    rotate_left
    · iexact H13
    ipureintro
    sl_unfold_words
    simp only [wide_readAt, wide_stored, wide_readCov, deep_readAt, deep_stored, deep_readCov, sums_readAt, sums_stored, sums_readCov, line_readAt, line_stored, line_readCov]
    rfl
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  iexists _; isplitr
  rotate_left
  · iexact H17
  ipureintro
  sl_unfold_words
  simp only [wide_readAt, wide_stored, wide_readCov, deep_readAt, deep_stored, deep_readCov, sums_readAt, sums_stored, sums_readCov, line_readAt, line_stored, line_readCov]
  rfl

end Cert.Fwd

end
-- ==== Proof.FwdBodyLast.lean ====
/-
  One grid point of the FFN's forward call, run: from the operands it reads and what it finds in the buffers that are
  carried from point to point, it leaves what the payloads say.  Four cases: the first point of all zeroes the sums, the
  first point of a block of rows norms the rows and zeroes the accumulator, the last one leaves the derivatives and adds
  to the sums, the points between do none of that.
-/
module

public import proofs.«01_k».proof.Proof.FwdBody

@[expose] public section

set_option maxRecDepth 8192
set_option maxHeartbeats 8000000

noncomputable section

namespace Cert.Fwd

open Cert.FfnForwardIdeal Cert.FfnForwardIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the launch's frame. -/
local notation "𝕄" => MT nD τ sig Unit (Elt F) ℕ (UR sig nD τ) ℕ

variable (c : Dev nD) (i : grid0.Coords)
  (arg2 : Memref sig .tc .vmem S512x1024 .f32) (harg2 : arg2.IsWhole)
  (arg3 : Memref sig .tc .vmem S6x1024 .f32) (harg3 : arg3.IsWhole)
  (arg4 : Memref sig .tc .vmem S1x1024 .f32) (harg4 : arg4.IsWhole)
  (arg5 : Memref sig .tc .vmem S1x1024 .f32) (harg5 : arg5.IsWhole)
  (arg6 : Memref sig .tc .vmem S512x1024 .f32) (harg6 : arg6.IsWhole)
  (arg7 : Memref sig .tc .vmem S4x704x1024 .bf16) (harg7 : arg7.IsWhole)
  (arg8 : Memref sig .tc .vmem S4x704x1024 .bf16) (harg8 : arg8.IsWhole)
  (arg9 : Memref sig .tc .vmem S4x704x1024 .bf16) (harg9 : arg9.IsWhole)
  (arg10 : Memref sig .tc .vmem S1x512x704 .bf16) (harg10 : arg10.IsWhole)
  (arg11 : Memref sig .tc .vmem S1x512x704 .bf16) (harg11 : arg11.IsWhole)
  (arg12 : Memref sig .tc .vmem S1x512x704 .bf16) (harg12 : arg12.IsWhole)
  (arg13 : Memref sig .tc .vmem S512x1024 .bf16) (harg13 : arg13.IsWhole)
  (arg14 : Memref sig .tc .vmem S512x1024 .bf16) (harg14 : arg14.IsWhole)
  (arg15 : Memref sig .tc .vmem S512x1024 .f32) (harg15 : arg15.IsWhole)
  (arg16 : Memref sig .tc .vmem S8x1024 .f32) (harg16 : arg16.IsWhole)
  (arg17 : Memref sig .tc .vmem S512x1024 .f32) (harg17 : arg17.IsWhole)
  (u : Inp F)

/-- The last point of a block of rows. -/
theorem body_last (a : Vec F S512x1024 .f32) (h : Vec F S512x1024 .bf16) (s : Vec F S8x1024 .f32) (hc1 : ¬ k0_cond1 i = 1#1) (hc2 : ¬ k0_cond2 i = 1#1) (hc3 : k0_cond3 i = 1#1) :
    (iprop(ins c arg2 arg3 arg4 arg5 arg6 arg7 arg8 arg9 u
      ∗ (∃ X, owns (c : Thread nD τ) arg10 fullShare X)
      ∗ (∃ X, owns (c : Thread nD τ) arg11 fullShare X)
      ∗ (∃ X, owns (c : Thread nD τ) arg12 fullShare X)
      ∗ owns (c : Thread nD τ) arg13 fullShare h
      ∗ (∃ X, owns (c : Thread nD τ) arg14 fullShare X)
      ∗ (∃ X, owns (c : Thread nD τ) arg15 fullShare X)
      ∗ owns (c : Thread nD τ) arg16 fullShare s
      ∗ owns (c : Thread nD τ) arg17 fullShare a) : sProp 𝕄)
    ⊢ wp frame (wpE (defs₀ (F := F)) Variants.none (c : Thread nD τ) none) Set.univ (cc0_ffn_forward i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
        (fun _ => iprop(ins c arg2 arg3 arg4 arg5 arg6 arg7 arg8 arg9 u
          ∗ owns (c : Thread nD τ) arg10 fullShare (u.gateBlk i h)
          ∗ owns (c : Thread nD τ) arg11 fullShare (u.upBlk i h)
          ∗ owns (c : Thread nD τ) arg12 fullShare (u.actBlk i h)
          ∗ owns (c : Thread nD τ) arg13 fullShare h
          ∗ owns (c : Thread nD τ) arg14 fullShare (u.dff (u.accBlk i h a))
          ∗ owns (c : Thread nD τ) arg15 fullShare (u.dx (u.accBlk i h a))
          ∗ owns (c : Thread nD τ) arg16 fullShare (u.sums (u.accBlk i h a) s)
          ∗ owns (c : Thread nD τ) arg17 fullShare (u.accBlk i h a))) := by
  obtain ⟨ux, umod, ugf, ugl, uy, uwg, uwu, uwd⟩ := u
  unfold ins owns
  iintro ⟨⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩⟩, ⟨%X10, %f10, %h10, H10⟩, ⟨%X11, %f11, %h11, H11⟩, ⟨%X12, %f12, %h12, H12⟩, ⟨%f13, %h13, H13⟩, ⟨%X14, %f14, %h14, H14⟩, ⟨%X15, %f15, %h15, H15⟩, ⟨%f16, %h16, H16⟩, ⟨%f17, %h17, H17⟩⟩
  dsimp only at h2 h3 h4 h5 h6 h7 h8 h9
  subst h2 h3 h4 h5 h6 h7 h8 h9 h13 h16 h17
  sl_exec
  sl_step
  isplitl [H2 H3 H4 H5 H6 H7 H8 H9]
  · isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    iexists f9; isplitr; · ipureintro; rfl
    iexact H9
  isplitl [H10]
  · iexists _; isplitr
    rotate_left
    · iexact H10
    ipureintro
    sl_unfold_words
    simp only [wide_readAt, wide_stored, wide_readCov, deep_readAt, deep_stored, deep_readCov, sums_readAt, sums_stored, sums_readCov, line_readAt, line_stored, line_readCov]
    rfl
  isplitl [H11]
  · iexists _; isplitr
    rotate_left
    · iexact H11
    ipureintro
    sl_unfold_words
    simp only [wide_readAt, wide_stored, wide_readCov, deep_readAt, deep_stored, deep_readCov, sums_readAt, sums_stored, sums_readCov, line_readAt, line_stored, line_readCov]
    rfl
  isplitl [H12]
  · iexists _; isplitr
    rotate_left
    · iexact H12
    ipureintro
    sl_unfold_words
    simp only [wide_readAt, wide_stored, wide_readCov, deep_readAt, deep_stored, deep_readCov, sums_readAt, sums_stored, sums_readCov, line_readAt, line_stored, line_readCov]
    rfl
  isplitl [H13]
  · iexists f13; isplitr; · ipureintro; rfl
    iexact H13
  isplitl [H14]
  · iexists _; isplitr
    rotate_left
    · iexact H14
    ipureintro
    sl_unfold_words
    simp only [wide_readAt, wide_stored, wide_readCov, deep_readAt, deep_stored, deep_readCov, sums_readAt, sums_stored, sums_readCov, line_readAt, line_stored, line_readCov]
    rfl
  isplitl [H15]
  · iexists _; isplitr
    rotate_left
    · iexact H15
    ipureintro
    sl_unfold_words
    simp only [wide_readAt, wide_stored, wide_readCov, deep_readAt, deep_stored, deep_readCov, sums_readAt, sums_stored, sums_readCov, line_readAt, line_stored, line_readCov]
    rfl
  isplitl [H16]
  · iexists _; isplitr
    rotate_left
    · iexact H16
    ipureintro
    refine stored _ _ _ _ _ _ _ ?_ ?_ ?_ <;> (sl_unfold_words; simp only [wide_readAt, wide_stored, wide_readCov, deep_readAt, deep_stored, deep_readCov, sums_readAt, sums_stored, sums_readCov, line_readAt, line_stored, line_readCov]; rfl)
  iexists _; isplitr
  rotate_left
  · iexact H17
  ipureintro
  sl_unfold_words
  simp only [wide_readAt, wide_stored, wide_readCov, deep_readAt, deep_stored, deep_readCov, sums_readAt, sums_stored, sums_readCov, line_readAt, line_stored, line_readCov]
  rfl

end Cert.Fwd

end
-- ==== Proof.FwdRun.lean ====
/-
  The launch of the FFN's forward call: the grid's 32 points one after the other, the normed rows and the sums carried in
  their result windows and the accumulator in a scratch buffer.
-/
module

public import proofs.«01_k».proof.Proof.FwdBodyHead
public import proofs.«01_k».proof.Proof.FwdBodyLast

@[expose] public section

set_option maxRecDepth 16384

noncomputable section

namespace Cert.Fwd

open Cert.FfnForwardIdeal Cert.FfnForwardIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The resource algebra of the launch's frame. -/
local notation "𝕄" => MT nD τ sig Unit (Elt F) ℕ (UR sig nD τ) ℕ

variable (m : (ℓ : Loc nD τ sig) → Buf (Elt F) ℓ) (ρ : Dev nD → PrngReg)

/-! ### Points -/

/-- The point of a number, which is the point itself for a point's number. -/
def tm (n : ℕ) : Fin cfg0.N := ⟨n % 32, lt_of_lt_of_eq (Nat.mod_lt _ (by decide)) N_0.symm⟩

theorem lt32 (t : Fin cfg0.N) : t.val < 32 := lt_of_lt_of_eq t.isLt N_0

theorem tm_val (t : Fin cfg0.N) : tm t.val = t := Fin.ext (Nat.mod_eq_of_lt (lt32 t))

theorem cond1_iff : ∀ t : Fin cfg0.N, k0_cond1 (grid0.coords t) = 1#1 ↔ t.val = 0 := by decide +kernel
theorem cond2_iff : ∀ t : Fin cfg0.N, k0_cond2 (grid0.coords t) = 1#1 ↔ t.val % 4 = 0 := by decide +kernel
theorem cond3_iff : ∀ t : Fin cfg0.N, k0_cond3 (grid0.coords t) = 1#1 ↔ t.val % 4 = 3 := by decide +kernel

theorem idle_11 : ∀ t : Fin cfg0.N, cfg0.idle 11 (cfg0.grid.coords t) = !decide (t.val % 4 = 0) := by decide +kernel
theorem idle_12 : ∀ t : Fin cfg0.N, cfg0.idle 12 (cfg0.grid.coords t) = !decide (t.val % 4 = 3) := by decide +kernel
theorem idle_13 : ∀ t : Fin cfg0.N, cfg0.idle 13 (cfg0.grid.coords t) = !decide (t.val % 4 = 3) := by decide +kernel
theorem idle_14 : ∀ t : Fin cfg0.N, cfg0.idle 14 (cfg0.grid.coords t) = !decide (t.val = 0 ∨ t.val % 4 = 3) := by decide +kernel

/-- What point `t` reads: its blocks of the eight operands. -/
def inp (c : Dev nD) (t : Fin cfg0.N) : Inp F where
  x := iblk m c 0 t
  mod := iblk m c 1 t
  gf := iblk m c 2 t
  gl := iblk m c 3 t
  y := iblk m c 4 t
  wg := iblk m c 5 t
  wu := iblk m c 6 t
  wd := iblk m c 7 t

/-- What is carried from point to point: the normed rows, the sums, the accumulator. -/
structure Carry (F : FTy → Type) where
  h : Vec F S512x1024 .bf16
  s : Vec F S8x1024 .f32
  a : Vec F S512x1024 .f32

/-- What point `n` passes on: the rows it works on, the accumulator and the sums. -/
def Carry.rows (k : Carry F) (u : Inp F) (n : ℕ) : Vec F S512x1024 .bf16 := if n % 4 = 0 then u.hid else k.h
def Carry.acc (k : Carry F) (u : Inp F) (i : grid0.Coords) (n : ℕ) : Vec F S512x1024 .f32 :=
  u.accBlk i (k.rows u n) (if n % 4 = 0 then k0_pay15 else k.a)
def Carry.next (k : Carry F) (u : Inp F) (i : grid0.Coords) (n : ℕ) : Carry F where
  h := k.rows u n
  s := if n % 4 = 3 then u.sums (k.acc u i n) k.s else if n = 0 then k0_pay13 else k.s
  a := k.acc u i n

/-- What is carried before point `n`. -/
def carry (c : Dev nD) : ℕ → Carry F
  | 0 => ⟨(inp m c (tm 0)).hid, k0_pay13, k0_pay15⟩
  | n + 1 => (carry c n).next (inp m c (tm n)) (grid0.coords (tm n)) n

theorem carry_succ (c : Dev nD) (t : Fin cfg0.N) :
    carry m c (t.val + 1) = (carry m c t.val).next (inp m c t) (grid0.coords t) t.val := by
  rw [carry, tm_val]

theorem carry_h (c : Dev nD) (t : Fin cfg0.N) :
    (carry m c (t.val + 1)).h = if t.val % 4 = 0 then (inp m c t).hid else (carry m c t.val).h := by
  rw [carry_succ]; rfl

theorem carry_a (c : Dev nD) (t : Fin cfg0.N) :
    (carry m c (t.val + 1)).a = (inp m c t).accBlk (grid0.coords t) (carry m c (t.val + 1)).h
      (if t.val % 4 = 0 then k0_pay15 else (carry m c t.val).a) := by
  rw [carry_succ]; rfl

theorem carry_s (c : Dev nD) (t : Fin cfg0.N) :
    (carry m c (t.val + 1)).s = if t.val % 4 = 3 then (inp m c t).sums (carry m c (t.val + 1)).a (carry m c t.val).s
      else if t.val = 0 then k0_pay13 else (carry m c t.val).s := by
  rw [carry_succ]; rfl

/-! ### The proof data -/

/-- The invariant before point `n`: the scratch at the accumulator so far, where the point reads it. -/
def inv (c : Dev nD) (n : ℕ) : sProp 𝕄 :=
  iprop((∃ X, ⌜n % 4 ≠ 0 → X = (carry m c n).a⌝ ∗ owns (c : Thread nD τ) (Memref.whole cc0_scratch0) fullShare X)
    ∗ (∃ r, prngReg c r))

/-- The proof data: arrays as the host lines leave them, operands' blocks left in place, the results at what the points leave. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (inp m c t).gateBlk (grid0.coords t) (carry m c (t.val + 1)).h
    | ⟨9, _⟩ => (inp m c t).upBlk (grid0.coords t) (carry m c (t.val + 1)).h
    | ⟨10, _⟩ => (inp m c t).actBlk (grid0.coords t) (carry m c (t.val + 1)).h
    | ⟨11, _⟩ => (carry m c (t.val + 1)).h
    | ⟨12, _⟩ => (inp m c t).dff (carry m c (t.val + 1)).a
    | ⟨13, _⟩ => (inp m c t).dx (carry m c (t.val + 1)).a
    | ⟨14, _⟩ => (carry m c (t.val + 1)).s
  Φ t := inv m c t.val
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = (inp m c t).gateBlk (grid0.coords t) (carry m c (t.val + 1)).h := by dsimp only [dats]
theorem after_9 (c : Dev nD) (t : Fin cfg0.N) : (dats m 0 c).after 9 t = (inp m c t).upBlk (grid0.coords t) (carry m c (t.val + 1)).h := by dsimp only [dats]
theorem after_10 (c : Dev nD) (t : Fin cfg0.N) : (dats m 0 c).after 10 t = (inp m c t).actBlk (grid0.coords t) (carry m c (t.val + 1)).h := by dsimp only [dats]
theorem after_11 (c : Dev nD) (t : Fin cfg0.N) : (dats m 0 c).after 11 t = (carry m c (t.val + 1)).h := by dsimp only [dats]
theorem after_12 (c : Dev nD) (t : Fin cfg0.N) : (dats m 0 c).after 12 t = (inp m c t).dff (carry m c (t.val + 1)).a := by dsimp only [dats]
theorem after_13 (c : Dev nD) (t : Fin cfg0.N) : (dats m 0 c).after 13 t = (inp m c t).dx (carry m c (t.val + 1)).a := by dsimp only [dats]
theorem after_14 (c : Dev nD) (t : Fin cfg0.N) : (dats m 0 c).after 14 t = (carry m c (t.val + 1)).s := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
theorem before_6 (c : Dev nD) (t : Fin cfg0.N) (d) : (dats m 0 c).before 6 t d = iblk m c 6 t := before0_6_of m (dats m 0 c) (A_eq m c 6) (after_6 m c) t d
theorem before_7 (c : Dev nD) (t : Fin cfg0.N) (d) : (dats m 0 c).before 7 t d = iblk m c 7 t := before0_7_of m (dats m 0 c) (A_eq m c 7) (after_7 m c) t d

/-- The point before a point that is not the first. -/
def prev (t : Fin cfg0.N) : Fin cfg0.N := ⟨t.val - 1, Nat.lt_of_le_of_lt (Nat.sub_le _ _) t.isLt⟩

/-- What a result's window that the point before did not write back holds: what that point left, or what it found where it
    stores nothing. -/
theorem before_of_prev (c : Dev nD) (w : Fin cfg0.W) (hw : (cfg0.win w).isOut = true) (t : Fin cfg0.N) (ht : t.val ≠ 0)
    (hf : (cfg0.win w).flush (prev t) = false) (hc : ∀ (t : Fin cfg0.N) d, (dats m 0 c).kept w t d = (dats m 0 c).after w t) (d) :
    (dats m 0 c).before w t d = if cfg0.idle w (cfg0.grid.coords (prev t)) then (dats m 0 c).before w (prev t) d
      else (dats m 0 c).after w (prev t) := by
  have hfe : (cfg0.win w).fetch t = false := by
    unfold Window.fetch; rw [hw]; rfl
  conv_lhs => unfold Dat.before
  rw [if_neg (by rw [hfe]; decide), if_neg ht]
  show (if (cfg0.win w).flush (prev t) = true then d else _) = _
  rw [if_neg (by rw [hf]; decide)]
  cases h : cfg0.idle w (cfg0.grid.coords (prev t)) with
  | true =>
    simp only [prev] at h ⊢
    simp only [h, if_true]
    exact (dats m 0 c).found_eq_before _ _ _
  | false =>
    simp only [prev] at h ⊢
    simp only [h]
    exact hc _ _

/-! ### What the windows hold -/

theorem flush_11 : ∀ t : Fin cfg0.N, (cfg0.win 11).flush t = decide (t.val % 4 = 3) := by decide +kernel
theorem flush_12 : ∀ t : Fin cfg0.N, (cfg0.win 12).flush t = decide (t.val % 4 = 3) := by decide +kernel
theorem flush_13 : ∀ t : Fin cfg0.N, (cfg0.win 13).flush t = decide (t.val % 4 = 3) := by decide +kernel
theorem flush_14 : ∀ t : Fin cfg0.N, (cfg0.win 14).flush t = decide (t.val = 31) := by decide +kernel

theorem kept_eq (c : Dev nD) (w : Fin cfg0.W) (hclip : ∀ (i : cfg0.grid.Coords) a, (cfg0.win w).clip i a = none) (t : Fin cfg0.N) (d) :
    (dats m 0 c).kept w t d = (dats m 0 c).after w t := by
  unfold Dat.kept
  rw [Pipeline.fill_of_clip_none w _ (hclip _) d ((dats m 0 c).after w t), Window.fill_cut]

theorem before_11_n (c : Dev nD) (d) : ∀ (n : ℕ) (t : Fin cfg0.N), t.val = n → n % 4 ≠ 0 → (dats m 0 c).before 11 t d = (carry m c n).h
  | 0, t, _, h => absurd rfl h
  | n + 1, t, ht, h => by
    have hp : (prev t).val = n := by show t.val - 1 = n; omega
    have hs := carry_h m c (prev t)
    rw [hp] at hs
    rw [before_of_prev m c 11 rfl t (by omega) (by rw [flush_11, hp]; exact decide_eq_false (by omega)) (kept_eq m c 11 fun _ _ => rfl) d, idle_11, hp, hs]
    by_cases h0 : n % 4 = 0
    · rw [if_pos h0, decide_eq_true h0, if_neg (by decide), after_11, hp, hs, if_pos h0]
    · rw [if_neg h0, decide_eq_false h0, if_pos (show (!false) = true from rfl), before_11_n c d n (prev t) hp h0]

theorem before_11 (c : Dev nD) (t : Fin cfg0.N) (h : t.val % 4 ≠ 0) (d) : (dats m 0 c).before 11 t d = (carry m c t.val).h :=
  before_11_n m c d t.val t rfl h

theorem before_14_n (c : Dev nD) (d) : ∀ (n : ℕ) (t : Fin cfg0.N), t.val = n → n ≠ 0 → (dats m 0 c).before 14 t d = (carry m c n).s
  | 0, t, _, h => absurd rfl h
  | n + 1, t, ht, _ => by
    have hp : (prev t).val = n := by show t.val - 1 = n; omega
    have hl := lt32 t
    have hs := carry_s m c (prev t)
    rw [hp] at hs
    rw [before_of_prev m c 14 rfl t (by omega) (by rw [flush_14, hp]; exact decide_eq_false (by omega)) (kept_eq m c 14 fun _ _ => rfl) d, idle_14, hp]
    by_cases h0 : n = 0 ∨ n % 4 = 3
    · rw [decide_eq_true h0, if_neg (by decide), after_14, hp]
    · rw [decide_eq_false h0, if_pos (show (!false) = true from rfl), before_14_n c d n (prev t) hp (fun h => h0 (.inl h)), hs, if_neg (fun h => h0 (.inr h)),
        if_neg (fun h => h0 (.inl h))]

theorem before_14 (c : Dev nD) (t : Fin cfg0.N) (h : t.val ≠ 0) (d) : (dats m 0 c).before 14 t d = (carry m c t.val).s :=
  before_14_n m c d t.val t rfl h

/-! ### One point -/

/-- A window that the body wrote, or that is written back, leaves what the proof data say. -/
theorem leaves_of (c : Dev nD) (w : Fin cfg0.W) (t : Fin cfg0.N)
    (h : cfg0.idle w (cfg0.grid.coords t) = false ∨ (cfg0.win w).flush t = true) :
    (dats m 0 c).leavesExact w t
      = owns (c : Thread nD τ) ((cfg0.win w).stage (cfg0.slots t w)) fullShare ((dats m 0 c).after w t) := by
  unfold Dat.leavesExact
  rcases h with h | h
  · rw [h]
  · rw [h]; cases cfg0.idle w (cfg0.grid.coords t) <;> rfl

theorem leave_11 (c : Dev nD) (t : Fin cfg0.N) :
    (owns (c : Thread nD τ) (st0_11 t) fullShare (carry m c (t.val + 1)).h : sProp 𝕄) ⊢ (dats m 0 c).leavesExact 11 t := by
  by_cases h : t.val % 4 = 0 ∨ t.val % 4 = 3
  · rw [leaves_of m c 11 t (h.imp (fun h => by rw [idle_11, decide_eq_true h]; rfl) (fun h => by rw [flush_11, decide_eq_true h])), after_11]
  · rw [Dat.leavesExact_idle (dats m 0 c) 11 t (by rw [idle_11, decide_eq_false (fun e => h (.inl e))]; rfl)
      (by rw [flush_11, decide_eq_false (fun e => h (.inr e))])]
    have e : ∀ d, (dats m 0 c).before 11 t d = (carry m c (t.val + 1)).h := fun d => by
      rw [before_11 m c t (fun e => h (.inl e)), carry_h, if_neg (fun e => h (.inl e))]
    iintro H
    iexists (carry m c (t.val + 1)).h
    rw [e]
    iexact H

theorem leave_12 (c : Dev nD) (t : Fin cfg0.N) (d) :
    (owns (c : Thread nD τ) (st0_12 t) fullShare (if t.val % 4 = 3 then (inp m c t).dff (carry m c (t.val + 1)).a
      else (dats m 0 c).before 12 t d) : sProp 𝕄) ⊢ (dats m 0 c).leavesExact 12 t := by
  by_cases h : t.val % 4 = 3
  · rw [if_pos h, leaves_of m c 12 t (.inr (by rw [flush_12, decide_eq_true h])), after_12]
  · rw [if_neg h, Dat.leavesExact_idle (dats m 0 c) 12 t (by rw [idle_12, decide_eq_false h]; rfl) (by rw [flush_12, decide_eq_false h])]
    iintro H
    iexists d
    iexact H

theorem leave_13 (c : Dev nD) (t : Fin cfg0.N) (d) :
    (owns (c : Thread nD τ) (st0_13 t) fullShare (if t.val % 4 = 3 then (inp m c t).dx (carry m c (t.val + 1)).a
      else (dats m 0 c).before 13 t d) : sProp 𝕄) ⊢ (dats m 0 c).leavesExact 13 t := by
  by_cases h : t.val % 4 = 3
  · rw [if_pos h, leaves_of m c 13 t (.inr (by rw [flush_13, decide_eq_true h])), after_13]
  · rw [if_neg h, Dat.leavesExact_idle (dats m 0 c) 13 t (by rw [idle_13, decide_eq_false h]; rfl) (by rw [flush_13, decide_eq_false h])]
    iintro H
    iexists d
    iexact H

theorem leave_14 (c : Dev nD) (t : Fin cfg0.N) :
    (owns (c : Thread nD τ) (st0_14 t) fullShare (carry m c (t.val + 1)).s : sProp 𝕄) ⊢ (dats m 0 c).leavesExact 14 t := by
  by_cases h : t.val = 0 ∨ t.val % 4 = 3
  · rw [leaves_of m c 14 t (.inl (by rw [idle_14, decide_eq_true h]; rfl)), after_14]
  · rw [Dat.leavesExact_idle (dats m 0 c) 14 t (by rw [idle_14, decide_eq_false h]; rfl)
      (by rw [flush_14, decide_eq_false (fun e => h (.inr (by omega)))])]
    have e : ∀ d, (dats m 0 c).before 14 t d = (carry m c (t.val + 1)).s := fun d => by
      rw [before_14 m c t (fun e => h (.inl e)), carry_s, if_neg (fun e => h (.inr e)), if_neg (fun e => h (.inl e))]
    iintro H
    iexists (carry m c (t.val + 1)).s
    rw [e]
    iexact H

/-- One point as the body's four cases leave it, stated once: from what the point finds to what it passes on. -/
theorem body_at (c : Dev nD) (t : Fin cfg0.N) (h : Vec F S512x1024 .bf16) (d12 : Vec F S512x1024 .bf16) (d13 : Vec F S512x1024 .f32)
    (s : Vec F S8x1024 .f32) (a : Vec F S512x1024 .f32) (hh : t.val % 4 ≠ 0 → h = (carry m c t.val).h)
    (hs : t.val ≠ 0 → s = (carry m c t.val).s) (ha : t.val % 4 ≠ 0 → a = (carry m c t.val).a) :
    (iprop(ins c (st0_0 t) (st0_1 t) (st0_2 t) (st0_3 t) (st0_4 t) (st0_5 t) (st0_6 t) (st0_7 t) (inp m c t)
        ∗ (∃ X, owns (c : Thread nD τ) (st0_8 t) fullShare X) ∗ (∃ X, owns (c : Thread nD τ) (st0_9 t) fullShare X) ∗ (∃ X, owns (c : Thread nD τ) (st0_10 t) fullShare X)
        ∗ owns (c : Thread nD τ) (st0_11 t) fullShare h ∗ owns (c : Thread nD τ) (st0_12 t) fullShare d12 ∗ owns (c : Thread nD τ) (st0_13 t) fullShare d13 ∗ owns (c : Thread nD τ) (st0_14 t) fullShare s
        ∗ owns (c : Thread nD τ) (Memref.whole cc0_scratch0) fullShare a) : sProp 𝕄)
      ⊢ wp frame (wpE (defs₀ (F := F)) Variants.none (c : Thread nD τ) none) Set.univ (bodyAt0 t)
          (fun _ => iprop(ins c (st0_0 t) (st0_1 t) (st0_2 t) (st0_3 t) (st0_4 t) (st0_5 t) (st0_6 t) (st0_7 t) (inp m c t)
            ∗ owns (c : Thread nD τ) (st0_8 t) fullShare ((inp m c t).gateBlk (grid0.coords t) (carry m c (t.val + 1)).h)
            ∗ owns (c : Thread nD τ) (st0_9 t) fullShare ((inp m c t).upBlk (grid0.coords t) (carry m c (t.val + 1)).h)
            ∗ owns (c : Thread nD τ) (st0_10 t) fullShare ((inp m c t).actBlk (grid0.coords t) (carry m c (t.val + 1)).h)
            ∗ owns (c : Thread nD τ) (st0_11 t) fullShare (carry m c (t.val + 1)).h
            ∗ owns (c : Thread nD τ) (st0_12 t) fullShare (if t.val % 4 = 3 then (inp m c t).dff (carry m c (t.val + 1)).a else d12)
            ∗ owns (c : Thread nD τ) (st0_13 t) fullShare (if t.val % 4 = 3 then (inp m c t).dx (carry m c (t.val + 1)).a else d13)
            ∗ owns (c : Thread nD τ) (st0_14 t) fullShare (carry m c (t.val + 1)).s
            ∗ owns (c : Thread nD τ) (Memref.whole cc0_scratch0) fullShare (carry m c (t.val + 1)).a)) := by
  by_cases h0 : t.val % 4 = 0
  · have h3 : ¬ t.val % 4 = 3 := by omega
    have n3 : ¬ k0_cond3 (grid0.coords t) = 1#1 := fun e => h3 ((cond3_iff t).mp e)
    rw [carry_a, carry_s, carry_h, if_pos h0, if_pos h0, if_neg h3, if_neg h3, if_neg h3]
    by_cases hz : t.val = 0
    · rw [if_pos hz]
      refine triple_restated (body_first c (grid0.coords t) _ _ _ _ _ _ _ _ _ _ _ _ _ _ _ _ _ _ _ _ _ _ _ _ _ _ _ _ _ _ _ _ (inp m c t) d12 d13
        ((cond1_iff t).mpr hz) ((cond2_iff t).mpr h0) n3) rfl ?_ fun _ => .rfl
      iintro ⟨Hi, H8, H9, H10, H11, H12, H13, H14, HS⟩
      isplitl [Hi]; · iexact Hi
      isplitl [H8]; · iexact H8
      isplitl [H9]; · iexact H9
      isplitl [H10]; · iexact H10
      isplitl [H11]; · iexists _; iexact H11
      isplitl [H12]; · iexact H12
      isplitl [H13]; · iexact H13
      isplitl [H14]; · iexists _; iexact H14
      iexists _; iexact HS
    · rw [if_neg hz, ← hs hz]
      refine triple_restated (body_head c (grid0.coords t) _ _ _ _ _ _ _ _ _ _ _ _ _ _ _ _ _ _ _ _ _ _ _ _ _ _ _ _ _ _ _ _ (inp m c t) d12 d13 s
        (fun e => hz ((cond1_iff t).mp e)) ((cond2_iff t).mpr h0) n3) rfl ?_ fun _ => .rfl
      iintro ⟨Hi, H8, H9, H10, H11, H12, H13, H14, HS⟩
      isplitl [Hi]; · iexact Hi
      isplitl [H8]; · iexact H8
      isplitl [H9]; · iexact H9
      isplitl [H10]; · iexact H10
      isplitl [H11]; · iexists _; iexact H11
      isplitl [H12]; · iexact H12
      isplitl [H13]; · iexact H13
      isplitl [H14]; · iexact H14
      iexists _; iexact HS
  · have hz : ¬ t.val = 0 := fun e => h0 (by omega)
    have n1 : ¬ k0_cond1 (grid0.coords t) = 1#1 := fun e => hz ((cond1_iff t).mp e)
    have n2 : ¬ k0_cond2 (grid0.coords t) = 1#1 := fun e => h0 ((cond2_iff t).mp e)
    rw [carry_s, carry_a, carry_h, if_neg h0, if_neg h0, if_neg hz, ← hh h0, ← hs hz, ← ha h0]
    by_cases h3 : t.val % 4 = 3
    · rw [if_pos h3, if_pos h3, if_pos h3]
      refine triple_restated (body_last c (grid0.coords t) _ _ _ _ _ _ _ _ _ _ _ _ _ _ _ _ _ _ _ _ _ _ _ _ _ _ _ _ _ _ _ _ (inp m c t) a h s
        n1 n2 ((cond3_iff t).mpr h3)) rfl ?_ fun _ => .rfl
      iintro ⟨Hi, H8, H9, H10, H11, H12, H13, H14, HS⟩
      isplitl [Hi]; · iexact Hi
      isplitl [H8]; · iexact H8
      isplitl [H9]; · iexact H9
      isplitl [H10]; · iexact H10
      isplitl [H11]; · iexact H11
      isplitl [H12]; · iexists _; iexact H12
      isplitl [H13]; · iexists _; iexact H13
      isplitl [H14]; · iexact H14
      iexact HS
    · rw [if_neg h3, if_neg h3, if_neg h3]
      exact body_mid c (grid0.coords t) _ _ _ _ _ _ _ _ _ _ _ _ _ _ _ _ _ _ _ _ _ _ _ _ _ _ _ _ _ _ _ _ (inp m c t) a d12 d13 h s
        n1 n2 (fun e => h3 ((cond3_iff t).mp e))

/-- What the body is handed. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))

/-- What the body hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ (dats m 0 c).leavesExact 11 t
    ∗ (dats m 0 c).leavesExact 12 t
    ∗ (dats m 0 c).leavesExact 13 t
    ∗ (dats m 0 c).leavesExact 14 t)

set_option maxHeartbeats 4000000 in
/-- The body at any point. -/
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost
  simp only [before_0, before_1, before_2, before_3, before_4, before_5, before_6, before_7]
  rw [show (dats m 0 c).Φ t.succ = inv m c (t.val + 1) from rfl, show (dats m 0 c).Φ t.castSucc = inv m c t.val from rfl,
    show (dats m 0 c).owesAt () t.succ = (dats m 0 c).owesAt () t.castSucc from rfl,
    after_0, after_1, after_2, after_3, after_4, after_5, after_6, after_7, after_8, after_9, after_10]
  unfold inv
  iintro ⟨⟨⟨%a, %ha, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  have key := body_at m c t ((dats m 0 c).before 11 t d11) ((dats m 0 c).before 12 t d12) ((dats m 0 c).before 13 t d13)
    ((dats m 0 c).before 14 t d14) a (fun h => before_11 m c t h d11) (fun h => before_14 m c t h d14) ha
  iapply wp_wand_r Idealize.ShloMosaic.frame (wpE (defs₀ (F := F)) Variants.none (c : Thread nD τ) none) Set.univ
  isplitl [H0 H1 H2 H3 H4 H5 H6 H7 H8 H9 H10 H11 H12 H13 H14 HS]
  · iapply key
    isplitl [H0 H1 H2 H3 H4 H5 H6 H7]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitl [H8]; · iexists _; iexact H8
    isplitl [H9]; · iexists _; iexact H9
    isplitl [H10]; · iexists _; iexact H10
    isplitl [H11]; · iexact H11
    isplitl [H12]; · iexact H12
    isplitl [H13]; · iexact H13
    isplitl [H14]; · iexact H14
    iexact HS
  iintro %_ ⟨⟨H0, H1, H2, H3, H4, H5, H6, H7⟩, H8, H9, H10, H11, H12, H13, H14, HS⟩
  isplitl [HS Hg]
  · isplitl [HS]
    · iexists _; isplitr
      rotate_left
      · iexact HS
      ipureintro
      exact fun _ => rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iapply leave_11 m c t; iexact H11
  isplitl [H12]; · iapply leave_12 m c t d12; iexact H12
  isplitl [H13]; · iapply leave_13 m c t d13; iexact H13
  iapply leave_14 m c t; iexact H14

/-- The body table's row at a point is the body as `bodyAt0` spells it. -/
theorem defs₀_row (t : Fin cfg0.N) :
    (defs₀ (F := F)) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ### The run -/

theorem hin (c : Dev nD) : (Pipeline.ΦA spec0 c : sProp 𝕄) ⊢ (dats m 0 c).Φ 0 := by
  rw [show (dats m 0 c).Φ 0 = inv m c 0 from rfl]
  unfold Pipeline.ΦA inv
  rw [scopedRest0_eq]
  iintro ⟨⟨%f0, H0⟩, Hg⟩
  isplitr [Hg]
  · iexists f0; isplitr
    · ipureintro; exact fun h => absurd rfl h
    rw [owns_whole]; iexact H0
  iexact Hg

theorem hout (c : Dev nD) : (dats m 0 c).Φ (Fin.last cfg0.N) ⊢ (Pipeline.ΦA spec0 c : sProp 𝕄) := by
  rw [show (dats m 0 c).Φ (Fin.last cfg0.N) = inv m c (Fin.last cfg0.N).val from rfl]
  unfold Pipeline.ΦA inv
  rw [scopedRest0_eq]
  simp only [owns_whole]
  iintro ⟨⟨%f0, %h0, H0⟩, Hg⟩
  isplitr [Hg]
  · iexists f0; iexact H0
  iexact Hg

/-- From any memory with zero counters every weakly fair execution terminates, and every final state has the result
    arrays at what the points left, every other array at what the host lines before the call left, and every counter
    at zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hin := hin m) (hout := hout m)

end Cert.Fwd

end
-- ==== Proof.FwdFrame.lean ====
/- The frame of the FFN's forward call on float words: the frame that its run makes over any float values. -/
module

public import proofs.«01_k».proof.Defs
public import proofs.«01_k».proof.Proof.Gen.FfnForward
public import proofs.«01_k».proof.Proof.Gen.FfnForwardIdeal.Frame
public import proofs.«01_k».proof.Proof.FwdRun

@[expose] public section

noncomputable section

namespace Cert.Fwd

open Idealize.ShloMosaic Idealize.ShloMosaic.TcCoe Idealize.SL.Sem

section
open Cert.FfnForwardIdeal Cert.FfnForwardIdeal.Gen

/-- From every memory the call, over the float values `F`, terminates without a fault, its argument arrays end as they
    began, and every counter ends at zero. -/
def FrameOver (F : FTy → Type) [FloatOps F] : Prop :=
  ∀ (m : (ℓ : Loc nD τ sig) → Buf (Elt F) ℓ) (ρ : Dev nD → PrngReg), True →
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0)

theorem frame_over (F : FTy → Type) [FloatOps F] : FrameOver F :=
  fun m ρ _ =>
    (θ_run defs _ _).mono (fun r (h : _ ∧ _) => ⟨fun c =>
      ⟨((h.1 c).1 0).trans (((dats m 0 c).arrAt_in 0 rfl _).trans ((A_eq m c 0).trans (V_main_arg0 m c))),
       ((h.1 c).1 1).trans (((dats m 0 c).arrAt_in 1 rfl _).trans ((A_eq m c 1).trans (V_main_arg1 m c))),
       ((h.1 c).1 2).trans (((dats m 0 c).arrAt_in 2 rfl _).trans ((A_eq m c 2).trans (V_main_arg2 m c))),
       ((h.1 c).1 3).trans (((dats m 0 c).arrAt_in 3 rfl _).trans ((A_eq m c 3).trans (V_main_arg3 m c))),
       ((h.1 c).1 4).trans (((dats m 0 c).arrAt_in 4 rfl _).trans ((A_eq m c 4).trans (V_main_arg4 m c))),
       ((h.1 c).2 main_arg5 (Pipeline.mem_restRefs_of main_arg5 (by decide) (by decide))).trans (V_main_arg5 m c),
       ((h.1 c).2 main_arg6 (Pipeline.mem_restRefs_of main_arg6 (by decide) (by decide))).trans (V_main_arg6 m c),
       ((h.1 c).2 main_arg7 (Pipeline.mem_restRefs_of main_arg7 (by decide) (by decide))).trans (V_main_arg7 m c)⟩, h.2⟩)
      (run_main m ρ)

end

/-- The claim on float words says what `FrameOver Bits` says: the two programs have one text. -/
theorem frame_eq : Cert.quiescent_FfnForward (hFfnForward := Cert.FfnForward.Gen.facts) = FrameOver Bits := by
  sl_kernel_rfl

end Cert.Fwd

end
-- ==== Proof.FwdNums.lean ====
/- The FFN's forward call as a function of numbers and infinities, and the two ways of writing it that the kernel and the reference have. -/
module

public import proofs.«01_k».proof.Proof.FfnNums

@[expose] public section

noncomputable section

namespace Cert.Fwd

open Idealize.ShloMosaic
open Cert.Ffn (eps eps_both count_word eps_word rowOf rsqrt_real)

/-- The mean square of a row, and `eps`. -/
def meanSq (v : Fin 1024 → EReal) : EReal := Ideal.div (∑ d, v d * v d) ((1024 : ℝ) : EReal) + ((eps : ℝ) : EReal)

/-- What the norm multiplies a row by. -/
def rinv (v : Fin 1024 → EReal) : EReal := Ideal.rsqrt (meanSq v)

/-- A quotient by a positive number is a product. -/
theorem div_pos_real (x : EReal) {a : ℝ} (ha : 0 < a) : Ideal.div x (a : EReal) = x * ((a⁻¹ : ℝ) : EReal) := by
  have hne : (a : EReal) ≠ 0 := fun h => ha.ne' (EReal.coe_eq_zero.mp h)
  unfold Ideal.div
  rw [if_neg hne, EReal.coe_inv]

theorem square_nonneg (x : EReal) : 0 ≤ x * x := by
  induction x with
  | bot => rw [EReal.bot_mul_bot]; exact le_top
  | top => rw [EReal.top_mul_top]; exact le_top
  | coe r => rw [← EReal.coe_mul]; exact EReal.coe_nonneg.mpr (mul_self_nonneg r)

/-- The mean square is infinite or a positive number. -/
theorem meanSq_cases (v : Fin 1024 → EReal) : meanSq v = ⊤ ∨ ∃ a : ℝ, 0 < a ∧ meanSq v = (a : EReal) := by
  have h : (0 : EReal) ≤ Ideal.div (∑ d, v d * v d) ((1024 : ℝ) : EReal) := by
    rw [div_pos_real _ (by norm_num)]
    exact mul_nonneg (Finset.sum_nonneg fun d _ => square_nonneg _) (EReal.coe_nonneg.mpr (by norm_num))
  unfold meanSq
  generalize Ideal.div (∑ d, v d * v d) ((1024 : ℝ) : EReal) = q at h
  induction q with
  | bot => exact absurd h (by simp)
  | top => exact Or.inl (EReal.top_add_coe _)
  | coe r =>
    refine Or.inr ⟨r + eps, ?_, (EReal.coe_add _ _).symm⟩
    have := EReal.coe_nonneg.mp h
    have := eps_both.2
    linarith

/-- A number that is not negative goes into a sum. -/
theorem pull {ι : Type} (t : Finset ι) (f : ι → EReal) {c : ℝ} (hc : 0 ≤ c) : (c : EReal) * ∑ i ∈ t, f i = ∑ i ∈ t, (c : EReal) * f i := by
  classical
  induction t using Finset.induction_on with
  | empty => simp
  | insert a t ha ih =>
    rw [Finset.sum_insert ha, Finset.sum_insert ha,
      EReal.left_distrib_of_nonneg_of_ne_top (EReal.coe_nonneg.mpr hc) (EReal.coe_ne_top c), ih]

/-- The norm's derivative, of a positive root `b`: the two ways of writing it. -/
theorem slope_real (n z S : EReal) {b : ℝ} (hb : 0 < b) :
    n * (b : EReal) + z * (S * ((-(1 / 2) * (b * b * b) : ℝ) : EReal) * ((1024⁻¹ : ℝ) : EReal))
        + S * ((-(1 / 2) * (b * b * b) : ℝ) : EReal) * ((1024⁻¹ : ℝ) : EReal) * z
      = (b : EReal) * (n - z * (b : EReal) * ((b : EReal) * S * ((1024⁻¹ : ℝ) : EReal))) := by
  have hk : (0 : ℝ) ≤ b * b * b * (1 / 2) * 1024⁻¹ := by positivity
  have e1 : S * ((-(1 / 2) * (b * b * b) : ℝ) : EReal) * ((1024⁻¹ : ℝ) : EReal) * z
      = -(z * S) * ((b * b * b * (1 / 2) * 1024⁻¹ : ℝ) : EReal) := by
    rw [mul_comm _ z, mul_assoc S, ← EReal.coe_mul, ← mul_assoc,
      show (-(1 / 2) * (b * b * b) * 1024⁻¹ : ℝ) = -(b * b * b * (1 / 2) * 1024⁻¹) by ring, EReal.coe_neg, mul_neg, neg_mul]
  have e2 : z * (b : EReal) * ((b : EReal) * S * ((1024⁻¹ : ℝ) : EReal)) = z * S * ((b * b * 1024⁻¹ : ℝ) : EReal) := by
    rw [EReal.coe_mul, EReal.coe_mul]
    ac_rfl
  rw [mul_comm z (S * _ * _), e1, e2, sub_eq_add_neg, EReal.left_distrib_of_nonneg_of_ne_top (EReal.coe_nonneg.mpr hb.le) (EReal.coe_ne_top b),
    add_assoc, ← EReal.left_distrib_of_nonneg (EReal.coe_nonneg.mpr hk) (EReal.coe_nonneg.mpr hk), ← EReal.coe_add,
    mul_comm n, ← neg_mul (z * S), mul_comm (b : EReal) (-(z * S) * _), mul_assoc (-(z * S)), ← EReal.coe_mul]
  refine congrArg (fun r : ℝ => (b : EReal) * n + -(z * S) * (r : EReal)) ?_
  ring

/-! ### Sums up to a number of terms -/

/-- The first `n` terms. -/
def sumTo {N : ℕ} (f : Fin N → EReal) (n : ℕ) : EReal := ∑ k ∈ Finset.range n, if h : k < N then f ⟨k, h⟩ else 0

theorem sumTo_zero {N : ℕ} (f : Fin N → EReal) : sumTo f 0 = 0 := Finset.sum_range_zero _

theorem sumTo_all {N : ℕ} (f : Fin N → EReal) : sumTo f N = ∑ k, f k := by
  unfold sumTo
  rw [Finset.sum_range]
  exact Finset.sum_congr rfl fun k _ => dif_pos k.isLt

theorem sumTo_succ {N : ℕ} (f : Fin N → EReal) (k : Fin N) (n : ℕ) (hn : n = k.val) : sumTo f (n + 1) = sumTo f n + f k := by
  subst hn
  unfold sumTo
  rw [Finset.sum_range_succ, dif_pos k.isLt]

theorem sumTo_block (f : Fin 4096 → EReal) (b : Fin 8) (n : ℕ) (hn : n = b.val) :
    sumTo f (512 * (n + 1)) = sumTo f (512 * n) + ∑ r, f (rowOf b r) := by
  subst hn
  unfold sumTo
  rw [Nat.mul_succ, Finset.sum_range_add, Finset.sum_range (n := 512)]
  refine congrArg _ (Finset.sum_congr rfl fun r _ => ?_)
  exact dif_pos (rowOf b r).isLt

/-- The arguments' entries: the layer's input, the modulation, the two norms' weights, the target, the three
    weights. -/
structure Nums where
  x : Fin 4096 → Fin 1024 → EReal
  mod : Fin 6 → Fin 1024 → EReal
  gf : Fin 1024 → EReal
  gl : Fin 1024 → EReal
  y : Fin 4096 → Fin 1024 → EReal
  wg : Fin 4 → Fin 704 → Fin 1024 → EReal
  wu : Fin 4 → Fin 704 → Fin 1024 → EReal
  wd : Fin 4 → Fin 704 → Fin 1024 → EReal

namespace Nums
variable (X : Nums)

/-- The normed and modulated row. -/
def h (s : Fin 4096) (d : Fin 1024) : EReal := X.x s d * rinv (X.x s) * X.gf d * (1 + X.mod 4 d) + X.mod 3 d

/-- The two projections and the gated product of a chunk. -/
def gate (j : Fin 4) (s : Fin 4096) (f : Fin 704) : EReal := ∑ d, X.h s d * X.wg j f d
def up (j : Fin 4) (s : Fin 4096) (f : Fin 704) : EReal := ∑ d, X.h s d * X.wu j f d
def act (j : Fin 4) (s : Fin 4096) (f : Fin 704) : EReal := X.gate j s f * Ideal.logistic (X.gate j s f) * X.up j s f

/-- A chunk's part of the FFN's output, and the output. -/
def part (j : Fin 4) (s : Fin 4096) (d : Fin 1024) : EReal := ∑ f, X.act j s f * X.wd j f d
def ff (s : Fin 4096) (d : Fin 1024) : EReal := ∑ j, X.part j s d

/-- The layer's output, the same divided by its size, and what it misses of the target. -/
def z (s : Fin 4096) (d : Fin 1024) : EReal := X.x s d + X.mod 5 d * X.ff s d
def xh (s : Fin 4096) (d : Fin 1024) : EReal := X.z s d * rinv (X.z s)
def err (s : Fin 4096) (d : Fin 1024) : EReal := X.xh s d * X.gl d - X.y s d

/-- The loss's derivative after the norm, before the norm's weight, and its mean against the row. -/
def dy (s : Fin 4096) (d : Fin 1024) : EReal := X.err s d * ((1 / 1024 : ℝ) : EReal)
def dn (s : Fin 4096) (d : Fin 1024) : EReal := X.dy s d * X.gl d
def mean (s : Fin 4096) : EReal := Ideal.div (∑ d, X.dn s d * X.xh s d) ((1024 : ℝ) : EReal)

/-- The loss's derivative at the layer's output, and at the FFN's. -/
def dx (s : Fin 4096) (d : Fin 1024) : EReal := rinv (X.z s) * (X.dn s d - X.xh s d * X.mean s)
def dff (s : Fin 4096) (d : Fin 1024) : EReal := X.dx s d * X.mod 5 d

/-- What one row adds to the derivatives of the last norm's weight and of the FFN's gate, and to the loss. -/
def weight (s : Fin 4096) (d : Fin 1024) : EReal := X.dy s d * X.xh s d
def scale (s : Fin 4096) (d : Fin 1024) : EReal := X.dx s d * X.ff s d
def loss (s : Fin 4096) : EReal := ((1 / 2 : ℝ) : EReal) * ∑ d, X.err s d * X.dy s d

/-- What row `s` adds to row `k` of the sums. -/
def summand (k : Fin 8) (s : Fin 4096) (d : Fin 1024) : EReal :=
  if k.val = 0 then X.weight s d else if k.val = 1 then X.scale s d else if k.val = 2 then X.loss s else 0

theorem summand_rest (k : Fin 8) (hk : 3 ≤ k.val) (s : Fin 4096) (d : Fin 1024) : X.summand k s d = 0 := by
  unfold summand
  rw [if_neg (by omega), if_neg (by omega), if_neg (by omega)]

/-! ### The arguments of these entries -/

def xArr : FVec Ideal ⟨2, ![4096, 1024]⟩ .f32 := fun i => (X.x (i 0) (i 1))
def modArr : FVec Ideal ⟨2, ![6, 1024]⟩ .f32 := fun i => (X.mod (i 0) (i 1))
def gfArr : FVec Ideal ⟨2, ![1, 1024]⟩ .f32 := fun i => (X.gf (i 1))
def glArr : FVec Ideal ⟨2, ![1, 1024]⟩ .f32 := fun i => (X.gl (i 1))
def yArr : FVec Ideal ⟨2, ![4096, 1024]⟩ .f32 := fun i => (X.y (i 0) (i 1))
def wgArr : FVec Ideal ⟨3, ![4, 704, 1024]⟩ .f32 := fun i => (X.wg (i 0) (i 1) (i 2))
def wuArr : FVec Ideal ⟨3, ![4, 704, 1024]⟩ .f32 := fun i => (X.wu (i 0) (i 1) (i 2))
def wdArr : FVec Ideal ⟨3, ![4, 704, 1024]⟩ .f32 := fun i => (X.wd (i 0) (i 1) (i 2))

/-- The derivative at the last norm's weighted row as the reference spells it. -/
theorem dy_reference (s : Fin 4096) (d : Fin 1024) :
    ((1 / 2 * 1024⁻¹ : ℝ) : EReal) * (((2 : ℝ) : EReal) * X.err s d) = X.dy s d := by
  unfold dy
  rw [← mul_assoc, ← EReal.coe_mul, mul_comm]
  refine congrArg (fun r : ℝ => X.err s d * (r : EReal)) ?_
  norm_num

/-- The loss as the reference spells it. -/
theorem loss_reference :
    ((1 / 2 : ℝ) : EReal) * ∑ s, Ideal.div (∑ d, X.err s d * X.err s d) ((1024 : ℝ) : EReal) = ∑ s, X.loss s := by
  rw [pull _ _ (by norm_num)]
  refine Finset.sum_congr rfl fun s _ => congrArg _ ?_
  rw [div_pos_real _ (by norm_num), mul_comm, pull _ _ (by norm_num)]
  refine Finset.sum_congr rfl fun d _ => ?_
  unfold dy
  rw [mul_comm, mul_assoc, one_div]

/-- What the mean of the derivative against the row is of the undivided row. -/
theorem mean_of_row (s : Fin 4096) {b : ℝ} (hb : 0 ≤ b) (h : rinv (X.z s) = (b : EReal)) :
    X.mean s = (b : EReal) * (∑ e, X.z s e * X.dn s e) * ((1024⁻¹ : ℝ) : EReal) := by
  unfold mean
  rw [div_pos_real _ (by norm_num), pull _ _ hb]
  refine congrArg (· * _) (Finset.sum_congr rfl fun e _ => ?_)
  unfold xh
  rw [h]
  ac_rfl

/-- The row's part of the derivative of the mean square as the reference spells it. -/
def slope (s : Fin 4096) : EReal :=
  Ideal.div ((∑ e, X.z s e * X.dn s e) * (((-(1 / 2) : ℝ) : EReal) * Ideal.div (rinv (X.z s)) (meanSq (X.z s)))) ((1024 : ℝ) : EReal)

/-- The norm's derivative as the reference spells it. -/
theorem dx_reference (s : Fin 4096) (d : Fin 1024) :
    X.dn s d * rinv (X.z s) + X.z s d * X.slope s + X.slope s * X.z s d = X.dx s d := by
  rcases meanSq_cases (X.z s) with h | ⟨a, ha, h⟩
  · have hr : rinv (X.z s) = 0 := by
      unfold rinv
      rw [h]
      rfl
    have h0 : Ideal.div 0 (⊤ : EReal) = 0 := by
      unfold Ideal.div
      rw [if_neg EReal.top_ne_zero, zero_mul]
    unfold slope dx
    rw [hr, h, h0, div_pos_real _ (by norm_num)]
    simp only [mul_zero, zero_mul, add_zero]
  · have hw := Real.sqrt_pos.mpr ha
    have hr : rinv (X.z s) = (((√a)⁻¹ : ℝ) : EReal) := by
      unfold rinv
      rw [h]
      exact rsqrt_real ha
    have e : (√a)⁻¹ * a⁻¹ = (√a)⁻¹ * (√a)⁻¹ * (√a)⁻¹ := by
      rw [mul_assoc, ← mul_inv (√a) (√a), Real.mul_self_sqrt ha.le]
    unfold slope dx xh
    rw [X.mean_of_row s (inv_pos.mpr hw).le hr, hr, h, div_pos_real _ ha, ← EReal.coe_mul, e, ← EReal.coe_mul, div_pos_real _ (by norm_num)]
    exact slope_real _ _ _ (inv_pos.mpr hw)

end Nums

/-! ### The results -/

def outGate (X : Nums) : (⟨3, ![4, 4096, 704]⟩ : Shape).Idx → EReal := fun y => (X.gate (y 0) (y 1) (y 2))
def outUp (X : Nums) : (⟨3, ![4, 4096, 704]⟩ : Shape).Idx → EReal := fun y => (X.up (y 0) (y 1) (y 2))
def outAct (X : Nums) : (⟨3, ![4, 4096, 704]⟩ : Shape).Idx → EReal := fun y => (X.act (y 0) (y 1) (y 2))
def outH (X : Nums) : (⟨2, ![4096, 1024]⟩ : Shape).Idx → EReal := fun y => (X.h (y 0) (y 1))
def outDff (X : Nums) : (⟨2, ![4096, 1024]⟩ : Shape).Idx → EReal := fun y => (X.dff (y 0) (y 1))
def outDx (X : Nums) : (⟨2, ![4096, 1024]⟩ : Shape).Idx → EReal := fun y => (X.dx (y 0) (y 1))
def outSums (X : Nums) : (⟨2, ![8, 1024]⟩ : Shape).Idx → EReal := fun y => (∑ s, X.summand (y 0) s (y 1))

/-! ### Words -/

theorem half_word : Ideal.ofBits .f32 0x3F000000#32 = ((1 / 2 : ℝ) : EReal) := by
  show Ideal.ieee 8 23 0x3F000000#32 = _
  unfold Ideal.ieee
  rw [if_neg (by decide), if_neg (by decide)]
  refine congrArg _ ?_
  rw [if_neg (by decide), show (BitVec.extractLsb' 0 23 0x3F000000#32).toNat = 0 by decide,
    show (BitVec.extractLsb' 23 8 0x3F000000#32).toNat = 126 by decide]
  norm_num

theorem two_word : Ideal.ofBits .f32 0x40000000#32 = ((2 : ℝ) : EReal) := by
  show Ideal.ieee 8 23 0x40000000#32 = _
  unfold Ideal.ieee
  rw [if_neg (by decide), if_neg (by decide)]
  refine congrArg _ ?_
  rw [if_neg (by decide), show (BitVec.extractLsb' 0 23 0x40000000#32).toNat = 0 by decide,
    show (BitVec.extractLsb' 23 8 0x40000000#32).toNat = 128 by decide]
  norm_num

theorem fraction_word : Ideal.ofBits .f32 0x3A800000#32 = ((1 / 1024 : ℝ) : EReal) := by
  show Ideal.ieee 8 23 0x3A800000#32 = _
  unfold Ideal.ieee
  rw [if_neg (by decide), if_neg (by decide)]
  refine congrArg _ ?_
  rw [if_neg (by decide), show (BitVec.extractLsb' 0 23 0x3A800000#32).toNat = 0 by decide,
    show (BitVec.extractLsb' 23 8 0x3A800000#32).toNat = 117 by decide]
  norm_num

end Cert.Fwd

end
-- ==== Proof.FwdAt.lean ====
/- One point of the FFN's forward call, of blocks of the arguments: what it leaves. -/
module

public import proofs.«01_k».proof.Proof.FwdPoint
public import proofs.«01_k».proof.Proof.FwdNums

@[expose] public section

noncomputable section

namespace Cert.Fwd

open Idealize.ShloMosaic Cert.FfnForwardIdeal Cert.FfnForwardIdeal.Gen
open Cert.Ffn (rowOf one_word count_word eps_word)

/-! ### The payloads at one index -/

section
variable (a : Vec Ideal S512x1024 .bf16) (w v : Vec Ideal S1x704x1024 .bf16) (r : Fin 512) (f : Fin 704) (o : Fin 1) (d : Fin 1024)

theorem pay16_apply : k0_pay16 a w (ix2 r f) = ∑ d : Fin 1024, (a (ix2 r d) : EReal) * w (ix3 0 f d) := by
  pointwise [k0_pay16]

theorem pay17_apply : k0_pay17 a w (ix2 r f) = ∑ d : Fin 1024, (a (ix2 r d) : EReal) * w (ix3 0 f d) := by
  pointwise [k0_pay17]

theorem pay18_apply : k0_pay18 a w (ix3 o r f) = k0_pay16 a w (ix2 r f) := by
  unfold k0_pay18
  generalize k0_pay16 a w = p
  pointwise

theorem pay19_apply : k0_pay19 a w (ix3 o r f) = k0_pay17 a w (ix2 r f) := by
  unfold k0_pay19
  generalize k0_pay17 a w = p
  pointwise

theorem pay20_apply : k0_pay20 a w v (ix2 r f)
    = (k0_pay16 a w (ix2 r f) : EReal) * Ideal.logistic (k0_pay16 a w (ix2 r f)) * k0_pay17 a v (ix2 r f) := by
  unfold k0_pay20
  generalize k0_pay16 a w = p
  generalize k0_pay17 a v = q
  pointwise

theorem pay21_apply : k0_pay21 a w v (ix3 o r f) = k0_pay20 a w v (ix2 r f) := by
  unfold k0_pay21
  generalize k0_pay20 a w v = p
  pointwise

theorem pay1_apply (p : FVec Ideal S512x704 .bf16) (b : Vec Ideal S512x1024 .f32) :
    k0_pay1 p b w (ix2 r d) = (b (ix2 r d) : EReal) + ∑ f : Fin 704, (p (ix2 r f) : EReal) * w (ix3 0 f d) := by
  pointwise [k0_pay1]

end

section
variable (a x y : Vec Ideal S512x1024 .f32) (p g s t : Vec Ideal S1x1024 .f32) (r : Fin 512) (d : Fin 1024) (z : Fin 1)

theorem pay14_apply : k0_pay14 x g s t (ix2 r d)
    = (x (ix2 r d) : EReal) * Ideal.rsqrt (Ideal.div (∑ e : Fin 1024, (x (ix2 r e) : EReal) * x (ix2 r e))
        (Ideal.ofBits .f32 0x44800000#32) + Ideal.ofBits .f32 0x358637BD#32) * g (ix2 0 d)
      * (Ideal.ofBits .f32 0x3F800000#32 + s (ix2 0 d)) + t (ix2 0 d) := by
  pointwise [k0_pay14]

theorem pay6_apply : k0_pay6 a x p (ix2 r d) = (x (ix2 r d) : EReal) + (p (ix2 0 d) : EReal) * a (ix2 r d) := by
  pointwise [k0_pay6]

theorem pay7_apply : k0_pay7 a x p (ix2 r z) = Ideal.rsqrt (Ideal.div (∑ e : Fin 1024, (k0_pay6 a x p (ix2 r e) : EReal) * k0_pay6 a x p (ix2 r e))
    (Ideal.ofBits .f32 0x44800000#32) + Ideal.ofBits .f32 0x358637BD#32) := by
  unfold k0_pay7
  generalize k0_pay6 a x p = q
  pointwise

theorem pay8_apply : k0_pay8 a x p (ix2 r d) = (k0_pay6 a x p (ix2 r d) : EReal) * k0_pay7 a x p (ix2 r 0) := by
  unfold k0_pay8
  generalize k0_pay6 a x p = q
  generalize k0_pay7 a x p = q'
  pointwise

theorem pay9_apply : k0_pay9 a x p g y (ix2 r d) = (k0_pay8 a x p (ix2 r d) : EReal) * g (ix2 0 d) - y (ix2 r d) := by
  unfold k0_pay9
  generalize k0_pay8 a x p = q
  pointwise

theorem pay10_apply : k0_pay10 a x p g y (ix2 r d) = (k0_pay9 a x p g y (ix2 r d) : EReal) * Ideal.ofBits .f32 0x3A800000#32 := by
  unfold k0_pay10
  generalize k0_pay9 a x p g y = q
  pointwise

theorem pay11_apply : k0_pay11 a x p g y s (ix2 r d)
    = (k0_pay7 a x p (ix2 r 0) : EReal) * ((k0_pay10 a x p g y (ix2 r d) : EReal) * s (ix2 0 d) - k0_pay8 a x p (ix2 r d)
        * Ideal.div (∑ e : Fin 1024, (k0_pay10 a x p g y (ix2 r e) : EReal) * s (ix2 0 e) * k0_pay8 a x p (ix2 r e))
          (Ideal.ofBits .f32 0x44800000#32)) := by
  unfold k0_pay11
  generalize k0_pay10 a x p g y = q
  generalize k0_pay8 a x p = q'
  generalize k0_pay7 a x p = q''
  pointwise

theorem pay12_apply : k0_pay12 a x p g y s (ix2 r d) = k0_pay11 a x p g y s (ix2 r d) := by
  unfold k0_pay12
  generalize k0_pay11 a x p g y s = q
  pointwise

theorem pay2_apply : k0_pay2 x s (ix2 r d) = (x (ix2 r d) : EReal) * s (ix2 0 d) := by
  pointwise [k0_pay2]

theorem pay3_apply : k0_pay3 x y t (ix2 z d) = (t (ix2 z d) : EReal) + ∑ r : Fin 512, (y (ix2 r d) : EReal) * x (ix2 r d) := by
  pointwise [k0_pay3]

theorem pay4_apply : k0_pay4 x y t (ix2 z d) = (t (ix2 z d) : EReal) + ∑ r : Fin 512, (y (ix2 r d) : EReal) * x (ix2 r d) := by
  pointwise [k0_pay4]

theorem pay5_apply : k0_pay5 x y t (ix2 z d) = (t (ix2 z d) : EReal)
    + Ideal.ofBits .f32 0x3F000000#32 * ∑ r : Fin 512, ∑ e : Fin 1024, (x (ix2 r e) : EReal) * y (ix2 r e) := by
  pointwise [k0_pay5]

end

theorem zeroAcc (r : Fin 512) (d : Fin 1024) : k0_pay15 (F := Ideal) (ix2 r d) = 0 := by
  pointwise [k0_pay15]

theorem zeroSums (k : Fin 8) (d : Fin 1024) : k0_pay13 (F := Ideal) (ix2 k d) = 0 := by
  pointwise [k0_pay13]

/-! ### Of the arguments -/

section
variable (X : Nums) (j : Fin 4) (ρ : Fin 512 → Fin 4096) {a : Vec Ideal S512x1024 .bf16} {w v : Vec Ideal S1x704x1024 .bf16}
  (ha : ∀ r d, (a (ix2 r d) : EReal) = X.h (ρ r) d)
  (hw : ∀ f d, (w (ix3 0 f d) : EReal) = X.wg j f d)
  (hv : ∀ f d, (v (ix3 0 f d) : EReal) = X.wu j f d)

include ha hw in
theorem gate_real (r : Fin 512) (f : Fin 704) : k0_pay16 a w (ix2 r f) = X.gate j (ρ r) f := by
  rw [pay16_apply, Nums.gate]
  simp only [ha, hw]

include ha hv in
theorem up_real (r : Fin 512) (f : Fin 704) : k0_pay17 a v (ix2 r f) = X.up j (ρ r) f := by
  rw [pay17_apply, Nums.up]
  simp only [ha, hv]

include ha hw hv in
theorem act_real (r : Fin 512) (f : Fin 704) : k0_pay20 a w v (ix2 r f) = X.act j (ρ r) f := by
  rw [pay20_apply, gate_real X j ρ ha hw, up_real X j ρ ha hv]
  rfl

theorem acc_real {p : FVec Ideal S512x704 .bf16} {b : Vec Ideal S512x1024 .f32} {w : Vec Ideal S1x704x1024 .bf16} (β : Fin 512 → Fin 1024 → EReal)
    (hp : ∀ r f, (p (ix2 r f) : EReal) = X.act j (ρ r) f)
    (hb : ∀ r d, (b (ix2 r d) : EReal) = β r d)
    (hw : ∀ f d, (w (ix3 0 f d) : EReal) = X.wd j f d) (r : Fin 512) (d : Fin 1024) :
    k0_pay1 p b w (ix2 r d) = β r d + X.part j (ρ r) d := by
  rw [pay1_apply, hb, Nums.part]
  simp only [hp, hw]

end

/-- The reciprocal root of a row's mean square. -/
theorem inv_real (v : Fin 1024 → EReal) : Ideal.rsqrt (Ideal.div (∑ e : Fin 1024, (v e) * (v e))
    (Ideal.ofBits .f32 0x44800000#32) + Ideal.ofBits .f32 0x358637BD#32) = rinv v := by
  rw [count_word, eps_word]
  rfl

section
variable (X : Nums) (ρ : Fin 512 → Fin 4096) {a x y : Vec Ideal S512x1024 .f32} {p g t : Vec Ideal S1x1024 .f32}
  (hx : ∀ r d, (x (ix2 r d) : EReal) = X.x (ρ r) d)

include hx in
theorem h_real {g s t : Vec Ideal S1x1024 .f32} (hg : ∀ d, (g (ix2 0 d) : EReal) = X.gf d)
    (hs : ∀ d, (s (ix2 0 d) : EReal) = X.mod 4 d) (ht : ∀ d, (t (ix2 0 d) : EReal) = X.mod 3 d)
    (r : Fin 512) (d : Fin 1024) : k0_pay14 x g s t (ix2 r d) = X.h (ρ r) d := by
  rw [pay14_apply]
  simp only [hx, hg, hs, ht]
  rw [inv_real (X.x (ρ r)), one_word, EReal.coe_one]
  rfl

variable (ha : ∀ r d, (a (ix2 r d) : EReal) = X.ff (ρ r) d)
  (hp : ∀ d, (p (ix2 0 d) : EReal) = X.mod 5 d)
  (hg : ∀ d, (g (ix2 0 d) : EReal) = X.gl d)
  (hy : ∀ r d, (y (ix2 r d) : EReal) = X.y (ρ r) d)

include hx ha hp in
theorem z_real (r : Fin 512) (d : Fin 1024) : k0_pay6 a x p (ix2 r d) = X.z (ρ r) d := by
  rw [pay6_apply, ha, hx, hp]
  rfl

include hx ha hp in
theorem root_real (r : Fin 512) (z : Fin 1) : k0_pay7 a x p (ix2 r z) = rinv (X.z (ρ r)) := by
  rw [pay7_apply]
  simp only [z_real X ρ hx ha hp]
  exact inv_real (X.z (ρ r))

include hx ha hp in
theorem xh_real (r : Fin 512) (d : Fin 1024) : k0_pay8 a x p (ix2 r d) = X.xh (ρ r) d := by
  rw [pay8_apply, z_real X ρ hx ha hp, root_real X ρ hx ha hp]
  rfl

include hx ha hp hg hy in
theorem err_real (r : Fin 512) (d : Fin 1024) : k0_pay9 a x p g y (ix2 r d) = X.err (ρ r) d := by
  rw [pay9_apply, xh_real X ρ hx ha hp, hg, hy]
  rfl

include hx ha hp hg hy in
theorem dy_real (r : Fin 512) (d : Fin 1024) : k0_pay10 a x p g y (ix2 r d) = X.dy (ρ r) d := by
  rw [pay10_apply, err_real X ρ hx ha hp hg hy, fraction_word]
  rfl

include hx ha hp hg hy in
theorem dx_real (r : Fin 512) (d : Fin 1024) : k0_pay11 a x p g y g (ix2 r d) = X.dx (ρ r) d := by
  rw [pay11_apply, count_word]
  simp only [root_real X ρ hx ha hp, xh_real X ρ hx ha hp, dy_real X ρ hx ha hp hg hy, hg]
  rfl

variable (τ : Fin 1024 → EReal) (ht : ∀ d, (t (ix2 0 d) : EReal) = τ d)

include hx ha hp hg hy ht in
theorem weight_real (d : Fin 1024) :
    k0_pay3 (k0_pay8 a x p) (k0_pay10 a x p g y) t (ix2 0 d) = τ d + ∑ r, X.weight (ρ r) d := by
  rw [pay3_apply, ht]
  simp only [dy_real X ρ hx ha hp hg hy, xh_real X ρ hx ha hp]
  rfl

include hx ha hp hg hy ht in
theorem scale_real (d : Fin 1024) : k0_pay4 a (k0_pay11 a x p g y g) t (ix2 0 d) = τ d + ∑ r, X.scale (ρ r) d := by
  rw [pay4_apply, ht]
  simp only [dx_real X ρ hx ha hp hg hy, ha]
  rfl

include hx ha hp hg hy ht in
theorem loss_real (d : Fin 1024) :
    k0_pay5 (k0_pay9 a x p g y) (k0_pay10 a x p g y) t (ix2 0 d) = τ d + ∑ r, X.loss (ρ r) := by
  rw [pay5_apply, ht, half_word]
  simp only [err_real X ρ hx ha hp hg hy, dy_real X ρ hx ha hp hg hy]
  rw [pull _ _ (by norm_num)]
  rfl

end

/-! ### The loads -/

section
variable {e : EltTy}

theorem ld_chunk (x : Vec Ideal S4x704x1024 e) (i : grid0.Coords) (j : Fin 4) (h : k0_off1 i = ![j.val, 0, 0]) (f : Fin 704) (d : Fin 1024) :
    View.ld x (chunk i) (ix3 0 f d) = x (ix3 j f d) :=
  View.ld_unit_apply_of x _ _ _ _ _ fun a => match a with
    | ⟨0, _⟩ => (congrFun h 0).symm
    | ⟨1, _⟩ => ((congrArg (· + f.val) (congrFun h 1)).trans (Nat.zero_add _)).symm
    | ⟨2, _⟩ => ((congrArg (· + d.val) (congrFun h 2)).trans (Nat.zero_add _)).symm

theorem ld_shift (x : Vec Ideal S6x1024 e) (d : Fin 1024) : View.ld x shiftRow (ix2 0 d) = x (ix2 3 d) :=
  View.ld_unit_apply_of x _ _ _ _ _ fun a => match a with
    | ⟨0, _⟩ => rfl
    | ⟨1, _⟩ => (Nat.zero_add _).symm

theorem ld_scale (x : Vec Ideal S6x1024 e) (d : Fin 1024) : View.ld x scaleRow (ix2 0 d) = x (ix2 4 d) :=
  View.ld_unit_apply_of x _ _ _ _ _ fun a => match a with
    | ⟨0, _⟩ => rfl
    | ⟨1, _⟩ => (Nat.zero_add _).symm

theorem ld_gate (x : Vec Ideal S6x1024 e) (d : Fin 1024) : View.ld x gateRow (ix2 0 d) = x (ix2 5 d) :=
  View.ld_unit_apply_of x _ _ _ _ _ fun a => match a with
    | ⟨0, _⟩ => rfl
    | ⟨1, _⟩ => (Nat.zero_add _).symm

theorem ld_row0 (x : Vec Ideal S8x1024 e) (d : Fin 1024) : View.ld x row0 (ix2 0 d) = x (ix2 0 d) :=
  View.ld_unit_apply_of x _ _ _ _ _ fun a => match a with
    | ⟨0, _⟩ => rfl
    | ⟨1, _⟩ => (Nat.zero_add _).symm

theorem ld_row1 (x : Vec Ideal S8x1024 e) (d : Fin 1024) : View.ld x row1 (ix2 0 d) = x (ix2 1 d) :=
  View.ld_unit_apply_of x _ _ _ _ _ fun a => match a with
    | ⟨0, _⟩ => rfl
    | ⟨1, _⟩ => (Nat.zero_add _).symm

theorem ld_row2 (x : Vec Ideal S8x1024 e) (d : Fin 1024) : View.ld x row2 (ix2 0 d) = x (ix2 2 d) :=
  View.ld_unit_apply_of x _ _ _ _ _ fun a => match a with
    | ⟨0, _⟩ => rfl
    | ⟨1, _⟩ => (Nat.zero_add _).symm

end

/-! ### A point -/

/-- What a point of block of rows `b` and chunk `j` reads is of the entries `X`. -/
structure Holds (X : Nums) (b : Fin 8) (j : Fin 4) (i : grid0.Coords) (u : Inp Ideal) : Prop where
  off : k0_off1 i = ![j.val, 0, 0]
  x : ∀ r d, (u.x (ix2 r d) : EReal) = X.x (rowOf b r) d
  mod : ∀ k d, (u.mod (ix2 k d) : EReal) = X.mod k d
  gf : ∀ d, (u.gf (ix2 0 d) : EReal) = X.gf d
  gl : ∀ d, (u.gl (ix2 0 d) : EReal) = X.gl d
  y : ∀ r d, (u.y (ix2 r d) : EReal) = X.y (rowOf b r) d
  wg : ∀ j f d, (u.wg (ix3 j f d) : EReal) = X.wg j f d
  wu : ∀ j f d, (u.wu (ix3 j f d) : EReal) = X.wu j f d
  wd : ∀ j f d, (u.wd (ix3 j f d) : EReal) = X.wd j f d

namespace Holds
variable {X : Nums} {b : Fin 8} {j : Fin 4} {i : grid0.Coords} {u : Inp Ideal} (H : Holds X b j i u)
include H

theorem chunk_g (f : Fin 704) (d : Fin 1024) : (View.ld u.wg (chunk i) (ix3 0 f d) : EReal) = X.wg j f d :=
  (ld_chunk u.wg i j H.off f d).trans (H.wg j f d)

theorem chunk_u (f : Fin 704) (d : Fin 1024) : (View.ld u.wu (chunk i) (ix3 0 f d) : EReal) = X.wu j f d :=
  (ld_chunk u.wu i j H.off f d).trans (H.wu j f d)

theorem chunk_d (f : Fin 704) (d : Fin 1024) : (View.ld u.wd (chunk i) (ix3 0 f d) : EReal) = X.wd j f d :=
  (ld_chunk u.wd i j H.off f d).trans (H.wd j f d)

theorem row_5 (d : Fin 1024) : (View.ld u.mod gateRow (ix2 0 d) : EReal) = X.mod 5 d :=
  (ld_gate u.mod d).trans (H.mod 5 d)

theorem hid_at (r : Fin 512) (d : Fin 1024) : (u.hid (ix2 r d) : EReal) = X.h (rowOf b r) d :=
  h_real X (rowOf b) H.x H.gf (fun d => (ld_scale u.mod d).trans (H.mod 4 d)) (fun d => (ld_shift u.mod d).trans (H.mod 3 d)) r d

section
variable {h : Vec Ideal S512x1024 .bf16} (hh : ∀ r d, (h (ix2 r d) : EReal) = X.h (rowOf b r) d)
include hh

theorem gateBlk_at (o : Fin 1) (r : Fin 512) (f : Fin 704) : (u.gateBlk i h (ix3 o r f) : EReal) = X.gate j (rowOf b r) f :=
  (pay18_apply h _ r f o).trans (gate_real X j (rowOf b) hh H.chunk_g r f)

theorem upBlk_at (o : Fin 1) (r : Fin 512) (f : Fin 704) : (u.upBlk i h (ix3 o r f) : EReal) = X.up j (rowOf b r) f :=
  (pay19_apply h _ r f o).trans (up_real X j (rowOf b) hh H.chunk_u r f)

theorem actBlk_at (o : Fin 1) (r : Fin 512) (f : Fin 704) : (u.actBlk i h (ix3 o r f) : EReal) = X.act j (rowOf b r) f :=
  (pay21_apply h _ _ r f o).trans (act_real X j (rowOf b) hh H.chunk_g H.chunk_u r f)

theorem accBlk_at {a : Vec Ideal S512x1024 .f32} (β : Fin 512 → Fin 1024 → EReal) (ha : ∀ r d, (a (ix2 r d) : EReal) = β r d)
    (r : Fin 512) (d : Fin 1024) : (u.accBlk i h a (ix2 r d) : EReal) = β r d + X.part j (rowOf b r) d :=
  acc_real X j (rowOf b) β (act_real X j (rowOf b) hh H.chunk_g H.chunk_u) ha H.chunk_d r d

end

variable {a : Vec Ideal S512x1024 .f32} (ha : ∀ r d, (a (ix2 r d) : EReal) = X.ff (rowOf b r) d)
include ha

theorem dx_at (r : Fin 512) (d : Fin 1024) : (u.dx a (ix2 r d) : EReal) = X.dx (rowOf b r) d :=
  (pay12_apply a u.x u.y _ u.gl u.gl r d).trans (dx_real X (rowOf b) H.x ha H.row_5 H.gl H.y r d)

theorem dff_at (r : Fin 512) (d : Fin 1024) : (u.dff a (ix2 r d) : EReal) = X.dff (rowOf b r) d := by
  refine (pay2_apply _ _ r d).trans ?_
  rw [dx_real X (rowOf b) H.x ha H.row_5 H.gl H.y, H.row_5]
  rfl

theorem sums_at {s : Vec Ideal S8x1024 .f32} (σ : Fin 8 → Fin 1024 → EReal) (hs : ∀ k d, (s (ix2 k d) : EReal) = σ k d)
    (k : Fin 8) (d : Fin 1024) : (u.sums a s (ix2 k d) : EReal) = σ k d + ∑ r, X.summand k (rowOf b r) d := by
  match k with
  | ⟨0, _⟩ => exact weight_real X (rowOf b) H.x ha H.row_5 H.gl H.y (σ 0) (fun d => (ld_row0 s d).trans (hs 0 d)) d
  | ⟨1, _⟩ => exact scale_real X (rowOf b) H.x ha H.row_5 H.gl H.y (σ 1) (fun d => (ld_row1 s d).trans (hs 1 d)) d
  | ⟨2, _⟩ => exact loss_real X (rowOf b) H.x ha H.row_5 H.gl H.y (σ 2) (fun d => (ld_row2 s d).trans (hs 2 d)) d
  | ⟨n + 3, hn⟩ =>
    refine (hs ⟨n + 3, hn⟩ d).trans ?_
    rw [Finset.sum_eq_zero fun r _ => X.summand_rest ⟨n + 3, hn⟩ (Nat.le_add_left 3 n) _ d, add_zero]

end Holds

end Cert.Fwd

end
-- ==== Proof.FwdLaunch.lean ====
/- The FFN's forward call: what its points read of the arguments, what they leave, and the seven result arrays. -/
module

public import proofs.«01_k».proof.Proof.FwdRun
public import proofs.«01_k».proof.Proof.FwdAt
public import Idealize.ShloMosaic.Lib.Pipeline.ValueKit

@[expose] public section

noncomputable section

namespace Cert.Fwd

open Idealize.ShloMosaic Idealize.ShloMosaic.TcCoe Idealize.SL.Sem
open Cert.FfnForwardIdeal Cert.FfnForwardIdeal.Gen
open Cert.Ffn (rowOf)

variable (m : (ℓ : Loc nD τ sig) → Buf (Elt Ideal) ℓ) (c : Dev nD)

/-! ### The arguments -/
def arg0 : FVec Ideal S4096x1024 .f32 := m ((c : Thread nD τ).loc main_arg0)
def arg1 : FVec Ideal S6x1024 .f32 := m ((c : Thread nD τ).loc main_arg1)
def arg2 : FVec Ideal S1x1024 .f32 := m ((c : Thread nD τ).loc main_arg2)
def arg3 : FVec Ideal S1x1024 .f32 := m ((c : Thread nD τ).loc main_arg3)
def arg4 : FVec Ideal S4096x1024 .f32 := m ((c : Thread nD τ).loc main_arg4)
def arg5 : FVec Ideal S4x704x1024 .f32 := m ((c : Thread nD τ).loc main_arg5)
def arg6 : FVec Ideal S4x704x1024 .f32 := m ((c : Thread nD τ).loc main_arg6)
def arg7 : FVec Ideal S4x704x1024 .f32 := m ((c : Thread nD τ).loc main_arg7)

/-- The arguments have the entries `X`. -/
structure Given (X : Nums) : Prop where
  a0 : ∀ s d, (arg0 m c (ix2 s d) : EReal) = X.x s d
  a1 : ∀ k d, (arg1 m c (ix2 k d) : EReal) = X.mod k d
  a2 : ∀ d, (arg2 m c (ix2 0 d) : EReal) = X.gf d
  a3 : ∀ d, (arg3 m c (ix2 0 d) : EReal) = X.gl d
  a4 : ∀ s d, (arg4 m c (ix2 s d) : EReal) = X.y s d
  a5 : ∀ j f d, (arg5 m c (ix3 j f d) : EReal) = X.wg j f d
  a6 : ∀ j f d, (arg6 m c (ix3 j f d) : EReal) = X.wu j f d
  a7 : ∀ j f d, (arg7 m c (ix3 j f d) : EReal) = X.wd j f d

/-! ### The windows' arrays -/

theorem V_0 : V m c main_arg0 = arg0 m c := by
  simp only [V, hostOps0]
  after_results_simp <;> rfl

theorem V_1 : V m c main_arg1 = arg1 m c := by
  simp only [V, hostOps0]
  after_results_simp <;> rfl

theorem V_2 : V m c main_arg2 = arg2 m c := by
  simp only [V, hostOps0]
  after_results_simp <;> rfl

theorem V_3 : V m c main_arg3 = arg3 m c := by
  simp only [V, hostOps0]
  after_results_simp <;> rfl

theorem V_4 : V m c main_arg4 = arg4 m c := by
  simp only [V, hostOps0]
  after_results_simp <;> rfl

theorem V_5 : V m c main_v0 = (truncf (F := Ideal) .bf16 (arg5 m c) bitsLt_bf16_f32 : FVec Ideal S4x704x1024 .bf16) := by
  simp only [V, hostOps0]
  after_results_simp <;> rfl

theorem V_6 : V m c main_v1 = (truncf (F := Ideal) .bf16 (arg6 m c) bitsLt_bf16_f32 : FVec Ideal S4x704x1024 .bf16) := by
  simp only [V, hostOps0]
  after_results_simp <;> rfl

theorem V_7 : V m c main_v2 = (truncf (F := Ideal) .bf16 (arg7 m c) bitsLt_bf16_f32 : FVec Ideal S4x704x1024 .bf16) := by
  simp only [V, hostOps0]
  after_results_simp <;> rfl

/-- The block of rows and the chunk that a point is of. -/
def row (t : Fin cfg0.N) : Fin 8 := ⟨t.val / 4, Nat.div_lt_of_lt_mul (lt32 t)⟩
def col (t : Fin cfg0.N) : Fin 4 := ⟨t.val % 4, Nat.mod_lt _ (by decide)⟩

theorem chunk_off : ∀ t : Fin cfg0.N, k0_off1 (grid0.coords t) = ![(col t).val, 0, 0] := by decide +kernel

theorem index_0 : ∀ t : Fin cfg0.N, win0_0.index t = ![t.val / 4, 0] := by decide +kernel
theorem index_1 : ∀ t : Fin cfg0.N, win0_1.index t = ![0, 0] := by decide +kernel
theorem index_2 : ∀ t : Fin cfg0.N, win0_2.index t = ![0, 0] := by decide +kernel
theorem index_3 : ∀ t : Fin cfg0.N, win0_3.index t = ![0, 0] := by decide +kernel
theorem index_4 : ∀ t : Fin cfg0.N, win0_4.index t = ![t.val / 4, 0] := by decide +kernel
theorem index_5 : ∀ t : Fin cfg0.N, win0_5.index t = ![0, 0, 0] := by decide +kernel
theorem index_6 : ∀ t : Fin cfg0.N, win0_6.index t = ![0, 0, 0] := by decide +kernel
theorem index_7 : ∀ t : Fin cfg0.N, win0_7.index t = ![0, 0, 0] := by decide +kernel
theorem index_8 : ∀ t : Fin cfg0.N, win0_8.index t = ![t.val % 4, t.val / 4, 0] := by decide +kernel
theorem index_9 : ∀ t : Fin cfg0.N, win0_9.index t = ![t.val % 4, t.val / 4, 0] := by decide +kernel
theorem index_10 : ∀ t : Fin cfg0.N, win0_10.index t = ![t.val % 4, t.val / 4, 0] := by decide +kernel
theorem index_11 : ∀ t : Fin cfg0.N, win0_11.index t = ![t.val / 4, 0] := by decide +kernel
theorem index_12 : ∀ t : Fin cfg0.N, win0_12.index t = ![t.val / 4, 0] := by decide +kernel
theorem index_13 : ∀ t : Fin cfg0.N, win0_13.index t = ![t.val / 4, 0] := by decide +kernel
theorem index_14 : ∀ t : Fin cfg0.N, win0_14.index t = ![0, 0] := by decide +kernel

theorem emb_0 (t : Fin cfg0.N) (r : Fin 512) (d : Fin 1024) : (win0_0.blk t).view.emb (ix2 r d) = ix2 (rowOf (row t) r) d := by
  blk_ext [index_0, row, rowOf]

theorem emb_1 (t : Fin cfg0.N) (k : Fin 6) (d : Fin 1024) : (win0_1.blk t).view.emb (ix2 k d) = ix2 k d := by
  blk_ext [index_1]

theorem emb_2 (t : Fin cfg0.N) (k : Fin 1) (d : Fin 1024) : (win0_2.blk t).view.emb (ix2 k d) = ix2 k d := by
  blk_ext [index_2]

theorem emb_3 (t : Fin cfg0.N) (k : Fin 1) (d : Fin 1024) : (win0_3.blk t).view.emb (ix2 k d) = ix2 k d := by
  blk_ext [index_3]

theorem emb_4 (t : Fin cfg0.N) (r : Fin 512) (d : Fin 1024) : (win0_4.blk t).view.emb (ix2 r d) = ix2 (rowOf (row t) r) d := by
  blk_ext [index_4, row, rowOf]

theorem emb_5 (t : Fin cfg0.N) (j : Fin 4) (f : Fin 704) (d : Fin 1024) : (win0_5.blk t).view.emb (ix3 j f d) = ix3 j f d := by
  blk_ext [index_5]

theorem emb_6 (t : Fin cfg0.N) (j : Fin 4) (f : Fin 704) (d : Fin 1024) : (win0_6.blk t).view.emb (ix3 j f d) = ix3 j f d := by
  blk_ext [index_6]

theorem emb_7 (t : Fin cfg0.N) (j : Fin 4) (f : Fin 704) (d : Fin 1024) : (win0_7.blk t).view.emb (ix3 j f d) = ix3 j f d := by
  blk_ext [index_7]

theorem emb_8 (t : Fin cfg0.N) (o : Fin 1) (r : Fin 512) (f : Fin 704) : (win0_8.blk t).view.emb (ix3 o r f) = ix3 (col t) (rowOf (row t) r) f := by
  have := o.isLt
  blk_ext [index_8, row, col, rowOf]

theorem emb_9 (t : Fin cfg0.N) (o : Fin 1) (r : Fin 512) (f : Fin 704) : (win0_9.blk t).view.emb (ix3 o r f) = ix3 (col t) (rowOf (row t) r) f := by
  have := o.isLt
  blk_ext [index_9, row, col, rowOf]

theorem emb_10 (t : Fin cfg0.N) (o : Fin 1) (r : Fin 512) (f : Fin 704) : (win0_10.blk t).view.emb (ix3 o r f) = ix3 (col t) (rowOf (row t) r) f := by
  have := o.isLt
  blk_ext [index_10, row, col, rowOf]

theorem emb_11 (t : Fin cfg0.N) (r : Fin 512) (d : Fin 1024) : (win0_11.blk t).view.emb (ix2 r d) = ix2 (rowOf (row t) r) d := by
  blk_ext [index_11, row, rowOf]

theorem emb_12 (t : Fin cfg0.N) (r : Fin 512) (d : Fin 1024) : (win0_12.blk t).view.emb (ix2 r d) = ix2 (rowOf (row t) r) d := by
  blk_ext [index_12, row, rowOf]

theorem emb_13 (t : Fin cfg0.N) (r : Fin 512) (d : Fin 1024) : (win0_13.blk t).view.emb (ix2 r d) = ix2 (rowOf (row t) r) d := by
  blk_ext [index_13, row, rowOf]

theorem emb_14 (t : Fin cfg0.N) (k : Fin 8) (d : Fin 1024) : (win0_14.blk t).view.emb (ix2 k d) = ix2 k d := by
  blk_ext [index_14]

/-! ### What a point loads -/

theorem view_0 (G : Buf (Elt Ideal) ((c : Thread nD τ).loc main_arg0)) (t : Fin cfg0.N) (r : Fin 512) (d : Fin 1024) :
    ((cfg0.win 0).blk t).view.read (Elt Ideal) G (ix2 r d) = G (ix2 (rowOf (row t) r) d) :=
  congrArg G (emb_0 t r d)

theorem read_0 (t : Fin cfg0.N) (r : Fin 512) (d : Fin 1024) : iblk m c 0 t (ix2 r d) = arg0 m c (ix2 (rowOf (row t) r) d) :=
  (view_0 c (V m c main_arg0) t r d).trans (congrFun (V_0 m c) _)

theorem view_1 (G : Buf (Elt Ideal) ((c : Thread nD τ).loc main_arg1)) (t : Fin cfg0.N) (k : Fin 6) (d : Fin 1024) :
    ((cfg0.win 1).blk t).view.read (Elt Ideal) G (ix2 k d) = G (ix2 k d) :=
  congrArg G (emb_1 t k d)

theorem read_1 (t : Fin cfg0.N) (k : Fin 6) (d : Fin 1024) : iblk m c 1 t (ix2 k d) = arg1 m c (ix2 k d) :=
  (view_1 c (V m c main_arg1) t k d).trans (congrFun (V_1 m c) _)

theorem view_2 (G : Buf (Elt Ideal) ((c : Thread nD τ).loc main_arg2)) (t : Fin cfg0.N) (k : Fin 1) (d : Fin 1024) :
    ((cfg0.win 2).blk t).view.read (Elt Ideal) G (ix2 k d) = G (ix2 k d) :=
  congrArg G (emb_2 t k d)

theorem read_2 (t : Fin cfg0.N) (k : Fin 1) (d : Fin 1024) : iblk m c 2 t (ix2 k d) = arg2 m c (ix2 k d) :=
  (view_2 c (V m c main_arg2) t k d).trans (congrFun (V_2 m c) _)

theorem view_3 (G : Buf (Elt Ideal) ((c : Thread nD τ).loc main_arg3)) (t : Fin cfg0.N) (k : Fin 1) (d : Fin 1024) :
    ((cfg0.win 3).blk t).view.read (Elt Ideal) G (ix2 k d) = G (ix2 k d) :=
  congrArg G (emb_3 t k d)

theorem read_3 (t : Fin cfg0.N) (k : Fin 1) (d : Fin 1024) : iblk m c 3 t (ix2 k d) = arg3 m c (ix2 k d) :=
  (view_3 c (V m c main_arg3) t k d).trans (congrFun (V_3 m c) _)

theorem view_4 (G : Buf (Elt Ideal) ((c : Thread nD τ).loc main_arg4)) (t : Fin cfg0.N) (r : Fin 512) (d : Fin 1024) :
    ((cfg0.win 4).blk t).view.read (Elt Ideal) G (ix2 r d) = G (ix2 (rowOf (row t) r) d) :=
  congrArg G (emb_4 t r d)

theorem read_4 (t : Fin cfg0.N) (r : Fin 512) (d : Fin 1024) : iblk m c 4 t (ix2 r d) = arg4 m c (ix2 (rowOf (row t) r) d) :=
  (view_4 c (V m c main_arg4) t r d).trans (congrFun (V_4 m c) _)

theorem view_5 (G : Buf (Elt Ideal) ((c : Thread nD τ).loc main_v0)) (t : Fin cfg0.N) (j : Fin 4) (f : Fin 704) (d : Fin 1024) :
    ((cfg0.win 5).blk t).view.read (Elt Ideal) G (ix3 j f d) = G (ix3 j f d) :=
  congrArg G (emb_5 t j f d)

theorem read_5 (t : Fin cfg0.N) (j : Fin 4) (f : Fin 704) (d : Fin 1024) : iblk m c 5 t (ix3 j f d) = arg5 m c (ix3 j f d) :=
  (view_5 c (V m c main_v0) t j f d).trans (congrFun (V_5 m c) _)

theorem view_6 (G : Buf (Elt Ideal) ((c : Thread nD τ).loc main_v1)) (t : Fin cfg0.N) (j : Fin 4) (f : Fin 704) (d : Fin 1024) :
    ((cfg0.win 6).blk t).view.read (Elt Ideal) G (ix3 j f d) = G (ix3 j f d) :=
  congrArg G (emb_6 t j f d)

theorem read_6 (t : Fin cfg0.N) (j : Fin 4) (f : Fin 704) (d : Fin 1024) : iblk m c 6 t (ix3 j f d) = arg6 m c (ix3 j f d) :=
  (view_6 c (V m c main_v1) t j f d).trans (congrFun (V_6 m c) _)

theorem view_7 (G : Buf (Elt Ideal) ((c : Thread nD τ).loc main_v2)) (t : Fin cfg0.N) (j : Fin 4) (f : Fin 704) (d : Fin 1024) :
    ((cfg0.win 7).blk t).view.read (Elt Ideal) G (ix3 j f d) = G (ix3 j f d) :=
  congrArg G (emb_7 t j f d)

theorem read_7 (t : Fin cfg0.N) (j : Fin 4) (f : Fin 704) (d : Fin 1024) : iblk m c 7 t (ix3 j f d) = arg7 m c (ix3 j f d) :=
  (view_7 c (V m c main_v2) t j f d).trans (congrFun (V_7 m c) _)

variable {m c} {X : Nums} (hX : Given m c X)
include hX

theorem holds (t : Fin cfg0.N) : Holds X (row t) (col t) (grid0.coords t) (inp m c t) where
  off := chunk_off t
  x := fun r d => (read_0 m c t r d).trans (hX.a0 _ _)
  mod := fun k d => (read_1 m c t k d).trans (hX.a1 _ _)
  gf := fun d => (read_2 m c t 0 d).trans (hX.a2 _)
  gl := fun d => (read_3 m c t 0 d).trans (hX.a3 _)
  y := fun r d => (read_4 m c t r d).trans (hX.a4 _ _)
  wg := fun j f d => (read_5 m c t j f d).trans (hX.a5 _ _ _)
  wu := fun j f d => (read_6 m c t j f d).trans (hX.a6 _ _ _)
  wd := fun j f d => (read_7 m c t j f d).trans (hX.a7 _ _ _)

/-! ### What is carried -/

omit hX in
/-- The rows of the block, the chunks so far of its block of rows, and the sums over the blocks of rows that are done. -/
structure Left (X : Nums) (t : Fin cfg0.N) (k : Carry Ideal) : Prop where
  h : ∀ r d, (k.h (ix2 r d) : EReal) = X.h (rowOf (row t) r) d
  a : ∀ r d, (k.a (ix2 r d) : EReal) = sumTo (fun j => X.part j (rowOf (row t) r) d) (t.val % 4 + 1)
  s : ∀ k' d, (k.s (ix2 k' d) : EReal) = sumTo (fun s => X.summand k' s d) (512 * ((t.val + 1) / 4))

theorem acc_step (t : Fin cfg0.N) {h : Vec Ideal S512x1024 .bf16} (hh : ∀ r d, (h (ix2 r d) : EReal) = X.h (rowOf (row t) r) d)
    {a : Vec Ideal S512x1024 .f32} (ha : ∀ r d, (a (ix2 r d) : EReal) = sumTo (fun j => X.part j (rowOf (row t) r) d) (t.val % 4))
    (r : Fin 512) (d : Fin 1024) :
    ((inp m c t).accBlk (grid0.coords t) h a (ix2 r d) : EReal)
      = sumTo (fun j => X.part j (rowOf (row t) r) d) (t.val % 4 + 1) := by
  rw [sumTo_succ (fun j => X.part j (rowOf (row t) r) d) (col t) (t.val % 4) rfl]
  exact (holds hX t).accBlk_at hh (fun r d => sumTo (fun j => X.part j (rowOf (row t) r) d) (t.val % 4)) ha r d

omit hX in
theorem whole {t : Fin cfg0.N} (ht : t.val % 4 = 3) {k : Carry Ideal} (L : Left X t k) (r : Fin 512) (d : Fin 1024) :
    (k.a (ix2 r d) : EReal) = X.ff (rowOf (row t) r) d := by
  rw [L.a, ht]
  exact sumTo_all _

/-- The step, of what the rows, the accumulator and the sums were before. -/
theorem left_of (t : Fin cfg0.N)
    (hh : t.val % 4 ≠ 0 → ∀ r d, ((carry m c t.val).h (ix2 r d) : EReal) = X.h (rowOf (row t) r) d)
    (ha : t.val % 4 ≠ 0 → ∀ r d, ((carry m c t.val).a (ix2 r d) : EReal)
      = sumTo (fun j => X.part j (rowOf (row t) r) d) (t.val % 4))
    (hs : ∀ k d, ((carry m c t.val).s (ix2 k d) : EReal) = sumTo (fun s => X.summand k s d) (512 * (t.val / 4))) :
    Left X t (carry m c (t.val + 1)) := by
  have Hh : ∀ r d, ((carry m c (t.val + 1)).h (ix2 r d) : EReal) = X.h (rowOf (row t) r) d := fun r d => by
    rw [carry_h]
    by_cases h0 : t.val % 4 = 0
    · rw [if_pos h0]; exact (holds hX t).hid_at r d
    · rw [if_neg h0]; exact hh h0 r d
  have Ha : ∀ r d, ((carry m c (t.val + 1)).a (ix2 r d) : EReal)
      = sumTo (fun j => X.part j (rowOf (row t) r) d) (t.val % 4 + 1) := by
    rw [carry_a]
    by_cases h0 : t.val % 4 = 0
    · rw [if_pos h0]
      exact acc_step hX t Hh fun r d => by rw [zeroAcc, h0, sumTo_zero]
    · rw [if_neg h0]
      exact acc_step hX t Hh (ha h0)
  refine ⟨Hh, Ha, fun k d => ?_⟩
  rw [carry_s]
  by_cases h3 : t.val % 4 = 3
  · have e : (t.val + 1) / 4 = t.val / 4 + 1 := by omega
    rw [if_pos h3, e, sumTo_block (fun s => X.summand k s d) (row t) (t.val / 4) rfl]
    refine (holds hX t).sums_at (fun r d => ?_) (fun k d => sumTo (fun s => X.summand k s d) (512 * (t.val / 4))) hs k d
    rw [Ha, h3]
    exact sumTo_all _
  · have e : (t.val + 1) / 4 = t.val / 4 := by omega
    rw [if_neg h3, e]
    by_cases h0 : t.val = 0
    · rw [if_pos h0, zeroSums, h0, show 512 * (0 / 4) = 0 from rfl, sumTo_zero]
    · rw [if_neg h0]; exact hs k d

theorem left : ∀ (n : ℕ) (hn : n < cfg0.N), Left X ⟨n, hn⟩ (carry m c (n + 1)) := by
  intro n
  induction n with
  | zero =>
    intro hn
    refine left_of hX ⟨0, hn⟩ (fun h => absurd rfl h) (fun h => absurd rfl h) fun k d => ?_
    show (k0_pay13 (F := Ideal) (ix2 k d) : EReal) = sumTo (fun s => X.summand k s d) (512 * (0 / 4))
    rw [zeroSums, show 512 * (0 / 4) = 0 from rfl, sumTo_zero]
  | succ n ih =>
    intro hn
    have L := ih (Nat.lt_of_succ_lt hn)
    have e : (n + 1) % 4 ≠ 0 → row ⟨n, Nat.lt_of_succ_lt hn⟩ = row ⟨n + 1, hn⟩ := fun h => Fin.ext (by show n / 4 = (n + 1) / 4; omega)
    refine left_of hX ⟨n + 1, hn⟩ (fun h r d => ?_) (fun h r d => ?_) fun k d => L.s k d
    · rw [← e h]
      exact L.h r d
    · have e' : n % 4 + 1 = (n + 1) % 4 := by have h' : (n + 1) % 4 ≠ 0 := h; omega
      show ((carry m c (n + 1)).a (ix2 r d) : EReal) = sumTo (fun j => X.part j (rowOf (row ⟨n + 1, hn⟩) r) d) ((n + 1) % 4)
      rw [← e h, ← e']
      exact L.a r d

/-! ### The arrays -/

theorem arr_8 : (dats m 0 c).arrAt 8 cfg0.N = outGate X := by
  refine (dats m 0 c).arrAt_eq_of_covers 8 _ (by decide +kernel) fun t hf y => ?_
  show (dats m 0 c).after 8 t y = outGate X ((win0_8.blk t).view.emb y)
  rw [after_8]
  have e : ∀ (o : Fin 1) (r : Fin 512) (f : Fin 704), (inp m c t).gateBlk (grid0.coords t) (carry m c (t.val + 1)).h (ix3 o r f) = outGate X ((win0_8.blk t).view.emb (ix3 o r f)) := by
    intro o r f
    rw [emb_8]
    exact (holds hX t).gateBlk_at (left hX t.val t.isLt).h o r f
  rw [eq_ix3 y]
  exact e (y 0) (y 1) (y 2)

theorem arr_9 : (dats m 0 c).arrAt 9 cfg0.N = outUp X := by
  refine (dats m 0 c).arrAt_eq_of_covers 9 _ (by decide +kernel) fun t hf y => ?_
  show (dats m 0 c).after 9 t y = outUp X ((win0_9.blk t).view.emb y)
  rw [after_9]
  have e : ∀ (o : Fin 1) (r : Fin 512) (f : Fin 704), (inp m c t).upBlk (grid0.coords t) (carry m c (t.val + 1)).h (ix3 o r f) = outUp X ((win0_9.blk t).view.emb (ix3 o r f)) := by
    intro o r f
    rw [emb_9]
    exact (holds hX t).upBlk_at (left hX t.val t.isLt).h o r f
  rw [eq_ix3 y]
  exact e (y 0) (y 1) (y 2)

theorem arr_10 : (dats m 0 c).arrAt 10 cfg0.N = outAct X := by
  refine (dats m 0 c).arrAt_eq_of_covers 10 _ (by decide +kernel) fun t hf y => ?_
  show (dats m 0 c).after 10 t y = outAct X ((win0_10.blk t).view.emb y)
  rw [after_10]
  have e : ∀ (o : Fin 1) (r : Fin 512) (f : Fin 704), (inp m c t).actBlk (grid0.coords t) (carry m c (t.val + 1)).h (ix3 o r f) = outAct X ((win0_10.blk t).view.emb (ix3 o r f)) := by
    intro o r f
    rw [emb_10]
    exact (holds hX t).actBlk_at (left hX t.val t.isLt).h o r f
  rw [eq_ix3 y]
  exact e (y 0) (y 1) (y 2)

theorem arr_11 : (dats m 0 c).arrAt 11 cfg0.N = outH X := by
  refine (dats m 0 c).arrAt_eq_of_covers 11 _ (by decide +kernel) fun t hf y => ?_
  show (dats m 0 c).after 11 t y = outH X ((win0_11.blk t).view.emb y)
  rw [after_11]
  have e : ∀ (r : Fin 512) (d : Fin 1024), (carry m c (t.val + 1)).h (ix2 r d) = outH X ((win0_11.blk t).view.emb (ix2 r d)) := by
    intro r d
    rw [emb_11]
    exact (left hX t.val t.isLt).h r d
  rw [eq_ix2 y]
  exact e (y 0) (y 1)

theorem arr_12 : (dats m 0 c).arrAt 12 cfg0.N = outDff X := by
  refine (dats m 0 c).arrAt_eq_of_covers 12 _ (by decide +kernel) fun t hf y => ?_
  show (dats m 0 c).after 12 t y = outDff X ((win0_12.blk t).view.emb y)
  rw [after_12]
  have e : ∀ (r : Fin 512) (d : Fin 1024), (inp m c t).dff (carry m c (t.val + 1)).a (ix2 r d) = outDff X ((win0_12.blk t).view.emb (ix2 r d)) := by
    intro r d
    rw [emb_12]
    exact (holds hX t).dff_at (whole (of_decide_eq_true ((flush_12 t).symm.trans hf)) (left hX t.val t.isLt)) r d
  rw [eq_ix2 y]
  exact e (y 0) (y 1)

theorem arr_13 : (dats m 0 c).arrAt 13 cfg0.N = outDx X := by
  refine (dats m 0 c).arrAt_eq_of_covers 13 _ (by decide +kernel) fun t hf y => ?_
  show (dats m 0 c).after 13 t y = outDx X ((win0_13.blk t).view.emb y)
  rw [after_13]
  have e : ∀ (r : Fin 512) (d : Fin 1024), (inp m c t).dx (carry m c (t.val + 1)).a (ix2 r d) = outDx X ((win0_13.blk t).view.emb (ix2 r d)) := by
    intro r d
    rw [emb_13]
    exact (holds hX t).dx_at (whole (of_decide_eq_true ((flush_13 t).symm.trans hf)) (left hX t.val t.isLt)) r d
  rw [eq_ix2 y]
  exact e (y 0) (y 1)

theorem arr_14 : (dats m 0 c).arrAt 14 cfg0.N = outSums X := by
  refine (dats m 0 c).arrAt_eq_of_covers 14 _ (by decide +kernel) fun t hf y => ?_
  show (dats m 0 c).after 14 t y = outSums X ((win0_14.blk t).view.emb y)
  rw [after_14]
  have e : ∀ (k : Fin 8) (d : Fin 1024), (carry m c (t.val + 1)).s (ix2 k d) = outSums X ((win0_14.blk t).view.emb (ix2 k d)) := by
    intro k d
    rw [emb_14]
    refine ((left hX t.val t.isLt).s k d).trans ?_
    rw [of_decide_eq_true ((flush_14 t).symm.trans hf)]
    exact sumTo_all _
  rw [eq_ix2 y]
  exact e (y 0) (y 1)

end Cert.Fwd

end
-- ==== Proof.FwdRef.lean ====
/- What the reference of the FFN's forward call computes. -/
module

public import proofs.«01_k».proof.Proof.FwdNums
public import proofs.«01_k».proof.Proof.Gen.FfnForwardReferenceIdeal.Run
public import proofs.«01_k».proof.Proof.Gen.FfnForwardReferenceIdeal.Read
public import Idealize.ShloMosaic.Lib.TwoAxisContraction
public import Idealize.ShloMosaic.Lib.Pipeline.ValueKit

@[expose] public section

noncomputable section

namespace Cert.Fwd.Ref

open Idealize.ShloMosaic Cert.FfnForwardReferenceIdeal Cert.FfnForwardReferenceIdeal.Gen Cert.FfnForwardReferenceIdeal.Read
open Cert.Ffn (count_word eps_word minus_half_word)

variable (X : Nums)

/-! ### The norm, the modulation and the two projections -/

theorem meanSq_at (s : Fin 4096) (z : Fin 1) : val_main_v6 (F := Ideal) X.xArr (ix2 s z) = meanSq (X.x s) := by
  pointwise [val_main_v6, val_main_v5, val_main_cst_1, val_main_v4, val_main_v3, val_main_cst_0, val_main_v2, val_main_v1, val_main_v0, val_main_cst]
  rw [count_word, eps_word]
  rfl

theorem rinv_at (s : Fin 4096) (z : Fin 1) : val_main_v7 (F := Ideal) X.xArr (ix2 s z) = rinv (X.x s) := by
  rw [val_main_v7_apply, meanSq_at]
  rfl

theorem h_at (s : Fin 4096) (d : Fin 1024) : val_main_v19 (F := Ideal) X.xArr X.modArr X.gfArr (ix2 s d) = X.h s d := by
  pointwise [val_main_v19, val_main_v18, val_main_v17, val_main_v16, val_main_v15, val_main_v14, val_main_v13, val_main_cst_2, val_main_v12, val_main_v11, val_main_v10, val_main_v9, val_main_v8]
  rw [rinv_at]
  show (X.x s d) * _ * (X.gf d) * (1 + (X.mod 4 d)) + (X.mod 3 d) = _
  rfl

theorem gate_at (j : Fin 4) (s : Fin 4096) (f : Fin 704) :
    val_main_v21 (F := Ideal) X.xArr X.modArr X.gfArr X.wgArr (ix3 j s f) = X.gate j s f := by
  pointwise [val_main_v21, val_main_v20]
  rw [Nums.gate]
  refine Finset.sum_congr rfl fun d _ => ?_
  rw [h_at, mul_comm]
  rfl

theorem up_at (j : Fin 4) (s : Fin 4096) (f : Fin 704) :
    val_main_v23 (F := Ideal) X.xArr X.modArr X.gfArr X.wuArr (ix3 j s f) = X.up j s f := by
  pointwise [val_main_v23, val_main_v22]
  rw [Nums.up]
  refine Finset.sum_congr rfl fun d _ => ?_
  rw [h_at, mul_comm]
  rfl

theorem sigmoid_at (j : Fin 4) (s : Fin 4096) (f : Fin 704) :
    val_main_call0_v5 (F := Ideal) X.xArr X.modArr X.gfArr X.wgArr (ix3 j s f) = Ideal.logistic (X.gate j s f) := by
  pointwise [val_main_call0_v5, val_main_call0_v4, val_main_call0_cst_0, val_main_call0_v3, val_main_call0_v2, val_main_call0_cst, val_main_call0_v1, val_main_call0_v0]
  rw [gate_at]
  rfl

theorem act_at (j : Fin 4) (s : Fin 4096) (f : Fin 704) :
    val_main_v25 (F := Ideal) X.xArr X.modArr X.gfArr X.wgArr X.wuArr (ix3 j s f) = X.act j s f := by
  pointwise [val_main_v25, val_main_v24]
  rw [gate_at, sigmoid_at, up_at]
  rfl

/-! ### The FFN's output -/

/-- A product summed over the last axis and over the chunks. -/
theorem dot_at (L : FVec Ideal S4x4096x704 .f32) (R : FVec Ideal S4x704x1024 .f32) (s : Fin 4096) (d : Fin 1024) :
    Host.dotGeneral dot_S4x4096x704_S4x704x1024_S4096x1024_20_10_1_2_n_n none L R (ix2 s d)
      = ∑ f : Fin 704, ∑ j : Fin 4, L (ix3 j s f) * R (ix3 j f d) := by
  simp only [Host.dotGeneral]
  rw [Ideal.dotGeneral_apply, ValueIdx.sum_contr2 dot_S4x4096x704_S4x704x1024_S4096x1024_20_10_1_2_n_n 704 4 rfl rfl rfl]
  refine Finset.sum_congr rfl fun f _ => Finset.sum_congr rfl fun j _ => ?_
  have h0 := ValueIdx.contrEquiv2_symm_val0 dot_S4x4096x704_S4x704x1024_S4096x1024_20_10_1_2_n_n 704 4 rfl rfl rfl (f, j)
  have h1 := ValueIdx.contrEquiv2_symm_val1 dot_S4x4096x704_S4x704x1024_S4096x1024_20_10_1_2_n_n 704 4 rfl rfl rfl (f, j)
  refine congrArg₂ (· * ·) (congrArg L (funext fun a => Fin.ext ?_)) (congrArg R (funext fun a => Fin.ext ?_))
  · match a with
    | ⟨0, _⟩ => exact h1
    | ⟨1, _⟩ => rfl
    | ⟨2, _⟩ => exact h0
  · match a with
    | ⟨0, _⟩ => exact h1
    | ⟨1, _⟩ => exact h0
    | ⟨2, _⟩ => rfl

theorem ff_at (s : Fin 4096) (d : Fin 1024) : val_main_v26 (F := Ideal) X.xArr X.modArr X.gfArr X.wgArr X.wuArr X.wdArr (ix2 s d) = X.ff s d := by
  unfold val_main_v26
  rw [dot_at, Finset.sum_comm, Nums.ff]
  refine Finset.sum_congr rfl fun j _ => ?_
  rw [Nums.part]
  refine Finset.sum_congr rfl fun f _ => ?_
  rw [act_at]
  rfl

theorem z_at (s : Fin 4096) (d : Fin 1024) : val_main_v30 (F := Ideal) X.xArr X.modArr X.gfArr X.wgArr X.wuArr X.wdArr (ix2 s d) = X.z s d := by
  pointwise [val_main_v30, val_main_v29, val_main_v28, val_main_v27]
  rw [ff_at]
  show (X.x s d) + (X.mod 5 d) * _ = _
  rfl

/-! ### The last norm and the error -/

theorem meanSq2_at (s : Fin 4096) (z : Fin 1) : val_main_v37 (F := Ideal) X.xArr X.modArr X.gfArr X.wgArr X.wuArr X.wdArr (ix2 s z) = meanSq (X.z s) := by
  pointwise [val_main_v37, val_main_v36, val_main_cst_5, val_main_v35, val_main_v34, val_main_cst_4, val_main_v33, val_main_v32, val_main_v31, val_main_cst_3]
  simp only [z_at]
  rw [count_word, eps_word]
  rfl

theorem rinv2_at (s : Fin 4096) (z : Fin 1) : val_main_v38 (F := Ideal) X.xArr X.modArr X.gfArr X.wgArr X.wuArr X.wdArr (ix2 s z) = rinv (X.z s) := by
  rw [val_main_v38_apply, meanSq2_at]
  rfl

theorem slope_at (s : Fin 4096) (z : Fin 1) :
    val_main_v41 (F := Ideal) X.xArr X.modArr X.gfArr X.wgArr X.wuArr X.wdArr (ix2 s z) = ((-(1 / 2) : ℝ) : EReal) * Ideal.div (rinv (X.z s)) (meanSq (X.z s)) := by
  pointwise [val_main_v41, val_main_v40, val_main_cst_6, val_main_v39]
  rw [rinv2_at, meanSq2_at, minus_half_word]

theorem xh_at (s : Fin 4096) (d : Fin 1024) : val_main_v43 (F := Ideal) X.xArr X.modArr X.gfArr X.wgArr X.wuArr X.wdArr (ix2 s d) = X.xh s d := by
  pointwise [val_main_v43, val_main_v42]
  rw [z_at, rinv2_at]
  rfl

theorem err_at (s : Fin 4096) (d : Fin 1024) : val_main_v46 (F := Ideal) X.xArr X.modArr X.gfArr X.glArr X.yArr X.wgArr X.wuArr X.wdArr (ix2 s d) = X.err s d := by
  pointwise [val_main_v46, val_main_v45, val_main_v44]
  rw [xh_at]
  show _ * (X.gl d) - (X.y s d) = _
  rfl

theorem dy_at (s : Fin 4096) (d : Fin 1024) : val_main_v60 (F := Ideal) X.xArr X.modArr X.gfArr X.glArr X.yArr X.wgArr X.wuArr X.wdArr (ix2 s d) = X.dy s d := by
  pointwise [val_main_v60, val_main_v59, val_main_v58, val_main_v57, val_main_cst_14, val_main_v56, val_main_v55, val_main_cst_12, val_main_cst_13, val_main_v49, val_main_v48, val_main_cst_7]
  rw [err_at, half_word, count_word, two_word, div_pos_real _ (by norm_num), ← EReal.coe_mul, X.dy_reference]

theorem dn_at (s : Fin 4096) (d : Fin 1024) : val_main_v65 (F := Ideal) X.xArr X.modArr X.gfArr X.glArr X.yArr X.wgArr X.wuArr X.wdArr (ix2 s d) = X.dn s d := by
  pointwise [val_main_v65, val_main_v64]
  rw [dy_at]
  rfl

/-- The row's part of the derivative of the mean square. -/
theorem mean_at (s : Fin 4096) : val_main_v74 (F := Ideal) X.xArr X.modArr X.gfArr X.glArr X.yArr X.wgArr X.wuArr X.wdArr (ix1 s)
    = X.slope s := by
  pointwise [val_main_v74, val_main_cst_18, val_main_v73, val_main_v72, val_main_cst_17, val_main_v71, val_main_v68, val_main_v67, val_main_cst_16, val_main_v66]
  simp only [z_at, dn_at]
  rw [Fin.sum_univ_one, slope_at, count_word]
  rfl

theorem dx_at (s : Fin 4096) (d : Fin 1024) : val_main_v79 (F := Ideal) X.xArr X.modArr X.gfArr X.glArr X.yArr X.wgArr X.wuArr X.wdArr (ix2 s d) = X.dx s d := by
  pointwise [val_main_v79, val_main_v78, val_main_v77, val_main_v76, val_main_v75, val_main_v70, val_main_v69]
  rw [mean_at, dn_at, rinv2_at, z_at]
  exact X.dx_reference s d

theorem dff_at (s : Fin 4096) (d : Fin 1024) : val_main_v81 (F := Ideal) X.xArr X.modArr X.gfArr X.glArr X.yArr X.wgArr X.wuArr X.wdArr (ix2 s d) = X.dff s d := by
  pointwise [val_main_v81, val_main_v80, val_main_v27]
  rw [dx_at]
  show (X.mod 5 d) * _ = _
  rw [Nums.dff, mul_comm]

/-! ### The sums -/

theorem weight_at (z : Fin 1) (d : Fin 1024) : val_main_v63 (F := Ideal) X.xArr X.modArr X.gfArr X.glArr X.yArr X.wgArr X.wuArr X.wdArr (ix2 z d) = ∑ s, X.weight s d := by
  pointwise [val_main_v63, val_main_v62, val_main_cst_15, val_main_v61]
  refine Finset.sum_congr rfl fun s _ => ?_
  rw [xh_at, dy_at, Nums.weight, mul_comm]

theorem scale_at (z : Fin 1) (d : Fin 1024) : val_main_v84 (F := Ideal) X.xArr X.modArr X.gfArr X.glArr X.yArr X.wgArr X.wuArr X.wdArr (ix2 z d) = ∑ s, X.scale s d := by
  pointwise [val_main_v84, val_main_v83, val_main_cst_19, val_main_v82]
  refine Finset.sum_congr rfl fun s _ => ?_
  rw [dx_at, ff_at]
  rfl

theorem loss_at (z : Fin 1) (d : Fin 1024) : val_main_v90 (F := Ideal) X.xArr X.modArr X.gfArr X.glArr X.yArr X.wgArr X.wuArr X.wdArr (ix2 z d) = ∑ s, X.loss s := by
  pointwise [val_main_v90, val_main_v54, val_main_cst_11, val_main_v53, val_main_cst_10, val_main_v52, val_main_v51, val_main_cst_9, val_main_v50, val_main_cst_8, val_main_v47]
  simp only [err_at]
  rw [half_word, count_word, ← X.loss_reference]

theorem sums_at (k : Fin 8) (d : Fin 1024) : val_main_v92 (F := Ideal) X.xArr X.modArr X.gfArr X.glArr X.yArr X.wgArr X.wuArr X.wdArr (ix2 k d) = ∑ s, X.summand k s d := by
  match k with
  | ⟨0, _⟩ =>
    pointwise [val_main_v92]
    exact weight_at X 0 d
  | ⟨1, _⟩ =>
    pointwise [val_main_v92]
    exact scale_at X 0 d
  | ⟨2, _⟩ =>
    pointwise [val_main_v92]
    exact loss_at X 0 d
  | ⟨n + 3, hn⟩ =>
    pointwise [val_main_v92]
    rw [dif_neg (by omega), dif_neg (by omega), dif_neg (by omega), Finset.sum_eq_zero fun s _ => X.summand_rest ⟨n + 3, hn⟩ (Nat.le_add_left 3 n) s d]
    pointwise [val_main_v91, val_main_cst_20]

/-! ### The results -/

theorem gate_eq : val_main_v85 (F := Ideal) X.xArr X.modArr X.gfArr X.wgArr = outGate X := by
  funext i
  exact (congrArg _ (eq_ix3 i)).trans (gate_at X (i 0) (i 1) (i 2))

theorem up_eq : val_main_v86 (F := Ideal) X.xArr X.modArr X.gfArr X.wuArr = outUp X := by
  funext i
  exact (congrArg _ (eq_ix3 i)).trans (up_at X (i 0) (i 1) (i 2))

theorem act_eq : val_main_v87 (F := Ideal) X.xArr X.modArr X.gfArr X.wgArr X.wuArr = outAct X := by
  funext i
  exact (congrArg _ (eq_ix3 i)).trans (act_at X (i 0) (i 1) (i 2))

theorem h_eq : val_main_v88 (F := Ideal) X.xArr X.modArr X.gfArr = outH X := by
  funext i
  exact (congrArg _ (eq_ix2 i)).trans (h_at X (i 0) (i 1))

theorem dff_eq : val_main_v89 (F := Ideal) X.xArr X.modArr X.gfArr X.glArr X.yArr X.wgArr X.wuArr X.wdArr = outDff X := by
  funext i
  exact (congrArg _ (eq_ix2 i)).trans (dff_at X (i 0) (i 1))

theorem dx_eq : val_main_v79 (F := Ideal) X.xArr X.modArr X.gfArr X.glArr X.yArr X.wgArr X.wuArr X.wdArr = outDx X := by
  funext i
  exact (congrArg _ (eq_ix2 i)).trans (dx_at X (i 0) (i 1))

theorem sums_eq : val_main_v92 (F := Ideal) X.xArr X.modArr X.gfArr X.glArr X.yArr X.wgArr X.wuArr X.wdArr = outSums X := by
  funext i
  exact (congrArg _ (eq_ix2 i)).trans (sums_at X (i 0) (i 1))

end Cert.Fwd.Ref

end
-- ==== Proof.FwdValue.lean ====
/- The value claim of the FFN's forward call: the call and its reference leave the same seven results. -/
module

public import proofs.«01_k».proof.Defs
public import proofs.«01_k».proof.Proof.FwdLaunch
public import proofs.«01_k».proof.Proof.FwdRef

@[expose] public section

noncomputable section

namespace Cert.Fwd

open Idealize.ShloMosaic Idealize.ShloMosaic.TcCoe Idealize.SL.Sem

/-! ### The arguments -/

section
open Cert.FfnForwardIdeal

/-- The arguments' entries. -/
def entriesOf (a0 : FVec Ideal S4096x1024 .f32) (a1 : FVec Ideal S6x1024 .f32) (a2 a3 : FVec Ideal S1x1024 .f32) (a4 : FVec Ideal S4096x1024 .f32)
    (a5 a6 a7 : FVec Ideal S4x704x1024 .f32) : Nums where
  x s d := a0 (ix2 s d)
  mod k d := a1 (ix2 k d)
  gf d := a2 (ix2 0 d)
  gl d := a3 (ix2 0 d)
  y s d := a4 (ix2 s d)
  wg j f d := a5 (ix3 j f d)
  wu j f d := a6 (ix3 j f d)
  wd j f d := a7 (ix3 j f d)

/-- The arrays have the entries `X`. -/
structure Are (X : Nums) (a0 : FVec Ideal S4096x1024 .f32) (a1 : FVec Ideal S6x1024 .f32) (a2 a3 : FVec Ideal S1x1024 .f32) (a4 : FVec Ideal S4096x1024 .f32)
    (a5 a6 a7 : FVec Ideal S4x704x1024 .f32) : Prop where
  e0 : a0 = X.xArr
  e1 : a1 = X.modArr
  e2 : a2 = X.gfArr
  e3 : a3 = X.glArr
  e4 : a4 = X.yArr
  e5 : a5 = X.wgArr
  e6 : a6 = X.wuArr
  e7 : a7 = X.wdArr

theorem args_eq (a0 : FVec Ideal S4096x1024 .f32) (a1 : FVec Ideal S6x1024 .f32) (a2 a3 : FVec Ideal S1x1024 .f32) (a4 : FVec Ideal S4096x1024 .f32)
    (a5 a6 a7 : FVec Ideal S4x704x1024 .f32) : Are (entriesOf a0 a1 a2 a3 a4 a5 a6 a7) a0 a1 a2 a3 a4 a5 a6 a7 := by
  constructor
  · exact funext fun i => congrArg a0 (eq_ix2 i)
  · exact funext fun i => congrArg a1 (eq_ix2 i)
  · refine funext fun i => congrArg a2 ?_
    exact (eq_ix2 i).trans (congrArg (fun z : Fin 1 => ix2 z (i 1)) (Subsingleton.elim (α := Fin 1) (i 0) 0))
  · refine funext fun i => congrArg a3 ?_
    exact (eq_ix2 i).trans (congrArg (fun z : Fin 1 => ix2 z (i 1)) (Subsingleton.elim (α := Fin 1) (i 0) 0))
  · exact funext fun i => congrArg a4 (eq_ix2 i)
  · exact funext fun i => congrArg a5 (eq_ix3 i)
  · exact funext fun i => congrArg a6 (eq_ix3 i)
  · exact funext fun i => congrArg a7 (eq_ix3 i)

end

/-! ### The call's results -/

section
open Cert.FfnForwardIdeal Cert.FfnForwardIdeal.Gen

/-- The arguments have the entries `X`. -/
abbrev AreAt (m : (ℓ : Loc nD τ sig) → Buf (Elt Ideal) ℓ) (c : Dev nD) (X : Nums) : Prop :=
  Are X (arg0 m c) (arg1 m c) (arg2 m c) (arg3 m c) (arg4 m c) (arg5 m c) (arg6 m c) (arg7 m c)

theorem given {m : (ℓ : Loc nD τ sig) → Buf (Elt Ideal) ℓ} {c : Dev nD} {X : Nums} (h : AreAt m c X) : Given m c X where
  a0 s d := congrFun h.e0 (ix2 s d)
  a1 k d := congrFun h.e1 (ix2 k d)
  a2 d := congrFun h.e2 (ix2 0 d)
  a3 d := congrFun h.e3 (ix2 0 d)
  a4 s d := congrFun h.e4 (ix2 s d)
  a5 j f d := congrFun h.e5 (ix3 j f d)
  a6 j f d := congrFun h.e6 (ix3 j f d)
  a7 j f d := congrFun h.e7 (ix3 j f d)

/-- What the ideal call leaves. -/
theorem call_value (m : (ℓ : Loc nD τ sig) → Buf (Elt Ideal) ℓ) (g : Dev nD → PrngReg) (N : Dev nD → Nums) (hN : ∀ c, AreAt m c (N c)) :
    θ_run defs (onTc (τ := τ) (main (F := Ideal))) ⟨m, fun _ => 0, g⟩ (fun r => ∀ c : Dev nD,
      r.2.mem ((c.tc : Thread nD τ).loc main_v3_0) = outGate (N c)
      ∧ r.2.mem ((c.tc : Thread nD τ).loc main_v3_1) = outUp (N c)
      ∧ r.2.mem ((c.tc : Thread nD τ).loc main_v3_2) = outAct (N c)
      ∧ r.2.mem ((c.tc : Thread nD τ).loc main_v3_3) = outH (N c)
      ∧ r.2.mem ((c.tc : Thread nD τ).loc main_v3_4) = outDff (N c)
      ∧ r.2.mem ((c.tc : Thread nD τ).loc main_v3_5) = outDx (N c)
      ∧ r.2.mem ((c.tc : Thread nD τ).loc main_v3_6) = outSums (N c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r (h : _ ∧ _) c =>
    ⟨((h.1 c).1 8).trans (arr_8 (given (hN c))),
     ((h.1 c).1 9).trans (arr_9 (given (hN c))),
     ((h.1 c).1 10).trans (arr_10 (given (hN c))),
     ((h.1 c).1 11).trans (arr_11 (given (hN c))),
     ((h.1 c).1 12).trans (arr_12 (given (hN c))),
     ((h.1 c).1 13).trans (arr_13 (given (hN c))),
     ((h.1 c).1 14).trans (arr_14 (given (hN c))),
     ((h.1 c).1 0).trans (((dats m 0 c).arrAt_in 0 rfl _).trans ((A_eq m c 0).trans (V_main_arg0 m c))),
     ((h.1 c).1 1).trans (((dats m 0 c).arrAt_in 1 rfl _).trans ((A_eq m c 1).trans (V_main_arg1 m c))),
     ((h.1 c).1 2).trans (((dats m 0 c).arrAt_in 2 rfl _).trans ((A_eq m c 2).trans (V_main_arg2 m c))),
     ((h.1 c).1 3).trans (((dats m 0 c).arrAt_in 3 rfl _).trans ((A_eq m c 3).trans (V_main_arg3 m c))),
     ((h.1 c).1 4).trans (((dats m 0 c).arrAt_in 4 rfl _).trans ((A_eq m c 4).trans (V_main_arg4 m c))),
     ((h.1 c).2 main_arg5 (Pipeline.mem_restRefs_of main_arg5 (by decide) (by decide))).trans (V_main_arg5 m c),
     ((h.1 c).2 main_arg6 (Pipeline.mem_restRefs_of main_arg6 (by decide) (by decide))).trans (V_main_arg6 m c),
     ((h.1 c).2 main_arg7 (Pipeline.mem_restRefs_of main_arg7 (by decide) (by decide))).trans (V_main_arg7 m c)⟩)
    (run_main m g)

end

/-! ### The reference's results -/

section
open Cert.FfnForwardReferenceIdeal Cert.FfnForwardReferenceIdeal.Gen Cert.FfnForwardReferenceIdeal.Read Idealize.ShloMosaic.StableHlo

/-- What the ideal reference leaves. -/
theorem reference_value (m : (ℓ : Loc nD τ sig) → Buf (Elt Ideal) ℓ) (g : Dev nD → PrngReg) (N : Dev nD → Nums)
    (hN : ∀ c : Dev nD, Are (N c) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7))) :
    θ_run defs (onTc (τ := τ) (main (F := Ideal))) ⟨m, fun _ => 0, g⟩ (fun r => ∀ c : Dev nD,
      r.2.mem ((c.tc : Thread nD τ).loc main_v85) = outGate (N c)
      ∧ r.2.mem ((c.tc : Thread nD τ).loc main_v86) = outUp (N c)
      ∧ r.2.mem ((c.tc : Thread nD τ).loc main_v87) = outAct (N c)
      ∧ r.2.mem ((c.tc : Thread nD τ).loc main_v88) = outH (N c)
      ∧ r.2.mem ((c.tc : Thread nD τ).loc main_v89) = outDff (N c)
      ∧ r.2.mem ((c.tc : Thread nD τ).loc main_v79) = outDx (N c)
      ∧ r.2.mem ((c.tc : Thread nD τ).loc main_v92) = outSums (N c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => by
    obtain ⟨h0, h1, h2, h3, h4, h5, h6, hr⟩ := h c
    refine ⟨h0.trans ((val_main_v85_eq (launchContents m c)).trans ?_), h1.trans ((val_main_v86_eq (launchContents m c)).trans ?_), h2.trans ((val_main_v87_eq (launchContents m c)).trans ?_),
      h3.trans ((val_main_v88_eq (launchContents m c)).trans ?_), h4.trans ((val_main_v89_eq (launchContents m c)).trans ?_), h5.trans ((val_main_v79_eq (launchContents m c)).trans ?_),
      h6.trans ((val_main_v92_eq (launchContents m c)).trans ?_), hr⟩
    · show val_main_v85 (F := Ideal) (m ((c.tc : Thread nD τ).loc main_arg0)) (m ((c.tc : Thread nD τ).loc main_arg1)) (m ((c.tc : Thread nD τ).loc main_arg2)) (m ((c.tc : Thread nD τ).loc main_arg5)) = _
      rw [(hN c).e0, (hN c).e1, (hN c).e2, (hN c).e5]
      exact Ref.gate_eq (N c)
    · show val_main_v86 (F := Ideal) (m ((c.tc : Thread nD τ).loc main_arg0)) (m ((c.tc : Thread nD τ).loc main_arg1)) (m ((c.tc : Thread nD τ).loc main_arg2)) (m ((c.tc : Thread nD τ).loc main_arg6)) = _
      rw [(hN c).e0, (hN c).e1, (hN c).e2, (hN c).e6]
      exact Ref.up_eq (N c)
    · show val_main_v87 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) = _
      rw [(hN c).e0, (hN c).e1, (hN c).e2, (hN c).e5, (hN c).e6]
      exact Ref.act_eq (N c)
    · show val_main_v88 (F := Ideal) (m ((c.tc : Thread nD τ).loc main_arg0)) (m ((c.tc : Thread nD τ).loc main_arg1)) (m ((c.tc : Thread nD τ).loc main_arg2)) = _
      rw [(hN c).e0, (hN c).e1, (hN c).e2]
      exact Ref.h_eq (N c)
    · show val_main_v89 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) = _
      rw [(hN c).e0, (hN c).e1, (hN c).e2, (hN c).e3, (hN c).e4, (hN c).e5, (hN c).e6, (hN c).e7]
      exact Ref.dff_eq (N c)
    · show val_main_v79 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) = _
      rw [(hN c).e0, (hN c).e1, (hN c).e2, (hN c).e3, (hN c).e4, (hN c).e5, (hN c).e6, (hN c).e7]
      exact Ref.dx_eq (N c)
    · show val_main_v92 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) = _
      rw [(hN c).e0, (hN c).e1, (hN c).e2, (hN c).e3, (hN c).e4, (hN c).e5, (hN c).e6, (hN c).e7]
      exact Ref.sums_eq (N c))
    (Cert.FfnForwardReferenceIdeal.Value.run m g)

end

/-- The two programs agree. -/
theorem same_results :
    Cert.algebraic_FfnForwardIdeal_FfnForwardReferenceIdeal (hFfnForwardIdeal := Cert.FfnForwardIdeal.Gen.facts)
      (hFfnForwardReferenceIdeal := Cert.FfnForwardReferenceIdeal.Gen.facts) := by
  intro m g m' g' _ hagree
  let N : Dev Cert.FfnForwardIdeal.nD → Nums := fun c => entriesOf (arg0 m c) (arg1 m c) (arg2 m c) (arg3 m c) (arg4 m c) (arg5 m c) (arg6 m c) (arg7 m c)
  have hN : ∀ c, AreAt m c (N c) := fun c => args_eq _ _ _ _ _ _ _ _
  refine ⟨fun c => outGate (N c), fun c => outUp (N c), fun c => outAct (N c), fun c => outH (N c), fun c => outDff (N c), fun c => outDx (N c), fun c => outSums (N c),
    call_value m g N hN, reference_value m' g' N fun c => ?_⟩
  obtain ⟨g0, g1, g2, g3, g4, g5, g6, g7⟩ := hagree c
  exact ⟨g0.trans (hN c).e0, g1.trans (hN c).e1, g2.trans (hN c).e2, g3.trans (hN c).e3, g4.trans (hN c).e4, g5.trans (hN c).e5, g6.trans (hN c).e6, g7.trans (hN c).e7⟩

end Cert.Fwd

end
-- ==== Proof.lean ====
/- The claims of the five calls. The attention's backward pass: the run of Proof/Run.lean gives the two frames of the
   kernel, the reference's run gives its own, and Proof/Value.lean the equality of the two programs' results. The weight
   gradient: Proof/WeightGrad.lean gives all but the reference's frame, and Proof/OutGrad.lean does so for the gradient of the
   mixer's output weight. The FFN's backward pass: Proof/FfnFrame.lean the frames, Proof/FfnValue.lean the equality. The FFN's forward pass: Proof/FwdFrame.lean and Proof/FwdValue.lean likewise. -/
module

public import proofs.«01_k».proof.Defs
public import proofs.«01_k».proof.Proof.Gen.ReferenceIdeal.Run
public import proofs.«01_k».proof.Proof.FrameK
public import proofs.«01_k».proof.Proof.Gen.Pre_finite
public import proofs.«01_k».proof.Proof.Value
public import proofs.«01_k».proof.Proof.WeightGrad
public import proofs.«01_k».proof.Proof.OutGrad
public import proofs.«01_k».proof.Proof.FfnFrame
public import proofs.«01_k».proof.Proof.Gen.FfnBackwardReferenceIdeal.Run
public import proofs.«01_k».proof.Proof.Gen.Pre_ffn_finite
public import proofs.«01_k».proof.Proof.FfnValue
public import proofs.«01_k».proof.Proof.FwdFrame
public import proofs.«01_k».proof.Proof.FwdValue
public import proofs.«01_k».proof.Proof.Gen.FfnForwardReferenceIdeal.Run

@[expose] public section

noncomputable section

namespace Cert.Proof

open Idealize.ShloMosaic Idealize.ShloMosaic.TcCoe Idealize.SL.Sem

/-- The kernel's frame on float words. -/
theorem frame_kernel : Cert.quiescent_Kernel (hKernel := Cert.Kernel.Gen.facts) := Attn.frame_eq.mpr (Attn.frame_over Bits)

/-- The ideal kernel's frame. -/
theorem frame_ideal [hKernelIdeal : Cert.KernelIdeal.Facts] : Cert.quiescent_KernelIdeal := fun m ρ _ =>
  Attn.frame_over Ideal m ρ trivial

/-- The reference's frame. -/
theorem frame_reference [hReferenceIdeal : Cert.ReferenceIdeal.Facts] : Cert.quiescent_ReferenceIdeal := fun m ρ _ => by
  exact (θ_run Cert.ReferenceIdeal.defs _ _).mono
    (fun r h => ⟨fun c => (h c).2.2, sem_eq_zero_of_no_sems (by decide) r.2⟩) (Cert.ReferenceIdeal.Value.run m ρ)

/-- The weight gradient's frame on float words. -/
theorem frame_gradient : Cert.quiescent_WeightGrad (hWeightGrad := Cert.WeightGrad.Gen.facts) :=
  Grad.frame_eq.mpr (Grad.frame_over Bits)

/-- The frame of the weight gradient's reference. -/
theorem frame_gradient_reference [hWeightGradReferenceIdeal : Cert.WeightGradReferenceIdeal.Facts] :
    Cert.quiescent_WeightGradReferenceIdeal := fun m ρ _ => by
  exact (θ_run Cert.WeightGradReferenceIdeal.defs _ _).mono
    (fun r h => ⟨fun c => (h c).2, sem_eq_zero_of_no_sems (by decide) r.2⟩) (Cert.WeightGradReferenceIdeal.Value.run m ρ)

/-- The frame of the FFN's backward call on float words. -/
theorem frame_ffn : Cert.quiescent_FfnBackward (hFfnBackward := Cert.FfnBackward.Gen.facts) :=
  Ffn.frame_eq.mpr (Ffn.frame_over Bits)

/-- The frame of the ideal FFN's backward call. -/
theorem frame_ffn_ideal [hFfnBackwardIdeal : Cert.FfnBackwardIdeal.Facts] : Cert.quiescent_FfnBackwardIdeal := fun m ρ _ =>
  Ffn.frame_over Ideal m ρ trivial

/-- The frame of the FFN's reference. -/
theorem frame_ffn_reference [hFfnBackwardReferenceIdeal : Cert.FfnBackwardReferenceIdeal.Facts] :
    Cert.quiescent_FfnBackwardReferenceIdeal := fun m ρ _ => by
  exact (θ_run Cert.FfnBackwardReferenceIdeal.defs _ _).mono
    (fun r h => ⟨fun c => (h c).2.2.2.2, sem_eq_zero_of_no_sems (by decide) r.2⟩) (Cert.FfnBackwardReferenceIdeal.Value.run m ρ)

/-- The frame of the FFN's forward call on float words. -/
theorem frame_forward : Cert.quiescent_FfnForward (hFfnForward := Cert.FfnForward.Gen.facts) :=
  Fwd.frame_eq.mpr (Fwd.frame_over Bits)

/-- The frame of the ideal FFN's forward call. -/
theorem frame_forward_ideal [hFfnForwardIdeal : Cert.FfnForwardIdeal.Facts] : Cert.quiescent_FfnForwardIdeal := fun m ρ _ =>
  Fwd.frame_over Ideal m ρ trivial

/-- The frame of the forward call's reference. -/
theorem frame_forward_reference [hFfnForwardReferenceIdeal : Cert.FfnForwardReferenceIdeal.Facts] :
    Cert.quiescent_FfnForwardReferenceIdeal := fun m ρ _ => by
  exact (θ_run Cert.FfnForwardReferenceIdeal.defs _ _).mono
    (fun r h => ⟨fun c => (h c).2.2.2.2.2.2.2, sem_eq_zero_of_no_sems (by decide) r.2⟩) (Cert.FfnForwardReferenceIdeal.Value.run m ρ)

/-- The frame, on float words, of the call for the output weight's gradient. -/
theorem frame_out : Cert.quiescent_OutGrad (hOutGrad := Cert.OutGrad.Gen.facts) :=
  Out.frame_eq.mpr (Out.frame_over Bits)

/-- The frame of the output weight's reference. -/
theorem frame_out_reference [hOutGradReferenceIdeal : Cert.OutGradReferenceIdeal.Facts] :
    Cert.quiescent_OutGradReferenceIdeal := fun m ρ _ => by
  exact (θ_run Cert.OutGradReferenceIdeal.defs _ _).mono
    (fun r h => ⟨fun c => (h c).2, sem_eq_zero_of_no_sems (by decide) r.2⟩) (Cert.OutGradReferenceIdeal.Value.run m ρ)

theorem claim : Cert.Claim :=
  ⟨Cert.Kernel.Gen.facts, Cert.KernelIdeal.Gen.facts, Cert.ReferenceIdeal.Gen.facts, Cert.WeightGrad.Gen.facts,
    Cert.WeightGradIdeal.Gen.facts, Cert.WeightGradReferenceIdeal.Gen.facts, Cert.FfnBackward.Gen.facts,
    Cert.FfnBackwardIdeal.Gen.facts, Cert.FfnBackwardReferenceIdeal.Gen.facts, Cert.FfnForward.Gen.facts,
    Cert.FfnForwardIdeal.Gen.facts, Cert.FfnForwardReferenceIdeal.Gen.facts, Cert.OutGrad.Gen.facts, Cert.OutGradIdeal.Gen.facts,
    Cert.OutGradReferenceIdeal.Gen.facts, Cert.Pre_finite.Gen.facts, Cert.Pre_ffn_finite.Gen.facts,
    frame_kernel, frame_ideal, fun m ρ _ => frame_ideal m ρ trivial, frame_reference, fun m ρ _ => frame_reference m ρ trivial,
    frame_gradient, fun m ρ _ => Grad.frame_over Ideal m ρ trivial, frame_gradient_reference,
    frame_ffn, frame_ffn_ideal, fun m ρ _ => frame_ffn_ideal m ρ trivial, frame_ffn_reference,
    fun m ρ _ => frame_ffn_reference m ρ trivial,
    frame_forward, frame_forward_ideal, frame_forward_reference,
    frame_out, fun m ρ _ => Out.frame_over Ideal m ρ trivial, frame_out_reference,
    trivial, Attn.same_gradients, trivial, Grad.same_gradient, trivial, Ffn.same_gradients, trivial, Fwd.same_results,
    trivial, Out.same_gradient⟩

end Cert.Proof

end
